-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_arg0) = m' ((c.tc : Thread Cert.Reference.nD Cert.Reference.τ).loc Cert.Reference.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v281) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ bitexact_Kernel_Reference (hKernel := hKernel) (hReference := hReference)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S1x16384x1024 : Shape := ⟨3, ![1, 16384, 1024]⟩
abbrev S16384x1024 : Shape := ⟨2, ![16384, 1024]⟩
abbrev S65536x128 : Shape := ⟨2, ![65536, 128]⟩
abbrev S512x1024 : Shape := ⟨2, ![512, 1024]⟩
abbrev S2048x128 : Shape := ⟨2, ![2048, 128]⟩
abbrev S512x512 : Shape := ⟨2, ![512, 512]⟩
abbrev S512x128 : Shape := ⟨2, ![512, 128]⟩

abbrev nBuf : Space → Nat
  | .hbm => 3
  | .vmem => 4
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S65536x128, .i32⟩
  | .local _ .vmem, ⟨0, _⟩ => ⟨S512x1024, .f32⟩
  | .local _ .vmem, ⟨1, _⟩ => ⟨S512x1024, .f32⟩
  | .local _ .vmem, ⟨2, _⟩ => ⟨S2048x128, .i32⟩
  | .local _ .vmem, ⟨3, _⟩ => ⟨S2048x128, .i32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S1x16384x1024 : Shape := ⟨3, ![1, 16384, 1024]⟩
abbrev S16384x1024 : Shape := ⟨2, ![16384, 1024]⟩
abbrev S16384x512 : Shape := ⟨2, ![16384, 512]⟩
abbrev S_ : Shape := ⟨0, ![]⟩
abbrev S65536x128 : Shape := ⟨2, ![65536, 128]⟩

abbrev nBuf : Space → Nat
  | .hbm => 12
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S16384x1024, .bf16⟩
  | .hbm, ⟨3, _⟩ => ⟨S16384x1024, .i16⟩
  | .hbm, ⟨4, _⟩ => ⟨S16384x1024, .i32⟩
  | .hbm, ⟨5, _⟩ => ⟨S16384x512, .i32⟩
  | .hbm, ⟨6, _⟩ => ⟨S16384x512, .i32⟩
  | .hbm, ⟨7, _⟩ => ⟨S_, .i32⟩
  | .hbm, ⟨8, _⟩ => ⟨S16384x512, .i32⟩
  | .hbm, ⟨9, _⟩ => ⟨S16384x512, .i32⟩
  | .hbm, ⟨10, _⟩ => ⟨S16384x512, .i32⟩
  | .hbm, ⟨11, _⟩ => ⟨S65536x128, .i32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [BitOps F]
-- ==== Kernel2.lean ====
abbrev S8x4096x1024 : Shape := ⟨3, ![8, 4096, 1024]⟩
abbrev S1024 : Shape := ⟨1, ![1024]⟩
abbrev S1x1024x6656 : Shape := ⟨3, ![1, 1024, 6656]⟩
abbrev S2x1024 : Shape := ⟨2, ![2, 1024]⟩
abbrev S1x128 : Shape := ⟨2, ![1, 128]⟩
abbrev S1x1024x1024 : Shape := ⟨3, ![1, 1024, 1024]⟩
abbrev S1x4x128x256 : Shape := ⟨4, ![1, 4, 128, 256]⟩
abbrev S1x1024 : Shape := ⟨2, ![1, 1024]⟩
abbrev S32768x1024 : Shape := ⟨2, ![32768, 1024]⟩
abbrev S1024x6656 : Shape := ⟨2, ![1024, 6656]⟩
abbrev S128 : Shape := ⟨1, ![128]⟩
abbrev S1024x1024 : Shape := ⟨2, ![1024, 1024]⟩
abbrev S4x128x256 : Shape := ⟨3, ![4, 128, 256]⟩
abbrev S256x1024 : Shape := ⟨2, ![256, 1024]⟩
abbrev S8x128x128 : Shape := ⟨3, ![8, 128, 128]⟩
abbrev S272x512 : Shape := ⟨2, ![272, 512]⟩
abbrev S8x1024 : Shape := ⟨2, ![8, 1024]⟩
abbrev S16x512 : Shape := ⟨2, ![16, 512]⟩
abbrev S256 : Shape := ⟨1, ![256]⟩
abbrev S256x1 : Shape := ⟨2, ![256, 1]⟩
abbrev S8x32x1024 : Shape := ⟨3, ![8, 32, 1024]⟩
abbrev S8x1x1024 : Shape := ⟨3, ![8, 1, 1024]⟩
abbrev S256x256 : Shape := ⟨2, ![256, 256]⟩
abbrev S1x128x128 : Shape := ⟨3, ![1, 128, 128]⟩
abbrev S128x128 : Shape := ⟨2, ![128, 128]⟩
abbrev S32x128 : Shape := ⟨2, ![32, 128]⟩
abbrev S256x128 : Shape := ⟨2, ![256, 128]⟩
abbrev S1024x512 : Shape := ⟨2, ![1024, 512]⟩
abbrev S256x512 : Shape := ⟨2, ![256, 512]⟩
abbrev S272x128 : Shape := ⟨2, ![272, 128]⟩
abbrev S1x128x256 : Shape := ⟨3, ![1, 128, 256]⟩
abbrev S128x256 : Shape := ⟨2, ![128, 256]⟩

abbrev nBuf : Space → Nat
  | .hbm => 32
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1x1024x6656, .f32⟩
  | .hbm, ⟨4, _⟩ => ⟨S2x1024, .f32⟩
  | .hbm, ⟨5, _⟩ => ⟨S1x128, .f32⟩
  | .hbm, ⟨6, _⟩ => ⟨S1x1024x1024, .f32⟩
  | .hbm, ⟨7, _⟩ => ⟨S1x4x128x256, .f32⟩
  | .hbm, ⟨8, _⟩ => ⟨S1x1024, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S32768x1024, .f32⟩
  | .hbm, ⟨13, _⟩ => ⟨S1024x6656, .f32⟩
  | .hbm, ⟨14, _⟩ => ⟨S128, .f32⟩
  | .hbm, ⟨15, _⟩ => ⟨S1024x1024, .f32⟩
  | .hbm, ⟨16, _⟩ => ⟨S4x128x256, .f32⟩
  | .hbm, ⟨17, _⟩ => ⟨S1024, .f32⟩
  | .hbm, ⟨18, _⟩ => ⟨S1024x1024, .f32⟩
  | .hbm, ⟨19, _⟩ => ⟨S1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1024x6656, .bf16⟩
  | .hbm, ⟨24, _⟩ => ⟨S1x128, .f32⟩
  | .hbm, ⟨25, _⟩ => ⟨S1024x1024, .bf16⟩
  | .hbm, ⟨26, _⟩ => ⟨S4x128x256, .bf16⟩
  | .hbm, ⟨27, _⟩ => ⟨S1x1024, .f32⟩
  | .hbm, ⟨28, _⟩ => ⟨S1024x1024, .bf16⟩
  | .hbm, ⟨29, _⟩ => ⟨S1x1024, .f32⟩
  | .hbm, ⟨30, _⟩ => ⟨S1x1024, .f32⟩
  | .hbm, ⟨31, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x6656, .bf16⟩
  | .local _ .vmem, ⟨5, _⟩ => ⟨S2x1024, .f32⟩
  | .local _ .vmem, ⟨6, _⟩ => ⟨S1x128, .f32⟩
  | .local _ .vmem, ⟨7, _⟩ => ⟨S1024x1024, .bf16⟩
  | .local _ .vmem, ⟨8, _⟩ => ⟨S4x128x256, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S8x128x128, .f32⟩
  | .local _ .vmem, ⟨16, _⟩ => ⟨S272x512, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S8x1024, .f32⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x6656 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S8x4096x1024 : Shape := ⟨3, ![8, 4096, 1024]⟩
abbrev S1024 : Shape := ⟨1, ![1024]⟩
abbrev S1x1024x6656 : Shape := ⟨3, ![1, 1024, 6656]⟩
abbrev S2x1024 : Shape := ⟨2, ![2, 1024]⟩
abbrev S1x128 : Shape := ⟨2, ![1, 128]⟩
abbrev S1x1024x1024 : Shape := ⟨3, ![1, 1024, 1024]⟩
abbrev S1x4x128x256 : Shape := ⟨4, ![1, 4, 128, 256]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x6656 : Shape := ⟨2, ![1024, 6656]⟩
abbrev S8x4096x6656 : Shape := ⟨3, ![8, 4096, 6656]⟩
abbrev S8x4096x512 : Shape := ⟨3, ![8, 4096, 512]⟩
abbrev S8x128x32x8x128 : Shape := ⟨5, ![8, 128, 32, 8, 128]⟩
abbrev S8x8x128x32x128 : Shape := ⟨5, ![8, 8, 128, 32, 128]⟩
abbrev S32x32 : Shape := ⟨2, ![32, 32]⟩
abbrev S8x8x128x32x32 : Shape := ⟨5, ![8, 8, 128, 32, 32]⟩
abbrev S8x8x128x1x128 : Shape := ⟨5, ![8, 8, 128, 1, 128]⟩
abbrev S128x8x8x128x128 : Shape := ⟨5, ![128, 8, 8, 128, 128]⟩
abbrev S8x8x128x128 : Shape := ⟨4, ![8, 8, 128, 128]⟩
abbrev S128x8x8x128 : Shape := ⟨4, ![128, 8, 8, 128]⟩
abbrev S1x8x8x128 : Shape := ⟨4, ![1, 8, 8, 128]⟩
abbrev S8x8x128 : Shape := ⟨3, ![8, 8, 128]⟩
abbrev S1x8x8x128x128 : Shape := ⟨5, ![1, 8, 8, 128, 128]⟩
abbrev S8x8x128x1 : Shape := ⟨4, ![8, 8, 128, 1]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S128 : Shape := ⟨1, ![128]⟩
abbrev S1x1x1x128 : Shape := ⟨4, ![1, 1, 1, 128]⟩
abbrev S1024x1024 : Shape := ⟨2, ![1024, 1024]⟩
abbrev S4096 : Shape := ⟨1, ![4096]⟩
abbrev S8x4096x128 : Shape := ⟨3, ![8, 4096, 128]⟩
abbrev S8x4097x128 : Shape := ⟨3, ![8, 4097, 128]⟩
abbrev S1x4096x1 : Shape := ⟨3, ![1, 4096, 1]⟩
abbrev S8x4099x128 : Shape := ⟨3, ![8, 4099, 128]⟩
abbrev S8x4103x128 : Shape := ⟨3, ![8, 4103, 128]⟩
abbrev S8x4111x128 : Shape := ⟨3, ![8, 4111, 128]⟩
abbrev S8x4096x1x128 : Shape := ⟨4, ![8, 4096, 1, 128]⟩
abbrev S8x4096x4x128 : Shape := ⟨4, ![8, 4096, 4, 128]⟩
abbrev S4x128x256 : Shape := ⟨3, ![4, 128, 256]⟩
abbrev S4x256x8x4096 : Shape := ⟨4, ![4, 256, 8, 4096]⟩
abbrev S8x4096x4x256 : Shape := ⟨4, ![8, 4096, 4, 256]⟩
abbrev S32768x1024 : Shape := ⟨2, ![32768, 1024]⟩

abbrev nBuf : Space → Nat
  | .hbm => 401
  | .vmem => 0
  | .smem => 0
  | _ => 0

abbrev hbmTy0_0 (i : Nat) : BufTy := match i % 128 with
  | 0 => ⟨S8x4096x1024, .f32⟩
  | 1 => ⟨S1024, .f32⟩
  | 2 => ⟨S1024, .f32⟩
  | 3 => ⟨S1x1024x6656, .f32⟩
  | 4 => ⟨S2x1024, .f32⟩
  | 5 => ⟨S1x128, .f32⟩
  | 6 => ⟨S1x1024x1024, .f32⟩
  | 7 => ⟨S1x4x128x256, .f32⟩
  | 8 => ⟨S1x1024, .f32⟩
  | 9 => ⟨S1x1024x1024, .f32⟩
  | 10 => ⟨S1x1024, .f32⟩
  | 11 => ⟨S1x1024, .f32⟩
  | 12 => ⟨S_, .f32⟩
  | 13 => ⟨S8x4096, .f32⟩
  | 14 => ⟨S8x4096x1, .f32⟩
  | 15 => ⟨S_, .f32⟩
  | 16 => ⟨S8x4096x1, .f32⟩
  | 17 => ⟨S8x4096x1, .f32⟩
  | 18 => ⟨S8x4096x1024, .f32⟩
  | 19 => ⟨S8x4096x1024, .f32⟩
  | 20 => ⟨S8x4096x1024, .f32⟩
  | 21 => ⟨S_, .f32⟩
  | 22 => ⟨S8x4096, .f32⟩
  | 23 => ⟨S8x4096x1, .f32⟩
  | 24 => ⟨S_, .f32⟩
  | 25 => ⟨S8x4096x1, .f32⟩
  | 26 => ⟨S8x4096x1, .f32⟩
  | 27 => ⟨S8x4096x1024, .f32⟩
  | 28 => ⟨S8x4096x1024, .f32⟩
  | 29 => ⟨S_, .f32⟩
  | 30 => ⟨S8x4096x1, .f32⟩
  | 31 => ⟨S8x4096x1, .f32⟩
  | 32 => ⟨S8x4096x1, .f32⟩
  | 33 => ⟨S8x4096x1024, .f32⟩
  | 34 => ⟨S8x4096x1024, .f32⟩
  | 35 => ⟨S1x1x1024, .f32⟩
  | 36 => ⟨S8x4096x1024, .f32⟩
  | 37 => ⟨S8x4096x1024, .f32⟩
  | 38 => ⟨S1x1x1024, .f32⟩
  | 39 => ⟨S8x4096x1024, .f32⟩
  | 40 => ⟨S8x4096x1024, .f32⟩
  | 41 => ⟨S_, .f32⟩
  | 42 => ⟨S1024, .f32⟩
  | 43 => ⟨S_, .f32⟩
  | 44 => ⟨S1024, .f32⟩
  | 45 => ⟨S1024, .f32⟩
  | 46 => ⟨S1x1024, .f32⟩
  | 47 => ⟨S2x1024, .f32⟩
  | 48 => ⟨S2x1024, .f32⟩
  | 49 => ⟨S2x1024, .f32⟩
  | 50 => ⟨S_, .f32⟩
  | 51 => ⟨S1024, .f32⟩
  | 52 => ⟨S1x1024, .f32⟩
  | 53 => ⟨S2x1024, .f32⟩
  | 54 => ⟨S2x1024, .f32⟩
  | 55 => ⟨S_, .f32⟩
  | 56 => ⟨S_, .f32⟩
  | 57 => ⟨S2x1024, .f32⟩
  | 58 => ⟨S1x1024, .f32⟩
  | 59 => ⟨S1024, .f32⟩
  | 60 => ⟨S1024x6656, .f32⟩
  | 61 => ⟨S8x4096x6656, .f32⟩
  | 62 => ⟨S8x4096x1024, .f32⟩
  | 63 => ⟨S8x4096x1024, .f32⟩
  | 64 => ⟨S8x4096x1024, .f32⟩
  | 65 => ⟨S8x4096x1024, .f32⟩
  | 66 => ⟨S8x4096x512, .f32⟩
  | 67 => ⟨S8x4096x1024, .f32⟩
  | 68 => ⟨S8x4096x1024, .f32⟩
  | 69 => ⟨S_, .f32⟩
  | 70 => ⟨S1024, .f32⟩
  | 71 => ⟨S1024, .f32⟩
  | 72 => ⟨S8x4096x1024, .f32⟩
  | 73 => ⟨S8x4096x1024, .f32⟩
  | 74 => ⟨S_, .f32⟩
  | 75 => ⟨S8x4096x1024, .f32⟩
  | 76 => ⟨S8x4096x1024, .f32⟩
  | 77 => ⟨S_, .f32⟩
  | 78 => ⟨S8x4096x1024, .f32⟩
  | 79 => ⟨S8x4096x1024, .f32⟩
  | 80 => ⟨S1x1x1024, .f32⟩
  | 81 => ⟨S8x4096x1024, .f32⟩
  | 82 => ⟨S8x4096x1024, .f32⟩
  | 83 => ⟨S1x1x1024, .f32⟩
  | 84 => ⟨S8x4096x1024, .f32⟩
  | 85 => ⟨S8x4096x1024, .f32⟩
  | 86 => ⟨S8x4096x1024, .f32⟩
  | 87 => ⟨S8x4096x1024, .f32⟩
  | 88 => ⟨S8x4096x1024, .f32⟩
  | 89 => ⟨S_, .f32⟩
  | 90 => ⟨S8x4096x1024, .f32⟩
  | 91 => ⟨S8x4096x1024, .f32⟩
  | 92 => ⟨S_, .f32⟩
  | 93 => ⟨S8x4096x1024, .f32⟩
  | 94 => ⟨S8x4096x1024, .f32⟩
  | 95 => ⟨S8x4096x1024, .f32⟩
  | 96 => ⟨S_, .f32⟩
  | 97 => ⟨S8x4096x1024, .f32⟩
  | 98 => ⟨S8x4096x1024, .f32⟩
  | 99 => ⟨S8x128x32x8x128, .f32⟩
  | 100 => ⟨S8x8x128x32x128, .f32⟩
  | 101 => ⟨S_, .f32⟩
  | 102 => ⟨S8x4096x1024, .f32⟩
  | 103 => ⟨S8x4096x1024, .f32⟩
  | 104 => ⟨S8x128x32x8x128, .f32⟩
  | 105 => ⟨S8x8x128x32x128, .f32⟩
  | 106 => ⟨S8x128x32x8x128, .f32⟩
  | 107 => ⟨S8x8x128x32x128, .f32⟩
  | 108 => ⟨S8x128x32x8x128, .f32⟩
  | 109 => ⟨S8x8x128x32x128, .f32⟩
  | 110 => ⟨S_, .f32⟩
  | 111 => ⟨S_, .f32⟩
  | 112 => ⟨S8x8x128x32x128, .f32⟩
  | 113 => ⟨S8x8x128x32x128, .f32⟩
  | 114 => ⟨S8x8x128x32x128, .f32⟩
  | 115 => ⟨S8x8x128x32x128, .f32⟩
  | 116 => ⟨S8x8x128x32x128, .f32⟩
  | 117 => ⟨S8x8x128x32x128, .f32⟩
  | 118 => ⟨S_, .i1⟩
  | 119 => ⟨S32x32, .i1⟩
  | 120 => ⟨S32x32, .i32⟩
  | 121 => ⟨S_, .i32⟩
  | 122 => ⟨S32x32, .i32⟩
  | 123 => ⟨S32x32, .i32⟩
  | 124 => ⟨S32x32, .i32⟩
  | 125 => ⟨S32x32, .i1⟩
  | 126 => ⟨S_, .i1⟩
  | 127 => ⟨S32x32, .i1⟩
  | _ => ⟨S8x4096x1024, .f32⟩

abbrev hbmTy0_1 (i : Nat) : BufTy := match i % 128 with
  | 0 => ⟨S32x32, .i1⟩
  | 1 => ⟨S8x8x128x32x32, .f32⟩
  | 2 => ⟨S_, .f32⟩
  | 3 => ⟨S_, .f32⟩
  | 4 => ⟨S8x8x128x32x32, .i1⟩
  | 5 => ⟨S8x8x128x32x32, .f32⟩
  | 6 => ⟨S8x8x128x32x32, .f32⟩
  | 7 => ⟨S8x8x128x32x128, .f32⟩
  | 8 => ⟨S8x8x128x1x128, .f32⟩
  | 9 => ⟨S8x8x128x32x128, .f32⟩
  | 10 => ⟨S8x8x128x32x128, .f32⟩
  | 11 => ⟨S8x8x128x32x128, .f32⟩
  | 12 => ⟨S8x8x128x32x128, .f32⟩
  | 13 => ⟨S128x8x8x128x128, .f32⟩
  | 14 => ⟨S8x8x128x128, .f32⟩
  | 15 => ⟨S8x8x128x128, .f32⟩
  | 16 => ⟨S128x8x8x128, .f32⟩
  | 17 => ⟨S_, .f32⟩
  | 18 => ⟨S8x8x128x128, .f32⟩
  | 19 => ⟨S_, .f32⟩
  | 20 => ⟨S128x8x8x128x128, .f32⟩
  | 21 => ⟨S_, .i32⟩
  | 22 => ⟨S128x8x8x128, .f32⟩
  | 23 => ⟨S128x8x8x128x128, .f32⟩
  | 24 => ⟨S_, .i32⟩
  | 25 => ⟨S8x8x128x128, .f32⟩
  | 26 => ⟨S128x8x8x128x128, .f32⟩
  | 27 => ⟨S_, .i32⟩
  | 28 => ⟨S_, .i1⟩
  | 29 => ⟨S_, .i32⟩
  | 30 => ⟨S_, .i32⟩
  | 31 => ⟨S_, .i32⟩
  | 32 => ⟨S1x8x8x128, .f32⟩
  | 33 => ⟨S8x8x128, .f32⟩
  | 34 => ⟨S_, .i32⟩
  | 35 => ⟨S_, .i32⟩
  | 36 => ⟨S_, .i32⟩
  | 37 => ⟨S_, .i32⟩
  | 38 => ⟨S1x8x8x128x128, .f32⟩
  | 39 => ⟨S8x8x128x128, .f32⟩
  | 40 => ⟨S8x8x128x1, .f32⟩
  | 41 => ⟨S8x8x128x128, .f32⟩
  | 42 => ⟨S8x8x128x128, .f32⟩
  | 43 => ⟨S8x8x128x128, .f32⟩
  | 44 => ⟨S1x8x8x128x128, .f32⟩
  | 45 => ⟨S_, .i32⟩
  | 46 => ⟨S_, .i32⟩
  | 47 => ⟨S_, .i32⟩
  | 48 => ⟨S_, .i32⟩
  | 49 => ⟨S128x8x8x128x128, .f32⟩
  | 50 => ⟨S_, .i32⟩
  | 51 => ⟨S_, .i32⟩
  | 52 => ⟨S8x8x128x32x128, .f32⟩
  | 53 => ⟨S8x8x128x32x128, .f32⟩
  | 54 => ⟨S8x128x32x8x128, .f32⟩
  | 55 => ⟨S8x4096x8x128, .f32⟩
  | 56 => ⟨S8x4096x8x128, .f32⟩
  | 57 => ⟨S_, .f32⟩
  | 58 => ⟨S8x4096x8, .f32⟩
  | 59 => ⟨S8x4096x8x1, .f32⟩
  | 60 => ⟨S_, .f32⟩
  | 61 => ⟨S8x4096x8x1, .f32⟩
  | 62 => ⟨S8x4096x8x1, .f32⟩
  | 63 => ⟨S_, .f32⟩
  | 64 => ⟨S8x4096x8x1, .f32⟩
  | 65 => ⟨S8x4096x8x1, .f32⟩
  | 66 => ⟨S8x4096x8x1, .f32⟩
  | 67 => ⟨S8x4096x8x128, .f32⟩
  | 68 => ⟨S8x4096x8x128, .f32⟩
  | 69 => ⟨S128, .f32⟩
  | 70 => ⟨S1x1x1x128, .f32⟩
  | 71 => ⟨S8x4096x8x128, .f32⟩
  | 72 => ⟨S8x4096x8x128, .f32⟩
  | 73 => ⟨S8x4096x1024, .f32⟩
  | 74 => ⟨S8x4096x1024, .f32⟩
  | 75 => ⟨S8x4096x1024, .f32⟩
  | 76 => ⟨S_, .f32⟩
  | 77 => ⟨S8x4096x1024, .f32⟩
  | 78 => ⟨S8x4096x1024, .f32⟩
  | 79 => ⟨S_, .f32⟩
  | 80 => ⟨S8x4096x1024, .f32⟩
  | 81 => ⟨S8x4096x1024, .f32⟩
  | 82 => ⟨S8x4096x1024, .f32⟩
  | 83 => ⟨S8x4096x1024, .f32⟩
  | 84 => ⟨S1024x1024, .f32⟩
  | 85 => ⟨S8x4096x1024, .f32⟩
  | 86 => ⟨S4096, .i32⟩
  | 87 => ⟨S8x4096x128, .f32⟩
  | 88 => ⟨S_, .i32⟩
  | 89 => ⟨S_, .f32⟩
  | 90 => ⟨S8x4097x128, .f32⟩
  | 91 => ⟨S8x4096x128, .f32⟩
  | 92 => ⟨S8x4096x128, .f32⟩
  | 93 => ⟨S8x4096x128, .f32⟩
  | 94 => ⟨S_, .i32⟩
  | 95 => ⟨S4096, .i32⟩
  | 96 => ⟨S4096, .i32⟩
  | 97 => ⟨S_, .i32⟩
  | 98 => ⟨S4096, .i32⟩
  | 99 => ⟨S4096, .i32⟩
  | 100 => ⟨S4096, .f32⟩
  | 101 => ⟨S1x4096x1, .f32⟩
  | 102 => ⟨S8x4096x128, .f32⟩
  | 103 => ⟨S8x4096x128, .f32⟩
  | 104 => ⟨S8x4096x128, .f32⟩
  | 105 => ⟨S8x4096x128, .f32⟩
  | 106 => ⟨S_, .i32⟩
  | 107 => ⟨S_, .f32⟩
  | 108 => ⟨S8x4099x128, .f32⟩
  | 109 => ⟨S8x4096x128, .f32⟩
  | 110 => ⟨S8x4096x128, .f32⟩
  | 111 => ⟨S8x4096x128, .f32⟩
  | 112 => ⟨S8x4096x128, .f32⟩
  | 113 => ⟨S8x4096x128, .f32⟩
  | 114 => ⟨S8x4096x128, .f32⟩
  | 115 => ⟨S8x4096x128, .f32⟩
  | 116 => ⟨S_, .i32⟩
  | 117 => ⟨S4096, .i32⟩
  | 118 => ⟨S4096, .i32⟩
  | 119 => ⟨S_, .i32⟩
  | 120 => ⟨S4096, .i32⟩
  | 121 => ⟨S4096, .i32⟩
  | 122 => ⟨S4096, .f32⟩
  | 123 => ⟨S1x4096x1, .f32⟩
  | 124 => ⟨S8x4096x128, .f32⟩
  | 125 => ⟨S8x4096x128, .f32⟩
  | 126 => ⟨S8x4096x128, .f32⟩
  | 127 => ⟨S8x4096x128, .f32⟩
  | _ => ⟨S8x4096x1024, .f32⟩

abbrev hbmTy0_2 (i : Nat) : BufTy := match i % 128 with
  | 0 => ⟨S_, .i32⟩
  | 1 => ⟨S_, .f32⟩
  | 2 => ⟨S8x4103x128, .f32⟩
  | 3 => ⟨S8x4096x128, .f32⟩
  | 4 => ⟨S8x4096x128, .f32⟩
  | 5 => ⟨S8x4096x128, .f32⟩
  | 6 => ⟨S8x4096x128, .f32⟩
  | 7 => ⟨S8x4096x128, .f32⟩
  | 8 => ⟨S8x4096x128, .f32⟩
  | 9 => ⟨S8x4096x128, .f32⟩
  | 10 => ⟨S8x4096x128, .f32⟩
  | 11 => ⟨S8x4096x128, .f32⟩
  | 12 => ⟨S8x4096x128, .f32⟩
  | 13 => ⟨S8x4096x128, .f32⟩
  | 14 => ⟨S8x4096x128, .f32⟩
  | 15 => ⟨S8x4096x128, .f32⟩
  | 16 => ⟨S8x4096x128, .f32⟩
  | 17 => ⟨S8x4096x128, .f32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S4096, .f32⟩
  | 25 => ⟨S1x4096x1, .f32⟩
  | 26 => ⟨S8x4096x128, .f32⟩
  | 27 => ⟨S8x4096x128, .f32⟩
  | 28 => ⟨S8x4096x128, .f32⟩
  | 29 => ⟨S8x4096x128, .f32⟩
  | 30 => ⟨S_, .i32⟩
  | 31 => ⟨S_, .f32⟩
  | 32 => ⟨S8x4111x128, .f32⟩
  | 33 => ⟨S8x4096x128, .f32⟩
  | 34 => ⟨S8x4096x128, .f32⟩
  | 35 => ⟨S8x4096x128, .f32⟩
  | 36 => ⟨S8x4096x128, .f32⟩
  | 37 => ⟨S8x4096x128, .f32⟩
  | 38 => ⟨S8x4096x128, .f32⟩
  | 39 => ⟨S8x4096x128, .f32⟩
  | 40 => ⟨S8x4096x128, .f32⟩
  | 41 => ⟨S8x4096x128, .f32⟩
  | 42 => ⟨S8x4096x128, .f32⟩
  | 43 => ⟨S8x4096x128, .f32⟩
  | 44 => ⟨S8x4096x128, .f32⟩
  | 45 => ⟨S8x4096x128, .f32⟩
  | 46 => ⟨S8x4096x128, .f32⟩
  | 47 => ⟨S8x4096x128, .f32⟩
  | 48 => ⟨S8x4096x128, .f32⟩
  | 49 => ⟨S8x4096x128, .f32⟩
  | 50 => ⟨S8x4096x128, .f32⟩
  | 51 => ⟨S8x4096x128, .f32⟩
  | 52 => ⟨S8x4096x128, .f32⟩
  | 53 => ⟨S8x4096x128, .f32⟩
  | 54 => ⟨S8x4096x128, .f32⟩
  | 55 => ⟨S8x4096x128, .f32⟩
  | 56 => ⟨S8x4096x128, .f32⟩
  | 57 => ⟨S8x4096x128, .f32⟩
  | 58 => ⟨S8x4096x128, .f32⟩
  | 59 => ⟨S8x4096x128, .f32⟩
  | 60 => ⟨S8x4096x128, .f32⟩
  | 61 => ⟨S8x4096x128, .f32⟩
  | 62 => ⟨S8x4096x128, .f32⟩
  | 63 => ⟨S8x4096x128, .f32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S4096, .f32⟩
  | 71 => ⟨S1x4096x1, .f32⟩
  | 72 => ⟨S8x4096x128, .f32⟩
  | 73 => ⟨S8x4096x128, .f32⟩
  | 74 => ⟨S8x4096x128, .f32⟩
  | 75 => ⟨S8x4096x1x128, .f32⟩
  | 76 => ⟨S8x4096x1x128, .f32⟩
  | 77 => ⟨S8x4096x1x128, .f32⟩
  | 78 => ⟨S8x4096x1x128, .f32⟩
  | 79 => ⟨S8x4096x4x128, .f32⟩
  | 80 => ⟨S4x128x256, .f32⟩
  | 81 => ⟨S4x256x8x4096, .f32⟩
  | 82 => ⟨S8x4096x4x256, .f32⟩
  | 83 => ⟨S8x4096x1024, .f32⟩
  | 84 => ⟨S1024, .f32⟩
  | 85 => ⟨S1x1x1024, .f32⟩
  | 86 => ⟨S8x4096x1024, .f32⟩
  | 87 => ⟨S8x4096x1024, .f32⟩
  | 88 => ⟨S8x4096x1024, .f32⟩
  | 89 => ⟨S8x4096x1024, .f32⟩
  | 90 => ⟨S_, .f32⟩
  | 91 => ⟨S8x4096x1024, .f32⟩
  | 92 => ⟨S8x4096x1024, .f32⟩
  | 93 => ⟨S_, .f32⟩
  | 94 => ⟨S8x4096x1024, .f32⟩
  | 95 => ⟨S8x4096x1024, .f32⟩
  | 96 => ⟨S8x4096x1024, .f32⟩
  | 97 => ⟨S8x4096x1024, .f32⟩
  | 98 => ⟨S8x4096x1024, .f32⟩
  | 99 => ⟨S_, .f32⟩
  | 100 => ⟨S8x4096x1024, .f32⟩
  | 101 => ⟨S8x4096x1024, .f32⟩
  | 102 => ⟨S_, .f32⟩
  | 103 => ⟨S8x4096x1024, .f32⟩
  | 104 => ⟨S8x4096x1024, .f32⟩
  | 105 => ⟨S8x4096x1024, .f32⟩
  | 106 => ⟨S8x4096x1024, .f32⟩
  | 107 => ⟨S_, .f32⟩
  | 108 => ⟨S8x4096x1024, .f32⟩
  | 109 => ⟨S8x4096x1024, .f32⟩
  | 110 => ⟨S1024x1024, .f32⟩
  | 111 => ⟨S8x4096x1024, .f32⟩
  | 112 => ⟨S8x4096x1024, .f32⟩
  | 113 => ⟨S1024, .f32⟩
  | 114 => ⟨S1024, .f32⟩
  | 115 => ⟨S_, .f32⟩
  | 116 => ⟨S8x4096, .f32⟩
  | 117 => ⟨S8x4096x1, .f32⟩
  | 118 => ⟨S_, .f32⟩
  | 119 => ⟨S8x4096x1, .f32⟩
  | 120 => ⟨S8x4096x1, .f32⟩
  | 121 => ⟨S8x4096x1024, .f32⟩
  | 122 => ⟨S8x4096x1024, .f32⟩
  | 123 => ⟨S8x4096x1024, .f32⟩
  | 124 => ⟨S_, .f32⟩
  | 125 => ⟨S8x4096, .f32⟩
  | 126 => ⟨S8x4096x1, .f32⟩
  | 127 => ⟨S_, .f32⟩
  | _ => ⟨S8x4096x1024, .f32⟩

abbrev hbmTy0_3 (i : Nat) : BufTy := match i % 128 with
  | 0 => ⟨S8x4096x1, .f32⟩
  | 1 => ⟨S8x4096x1, .f32⟩
  | 2 => ⟨S8x4096x1024, .f32⟩
  | 3 => ⟨S8x4096x1024, .f32⟩
  | 4 => ⟨S_, .f32⟩
  | 5 => ⟨S8x4096x1, .f32⟩
  | 6 => ⟨S8x4096x1, .f32⟩
  | 7 => ⟨S8x4096x1, .f32⟩
  | 8 => ⟨S8x4096x1024, .f32⟩
  | 9 => ⟨S8x4096x1024, .f32⟩
  | 10 => ⟨S1x1x1024, .f32⟩
  | 11 => ⟨S8x4096x1024, .f32⟩
  | 12 => ⟨S8x4096x1024, .f32⟩
  | 13 => ⟨S1x1x1024, .f32⟩
  | 14 => ⟨S8x4096x1024, .f32⟩
  | 15 => ⟨S8x4096x1024, .f32⟩
  | 16 => ⟨S32768x1024, .f32⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_call0_cst : Ref sig .tc := ⟨.hbm, 55, rfl⟩
abbrev main_call0_call0_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_call1_v5 : Ref sig .tc := ⟨.hbm, 94, rfl⟩
abbrev main_v62 : Ref sig .tc := ⟨.hbm, 95, rfl⟩
abbrev main_cst_10 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_11 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_call2_call0_cst : Ref sig .tc := ⟨.hbm, 110, rfl⟩
abbrev main_call2_call0_v0 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c : Ref sig .tc := ⟨.hbm, 118, rfl⟩
abbrev main_v81 : Ref sig .tc := ⟨.hbm, 119, rfl⟩
abbrev main_call3_v0 : Ref sig .tc := ⟨.hbm, 120, rfl⟩
abbrev main_call3_c : Ref sig .tc := ⟨.hbm, 121, rfl⟩
abbrev main_call3_v1 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_c_0 : Ref sig .tc := ⟨.hbm, 126, rfl⟩
abbrev main_call3_v5 : Ref sig .tc := ⟨.hbm, 127, rfl⟩
abbrev main_v82 : Ref sig .tc := ⟨.hbm, 128, rfl⟩
abbrev main_v83 : Ref sig .tc := ⟨.hbm, 129, rfl⟩
abbrev main_cst_12 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_13 : Ref sig .tc := ⟨.hbm, 145, rfl⟩
abbrev main_v95 : Ref sig .tc := ⟨.hbm, 146, rfl⟩
abbrev main_cst_14 : Ref sig .tc := ⟨.hbm, 147, rfl⟩
abbrev main_v96 : Ref sig .tc := ⟨.hbm, 148, rfl⟩
abbrev main_c_15 : Ref sig .tc := ⟨.hbm, 149, rfl⟩
abbrev main_v97_0 : Ref sig .tc := ⟨.hbm, 150, rfl⟩
abbrev main_v97_1 : Ref sig .tc := ⟨.hbm, 151, rfl⟩
abbrev main_v97_2 : Ref sig .tc := ⟨.hbm, 152, rfl⟩
abbrev main_v97_3 : Ref sig .tc := ⟨.hbm, 153, rfl⟩
abbrev main_v97_4 : Ref sig .tc := ⟨.hbm, 154, rfl⟩
abbrev main_while0c_c_45 : Ref sig .tc := ⟨.hbm, 155, rfl⟩
abbrev main_while0c_v282 : Ref sig .tc := ⟨.hbm, 156, rfl⟩
abbrev main_while0b_call5_c : Ref sig .tc := ⟨.hbm, 157, rfl⟩
abbrev main_while0b_call5_c_0 : Ref sig .tc := ⟨.hbm, 158, rfl⟩
abbrev main_while0b_call5_c_1 : Ref sig .tc := ⟨.hbm, 159, rfl⟩
abbrev main_while0b_call5_v0 : Ref sig .tc := ⟨.hbm, 160, rfl⟩
abbrev main_while0b_v282 : Ref sig .tc := ⟨.hbm, 161, rfl⟩
abbrev main_while0b_call6_c : Ref sig .tc := ⟨.hbm, 162, rfl⟩
abbrev main_while0b_call6_c_0 : Ref sig .tc := ⟨.hbm, 163, rfl⟩
abbrev main_while0b_call6_c_1 : Ref sig .tc := ⟨.hbm, 164, rfl⟩
abbrev main_while0b_call6_c_2 : Ref sig .tc := ⟨.hbm, 165, rfl⟩
abbrev main_while0b_call6_v0 : Ref sig .tc := ⟨.hbm, 166, rfl⟩
abbrev main_while0b_v283 : Ref sig .tc := ⟨.hbm, 167, rfl⟩
abbrev main_while0b_v284 : Ref sig .tc := ⟨.hbm, 168, rfl⟩
abbrev main_while0b_v285 : Ref sig .tc := ⟨.hbm, 169, rfl⟩
abbrev main_while0b_v286 : Ref sig .tc := ⟨.hbm, 170, rfl⟩
abbrev main_while0b_v287 : Ref sig .tc := ⟨.hbm, 171, rfl⟩
abbrev main_while0b_call7_v0 : Ref sig .tc := ⟨.hbm, 172, rfl⟩
abbrev main_while0b_call7_c : Ref sig .tc := ⟨.hbm, 173, rfl⟩
abbrev main_while0b_call7_c_0 : Ref sig .tc := ⟨.hbm, 174, rfl⟩
abbrev main_while0b_call7_c_1 : Ref sig .tc := ⟨.hbm, 175, rfl⟩
abbrev main_while0b_call7_c_2 : Ref sig .tc := ⟨.hbm, 176, rfl⟩
abbrev main_while0b_v288 : Ref sig .tc := ⟨.hbm, 177, rfl⟩
abbrev main_while0b_c_45 : Ref sig .tc := ⟨.hbm, 178, rfl⟩
abbrev main_while0b_v289 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_cst_16 : Ref sig .tc := ⟨.hbm, 185, rfl⟩
abbrev main_v103 : Ref sig .tc := ⟨.hbm, 186, rfl⟩
abbrev main_v104 : Ref sig .tc := ⟨.hbm, 187, rfl⟩
abbrev main_cst_17 : Ref sig .tc := ⟨.hbm, 188, rfl⟩
abbrev main_v105 : Ref sig .tc := ⟨.hbm, 189, rfl⟩
abbrev main_v106 : Ref sig .tc := ⟨.hbm, 190, rfl⟩
abbrev main_cst_18 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_call8_v0 : Ref sig .tc := ⟨.hbm, 202, rfl⟩
abbrev main_call8_v1 : Ref sig .tc := ⟨.hbm, 203, rfl⟩
abbrev main_call8_cst : Ref sig .tc := ⟨.hbm, 204, rfl⟩
abbrev main_call8_v2 : Ref sig .tc := ⟨.hbm, 205, rfl⟩
abbrev main_call8_v3 : Ref sig .tc := ⟨.hbm, 206, rfl⟩
abbrev main_call8_cst_0 : Ref sig .tc := ⟨.hbm, 207, rfl⟩
abbrev main_call8_v4 : Ref sig .tc := ⟨.hbm, 208, rfl⟩
abbrev main_call8_v5 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_c_19 : Ref sig .tc := ⟨.hbm, 216, rfl⟩
abbrev main_call9_v0 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_c_20 : Ref sig .tc := ⟨.hbm, 222, rfl⟩
abbrev main_v127 : Ref sig .tc := ⟨.hbm, 223, rfl⟩
abbrev main_v128 : Ref sig .tc := ⟨.hbm, 224, rfl⟩
abbrev main_c_21 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_c_22 : Ref sig .tc := ⟨.hbm, 234, rfl⟩
abbrev main_call10_v0 : Ref sig .tc := ⟨.hbm, 235, rfl⟩
abbrev main_v137 : Ref sig .tc := ⟨.hbm, 236, rfl⟩
abbrev main_v138 : Ref sig .tc := ⟨.hbm, 237, rfl⟩
abbrev main_v139 : Ref sig .tc := ⟨.hbm, 238, rfl⟩
abbrev main_v140 : Ref sig .tc := ⟨.hbm, 239, rfl⟩
abbrev main_v141 : Ref sig .tc := ⟨.hbm, 240, rfl⟩
abbrev main_v142 : Ref sig .tc := ⟨.hbm, 241, rfl⟩
abbrev main_v143 : Ref sig .tc := ⟨.hbm, 242, rfl⟩
abbrev main_v144 : Ref sig .tc := ⟨.hbm, 243, rfl⟩
abbrev main_c_23 : Ref sig .tc := ⟨.hbm, 244, rfl⟩
abbrev main_v145 : Ref sig .tc := ⟨.hbm, 245, rfl⟩
abbrev main_v146 : Ref sig .tc := ⟨.hbm, 246, rfl⟩
abbrev main_c_24 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_c_25 : Ref sig .tc := ⟨.hbm, 256, rfl⟩
abbrev main_call11_v0 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_c_26 : Ref sig .tc := ⟨.hbm, 274, rfl⟩
abbrev main_v171 : Ref sig .tc := ⟨.hbm, 275, rfl⟩
abbrev main_v172 : Ref sig .tc := ⟨.hbm, 276, rfl⟩
abbrev main_c_27 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_c_28 : Ref sig .tc := ⟨.hbm, 286, rfl⟩
abbrev main_call12_v0 : Ref sig .tc := ⟨.hbm, 287, rfl⟩
abbrev main_v181 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_v202 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_v209 : Ref sig .tc := ⟨.hbm, 316, rfl⟩
abbrev main_v210 : Ref sig .tc := ⟨.hbm, 317, rfl⟩
abbrev main_v211 : Ref sig .tc := ⟨.hbm, 318, rfl⟩
abbrev main_v212 : Ref sig .tc := ⟨.hbm, 319, rfl⟩
abbrev main_c_29 : Ref sig .tc := ⟨.hbm, 320, rfl⟩
abbrev main_v213 : Ref sig .tc := ⟨.hbm, 321, rfl⟩
abbrev main_v214 : Ref sig .tc := ⟨.hbm, 322, rfl⟩
abbrev main_c_30 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_v218 : Ref sig .tc := ⟨.hbm, 327, rfl⟩
abbrev main_v219 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_v229 : Ref sig .tc := ⟨.hbm, 338, rfl⟩
abbrev main_v230 : Ref sig .tc := ⟨.hbm, 339, rfl⟩
abbrev main_v231 : Ref sig .tc := ⟨.hbm, 340, rfl⟩
abbrev main_v232 : Ref sig .tc := ⟨.hbm, 341, rfl⟩
abbrev main_v233 : Ref sig .tc := ⟨.hbm, 342, rfl⟩
abbrev main_v234 : Ref sig .tc := ⟨.hbm, 343, rfl⟩
abbrev main_v235 : Ref sig .tc := ⟨.hbm, 344, rfl⟩
abbrev main_v236 : Ref sig .tc := ⟨.hbm, 345, rfl⟩
abbrev main_cst_31 : Ref sig .tc := ⟨.hbm, 346, rfl⟩
abbrev main_v237 : Ref sig .tc := ⟨.hbm, 347, rfl⟩
abbrev main_v238 : Ref sig .tc := ⟨.hbm, 348, rfl⟩
abbrev main_cst_32 : Ref sig .tc := ⟨.hbm, 349, rfl⟩
abbrev main_v239 : Ref sig .tc := ⟨.hbm, 350, rfl⟩
abbrev main_v240 : Ref sig .tc := ⟨.hbm, 351, rfl⟩
abbrev main_v241 : Ref sig .tc := ⟨.hbm, 352, rfl⟩
abbrev main_v242 : Ref sig .tc := ⟨.hbm, 353, rfl⟩
abbrev main_v243 : Ref sig .tc := ⟨.hbm, 354, rfl⟩
abbrev main_cst_33 : Ref sig .tc := ⟨.hbm, 355, rfl⟩
abbrev main_v244 : Ref sig .tc := ⟨.hbm, 356, rfl⟩
abbrev main_v245 : Ref sig .tc := ⟨.hbm, 357, rfl⟩
abbrev main_cst_34 : Ref sig .tc := ⟨.hbm, 358, rfl⟩
abbrev main_v246 : Ref sig .tc := ⟨.hbm, 359, rfl⟩
abbrev main_v247 : Ref sig .tc := ⟨.hbm, 360, rfl⟩
abbrev main_v248 : Ref sig .tc := ⟨.hbm, 361, rfl⟩
abbrev main_v249 : Ref sig .tc := ⟨.hbm, 362, rfl⟩
abbrev main_cst_35 : Ref sig .tc := ⟨.hbm, 363, rfl⟩
abbrev main_v250 : Ref sig .tc := ⟨.hbm, 364, rfl⟩
abbrev main_v251 : Ref sig .tc := ⟨.hbm, 365, rfl⟩
abbrev main_v252 : Ref sig .tc := ⟨.hbm, 366, rfl⟩
abbrev main_v253 : Ref sig .tc := ⟨.hbm, 367, rfl⟩
abbrev main_v254 : Ref sig .tc := ⟨.hbm, 368, rfl⟩
abbrev main_v255 : Ref sig .tc := ⟨.hbm, 369, rfl⟩
abbrev main_v256 : Ref sig .tc := ⟨.hbm, 370, rfl⟩
abbrev main_cst_36 : Ref sig .tc := ⟨.hbm, 371, rfl⟩
abbrev main_v257 : Ref sig .tc := ⟨.hbm, 372, rfl⟩
abbrev main_v258 : Ref sig .tc := ⟨.hbm, 373, rfl⟩
abbrev main_cst_37 : Ref sig .tc := ⟨.hbm, 374, rfl⟩
abbrev main_v259 : Ref sig .tc := ⟨.hbm, 375, rfl⟩
abbrev main_v260 : Ref sig .tc := ⟨.hbm, 376, rfl⟩
abbrev main_v261 : Ref sig .tc := ⟨.hbm, 377, rfl⟩
abbrev main_v262 : Ref sig .tc := ⟨.hbm, 378, rfl⟩
abbrev main_v263 : Ref sig .tc := ⟨.hbm, 379, rfl⟩
abbrev main_cst_38 : Ref sig .tc := ⟨.hbm, 380, rfl⟩
abbrev main_v264 : Ref sig .tc := ⟨.hbm, 381, rfl⟩
abbrev main_v265 : Ref sig .tc := ⟨.hbm, 382, rfl⟩
abbrev main_cst_39 : Ref sig .tc := ⟨.hbm, 383, rfl⟩
abbrev main_v266 : Ref sig .tc := ⟨.hbm, 384, rfl⟩
abbrev main_v267 : Ref sig .tc := ⟨.hbm, 385, rfl⟩
abbrev main_v268 : Ref sig .tc := ⟨.hbm, 386, rfl⟩
abbrev main_v269 : Ref sig .tc := ⟨.hbm, 387, rfl⟩
abbrev main_cst_40 : Ref sig .tc := ⟨.hbm, 388, rfl⟩
abbrev main_v270 : Ref sig .tc := ⟨.hbm, 389, rfl⟩
abbrev main_v271 : Ref sig .tc := ⟨.hbm, 390, rfl⟩
abbrev main_v272 : Ref sig .tc := ⟨.hbm, 391, rfl⟩
abbrev main_v273 : Ref sig .tc := ⟨.hbm, 392, rfl⟩
abbrev main_v274 : Ref sig .tc := ⟨.hbm, 393, rfl⟩
abbrev main_v275 : Ref sig .tc := ⟨.hbm, 394, rfl⟩
abbrev main_v276 : Ref sig .tc := ⟨.hbm, 395, rfl⟩
abbrev main_v277 : Ref sig .tc := ⟨.hbm, 396, rfl⟩
abbrev main_v278 : Ref sig .tc := ⟨.hbm, 397, rfl⟩
abbrev main_v279 : Ref sig .tc := ⟨.hbm, 398, rfl⟩
abbrev main_v280 : Ref sig .tc := ⟨.hbm, 399, rfl⟩
abbrev main_v281 : Ref sig .tc := ⟨.hbm, 400, rfl⟩

abbrev nD : Nat := 1
abbrev τ : Topo := Topo.v7x

variable {F : FTy → Type} [FloatOps F]

abbrev main_while0_count : Scf.Loop 32 := ⟨0#32, 128#32, 1#32⟩
-- ==== Kernel3.lean ====
abbrev S32768x1024 : Shape := ⟨2, ![32768, 1024]⟩
abbrev S1x8x4096x256 : Shape := ⟨4, ![1, 8, 4096, 256]⟩
abbrev S1x1024x2048 : Shape := ⟨3, ![1, 1024, 2048]⟩
abbrev S1x8x2x128x128 : Shape := ⟨5, ![1, 8, 2, 128, 128]⟩
abbrev S1x1024x1024 : Shape := ⟨3, ![1, 1024, 1024]⟩
abbrev S1x256x1024 : Shape := ⟨3, ![1, 256, 1024]⟩
abbrev S8x4096x256 : Shape := ⟨3, ![8, 4096, 256]⟩
abbrev S32768x256 : Shape := ⟨2, ![32768, 256]⟩
abbrev S1024x2048 : Shape := ⟨2, ![1024, 2048]⟩
abbrev S8x2x128x128 : Shape := ⟨4, ![8, 2, 128, 128]⟩
abbrev S1024x1024 : Shape := ⟨2, ![1024, 1024]⟩
abbrev S256x1024 : Shape := ⟨2, ![256, 1024]⟩
abbrev S32768x128 : Shape := ⟨2, ![32768, 128]⟩
abbrev S1024x256 : Shape := ⟨2, ![1024, 256]⟩
abbrev S1024x128 : Shape := ⟨2, ![1024, 128]⟩
abbrev S16x1024x128 : Shape := ⟨3, ![16, 1024, 128]⟩
abbrev S1088x128 : Shape := ⟨2, ![1088, 128]⟩
abbrev S1x1024x128 : Shape := ⟨3, ![1, 1024, 128]⟩
abbrev S1x1x128x128 : Shape := ⟨4, ![1, 1, 128, 128]⟩
abbrev S128x128 : Shape := ⟨2, ![128, 128]⟩
abbrev S128x1024 : Shape := ⟨2, ![128, 1024]⟩
abbrev S8x128 : Shape := ⟨2, ![8, 128]⟩

abbrev nBuf : Space → Nat
  | .hbm => 19
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1x8x4096x256, .f32⟩
  | .hbm, ⟨2, _⟩ => ⟨S1x1024x2048, .f32⟩
  | .hbm, ⟨3, _⟩ => ⟨S1x8x2x128x128, .f32⟩
  | .hbm, ⟨4, _⟩ => ⟨S1x1024x1024, .f32⟩
  | .hbm, ⟨5, _⟩ => ⟨S1x256x1024, .f32⟩
  | .hbm, ⟨6, _⟩ => ⟨S8x4096x256, .f32⟩
  | .hbm, ⟨7, _⟩ => ⟨S32768x256, .f32⟩
  | .hbm, ⟨8, _⟩ => ⟨S1024x2048, .f32⟩
  | .hbm, ⟨9, _⟩ => ⟨S8x2x128x128, .f32⟩
  | .hbm, ⟨10, _⟩ => ⟨S1024x1024, .f32⟩
  | .hbm, ⟨11, _⟩ => ⟨S256x1024, .f32⟩
  | .hbm, ⟨12, _⟩ => ⟨S1024x2048, .bf16⟩
  | .hbm, ⟨13, _⟩ => ⟨S8x2x128x128, .bf16⟩
  | .hbm, ⟨14, _⟩ => ⟨S1024x1024, .bf16⟩
  | .hbm, ⟨15, _⟩ => ⟨S256x1024, .bf16⟩
  | .hbm, ⟨16, _⟩ => ⟨S32768x128, .i32⟩
  | .hbm, ⟨17, _⟩ => ⟨S32768x128, .f32⟩
  | .hbm, ⟨18, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x2048, .bf16⟩
  | .local _ .vmem, ⟨5, _⟩ => ⟨S8x2x128x128, .bf16⟩
  | .local _ .vmem, ⟨6, _⟩ => ⟨S1024x1024, .bf16⟩
  | .local _ .vmem, ⟨7, _⟩ => ⟨S256x1024, .bf16⟩
  | .local _ .vmem, ⟨8, _⟩ => ⟨S1024x128, .i32⟩
  | .local _ .vmem, ⟨9, _⟩ => ⟨S1024x128, .i32⟩
  | .local _ .vmem, ⟨10, _⟩ => ⟨S1024x128, .f32⟩
  | .local _ .vmem, ⟨11, _⟩ => ⟨S1024x128, .f32⟩
  | .local _ .vmem, ⟨12, _⟩ => ⟨S1024x1024, .f32⟩
  | .local _ .vmem, ⟨13, _⟩ => ⟨S1024x1024, .f32⟩
  | .local _ .vmem, ⟨14, _⟩ => ⟨S16x1024x128, .bf16⟩
  | .local _ .vmem, ⟨15, _⟩ => ⟨S1088x128, .f32⟩
  | .local _ .vmem, ⟨16, _⟩ => ⟨S1024x128, .f32⟩
  | .local _ .vmem, ⟨17, _⟩ => ⟨S1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v119 : BitVec 32 := Scalar.addi c0_i32 c8_i32
  let c1_i32 : BitVec 32 := 1#32
  ⟨c0_i32, v119, c1_i32⟩
def k0_off1 (k0_t1 : Fin k0_t1_loop.trips) : Fin 4 → Nat :=
  let c0_i32 : BitVec 32 := 0#32
  let c1_i32 : BitVec 32 := 1#32
  let arg14 : BitVec 32 := Scf.iv c0_i32 c1_i32 k0_t1
  let v176 : Index := Scalar.indexCast arg14
  let c0_125 : Index := 0#32
  let c0_126 : Index := 0#32
  let c0_127 : Index := 0#32
  ![v176.toNat, 0, 0, 0]
def k0_off2 (k0_t1 : Fin k0_t1_loop.trips) (c0_i32_128 : BitVec 32) : Fin 3 → Nat :=
  let c2_i32 : BitVec 32 := 2#32
  let c0_i32 : BitVec 32 := 0#32
  let c1_i32 : BitVec 32 := 1#32
  let arg14 : BitVec 32 := Scf.iv c0_i32 c1_i32 k0_t1
  let v179 : BitVec 32 := Scalar.muli c2_i32 arg14
  let v180 : BitVec 32 := Scalar.addi v179 c0_i32_128
  let v181 : Index := Scalar.indexCast v180
  let c0_129 : Index := 0#32
  let c0_130 : Index := 0#32
  ![v181.toNat, 0, 0]
def k0_off3 (k0_t1 : Fin k0_t1_loop.trips) : Fin 4 → Nat :=
  let c0_i32 : BitVec 32 := 0#32
  let c1_i32 : BitVec 32 := 1#32
  let arg14 : BitVec 32 := Scf.iv c0_i32 c1_i32 k0_t1
  let v7809 : Index := Scalar.indexCast arg14
  let c1_413 : Index := 1#32
  let c0_414 : Index := 0#32
  let c0_415 : Index := 0#32
  ![v7809.toNat, 1, 0, 0]
def k0_off4 (k0_t1 : Fin k0_t1_loop.trips) (c0_i32_963 : BitVec 32) : Fin 2 → Nat :=
  let c0_i32 : BitVec 32 := 0#32
  let c1_i32 : BitVec 32 := 1#32
  let arg14 : BitVec 32 := Scf.iv c0_i32 c1_i32 k0_t1
  let c16_i32 : BitVec 32 := 16#32
  let v18250 : BitVec 32 := Scalar.muli arg14 c16_i32
  let v18251 : BitVec 32 := Scalar.addi v18250 c0_i32_963
  let v18253 : Index := Scalar.indexCast v18251
  let c0_964 : Index := 0#32
  ![v18253.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32768x1024 : Shape := ⟨2, ![32768, 1024]⟩
abbrev S1x8x4096x256 : Shape := ⟨4, ![1, 8, 4096, 256]⟩
abbrev S1x1024x2048 : Shape := ⟨3, ![1, 1024, 2048]⟩
abbrev S1x8x2x128x128 : Shape := ⟨5, ![1, 8, 2, 128, 128]⟩
abbrev S1x1024x1024 : Shape := ⟨3, ![1, 1024, 1024]⟩
abbrev S1x256x1024 : Shape := ⟨3, ![1, 256, 1024]⟩
abbrev S1024x1024 : Shape := ⟨2, ![1024, 1024]⟩
abbrev S_ : Shape := ⟨0, ![]⟩
abbrev S8x4096x256 : Shape := ⟨3, ![8, 4096, 256]⟩
abbrev S32768x256 : Shape := ⟨2, ![32768, 256]⟩
abbrev S256x1024 : Shape := ⟨2, ![256, 1024]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x8x4096x256, .f32⟩
  | .hbm, ⟨2, _⟩ => ⟨S1x1024x2048, .f32⟩
  | .hbm, ⟨3, _⟩ => ⟨S1x8x2x128x128, .f32⟩
  | .hbm, ⟨4, _⟩ => ⟨S1x1024x1024, .f32⟩
  | .hbm, ⟨5, _⟩ => ⟨S1x256x1024, .f32⟩
  | .hbm, ⟨6, _⟩ => ⟨S1024x1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S8x4096x256, .f32⟩
  | .hbm, ⟨17, _⟩ => ⟨S32768x256, .f32⟩
  | .hbm, ⟨18, _⟩ => ⟨S256x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.RoutIdealLoop.lean ====
/- The router call, read at the ideal instance: its body runs, and of its three results `base` (the scaled row plus the per-layer
   embedding) is named.

   The body first writes `base`, then the eight heads' queries, then goes over the heads in a loop that scores the keys and
   sorts, and last transposes what the loop left. Past its first stores nothing here depends on values: each statement loads
   from a buffer that is owned or stores into one whose contents nobody reads, so the rest of the body is gone through by an
   invariant that says only who owns what. -/
module

public import proofs.«01_k».proof.Proof.Gen.Kernel3Ideal.Launch
public import proofs.«01_k».proof.Proof.Gen.Kernel3Ideal.Points
public import proofs.«01_k».proof.Proof.Gen.Kernel3Ideal.Frame
public import Idealize.ShloMosaic.Lib.Pipeline.FrameBody
public import Idealize.ShloMosaic.Lib.Tactic
public import Idealize.ShloMosaic.Lib.Scf
public import Idealize.ShloMosaic.Lib.VecWindow
public import Idealize.ShloMosaic.Lib.Pipeline.Value
public import Idealize.ShloMosaic.Lib.Claim

@[expose] public section

set_option maxRecDepth 65536

noncomputable section

namespace Cert.Proof.RoutIdeal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## Steps that keep an invariant -/

/-- `p` keeps `P`. -/
@[irreducible] def Safe (c : Dev nD) (P : sProp 𝕄) {α : Type} (p : Prog (TpuEff nD τ sig (Elt F) Λ₀ .tc) α) : Prop :=
  P ⊢ wp frame (wpE (defs₀ (F := F)) Variants.none c none) Set.univ p fun _ => P

theorem Safe.pure {c : Dev nD} {P : sProp 𝕄} {α : Type} (a : α) : Safe c P (Pure.pure a : Prog (TpuEff nD τ sig (Elt F) Λ₀ .tc) α) :=
  by unfold Safe; exact le_wp_ret _ _ _ a fun _ => P

theorem Safe.bind {c : Dev nD} {P : sProp 𝕄} {α β : Type} {p : Prog (TpuEff nD τ sig (Elt F) Λ₀ .tc) α} {k : α → Prog (TpuEff nD τ sig (Elt F) Λ₀ .tc) β}
    (hp : Safe c P p) (hk : ∀ a, Safe c P (k a)) : Safe c P (p >>= k) := by
  unfold Safe at *; rw [wp_bind]
  exact BIBase.Entails.trans hp (wp_mono _ _ _ fun a => hk a)

theorem Safe.loop {c : Dev nD} {P : sProp 𝕄} {L : Scf.Loop 32} {hok} {σ : Type} {a : σ} {body : Fin L.trips → σ → Prog (TpuEff nD τ sig (Elt F) Λ₀ .tc) σ}
    (hb : ∀ k s, Safe c P (body k s)) : Safe c P (Scf.Loop.for L hok a body) := by
  unfold Safe
  refine BIBase.Entails.trans ?_ (Scf.wp_for frame _ Set.univ L.lb L.ub L.st hok a body (fun _ _ => P) (fun k s => by have h := hb k s; unfold Safe at h; exact h))
  iintro H; isplitl [H]
  · iexact H
  · iintro %s H; iexact H

theorem Safe.run {c : Dev nD} {P : sProp 𝕄} {α : Type} {p : Prog (TpuEff nD τ sig (Elt F) Λ₀ .tc) α} (h : Safe c P p) :
    P ⊢ wp frame (wpE (defs₀ (F := F)) Variants.none c none) Set.univ p fun _ => P := by
  unfold Safe at h; exact h

/-- `P` holds the buffer `g`, and takes it back as it was; … -/
def Reads (c : Dev nD) (P : sProp 𝕄) {sp : CoreSpace} {s : Shape} {e : EltTy} (g : Memref sig .tc sp s e) : Prop :=
  P ⊢ iprop(∃ x, owns (c : Thread nD τ) g fullShare x ∗ (owns (c : Thread nD τ) g fullShare x -∗ P))

/-- … takes it back whatever it then holds. -/
def Writes (c : Dev nD) (P : sProp 𝕄) {sp : CoreSpace} {s : Shape} {e : EltTy} (g : Memref sig .tc sp s e) : Prop :=
  P ⊢ iprop((∃ x, owns (c : Thread nD τ) g fullShare x) ∗ ((∃ x, owns (c : Thread nD τ) g fullShare x) -∗ P))

theorem Writes.reads {c : Dev nD} {P : sProp 𝕄} {sp : CoreSpace} {s : Shape} {e : EltTy} {g : Memref sig .tc sp s e} (h : Writes c P g) :
    Reads c P g := by
  refine BIBase.Entails.trans h ?_
  iintro ⟨⟨%x, H⟩, HQ⟩
  iexists x
  isplitl [H]; · iexact H
  iintro H
  iapply HQ
  iexists x; iexact H

theorem Safe.load {c : Dev nD} {P : sProp 𝕄} {sp : CoreSpace} {s : Shape} {e : EltTy} {g : Memref sig .tc sp s e} (h : Reads c P g)
    (r : LoadRect s) (hl) : Safe c P (Prog.lift (.load g r hl)) := by
  unfold Safe
  refine BIBase.Entails.trans h ?_
  unfold owns
  iintro ⟨%x, ⟨%f, %hf, H⟩, HQ⟩
  iapply (wp_load (defs := defs₀ (F := F)) Variants.none (c : Thread nD τ) none Set.univ (S := g.view.set) (q := fullShare) (f := f)
    (g.view.setOn_subset_set _)) $$ H
  iintro H
  iapply (le_wp_ret _ _ _ _ fun _ => P)
  iapply HQ
  iexists f; isplitr; · ipureintro; exact hf
  iexact H

theorem Safe.store {c : Dev nD} {P : sProp 𝕄} {sp : CoreSpace} {s : Shape} {e : EltTy} {g : Memref sig .tc sp s e} (h : Writes c P g)
    (r : Rect s) (w : r.shape.Idx → Elt F e) (Mk) (hx) (hm) : Safe c P (Prog.lift (.store g r w Mk hx hm)) := by
  unfold Safe
  refine BIBase.Entails.trans h ?_
  unfold owns
  iintro ⟨⟨%x, %f, -, H⟩, HQ⟩
  have hs := wp_store (defs := defs₀ (F := F)) Variants.none (c : Thread nD τ) none Set.univ (Γ := .empty) (m := g) (r := r) (w := w)
    (Mk := Mk) (hx := hx) (hm := hm) (k := fun u => .ret u) (S := g.view.set) (f := f) (Q := fun _ => P) (g.setOn_access_subset r Mk)
  iapply hs $$ H
  iintro H
  iapply (le_wp_ret _ _ _ _ fun _ => P)
  iapply HQ
  iexists (g.view.read (Elt F) ((g.access r).write (Elt F) f w Mk)); iexists ((g.access r).write (Elt F) f w Mk)
  isplitr; · ipureintro; rfl
  iexact H

/-- A load from a buffer that is held, and what follows. -/
theorem ld {c : Dev nD} {P : sProp 𝕄} {sp : CoreSpace} {s : Shape} {e : EltTy} {g : Memref sig .tc sp s e} (h : Reads c P g)
    {r : LoadRect s} {hl} {β : Type} {k : _ → Prog (TpuEff nD τ sig (Elt F) Λ₀ .tc) β} (hk : ∀ v, Safe c P (k v)) :
    Safe c P (Prog.lift (.load g r hl) >>= k) := Safe.bind (Safe.load h r hl) hk

/-- A store into a buffer that may be written, and what follows. -/
theorem st {c : Dev nD} {P : sProp 𝕄} {sp : CoreSpace} {s : Shape} {e : EltTy} {g : Memref sig .tc sp s e} (h : Writes c P g)
    {r : Rect s} {w : r.shape.Idx → Elt F e} {Mk} {hx} {hm} {β : Type} {k : _ → Prog (TpuEff nD τ sig (Elt F) Λ₀ .tc) β}
    (hk : ∀ v, Safe c P (k v)) : Safe c P (Prog.lift (.store g r w Mk hx hm) >>= k) := Safe.bind (Safe.store h r w Mk hx hm) hk

/-! ## Steps whose values are known -/

/-- Two stretches that keep `P`, one after the other. -/
theorem Safe.run_bind {c : Dev nD} {P : sProp 𝕄} {α β : Type} {p : Prog (TpuEff nD τ sig (Elt F) Λ₀ .tc) α} {k : α → Prog (TpuEff nD τ sig (Elt F) Λ₀ .tc) β}
    (hp : Safe c P p) (hk : ∀ a, Safe c P (k a)) :
    P ⊢ wp frame (wpE (defs₀ (F := F)) Variants.none c none) Set.univ p fun a =>
      wp frame (wpE (defs₀ (F := F)) Variants.none c none) Set.univ (k a) fun _ => P :=
  BIBase.Entails.trans hp.run (wp_mono _ _ _ fun a => (hk a).run)

/-- A load whose value does not matter. -/
theorem load_any {c : Dev nD} {P : sProp 𝕄} {sp : CoreSpace} {s : Shape} {e : EltTy} {g : Memref sig .tc sp s e} (h : Reads c P g)
    (r : LoadRect s) (hl) {β : Type} (k : _ → Prog (TpuEff nD τ sig (Elt F) Λ₀ .tc) β) {Q : β → sProp 𝕄}
    (hk : ∀ v, P ⊢ wp frame (wpE (defs₀ (F := F)) Variants.none c none) Set.univ (k v) Q) :
    P ⊢ wp frame (wpE (defs₀ (F := F)) Variants.none c none) Set.univ (Prog.lift (.load g r hl) >>= k) Q := by
  rw [wp_bind]
  exact BIBase.Entails.trans (Safe.load h r hl).run (wp_mono _ _ _ hk)

/-- `P` holds the buffer `g` at `x`. -/
def Holds (c : Dev nD) (P : sProp 𝕄) {sp : CoreSpace} {s : Shape} {e : EltTy} (g : Memref sig .tc sp s e) (x : s.Idx → Elt F e) : Prop :=
  P ⊢ iprop(owns (c : Thread nD τ) g fullShare x ∗ (owns (c : Thread nD τ) g fullShare x -∗ P))

/-- A load of a whole buffer held at `x` yields `x`. -/
theorem load_whole {c : Dev nD} {P : sProp 𝕄} {sp : CoreSpace} {s : Shape} {e : EltTy} {g : Memref sig .tc sp s e} {x : s.Idx → Elt F e}
    (h : Holds c P g x) {off : Fin s.rank → ℕ} (h0 : off = fun _ => 0) (inb : ∀ a, off a + s.size a ≤ s.size a)
    (hl) {β : Type} (k : (s.Idx → Elt F e) → Prog (TpuEff nD τ sig (Elt F) Λ₀ .tc) β) {Q : β → sProp 𝕄}
    (hk : P ⊢ wp frame (wpE (defs₀ (F := F)) Variants.none c none) Set.univ (k x) Q) :
    P ⊢ wp frame (wpE (defs₀ (F := F)) Variants.none c none) Set.univ
      (Prog.lift (.load g (Rect.unit (s := s) off s.size inb).toLoadRect hl) >>= k) Q := by
  have hk' : P ⊢ wp frame (wpE (defs₀ (F := F)) Variants.none c none) Set.univ (k (View.ld x (Rect.unit (s := s) off s.size inb))) Q := by
    rw [View.ld_unit_zero h0]; exact hk
  rw [wp_bind]
  refine BIBase.Entails.trans h ?_
  unfold owns
  iintro ⟨⟨%f, %hf, H⟩, HQ⟩
  subst hf
  iapply (wp_load (defs := defs₀ (F := F)) Variants.none (c : Thread nD τ) none Set.univ (S := g.view.set) (q := fullShare) (f := f)
    (g.view.setOn_subset_set _)) $$ H
  iintro H
  iapply (le_wp_ret _ _ _ _ fun v => wp frame (wpE (defs₀ (F := F)) Variants.none c none) Set.univ (k v) Q)
  iapply hk'
  iapply HQ
  iexists f; isplitr; · ipureintro; rfl
  iexact H

/-- A store over a whole buffer leaves in it what was stored. -/
theorem store_whole {c : Dev nD} {P P' : sProp 𝕄} {sp : CoreSpace} {s : Shape} {e : EltTy} {g : Memref sig .tc sp s e} {w : s.Idx → Elt F e}
    (h : P ⊢ iprop((∃ x, owns (c : Thread nD τ) g fullShare x) ∗ (owns (c : Thread nD τ) g fullShare w -∗ P')))
    {off : Fin s.rank → ℕ} (h0 : off = fun _ => 0) (inb : ∀ a, off a + s.size a ≤ s.size a) (hx) (hm)
    {β : Type} (k : PUnit → Prog (TpuEff nD τ sig (Elt F) Λ₀ .tc) β) {Q : β → sProp 𝕄}
    (hk : P' ⊢ wp frame (wpE (defs₀ (F := F)) Variants.none c none) Set.univ (k ⟨⟩) Q) :
    P ⊢ wp frame (wpE (defs₀ (F := F)) Variants.none c none) Set.univ
      (Prog.lift (.store g (Rect.unit (s := s) off s.size inb) w Finset.univ hx hm) >>= k) Q := by
  subst h0
  rw [wp_bind]
  refine BIBase.Entails.trans h ?_
  unfold owns
  iintro ⟨⟨%x, %f, -, H⟩, HQ⟩
  have hs := wp_store (defs := defs₀ (F := F)) Variants.none (c : Thread nD τ) none Set.univ (Γ := .empty) (m := g) (r := Rect.unit (s := s) (fun _ => 0) s.size inb)
    (w := w) (Mk := Finset.univ) (hx := hx) (hm := hm) (k := fun u => .ret u) (S := g.view.set) (f := f)
    (Q := fun v => wp frame (wpE (defs₀ (F := F)) Variants.none c none) Set.univ (k v) Q) (g.setOn_access_subset _ _)
  iapply hs $$ H
  iintro H
  iapply (le_wp_ret _ _ _ _ fun v => wp frame (wpE (defs₀ (F := F)) Variants.none c none) Set.univ (k v) Q)
  iapply hk
  iapply HQ
  iexists ((g.access (Rect.unit (s := s) (fun _ => 0) s.size inb)).write (Elt F) f w Finset.univ)
  isplitr
  · ipureintro
    exact View.read_writes_full g.view f inb w []
  iexact H

/-- `P` holds the queries', the keys' and the scratch buffers and those of the two results that are let be. -/
structure Kept (c : Dev nD) (P : sProp 𝕄)
    (arg3 : Memref sig .tc .vmem S1024x2048 .bf16) (arg4 : Memref sig .tc .vmem S8x2x128x128 .bf16)
    (arg7 : Memref sig .tc .vmem S1024x128 .i32) (arg8 : Memref sig .tc .vmem S1024x128 .f32)
    (arg10 : Memref sig .tc .vmem S16x1024x128 .bf16) (arg11 : Memref sig .tc .vmem S1088x128 .f32)
    (arg12 : Memref sig .tc .vmem S1024x128 .f32) (arg13 : Memref sig .tc .vmem S1024x128 .f32) : Prop where
  l3 : Reads (F := F) c P arg3
  l4 : Reads (F := F) c P arg4
  l7 : Reads (F := F) c P arg7
  l8 : Reads (F := F) c P arg8
  l10 : Reads (F := F) c P arg10
  l11 : Reads (F := F) c P arg11
  l12 : Reads (F := F) c P arg12
  l13 : Reads (F := F) c P arg13
  s7 : Writes (F := F) c P arg7
  s8 : Writes (F := F) c P arg8
  s10 : Writes (F := F) c P arg10
  s11 : Writes (F := F) c P arg11
  s12 : Writes (F := F) c P arg12
  s13 : Writes (F := F) c P arg13

/-! ## The statements after the first stores, a stretch at a time -/

/- Each stretch is gone through statement by statement, at whatever values it is given. -/
section Stretches

variable
    {i : grid0.Coords} {arg1 : Memref sig .tc .vmem S1024x1024 .f32} {harg1 : arg1.IsWhole}
    {arg2 : Memref sig .tc .vmem S1024x256 .f32} {harg2 : arg2.IsWhole}
    {arg3 : Memref sig .tc .vmem S1024x2048 .bf16} {harg3 : arg3.IsWhole}
    {arg4 : Memref sig .tc .vmem S8x2x128x128 .bf16} {harg4 : arg4.IsWhole}
    {arg5 : Memref sig .tc .vmem S1024x1024 .bf16} {harg5 : arg5.IsWhole}
    {arg6 : Memref sig .tc .vmem S256x1024 .bf16} {harg6 : arg6.IsWhole} {arg7 : Memref sig .tc .vmem S1024x128 .i32}
    {harg7 : arg7.IsWhole} {arg8 : Memref sig .tc .vmem S1024x128 .f32} {harg8 : arg8.IsWhole}
    {arg9 : Memref sig .tc .vmem S1024x1024 .f32} {harg9 : arg9.IsWhole}
    {arg10 : Memref sig .tc .vmem S16x1024x128 .bf16} {harg10 : arg10.IsWhole}
    {arg11 : Memref sig .tc .vmem S1088x128 .f32} {harg11 : arg11.IsWhole}
    {arg12 : Memref sig .tc .vmem S1024x128 .f32} {harg12 : arg12.IsWhole}
    {arg13 : Memref sig .tc .vmem S1024x128 .f32} {harg13 : arg13.IsWhole}

set_option maxHeartbeats 40000000

theorem k0_part323_safe {c : Dev nD} {P : sProp 𝕄} (h : Kept (F := F) c P arg3 arg4 arg7 arg8 arg10 arg11 arg12 arg13) :
    ∀ {a0 a1 a2},
    Safe (F := F) c P (k0_part323
      i arg1 harg1 arg2 harg2 arg3 harg3 arg4 harg4 arg5 harg5 arg6 harg6 arg7 harg7 arg8 harg8 arg9 harg9 arg10
      harg10 arg11 harg11 arg12 harg12 arg13 harg13 a0 a1 a2) := by
  have ⟨l3, l4, l7, l8, l10, l11, l12, l13, s7, s8, s10, s11, s12, s13⟩ := h
  intros
  unfold k0_part323
  refine .bind ?_ fun _ => ?_
  · unfold k0_part1
    apply ld l4; intro; apply ld l10; intro; apply ld l11; intro; apply st s11; intro; apply ld l11; intro
    apply st s11; intro; apply ld l11; intro; apply st s11; intro; apply ld l11; intro; apply st s11; intro
    apply ld l11; intro; apply st s11; intro; apply ld l11; intro; apply st s11; intro; exact .pure _
  refine .bind ?_ fun _ => ?_
  · unfold k0_part2
    apply ld l11; intro; apply st s11; intro; apply ld l11; intro; apply st s11; intro; apply ld l11; intro
    apply ld l11; intro; apply ld l11; intro; apply ld l11; intro; apply ld l11; intro; apply ld l11; intro
    apply ld l11; intro; apply ld l11; intro; apply ld l11; intro; exact .pure _
  refine .bind ?_ fun _ => ?_
  · unfold k0_part3
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part4
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part5
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part6
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part7
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part8
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part9
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part10
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part11
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part12
    apply ld l11; intro; apply ld l11; intro; apply ld l11; intro; apply ld l11; intro; apply ld l11; intro
    apply ld l11; intro; apply ld l11; intro; apply ld l11; intro; apply ld l11; intro; apply ld l11; intro
    apply ld l11; intro; exact .pure _
  refine .bind ?_ fun _ => ?_
  · unfold k0_part13
    exact .pure _
  refine .bind ?_ fun _ => ?_
  · unfold k0_part14
    exact .pure _
  refine .bind ?_ fun _ => ?_
  · unfold k0_part15
    exact .pure _
  refine .bind ?_ fun _ => ?_
  · unfold k0_part16
    exact .pure _
  refine .bind ?_ fun _ => ?_
  · unfold k0_part17
    exact .pure _
  refine .bind ?_ fun _ => ?_
  · unfold k0_part18
    exact .pure _
  refine .bind ?_ fun _ => ?_
  · unfold k0_part19
    exact .pure _
  refine .bind ?_ fun _ => ?_
  · unfold k0_part20
    exact .pure _
  refine .bind ?_ fun _ => ?_
  · unfold k0_part21
    exact .pure _
  refine .bind ?_ fun _ => ?_
  · unfold k0_part22
    exact .pure _
  refine .bind ?_ fun _ => ?_
  · unfold k0_part23
    exact .pure _
  refine .bind ?_ fun _ => ?_
  · unfold k0_part24
    exact .pure _
  refine .bind ?_ fun _ => ?_
  · unfold k0_part25
    exact .pure _
  refine .bind ?_ fun _ => ?_
  · unfold k0_part26
    exact .pure _
  refine .bind ?_ fun _ => ?_
  · unfold k0_part27
    exact .pure _
  refine .bind ?_ fun _ => ?_
  · unfold k0_part28
    exact .pure _
  refine .bind ?_ fun _ => ?_
  · unfold k0_part29
    exact .pure _
  refine .bind ?_ fun _ => ?_
  · unfold k0_part30
    exact .pure _
  refine .bind ?_ fun _ => ?_
  · unfold k0_part31
    exact .pure _
  refine .bind ?_ fun _ => ?_
  · unfold k0_part32
    exact .pure _
  refine .bind ?_ fun _ => ?_
  · unfold k0_part33
    exact .pure _
  refine .bind ?_ fun _ => ?_
  · unfold k0_part34
    exact .pure _
  refine .bind ?_ fun _ => ?_
  · unfold k0_part35
    exact .pure _
  refine .bind ?_ fun _ => ?_
  · unfold k0_part36
    exact .pure _
  refine .bind ?_ fun _ => ?_
  · unfold k0_part37
    exact .pure _
  refine .bind ?_ fun _ => ?_
  · unfold k0_part38
    exact .pure _
  refine .bind ?_ fun _ => ?_
  · unfold k0_part39
    exact .pure _
  refine .bind ?_ fun _ => ?_
  · unfold k0_part40
    exact .pure _
  refine .bind ?_ fun _ => ?_
  · unfold k0_part41
    exact .pure _
  refine .bind ?_ fun _ => ?_
  · unfold k0_part42
    exact .pure _
  refine .bind ?_ fun _ => ?_
  · unfold k0_part43
    exact .pure _
  refine .bind ?_ fun _ => ?_
  · unfold k0_part44
    exact .pure _
  refine .bind ?_ fun _ => ?_
  · unfold k0_part45
    exact .pure _
  refine .bind ?_ fun _ => ?_
  · unfold k0_part46
    exact .pure _
  refine .bind ?_ fun _ => ?_
  · unfold k0_part47
    exact .pure _
  refine .bind ?_ fun _ => ?_
  · unfold k0_part48
    exact .pure _
  refine .bind ?_ fun _ => ?_
  · unfold k0_part49
    exact .pure _
  refine .bind ?_ fun _ => ?_
  · unfold k0_part50
    exact .pure _
  refine .bind ?_ fun _ => ?_
  · unfold k0_part51
    exact .pure _
  refine .bind ?_ fun _ => ?_
  · unfold k0_part52
    exact .pure _
  refine .bind ?_ fun _ => ?_
  · unfold k0_part53
    exact .pure _
  refine .bind ?_ fun _ => ?_
  · unfold k0_part54
    exact .pure _
  refine .bind ?_ fun _ => ?_
  · unfold k0_part55
    exact .pure _
  refine .bind ?_ fun _ => ?_
  · unfold k0_part56
    exact .pure _
  refine .bind ?_ fun _ => ?_
  · unfold k0_part57
    exact .pure _
  refine .bind ?_ fun _ => ?_
  · unfold k0_part58
    exact .pure _
  refine .bind ?_ fun _ => ?_
  · unfold k0_part59
    exact .pure _
  refine .bind ?_ fun _ => ?_
  · unfold k0_part60
    exact .pure _
  exact .pure _

theorem k0_part324_safe {c : Dev nD} {P : sProp 𝕄} (h : Kept (F := F) c P arg3 arg4 arg7 arg8 arg10 arg11 arg12 arg13) :
    ∀ {a0 a1 a2 a3 a4 a5 a6 a7 a8 a9 a10 a11 a12 a13 a14 a15 a16 a17 a18 a19 a20 a21 a22 a23 a24 a25 a26 a27 a28 a29
      a30 a31 a32 a33 a34 a35 a36 a37 a38 a39 a40 a41 a42 a43 a44 a45 a46 a47 a48 a49 a50 a51 a52 a53 a54 a55 a56 a57
      a58 a59 a60 a61 a62 a63 a64 a65 a66 a67 a68 a69 a70 a71 a72 a73 a74 a75 a76 a77 a78 a79 a80 a81 a82 a83 a84 a85
      a86 a87 a88 a89 a90 a91 a92 a93 a94 a95 a96 a97 a98 a99 a100 a101 a102 a103 a104 a105 a106 a107 a108 a109 a110
      a111 a112 a113 a114 a115 a116 a117 a118 a119 a120 a121 a122 a123 a124 a125 a126 a127 a128 a129 a130 a131 a132
      a133 a134 a135 a136 a137 a138 a139 a140 a141 a142 a143 a144 a145 a146 a147 a148 a149 a150 a151 a152 a153 a154
      a155 a156 a157 a158 a159 a160 a161 a162 a163 a164 a165 a166 a167 a168 a169 a170 a171 a172 a173 a174 a175 a176
      a177 a178 a179 a180 a181 a182 a183 a184 a185 a186 a187 a188 a189 a190 a191 a192 a193 a194 a195 a196 a197 a198
      a199 a200 a201 a202 a203 a204 a205 a206 a207 a208 a209 a210 a211 a212 a213 a214 a215 a216 a217 a218 a219 a220
      a221 a222 a223 a224 a225 a226 a227 a228 a229 a230 a231 a232 a233 a234 a235 a236 a237 a238 a239 a240 a241 a242
      a243 a244 a245 a246 a247 a248 a249 a250 a251 a252 a253 a254 a255 a256 a257},
    Safe (F := F) c P (k0_part324
      i arg1 harg1 arg2 harg2 arg3 harg3 arg4 harg4 arg5 harg5 arg6 harg6 arg7 harg7 arg8 harg8 arg9 harg9 arg10
      harg10 arg11 harg11 arg12 harg12 arg13 harg13 a0 a1 a2 a3 a4 a5 a6 a7 a8 a9 a10 a11 a12 a13 a14 a15 a16 a17 a18
      a19 a20 a21 a22 a23 a24 a25 a26 a27 a28 a29 a30 a31 a32 a33 a34 a35 a36 a37 a38 a39 a40 a41 a42 a43 a44 a45 a46
      a47 a48 a49 a50 a51 a52 a53 a54 a55 a56 a57 a58 a59 a60 a61 a62 a63 a64 a65 a66 a67 a68 a69 a70 a71 a72 a73 a74
      a75 a76 a77 a78 a79 a80 a81 a82 a83 a84 a85 a86 a87 a88 a89 a90 a91 a92 a93 a94 a95 a96 a97 a98 a99 a100 a101
      a102 a103 a104 a105 a106 a107 a108 a109 a110 a111 a112 a113 a114 a115 a116 a117 a118 a119 a120 a121 a122 a123
      a124 a125 a126 a127 a128 a129 a130 a131 a132 a133 a134 a135 a136 a137 a138 a139 a140 a141 a142 a143 a144 a145
      a146 a147 a148 a149 a150 a151 a152 a153 a154 a155 a156 a157 a158 a159 a160 a161 a162 a163 a164 a165 a166 a167
      a168 a169 a170 a171 a172 a173 a174 a175 a176 a177 a178 a179 a180 a181 a182 a183 a184 a185 a186 a187 a188 a189
      a190 a191 a192 a193 a194 a195 a196 a197 a198 a199 a200 a201 a202 a203 a204 a205 a206 a207 a208 a209 a210 a211
      a212 a213 a214 a215 a216 a217 a218 a219 a220 a221 a222 a223 a224 a225 a226 a227 a228 a229 a230 a231 a232 a233
      a234 a235 a236 a237 a238 a239 a240 a241 a242 a243 a244 a245 a246 a247 a248 a249 a250 a251 a252 a253 a254 a255
      a256 a257) := by
  have ⟨l3, l4, l7, l8, l10, l11, l12, l13, s7, s8, s10, s11, s12, s13⟩ := h
  intros
  unfold k0_part324
  refine .bind ?_ fun _ => ?_
  · unfold k0_part61
    exact .pure _
  refine .bind ?_ fun _ => ?_
  · unfold k0_part62
    exact .pure _
  refine .bind ?_ fun _ => ?_
  · unfold k0_part63
    exact .pure _
  refine .bind ?_ fun _ => ?_
  · unfold k0_part64
    exact .pure _
  refine .bind ?_ fun _ => ?_
  · unfold k0_part65
    exact .pure _
  refine .bind ?_ fun _ => ?_
  · unfold k0_part66
    exact .pure _
  refine .bind ?_ fun _ => ?_
  · unfold k0_part67
    exact .pure _
  refine .bind ?_ fun _ => ?_
  · unfold k0_part68
    exact .pure _
  refine .bind ?_ fun _ => ?_
  · unfold k0_part69
    exact .pure _
  refine .bind ?_ fun _ => ?_
  · unfold k0_part70
    exact .pure _
  refine .bind ?_ fun _ => ?_
  · unfold k0_part71
    exact .pure _
  refine .bind ?_ fun _ => ?_
  · unfold k0_part72
    exact .pure _
  refine .bind ?_ fun _ => ?_
  · unfold k0_part73
    exact .pure _
  refine .bind ?_ fun _ => ?_
  · unfold k0_part74
    exact .pure _
  refine .bind ?_ fun _ => ?_
  · unfold k0_part75
    exact .pure _
  refine .bind ?_ fun _ => ?_
  · unfold k0_part76
    exact .pure _
  refine .bind ?_ fun _ => ?_
  · unfold k0_part77
    exact .pure _
  refine .bind ?_ fun _ => ?_
  · unfold k0_part78
    exact .pure _
  refine .bind ?_ fun _ => ?_
  · unfold k0_part79
    exact .pure _
  refine .bind ?_ fun _ => ?_
  · unfold k0_part80
    exact .pure _
  refine .bind ?_ fun _ => ?_
  · unfold k0_part81
    exact .pure _
  refine .bind ?_ fun _ => ?_
  · unfold k0_part82
    exact .pure _
  refine .bind ?_ fun _ => ?_
  · unfold k0_part83
    exact .pure _
  refine .bind ?_ fun _ => ?_
  · unfold k0_part84
    exact .pure _
  refine .bind ?_ fun _ => ?_
  · unfold k0_part85
    exact .pure _
  refine .bind ?_ fun _ => ?_
  · unfold k0_part86
    exact .pure _
  refine .bind ?_ fun _ => ?_
  · unfold k0_part87
    exact .pure _
  refine .bind ?_ fun _ => ?_
  · unfold k0_part88
    exact .pure _
  refine .bind ?_ fun _ => ?_
  · unfold k0_part89
    exact .pure _
  refine .bind ?_ fun _ => ?_
  · unfold k0_part90
    exact .pure _
  refine .bind ?_ fun _ => ?_
  · unfold k0_part91
    exact .pure _
  refine .bind ?_ fun _ => ?_
  · unfold k0_part92
    exact .pure _
  refine .bind ?_ fun _ => ?_
  · unfold k0_part93
    exact .pure _
  refine .bind ?_ fun _ => ?_
  · unfold k0_part94
    exact .pure _
  refine .bind ?_ fun _ => ?_
  · unfold k0_part95
    exact .pure _
  refine .bind ?_ fun _ => ?_
  · unfold k0_part96
    exact .pure _
  refine .bind ?_ fun _ => ?_
  · unfold k0_part97
    exact .pure _
  refine .bind ?_ fun _ => ?_
  · unfold k0_part98
    exact .pure _
  refine .bind ?_ fun _ => ?_
  · unfold k0_part99
    exact .pure _
  refine .bind ?_ fun _ => ?_
  · unfold k0_part100
    exact .pure _
  refine .bind ?_ fun _ => ?_
  · unfold k0_part101
    exact .pure _
  refine .bind ?_ fun _ => ?_
  · unfold k0_part102
    exact .pure _
  refine .bind ?_ fun _ => ?_
  · unfold k0_part103
    exact .pure _
  refine .bind ?_ fun _ => ?_
  · unfold k0_part104
    exact .pure _
  refine .bind ?_ fun _ => ?_
  · unfold k0_part105
    exact .pure _
  refine .bind ?_ fun _ => ?_
  · unfold k0_part106
    exact .pure _
  refine .bind ?_ fun _ => ?_
  · unfold k0_part107
    exact .pure _
  refine .bind ?_ fun _ => ?_
  · unfold k0_part108
    exact .pure _
  refine .bind ?_ fun _ => ?_
  · unfold k0_part109
    exact .pure _
  refine .bind ?_ fun _ => ?_
  · unfold k0_part110
    exact .pure _
  refine .bind ?_ fun _ => ?_
  · unfold k0_part111
    exact .pure _
  refine .bind ?_ fun _ => ?_
  · unfold k0_part112
    exact .pure _
  refine .bind ?_ fun _ => ?_
  · unfold k0_part113
    exact .pure _
  refine .bind ?_ fun _ => ?_
  · unfold k0_part114
    exact .pure _
  refine .bind ?_ fun _ => ?_
  · unfold k0_part115
    exact .pure _
  refine .bind ?_ fun _ => ?_
  · unfold k0_part116
    exact .pure _
  refine .bind ?_ fun _ => ?_
  · unfold k0_part117
    exact .pure _
  refine .bind ?_ fun _ => ?_
  · unfold k0_part118
    exact .pure _
  refine .bind ?_ fun _ => ?_
  · unfold k0_part119
    exact .pure _
  refine .bind ?_ fun _ => ?_
  · unfold k0_part120
    exact .pure _
  exact .pure _

theorem k0_part325_safe {c : Dev nD} {P : sProp 𝕄} (h : Kept (F := F) c P arg3 arg4 arg7 arg8 arg10 arg11 arg12 arg13) :
    ∀ {a0 a1 a2 a3 a4 a5 a6 a7 a8 a9 a10 a11 a12 a13 a14 a15 a16 a17 a18 a19 a20 a21 a22 a23 a24 a25 a26 a27 a28 a29
      a30 a31 a32 a33 a34 a35 a36 a37 a38 a39 a40 a41 a42 a43 a44 a45 a46 a47 a48 a49 a50 a51 a52 a53 a54 a55 a56 a57
      a58 a59 a60 a61 a62 a63 a64 a65 a66 a67 a68 a69 a70 a71 a72 a73 a74 a75 a76 a77 a78 a79 a80 a81 a82 a83 a84 a85
      a86 a87 a88 a89 a90 a91 a92 a93 a94 a95 a96 a97 a98 a99},
    Safe (F := F) c P (k0_part325
      i arg1 harg1 arg2 harg2 arg3 harg3 arg4 harg4 arg5 harg5 arg6 harg6 arg7 harg7 arg8 harg8 arg9 harg9 arg10
      harg10 arg11 harg11 arg12 harg12 arg13 harg13 a0 a1 a2 a3 a4 a5 a6 a7 a8 a9 a10 a11 a12 a13 a14 a15 a16 a17 a18
      a19 a20 a21 a22 a23 a24 a25 a26 a27 a28 a29 a30 a31 a32 a33 a34 a35 a36 a37 a38 a39 a40 a41 a42 a43 a44 a45 a46
      a47 a48 a49 a50 a51 a52 a53 a54 a55 a56 a57 a58 a59 a60 a61 a62 a63 a64 a65 a66 a67 a68 a69 a70 a71 a72 a73 a74
      a75 a76 a77 a78 a79 a80 a81 a82 a83 a84 a85 a86 a87 a88 a89 a90 a91 a92 a93 a94 a95 a96 a97 a98 a99) := by
  have ⟨l3, l4, l7, l8, l10, l11, l12, l13, s7, s8, s10, s11, s12, s13⟩ := h
  intros
  unfold k0_part325
  refine .bind ?_ fun _ => ?_
  · unfold k0_part121
    exact .pure _
  refine .bind ?_ fun _ => ?_
  · unfold k0_part122
    exact .pure _
  refine .bind ?_ fun _ => ?_
  · unfold k0_part123
    exact .pure _
  refine .bind ?_ fun _ => ?_
  · unfold k0_part124
    exact .pure _
  refine .bind ?_ fun _ => ?_
  · unfold k0_part125
    exact .pure _
  refine .bind ?_ fun _ => ?_
  · unfold k0_part126
    exact .pure _
  refine .bind ?_ fun _ => ?_
  · unfold k0_part127
    exact .pure _
  refine .bind ?_ fun _ => ?_
  · unfold k0_part128
    exact .pure _
  refine .bind ?_ fun _ => ?_
  · unfold k0_part129
    exact .pure _
  refine .bind ?_ fun _ => ?_
  · unfold k0_part130
    exact .pure _
  refine .bind ?_ fun _ => ?_
  · unfold k0_part131
    exact .pure _
  refine .bind ?_ fun _ => ?_
  · unfold k0_part132
    exact .pure _
  refine .bind ?_ fun _ => ?_
  · unfold k0_part133
    exact .pure _
  refine .bind ?_ fun _ => ?_
  · unfold k0_part134
    exact .pure _
  refine .bind ?_ fun _ => ?_
  · unfold k0_part135
    apply ld l4; intro; apply ld l10; intro; apply ld l11; intro; apply st s11; intro; apply ld l11; intro
    apply st s11; intro; apply ld l11; intro; apply st s11; intro; apply ld l11; intro; apply st s11; intro
    apply ld l11; intro; exact .pure _
  refine .bind ?_ fun _ => ?_
  · unfold k0_part136
    apply st s11; intro; apply ld l11; intro; apply st s11; intro; apply ld l11; intro; apply st s11; intro
    apply ld l11; intro; apply st s11; intro; apply ld l11; intro; apply ld l11; intro; apply ld l11; intro
    apply ld l11; intro; apply ld l11; intro; apply ld l11; intro; apply ld l11; intro; exact .pure _
  refine .bind ?_ fun _ => ?_
  · unfold k0_part137
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part138
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part139
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part140
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part141
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part142
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part143
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part144
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part145
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part146
    apply ld l11; intro; apply ld l11; intro; apply ld l11; intro; apply ld l11; intro; apply ld l11; intro
    apply ld l11; intro; apply ld l11; intro; apply ld l11; intro; apply ld l11; intro; apply ld l11; intro
    apply ld l11; intro; apply ld l11; intro; exact .pure _
  refine .bind ?_ fun _ => ?_
  · unfold k0_part147
    apply ld l11; intro; exact .pure _
  refine .bind ?_ fun _ => ?_
  · unfold k0_part148
    exact .pure _
  refine .bind ?_ fun _ => ?_
  · unfold k0_part149
    exact .pure _
  refine .bind ?_ fun _ => ?_
  · unfold k0_part150
    exact .pure _
  refine .bind ?_ fun _ => ?_
  · unfold k0_part151
    exact .pure _
  refine .bind ?_ fun _ => ?_
  · unfold k0_part152
    exact .pure _
  refine .bind ?_ fun _ => ?_
  · unfold k0_part153
    exact .pure _
  refine .bind ?_ fun _ => ?_
  · unfold k0_part154
    exact .pure _
  refine .bind ?_ fun _ => ?_
  · unfold k0_part155
    exact .pure _
  refine .bind ?_ fun _ => ?_
  · unfold k0_part156
    exact .pure _
  refine .bind ?_ fun _ => ?_
  · unfold k0_part157
    exact .pure _
  refine .bind ?_ fun _ => ?_
  · unfold k0_part158
    exact .pure _
  refine .bind ?_ fun _ => ?_
  · unfold k0_part159
    exact .pure _
  refine .bind ?_ fun _ => ?_
  · unfold k0_part160
    exact .pure _
  refine .bind ?_ fun _ => ?_
  · unfold k0_part161
    exact .pure _
  refine .bind ?_ fun _ => ?_
  · unfold k0_part162
    exact .pure _
  refine .bind ?_ fun _ => ?_
  · unfold k0_part163
    exact .pure _
  refine .bind ?_ fun _ => ?_
  · unfold k0_part164
    exact .pure _
  refine .bind ?_ fun _ => ?_
  · unfold k0_part165
    exact .pure _
  refine .bind ?_ fun _ => ?_
  · unfold k0_part166
    exact .pure _
  refine .bind ?_ fun _ => ?_
  · unfold k0_part167
    exact .pure _
  refine .bind ?_ fun _ => ?_
  · unfold k0_part168
    exact .pure _
  refine .bind ?_ fun _ => ?_
  · unfold k0_part169
    exact .pure _
  refine .bind ?_ fun _ => ?_
  · unfold k0_part170
    exact .pure _
  refine .bind ?_ fun _ => ?_
  · unfold k0_part171
    exact .pure _
  refine .bind ?_ fun _ => ?_
  · unfold k0_part172
    exact .pure _
  refine .bind ?_ fun _ => ?_
  · unfold k0_part173
    exact .pure _
  refine .bind ?_ fun _ => ?_
  · unfold k0_part174
    exact .pure _
  refine .bind ?_ fun _ => ?_
  · unfold k0_part175
    exact .pure _
  refine .bind ?_ fun _ => ?_
  · unfold k0_part176
    exact .pure _
  refine .bind ?_ fun _ => ?_
  · unfold k0_part177
    exact .pure _
  refine .bind ?_ fun _ => ?_
  · unfold k0_part178
    exact .pure _
  refine .bind ?_ fun _ => ?_
  · unfold k0_part179
    exact .pure _
  refine .bind ?_ fun _ => ?_
  · unfold k0_part180
    exact .pure _
  exact .pure _

theorem k0_part326_safe {c : Dev nD} {P : sProp 𝕄} (h : Kept (F := F) c P arg3 arg4 arg7 arg8 arg10 arg11 arg12 arg13) :
    ∀ {a0 a1 a2 a3 a4 a5 a6 a7 a8 a9 a10 a11 a12 a13 a14 a15 a16 a17 a18 a19 a20 a21 a22 a23 a24 a25 a26 a27 a28 a29
      a30 a31 a32 a33 a34 a35 a36 a37 a38 a39 a40 a41 a42 a43 a44 a45 a46 a47 a48 a49 a50 a51 a52 a53 a54 a55 a56 a57
      a58 a59 a60 a61 a62 a63 a64 a65 a66 a67 a68 a69 a70 a71 a72 a73 a74 a75 a76 a77 a78 a79 a80 a81 a82 a83 a84 a85
      a86 a87 a88 a89 a90 a91 a92 a93 a94 a95 a96 a97 a98 a99 a100 a101 a102 a103 a104 a105 a106 a107 a108 a109 a110
      a111 a112 a113 a114 a115 a116 a117 a118 a119 a120 a121 a122 a123 a124 a125 a126 a127 a128 a129 a130 a131 a132
      a133 a134 a135 a136 a137 a138 a139 a140 a141 a142 a143 a144 a145 a146 a147 a148 a149 a150 a151 a152 a153 a154
      a155 a156 a157 a158 a159 a160 a161 a162 a163 a164 a165 a166 a167 a168 a169 a170 a171 a172 a173 a174 a175 a176
      a177 a178 a179 a180 a181 a182 a183 a184 a185 a186 a187 a188 a189 a190 a191 a192 a193 a194 a195 a196 a197 a198
      a199 a200 a201 a202 a203 a204 a205 a206 a207 a208 a209 a210 a211 a212 a213 a214 a215 a216 a217 a218 a219 a220
      a221 a222 a223 a224 a225 a226 a227 a228 a229 a230 a231 a232 a233 a234 a235 a236 a237 a238 a239 a240 a241 a242
      a243 a244 a245 a246 a247 a248 a249 a250 a251 a252 a253 a254 a255 a256 a257 a258},
    Safe (F := F) c P (k0_part326
      i arg1 harg1 arg2 harg2 arg3 harg3 arg4 harg4 arg5 harg5 arg6 harg6 arg7 harg7 arg8 harg8 arg9 harg9 arg10
      harg10 arg11 harg11 arg12 harg12 arg13 harg13 a0 a1 a2 a3 a4 a5 a6 a7 a8 a9 a10 a11 a12 a13 a14 a15 a16 a17 a18
      a19 a20 a21 a22 a23 a24 a25 a26 a27 a28 a29 a30 a31 a32 a33 a34 a35 a36 a37 a38 a39 a40 a41 a42 a43 a44 a45 a46
      a47 a48 a49 a50 a51 a52 a53 a54 a55 a56 a57 a58 a59 a60 a61 a62 a63 a64 a65 a66 a67 a68 a69 a70 a71 a72 a73 a74
      a75 a76 a77 a78 a79 a80 a81 a82 a83 a84 a85 a86 a87 a88 a89 a90 a91 a92 a93 a94 a95 a96 a97 a98 a99 a100 a101
      a102 a103 a104 a105 a106 a107 a108 a109 a110 a111 a112 a113 a114 a115 a116 a117 a118 a119 a120 a121 a122 a123
      a124 a125 a126 a127 a128 a129 a130 a131 a132 a133 a134 a135 a136 a137 a138 a139 a140 a141 a142 a143 a144 a145
      a146 a147 a148 a149 a150 a151 a152 a153 a154 a155 a156 a157 a158 a159 a160 a161 a162 a163 a164 a165 a166 a167
      a168 a169 a170 a171 a172 a173 a174 a175 a176 a177 a178 a179 a180 a181 a182 a183 a184 a185 a186 a187 a188 a189
      a190 a191 a192 a193 a194 a195 a196 a197 a198 a199 a200 a201 a202 a203 a204 a205 a206 a207 a208 a209 a210 a211
      a212 a213 a214 a215 a216 a217 a218 a219 a220 a221 a222 a223 a224 a225 a226 a227 a228 a229 a230 a231 a232 a233
      a234 a235 a236 a237 a238 a239 a240 a241 a242 a243 a244 a245 a246 a247 a248 a249 a250 a251 a252 a253 a254 a255
      a256 a257 a258) := by
  have ⟨l3, l4, l7, l8, l10, l11, l12, l13, s7, s8, s10, s11, s12, s13⟩ := h
  intros
  unfold k0_part326
  refine .bind ?_ fun _ => ?_
  · unfold k0_part181
    exact .pure _
  refine .bind ?_ fun _ => ?_
  · unfold k0_part182
    exact .pure _
  refine .bind ?_ fun _ => ?_
  · unfold k0_part183
    exact .pure _
  refine .bind ?_ fun _ => ?_
  · unfold k0_part184
    exact .pure _
  refine .bind ?_ fun _ => ?_
  · unfold k0_part185
    exact .pure _
  refine .bind ?_ fun _ => ?_
  · unfold k0_part186
    exact .pure _
  refine .bind ?_ fun _ => ?_
  · unfold k0_part187
    exact .pure _
  refine .bind ?_ fun _ => ?_
  · unfold k0_part188
    exact .pure _
  refine .bind ?_ fun _ => ?_
  · unfold k0_part189
    exact .pure _
  refine .bind ?_ fun _ => ?_
  · unfold k0_part190
    exact .pure _
  refine .bind ?_ fun _ => ?_
  · unfold k0_part191
    exact .pure _
  refine .bind ?_ fun _ => ?_
  · unfold k0_part192
    exact .pure _
  refine .bind ?_ fun _ => ?_
  · unfold k0_part193
    exact .pure _
  refine .bind ?_ fun _ => ?_
  · unfold k0_part194
    exact .pure _
  refine .bind ?_ fun _ => ?_
  · unfold k0_part195
    exact .pure _
  refine .bind ?_ fun _ => ?_
  · unfold k0_part196
    exact .pure _
  refine .bind ?_ fun _ => ?_
  · unfold k0_part197
    exact .pure _
  refine .bind ?_ fun _ => ?_
  · unfold k0_part198
    exact .pure _
  refine .bind ?_ fun _ => ?_
  · unfold k0_part199
    exact .pure _
  refine .bind ?_ fun _ => ?_
  · unfold k0_part200
    exact .pure _
  refine .bind ?_ fun _ => ?_
  · unfold k0_part201
    exact .pure _
  refine .bind ?_ fun _ => ?_
  · unfold k0_part202
    exact .pure _
  refine .bind ?_ fun _ => ?_
  · unfold k0_part203
    exact .pure _
  refine .bind ?_ fun _ => ?_
  · unfold k0_part204
    exact .pure _
  refine .bind ?_ fun _ => ?_
  · unfold k0_part205
    exact .pure _
  refine .bind ?_ fun _ => ?_
  · unfold k0_part206
    exact .pure _
  refine .bind ?_ fun _ => ?_
  · unfold k0_part207
    exact .pure _
  refine .bind ?_ fun _ => ?_
  · unfold k0_part208
    exact .pure _
  refine .bind ?_ fun _ => ?_
  · unfold k0_part209
    exact .pure _
  refine .bind ?_ fun _ => ?_
  · unfold k0_part210
    exact .pure _
  refine .bind ?_ fun _ => ?_
  · unfold k0_part211
    exact .pure _
  refine .bind ?_ fun _ => ?_
  · unfold k0_part212
    exact .pure _
  refine .bind ?_ fun _ => ?_
  · unfold k0_part213
    exact .pure _
  refine .bind ?_ fun _ => ?_
  · unfold k0_part214
    exact .pure _
  refine .bind ?_ fun _ => ?_
  · unfold k0_part215
    exact .pure _
  refine .bind ?_ fun _ => ?_
  · unfold k0_part216
    exact .pure _
  refine .bind ?_ fun _ => ?_
  · unfold k0_part217
    exact .pure _
  refine .bind ?_ fun _ => ?_
  · unfold k0_part218
    exact .pure _
  refine .bind ?_ fun _ => ?_
  · unfold k0_part219
    exact .pure _
  refine .bind ?_ fun _ => ?_
  · unfold k0_part220
    exact .pure _
  refine .bind ?_ fun _ => ?_
  · unfold k0_part221
    exact .pure _
  refine .bind ?_ fun _ => ?_
  · unfold k0_part222
    exact .pure _
  refine .bind ?_ fun _ => ?_
  · unfold k0_part223
    exact .pure _
  refine .bind ?_ fun _ => ?_
  · unfold k0_part224
    exact .pure _
  refine .bind ?_ fun _ => ?_
  · unfold k0_part225
    exact .pure _
  refine .bind ?_ fun _ => ?_
  · unfold k0_part226
    exact .pure _
  refine .bind ?_ fun _ => ?_
  · unfold k0_part227
    exact .pure _
  refine .bind ?_ fun _ => ?_
  · unfold k0_part228
    exact .pure _
  refine .bind ?_ fun _ => ?_
  · unfold k0_part229
    exact .pure _
  refine .bind ?_ fun _ => ?_
  · unfold k0_part230
    exact .pure _
  refine .bind ?_ fun _ => ?_
  · unfold k0_part231
    exact .pure _
  refine .bind ?_ fun _ => ?_
  · unfold k0_part232
    exact .pure _
  refine .bind ?_ fun _ => ?_
  · unfold k0_part233
    exact .pure _
  refine .bind ?_ fun _ => ?_
  · unfold k0_part234
    exact .pure _
  refine .bind ?_ fun _ => ?_
  · unfold k0_part235
    exact .pure _
  refine .bind ?_ fun _ => ?_
  · unfold k0_part236
    exact .pure _
  refine .bind ?_ fun _ => ?_
  · unfold k0_part237
    exact .pure _
  refine .bind ?_ fun _ => ?_
  · unfold k0_part238
    exact .pure _
  refine .bind ?_ fun _ => ?_
  · unfold k0_part239
    exact .pure _
  refine .bind ?_ fun _ => ?_
  · unfold k0_part240
    exact .pure _
  exact .pure _

theorem k0_part327_safe {c : Dev nD} {P : sProp 𝕄} (h : Kept (F := F) c P arg3 arg4 arg7 arg8 arg10 arg11 arg12 arg13) :
    ∀ {a0 a1 a2 a3 a4 a5 a6 a7 a8 a9 a10 a11 a12 a13 a14 a15 a16 a17 a18 a19 a20 a21 a22 a23 a24 a25 a26 a27 a28 a29
      a30 a31 a32 a33 a34 a35 a36 a37 a38 a39 a40 a41 a42 a43 a44 a45 a46 a47 a48 a49 a50 a51 a52 a53 a54 a55 a56 a57
      a58 a59 a60 a61 a62 a63 a64 a65 a66 a67 a68 a69 a70 a71 a72 a73 a74 a75 a76 a77 a78 a79 a80 a81 a82 a83 a84 a85
      a86 a87 a88 a89 a90 a91 a92 a93 a94 a95 a96 a97 a98 a99 a100 a101 a102 a103 a104 a105 a106 a107 a108 a109 a110
      a111 a112 a113 a114 a115 a116 a117 a118 a119 a120 a121 a122 a123 a124 a125 a126 a127 a128 a129 a130 a131 a132
      a133 a134 a135 a136 a137 a138 a139 a140 a141 a142 a143 a144 a145 a146 a147 a148 a149 a150 a151 a152 a153 a154
      a155 a156 a157 a158 a159 a160 a161 a162 a163 a164 a165 a166 a167 a168 a169 a170 a171 a172 a173 a174 a175 a176
      a177 a178 a179 a180 a181 a182 a183 a184 a185 a186 a187 a188 a189 a190 a191},
    Safe (F := F) c P (k0_part327
      i arg1 harg1 arg2 harg2 arg3 harg3 arg4 harg4 arg5 harg5 arg6 harg6 arg7 harg7 arg8 harg8 arg9 harg9 arg10
      harg10 arg11 harg11 arg12 harg12 arg13 harg13 a0 a1 a2 a3 a4 a5 a6 a7 a8 a9 a10 a11 a12 a13 a14 a15 a16 a17 a18
      a19 a20 a21 a22 a23 a24 a25 a26 a27 a28 a29 a30 a31 a32 a33 a34 a35 a36 a37 a38 a39 a40 a41 a42 a43 a44 a45 a46
      a47 a48 a49 a50 a51 a52 a53 a54 a55 a56 a57 a58 a59 a60 a61 a62 a63 a64 a65 a66 a67 a68 a69 a70 a71 a72 a73 a74
      a75 a76 a77 a78 a79 a80 a81 a82 a83 a84 a85 a86 a87 a88 a89 a90 a91 a92 a93 a94 a95 a96 a97 a98 a99 a100 a101
      a102 a103 a104 a105 a106 a107 a108 a109 a110 a111 a112 a113 a114 a115 a116 a117 a118 a119 a120 a121 a122 a123
      a124 a125 a126 a127 a128 a129 a130 a131 a132 a133 a134 a135 a136 a137 a138 a139 a140 a141 a142 a143 a144 a145
      a146 a147 a148 a149 a150 a151 a152 a153 a154 a155 a156 a157 a158 a159 a160 a161 a162 a163 a164 a165 a166 a167
      a168 a169 a170 a171 a172 a173 a174 a175 a176 a177 a178 a179 a180 a181 a182 a183 a184 a185 a186 a187 a188 a189
      a190 a191) := by
  have ⟨l3, l4, l7, l8, l10, l11, l12, l13, s7, s8, s10, s11, s12, s13⟩ := h
  intros
  unfold k0_part327
  refine .bind ?_ fun _ => ?_
  · unfold k0_part241
    exact .pure _
  refine .bind ?_ fun _ => ?_
  · unfold k0_part242
    exact .pure _
  refine .bind ?_ fun _ => ?_
  · unfold k0_part243
    exact .pure _
  refine .bind ?_ fun _ => ?_
  · unfold k0_part244
    exact .pure _
  refine .bind ?_ fun _ => ?_
  · unfold k0_part245
    exact .pure _
  refine .bind ?_ fun _ => ?_
  · unfold k0_part246
    exact .pure _
  refine .bind ?_ fun _ => ?_
  · unfold k0_part247
    exact .pure _
  refine .bind ?_ fun _ => ?_
  · unfold k0_part248
    exact .pure _
  refine .bind ?_ fun _ => ?_
  · unfold k0_part249
    exact .pure _
  refine .bind ?_ fun _ => ?_
  · unfold k0_part250
    exact .pure _
  refine .bind ?_ fun _ => ?_
  · unfold k0_part251
    exact .pure _
  refine .bind ?_ fun _ => ?_
  · unfold k0_part252
    exact .pure _
  refine .bind ?_ fun _ => ?_
  · unfold k0_part253
    exact .pure _
  refine .bind ?_ fun _ => ?_
  · unfold k0_part254
    exact .pure _
  refine .bind ?_ fun _ => ?_
  · unfold k0_part255
    exact .pure _
  refine .bind ?_ fun _ => ?_
  · unfold k0_part256
    exact .pure _
  refine .bind ?_ fun _ => ?_
  · unfold k0_part257
    exact .pure _
  refine .bind ?_ fun _ => ?_
  · unfold k0_part258
    exact .pure _
  refine .bind ?_ fun _ => ?_
  · unfold k0_part259
    exact .pure _
  refine .bind ?_ fun _ => ?_
  · unfold k0_part260
    exact .pure _
  refine .bind ?_ fun _ => ?_
  · unfold k0_part261
    exact .pure _
  refine .bind ?_ fun _ => ?_
  · unfold k0_part262
    exact .pure _
  refine .bind ?_ fun _ => ?_
  · unfold k0_part263
    exact .pure _
  refine .bind ?_ fun _ => ?_
  · unfold k0_part264
    exact .pure _
  refine .bind ?_ fun _ => ?_
  · unfold k0_part265
    exact .pure _
  refine .bind ?_ fun _ => ?_
  · unfold k0_part266
    exact .pure _
  refine .bind ?_ fun _ => ?_
  · unfold k0_part267
    exact .pure _
  refine .bind ?_ fun _ => ?_
  · unfold k0_part268
    exact .pure _
  refine .bind ?_ fun _ => ?_
  · unfold k0_part269
    exact .pure _
  refine .bind ?_ fun _ => ?_
  · unfold k0_part270
    exact .pure _
  refine .bind ?_ fun _ => ?_
  · unfold k0_part271
    exact .pure _
  refine .bind ?_ fun _ => ?_
  · unfold k0_part272
    exact .pure _
  refine .bind ?_ fun _ => ?_
  · unfold k0_part273
    exact .pure _
  refine .bind ?_ fun _ => ?_
  · unfold k0_part274
    exact .pure _
  refine .bind ?_ fun _ => ?_
  · unfold k0_part275
    exact .pure _
  refine .bind ?_ fun _ => ?_
  · unfold k0_part276
    exact .pure _
  refine .bind ?_ fun _ => ?_
  · unfold k0_part277
    exact .pure _
  refine .bind ?_ fun _ => ?_
  · unfold k0_part278
    exact .pure _
  refine .bind ?_ fun _ => ?_
  · unfold k0_part279
    exact .pure _
  refine .bind ?_ fun _ => ?_
  · unfold k0_part280
    exact .pure _
  refine .bind ?_ fun _ => ?_
  · unfold k0_part281
    exact .pure _
  refine .bind ?_ fun _ => ?_
  · unfold k0_part282
    exact .pure _
  refine .bind ?_ fun _ => ?_
  · unfold k0_part283
    exact .pure _
  refine .bind ?_ fun _ => ?_
  · unfold k0_part284
    exact .pure _
  refine .bind ?_ fun _ => ?_
  · unfold k0_part285
    exact .pure _
  refine .bind ?_ fun _ => ?_
  · unfold k0_part286
    exact .pure _
  refine .bind ?_ fun _ => ?_
  · unfold k0_part287
    exact .pure _
  refine .bind ?_ fun _ => ?_
  · unfold k0_part288
    exact .pure _
  refine .bind ?_ fun _ => ?_
  · unfold k0_part289
    exact .pure _
  refine .bind ?_ fun _ => ?_
  · unfold k0_part290
    exact .pure _
  refine .bind ?_ fun _ => ?_
  · unfold k0_part291
    exact .pure _
  refine .bind ?_ fun _ => ?_
  · unfold k0_part292
    exact .pure _
  refine .bind ?_ fun _ => ?_
  · unfold k0_part293
    exact .pure _
  refine .bind ?_ fun _ => ?_
  · unfold k0_part294
    exact .pure _
  refine .bind ?_ fun _ => ?_
  · unfold k0_part295
    exact .pure _
  refine .bind ?_ fun _ => ?_
  · unfold k0_part296
    exact .pure _
  refine .bind ?_ fun _ => ?_
  · unfold k0_part297
    exact .pure _
  refine .bind ?_ fun _ => ?_
  · unfold k0_part298
    exact .pure _
  refine .bind ?_ fun _ => ?_
  · unfold k0_part299
    exact .pure _
  refine .bind ?_ fun _ => ?_
  · unfold k0_part300
    exact .pure _
  exact .pure _

theorem k0_part328_safe {c : Dev nD} {P : sProp 𝕄} (h : Kept (F := F) c P arg3 arg4 arg7 arg8 arg10 arg11 arg12 arg13) :
    ∀ {a0 a1 a2 a3 a4 a5 a6 a7 a8 a9 a10 a11 a12 a13 a14 a15 a16 a17 a18 a19 a20 a21 a22 a23 a24 a25 a26 a27 a28 a29
      a30 a31 a32 a33 a34 a35 a36 a37 a38 a39 a40 a41 a42 a43 a44 a45 a46 a47 a48 a49 a50 a51 a52 a53 a54 a55 a56 a57
      a58 a59 a60 a61 a62 a63 a64 a65 a66 a67 a68 a69 a70 a71 a72 a73 a74 a75 a76 a77 a78 a79 a80 a81 a82 a83 a84 a85
      a86 a87 a88 a89 a90 a91 a92 a93 a94 a95 a96 a97 a98 a99 a100 a101 a102 a103 a104 a105 a106 a107 a108 a109 a110
      a111 a112 a113 a114 a115 a116 a117 a118 a119 a120 a121 a122 a123 a124 a125 a126 a127 a128 a129 a130 a131 a132
      a133 a134 a135 a136 a137 a138 a139 a140 a141 a142 a143 a144 a145 a146 a147 a148 a149},
    Safe (F := F) c P (k0_part328
      i arg1 harg1 arg2 harg2 arg3 harg3 arg4 harg4 arg5 harg5 arg6 harg6 arg7 harg7 arg8 harg8 arg9 harg9 arg10
      harg10 arg11 harg11 arg12 harg12 arg13 harg13 a0 a1 a2 a3 a4 a5 a6 a7 a8 a9 a10 a11 a12 a13 a14 a15 a16 a17 a18
      a19 a20 a21 a22 a23 a24 a25 a26 a27 a28 a29 a30 a31 a32 a33 a34 a35 a36 a37 a38 a39 a40 a41 a42 a43 a44 a45 a46
      a47 a48 a49 a50 a51 a52 a53 a54 a55 a56 a57 a58 a59 a60 a61 a62 a63 a64 a65 a66 a67 a68 a69 a70 a71 a72 a73 a74
      a75 a76 a77 a78 a79 a80 a81 a82 a83 a84 a85 a86 a87 a88 a89 a90 a91 a92 a93 a94 a95 a96 a97 a98 a99 a100 a101
      a102 a103 a104 a105 a106 a107 a108 a109 a110 a111 a112 a113 a114 a115 a116 a117 a118 a119 a120 a121 a122 a123
      a124 a125 a126 a127 a128 a129 a130 a131 a132 a133 a134 a135 a136 a137 a138 a139 a140 a141 a142 a143 a144 a145
      a146 a147 a148 a149) := by
  have ⟨l3, l4, l7, l8, l10, l11, l12, l13, s7, s8, s10, s11, s12, s13⟩ := h
  intros
  unfold k0_part328
  refine .bind ?_ fun _ => ?_
  · unfold k0_part301
    exact .pure _
  refine .bind ?_ fun _ => ?_
  · unfold k0_part302
    exact .pure _
  refine .bind ?_ fun _ => ?_
  · unfold k0_part303
    exact .pure _
  refine .bind ?_ fun _ => ?_
  · unfold k0_part304
    exact .pure _
  refine .bind ?_ fun _ => ?_
  · unfold k0_part305
    exact .pure _
  refine .bind ?_ fun _ => ?_
  · unfold k0_part306
    exact .pure _
  refine .bind ?_ fun _ => ?_
  · unfold k0_part307
    exact .pure _
  refine .bind ?_ fun _ => ?_
  · unfold k0_part308
    exact .pure _
  refine .bind ?_ fun _ => ?_
  · unfold k0_part309
    exact .pure _
  refine .bind ?_ fun _ => ?_
  · unfold k0_part310
    exact .pure _
  refine .bind ?_ fun _ => ?_
  · unfold k0_part311
    exact .pure _
  refine .bind ?_ fun _ => ?_
  · unfold k0_part312
    exact .pure _
  refine .bind ?_ fun _ => ?_
  · unfold k0_part313
    exact .pure _
  refine .bind ?_ fun _ => ?_
  · unfold k0_part314
    exact .pure _
  refine .bind ?_ fun _ => ?_
  · unfold k0_part315
    exact .pure _
  refine .bind ?_ fun _ => ?_
  · unfold k0_part316
    exact .pure _
  refine .bind ?_ fun _ => ?_
  · unfold k0_part317
    exact .pure _
  refine .bind ?_ fun _ => ?_
  · unfold k0_part318
    apply ld l13; intro; apply st s13; intro; apply ld l12; intro; apply st s12; intro; apply ld l13; intro
    apply st s13; intro; exact .pure _
  refine .bind ?_ fun _ => ?_
  · unfold k0_part319
    apply ld l12; intro; apply st s12; intro; apply ld l13; intro; apply st s13; intro; apply ld l12; intro
    apply st s12; intro; apply ld l13; intro; apply st s13; intro; apply ld l12; intro; apply st s12; intro
    apply ld l13; intro; apply st s13; intro; exact .pure _
  refine .bind ?_ fun _ => ?_
  · unfold k0_part320
    apply ld l12; intro; apply st s12; intro; apply ld l13; intro; apply st s13; intro; apply ld l12; intro
    apply st s12; intro; apply ld l13; intro; apply st s13; intro; apply ld l12; intro; apply st s12; intro
    apply ld l13; intro; apply st s13; intro; exact .pure _
  refine .bind ?_ fun _ => ?_
  · unfold k0_part321
    apply ld l12; intro; apply st s12; intro; apply ld l13; intro; apply st s13; intro; apply ld l12; intro
    apply st s12; intro; apply ld l13; intro; apply st s13; intro; apply ld l12; intro; apply st s12; intro
    apply ld l13; intro; apply st s13; intro; exact .pure _
  refine .bind ?_ fun _ => ?_
  · unfold k0_part322
    apply ld l12; intro; apply st s12; intro; apply ld l13; intro; apply st s13; intro; apply ld l12; intro
    apply st s12; intro; apply ld l13; intro; apply st s13; intro; apply ld l12; intro; apply st s12; intro
    apply ld l13; intro; apply st s13; intro; exact .pure _
  apply ld l12; intro; apply st s12; intro; apply ld l13; intro; apply st s13; intro; apply ld l12; intro
  apply st s12; intro; apply ld l13; intro; exact .pure _

theorem k0_part330_safe {c : Dev nD} {P : sProp 𝕄} (h : Kept (F := F) c P arg3 arg4 arg7 arg8 arg10 arg11 arg12 arg13) :
    ∀ {a0 a1},
    Safe (F := F) c P (k0_part330
      i arg1 harg1 arg2 harg2 arg3 harg3 arg4 harg4 arg5 harg5 arg6 harg6 arg7 harg7 arg8 harg8 arg9 harg9 arg10
      harg10 arg11 harg11 arg12 harg12 arg13 harg13 a0 a1) := by
  have ⟨l3, l4, l7, l8, l10, l11, l12, l13, s7, s8, s10, s11, s12, s13⟩ := h
  intros
  unfold k0_part330
  apply ld l10; intro; apply st s10; intro; apply ld l3; intro; apply ld l10; intro; apply st s10; intro; apply ld l10; intro
  apply st s10; intro; apply ld l3; intro; apply ld l10; intro; apply st s10; intro; apply ld l10; intro; apply st s10; intro
  apply ld l3; intro; exact .pure _

theorem k0_part331_safe {c : Dev nD} {P : sProp 𝕄} (h : Kept (F := F) c P arg3 arg4 arg7 arg8 arg10 arg11 arg12 arg13) :
    ∀ {a0 a1 a2},
    Safe (F := F) c P (k0_part331
      i arg1 harg1 arg2 harg2 arg3 harg3 arg4 harg4 arg5 harg5 arg6 harg6 arg7 harg7 arg8 harg8 arg9 harg9 arg10
      harg10 arg11 harg11 arg12 harg12 arg13 harg13 a0 a1 a2) := by
  have ⟨l3, l4, l7, l8, l10, l11, l12, l13, s7, s8, s10, s11, s12, s13⟩ := h
  intros
  unfold k0_part331
  apply ld l10; intro; apply st s10; intro; apply ld l10; intro; apply st s10; intro; apply ld l3; intro; apply ld l10; intro
  apply st s10; intro; apply ld l10; intro; apply st s10; intro; apply ld l3; intro; apply ld l10; intro; apply st s10; intro
  apply ld l10; intro; apply st s10; intro; exact .pure _

theorem k0_part332_safe {c : Dev nD} {P : sProp 𝕄} (h : Kept (F := F) c P arg3 arg4 arg7 arg8 arg10 arg11 arg12 arg13) :
    ∀ {a0},
    Safe (F := F) c P (k0_part332
      i arg1 harg1 arg2 harg2 arg3 harg3 arg4 harg4 arg5 harg5 arg6 harg6 arg7 harg7 arg8 harg8 arg9 harg9 arg10
      harg10 arg11 harg11 arg12 harg12 arg13 harg13 a0) := by
  have ⟨l3, l4, l7, l8, l10, l11, l12, l13, s7, s8, s10, s11, s12, s13⟩ := h
  intros
  unfold k0_part332
  apply ld l3; intro; apply ld l10; intro; apply st s10; intro; apply ld l10; intro; apply st s10; intro; apply ld l3; intro
  apply ld l10; intro; apply st s10; intro; apply ld l10; intro; apply st s10; intro
  refine .bind (Safe.loop fun k s => ?_) fun _ => ?_
  · refine .bind (k0_part323_safe h) fun _ => ?_
    refine .bind (k0_part324_safe h) fun _ => ?_
    refine .bind (k0_part325_safe h) fun _ => ?_
    refine .bind (k0_part326_safe h) fun _ => ?_
    refine .bind (k0_part327_safe h) fun _ => ?_
    refine .bind (k0_part328_safe h) fun _ => ?_
    apply st s13; intro; apply ld l12; intro; apply st s12; intro; exact .pure _
  apply ld l13; intro; apply ld l8; intro; apply st s8; intro; exact .pure _

theorem k0_part333_safe {c : Dev nD} {P : sProp 𝕄} (h : Kept (F := F) c P arg3 arg4 arg7 arg8 arg10 arg11 arg12 arg13) :
    Safe (F := F) c P (k0_part333
      i arg1 harg1 arg2 harg2 arg3 harg3 arg4 harg4 arg5 harg5 arg6 harg6 arg7 harg7 arg8 harg8 arg9 harg9 arg10
      harg10 arg11 harg11 arg12 harg12 arg13 harg13) := by
  have ⟨l3, l4, l7, l8, l10, l11, l12, l13, s7, s8, s10, s11, s12, s13⟩ := h
  unfold k0_part333
  apply ld l12; intro; apply ld l7; intro; apply st s7; intro; apply ld l13; intro; apply ld l8; intro; apply st s8; intro
  apply ld l12; intro; apply ld l7; intro; apply st s7; intro; apply ld l13; intro; apply ld l8; intro; apply st s8; intro
  apply ld l12; intro; apply ld l7; intro; apply st s7; intro; apply ld l13; intro; apply ld l8; intro; apply st s8; intro
  apply ld l12; intro; apply ld l7; intro; apply st s7; intro; exact .pure _

theorem k0_part334_safe {c : Dev nD} {P : sProp 𝕄} (h : Kept (F := F) c P arg3 arg4 arg7 arg8 arg10 arg11 arg12 arg13) :
    Safe (F := F) c P (k0_part334
      i arg1 harg1 arg2 harg2 arg3 harg3 arg4 harg4 arg5 harg5 arg6 harg6 arg7 harg7 arg8 harg8 arg9 harg9 arg10
      harg10 arg11 harg11 arg12 harg12 arg13 harg13) := by
  have ⟨l3, l4, l7, l8, l10, l11, l12, l13, s7, s8, s10, s11, s12, s13⟩ := h
  unfold k0_part334
  apply ld l13; intro; apply ld l8; intro; apply st s8; intro; apply ld l12; intro; apply ld l7; intro; apply st s7; intro
  apply ld l13; intro; apply ld l8; intro; apply st s8; intro; apply ld l12; intro; apply ld l7; intro; apply st s7; intro
  apply ld l13; intro; apply ld l8; intro; apply st s8; intro; apply ld l12; intro; apply ld l7; intro; apply st s7; intro
  apply ld l13; intro; apply ld l8; intro; apply st s8; intro; exact .pure _

end Stretches

end Cert.Proof.RoutIdeal

end
-- ==== Proof.RoutIdeal.lean ====
/- The router call, read at the ideal instance: its body's triple, the proof data of its one pipeline, the run and the frame. Two of its
   three results, the chosen words and their gates, are let be whatever they are; the third, `base`, is named. -/
module

public import proofs.«01_k».proof.Proof.RoutIdealLoop

@[expose] public section

set_option maxRecDepth 65536

noncomputable section

namespace Cert.Proof.RoutIdeal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## What is held -/

/-- What the body finds: the inputs at their contents, the rest at some contents. -/
def Found (c : Dev nD)
    (arg1 : Memref sig .tc .vmem S1024x1024 .f32)
    (arg2 : Memref sig .tc .vmem S1024x256 .f32)
    (arg3 : Memref sig .tc .vmem S1024x2048 .bf16)
    (arg4 : Memref sig .tc .vmem S8x2x128x128 .bf16)
    (arg5 : Memref sig .tc .vmem S1024x1024 .bf16)
    (arg6 : Memref sig .tc .vmem S256x1024 .bf16)
    (arg7 : Memref sig .tc .vmem S1024x128 .i32)
    (arg8 : Memref sig .tc .vmem S1024x128 .f32)
    (arg9 : Memref sig .tc .vmem S1024x1024 .f32)
    (arg10 : Memref sig .tc .vmem S16x1024x128 .bf16)
    (arg11 : Memref sig .tc .vmem S1088x128 .f32)
    (arg12 : Memref sig .tc .vmem S1024x128 .f32)
    (arg13 : Memref sig .tc .vmem S1024x128 .f32)
    (x1 : Vec F S1024x1024 .f32) (x2 : Vec F S1024x256 .f32) (x3 : Vec F S1024x2048 .bf16) (x4 : Vec F S8x2x128x128 .bf16) (x5 : Vec F S1024x1024 .bf16) (x6 : Vec F S256x1024 .bf16) : sProp 𝕄 :=
  iprop(owns (c : Thread nD τ) arg1 fullShare x1
    ∗ owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ (∃ x, owns (c : Thread nD τ) arg7 fullShare x)
    ∗ (∃ x, owns (c : Thread nD τ) arg8 fullShare x)
    ∗ (∃ x, owns (c : Thread nD τ) arg9 fullShare x)
    ∗ (∃ x, owns (c : Thread nD τ) arg10 fullShare x)
    ∗ (∃ x, owns (c : Thread nD τ) arg11 fullShare x)
    ∗ (∃ x, owns (c : Thread nD τ) arg12 fullShare x)
    ∗ (∃ x, owns (c : Thread nD τ) arg13 fullShare x))

/-- What is held once `base` is stored: the inputs at their contents, `base` at `b`, the rest at some contents. -/
def Held (c : Dev nD)
    (arg1 : Memref sig .tc .vmem S1024x1024 .f32)
    (arg2 : Memref sig .tc .vmem S1024x256 .f32)
    (arg3 : Memref sig .tc .vmem S1024x2048 .bf16)
    (arg4 : Memref sig .tc .vmem S8x2x128x128 .bf16)
    (arg5 : Memref sig .tc .vmem S1024x1024 .bf16)
    (arg6 : Memref sig .tc .vmem S256x1024 .bf16)
    (arg7 : Memref sig .tc .vmem S1024x128 .i32)
    (arg8 : Memref sig .tc .vmem S1024x128 .f32)
    (arg9 : Memref sig .tc .vmem S1024x1024 .f32)
    (arg10 : Memref sig .tc .vmem S16x1024x128 .bf16)
    (arg11 : Memref sig .tc .vmem S1088x128 .f32)
    (arg12 : Memref sig .tc .vmem S1024x128 .f32)
    (arg13 : Memref sig .tc .vmem S1024x128 .f32)
    (x1 : Vec F S1024x1024 .f32) (x2 : Vec F S1024x256 .f32) (x3 : Vec F S1024x2048 .bf16) (x4 : Vec F S8x2x128x128 .bf16) (x5 : Vec F S1024x1024 .bf16) (x6 : Vec F S256x1024 .bf16)
    (b : Vec F S1024x1024 .f32) : sProp 𝕄 :=
  iprop(owns (c : Thread nD τ) arg1 fullShare x1
    ∗ owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ (∃ x, owns (c : Thread nD τ) arg7 fullShare x)
    ∗ (∃ x, owns (c : Thread nD τ) arg8 fullShare x)
    ∗ owns (c : Thread nD τ) arg9 fullShare b
    ∗ (∃ x, owns (c : Thread nD τ) arg10 fullShare x)
    ∗ (∃ x, owns (c : Thread nD τ) arg11 fullShare x)
    ∗ (∃ x, owns (c : Thread nD τ) arg12 fullShare x)
    ∗ (∃ x, owns (c : Thread nD τ) arg13 fullShare x))

section Buffers

variable {c : Dev nD}
    {arg1 : Memref sig .tc .vmem S1024x1024 .f32}
    {arg2 : Memref sig .tc .vmem S1024x256 .f32}
    {arg3 : Memref sig .tc .vmem S1024x2048 .bf16}
    {arg4 : Memref sig .tc .vmem S8x2x128x128 .bf16}
    {arg5 : Memref sig .tc .vmem S1024x1024 .bf16}
    {arg6 : Memref sig .tc .vmem S256x1024 .bf16}
    {arg7 : Memref sig .tc .vmem S1024x128 .i32}
    {arg8 : Memref sig .tc .vmem S1024x128 .f32}
    {arg9 : Memref sig .tc .vmem S1024x1024 .f32}
    {arg10 : Memref sig .tc .vmem S16x1024x128 .bf16}
    {arg11 : Memref sig .tc .vmem S1088x128 .f32}
    {arg12 : Memref sig .tc .vmem S1024x128 .f32}
    {arg13 : Memref sig .tc .vmem S1024x128 .f32}
    {x1 : Vec F S1024x1024 .f32} {x2 : Vec F S1024x256 .f32} {x3 : Vec F S1024x2048 .bf16} {x4 : Vec F S8x2x128x128 .bf16} {x5 : Vec F S1024x1024 .bf16} {x6 : Vec F S256x1024 .bf16} {b : Vec F S1024x1024 .f32}

theorem found1 : Holds c
    (Found c arg1 arg2 arg3 arg4 arg5 arg6 arg7 arg8 arg9 arg10 arg11 arg12 arg13 x1 x2 x3 x4 x5 x6)
    arg1 x1 := by
  unfold Holds Found
  iintro ⟨H1, H2, H3, H4, H5, H6, H7, H8, H9, H10, H11, H12, H13⟩
  isplitl [H1]; · iexact H1
  iintro H1
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem found2 : Holds c
    (Found c arg1 arg2 arg3 arg4 arg5 arg6 arg7 arg8 arg9 arg10 arg11 arg12 arg13 x1 x2 x3 x4 x5 x6)
    arg2 x2 := by
  unfold Holds Found
  iintro ⟨H1, H2, H3, H4, H5, H6, H7, H8, H9, H10, H11, H12, H13⟩
  isplitl [H2]; · iexact H2
  iintro H2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem found5 : Holds c
    (Found c arg1 arg2 arg3 arg4 arg5 arg6 arg7 arg8 arg9 arg10 arg11 arg12 arg13 x1 x2 x3 x4 x5 x6)
    arg5 x5 := by
  unfold Holds Found
  iintro ⟨H1, H2, H3, H4, H5, H6, H7, H8, H9, H10, H11, H12, H13⟩
  isplitl [H5]; · iexact H5
  iintro H5
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem found6 : Holds c
    (Found c arg1 arg2 arg3 arg4 arg5 arg6 arg7 arg8 arg9 arg10 arg11 arg12 arg13 x1 x2 x3 x4 x5 x6)
    arg6 x6 := by
  unfold Holds Found
  iintro ⟨H1, H2, H3, H4, H5, H6, H7, H8, H9, H10, H11, H12, H13⟩
  isplitl [H6]; · iexact H6
  iintro H6
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem found9 : Writes c
    (Found c arg1 arg2 arg3 arg4 arg5 arg6 arg7 arg8 arg9 arg10 arg11 arg12 arg13 x1 x2 x3 x4 x5 x6) arg9 := by
  unfold Writes Found
  iintro ⟨H1, H2, H3, H4, H5, H6, H7, H8, H9, H10, H11, H12, H13⟩
  isplitl [H9]; · iexact H9
  iintro H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Storing `base`. -/
theorem found_held :
    (Found c arg1 arg2 arg3 arg4 arg5 arg6 arg7 arg8 arg9 arg10 arg11 arg12 arg13 x1 x2 x3 x4 x5 x6)
      ⊢ iprop((∃ x, owns (c : Thread nD τ) arg9 fullShare x) ∗ (owns (c : Thread nD τ) arg9 fullShare b
        -∗ (Held c arg1 arg2 arg3 arg4 arg5 arg6 arg7 arg8 arg9 arg10 arg11 arg12 arg13 x1 x2 x3 x4 x5 x6 b))) := by
  unfold Found Held
  iintro ⟨H1, H2, H3, H4, H5, H6, H7, H8, H9, H10, H11, H12, H13⟩
  isplitl [H9]; · iexact H9
  iintro H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem reads3 : Reads c
    (Held c arg1 arg2 arg3 arg4 arg5 arg6 arg7 arg8 arg9 arg10 arg11 arg12 arg13 x1 x2 x3 x4 x5 x6 b) arg3 := by
  unfold Reads Held
  iintro ⟨H1, H2, H3, H4, H5, H6, H7, H8, H9, H10, H11, H12, H13⟩
  iexists x3
  isplitl [H3]; · iexact H3
  iintro H3
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem reads4 : Reads c
    (Held c arg1 arg2 arg3 arg4 arg5 arg6 arg7 arg8 arg9 arg10 arg11 arg12 arg13 x1 x2 x3 x4 x5 x6 b) arg4 := by
  unfold Reads Held
  iintro ⟨H1, H2, H3, H4, H5, H6, H7, H8, H9, H10, H11, H12, H13⟩
  iexists x4
  isplitl [H4]; · iexact H4
  iintro H4
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem writes7 : Writes c
    (Held c arg1 arg2 arg3 arg4 arg5 arg6 arg7 arg8 arg9 arg10 arg11 arg12 arg13 x1 x2 x3 x4 x5 x6 b) arg7 := by
  unfold Writes Held
  iintro ⟨H1, H2, H3, H4, H5, H6, H7, H8, H9, H10, H11, H12, H13⟩
  isplitl [H7]; · iexact H7
  iintro H7
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem writes8 : Writes c
    (Held c arg1 arg2 arg3 arg4 arg5 arg6 arg7 arg8 arg9 arg10 arg11 arg12 arg13 x1 x2 x3 x4 x5 x6 b) arg8 := by
  unfold Writes Held
  iintro ⟨H1, H2, H3, H4, H5, H6, H7, H8, H9, H10, H11, H12, H13⟩
  isplitl [H8]; · iexact H8
  iintro H8
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem writes10 : Writes c
    (Held c arg1 arg2 arg3 arg4 arg5 arg6 arg7 arg8 arg9 arg10 arg11 arg12 arg13 x1 x2 x3 x4 x5 x6 b) arg10 := by
  unfold Writes Held
  iintro ⟨H1, H2, H3, H4, H5, H6, H7, H8, H9, H10, H11, H12, H13⟩
  isplitl [H10]; · iexact H10
  iintro H10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem writes11 : Writes c
    (Held c arg1 arg2 arg3 arg4 arg5 arg6 arg7 arg8 arg9 arg10 arg11 arg12 arg13 x1 x2 x3 x4 x5 x6 b) arg11 := by
  unfold Writes Held
  iintro ⟨H1, H2, H3, H4, H5, H6, H7, H8, H9, H10, H11, H12, H13⟩
  isplitl [H11]; · iexact H11
  iintro H11
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem writes12 : Writes c
    (Held c arg1 arg2 arg3 arg4 arg5 arg6 arg7 arg8 arg9 arg10 arg11 arg12 arg13 x1 x2 x3 x4 x5 x6 b) arg12 := by
  unfold Writes Held
  iintro ⟨H1, H2, H3, H4, H5, H6, H7, H8, H9, H10, H11, H12, H13⟩
  isplitl [H12]; · iexact H12
  iintro H12
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem writes13 : Writes c
    (Held c arg1 arg2 arg3 arg4 arg5 arg6 arg7 arg8 arg9 arg10 arg11 arg12 arg13 x1 x2 x3 x4 x5 x6 b) arg13 := by
  unfold Writes Held
  iintro ⟨H1, H2, H3, H4, H5, H6, H7, H8, H9, H10, H11, H12, H13⟩
  isplitl [H13]; · iexact H13
  iintro H13
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem kept_safe : Kept (F := F) c
    (Held c arg1 arg2 arg3 arg4 arg5 arg6 arg7 arg8 arg9 arg10 arg11 arg12 arg13 x1 x2 x3 x4 x5 x6 b) arg3 arg4 arg7 arg8 arg10 arg11 arg12 arg13 :=
  ⟨reads3, reads4, writes7.reads, writes8.reads, writes10.reads, writes11.reads, writes12.reads, writes13.reads,
    writes7, writes8, writes10, writes11, writes12, writes13⟩

end Buffers

/-! ## The body's triple -/

/-- One point's `base`: the tokens scaled, plus the gate's logistic function times the embeddings' projection. -/
def stored (x1 : FVec F S1024x1024 .f32) (x5 : FVec F S1024x1024 .bf16) (x2 : FVec F S1024x256 .f32) (x6 : FVec F S256x1024 .bf16) :
    FVec F S1024x1024 .f32 :=
  addf (mulf (broadcast S1024x1024 (Scalar.ofBits .f32 0x3F9837F0#32)) x1)
    (mulf
      (divf (broadcast S1024x1024 (Scalar.ofBits .f32 0x3F800000#32))
        (addf (broadcast S1024x1024 (Scalar.ofBits .f32 0x3F800000#32))
          (exp (subf (broadcast S1024x1024 (Scalar.ofBits .f32 0x00000000#32))
            (matmul dot_S1024x1024_S1024x1024_S1024x1024_1_0_0_1_n_n (φ₂ := .bf16) none (truncf .bf16 x1 bitsLt_bf16_f32)
              (shapeCast S1024x1024 x5 shapeCasts_S1024x1024_S1024x1024) (constant S1024x1024 .f32 0x00000000#32))))))
      (matmul dot_S1024x256_S256x1024_S1024x1024_1_0_0_1_n_n (φ₂ := .bf16) none
        (truncf .bf16 (shapeCast S1024x256 x2 shapeCasts_S1024x256_S1024x256) bitsLt_bf16_f32)
        (shapeCast S256x1024 x6 shapeCasts_S256x1024_S256x1024) (constant S1024x1024 .f32 0x00000000#32)))
/-- The origin of a matrix. -/
theorem origin : (![0, 0] : Fin 2 → ℕ) = fun _ => 0 := by decide

set_option maxHeartbeats 4000000 in
/-- The body, its inputs staged at `x1` … `x6` and all else at anything, ends with the inputs as they were and `base` stored. -/
theorem body_triple (c : Dev nD)
    (i : grid0.Coords) (arg1 : Memref sig .tc .vmem S1024x1024 .f32) (harg1 : arg1.IsWhole)
    (arg2 : Memref sig .tc .vmem S1024x256 .f32) (harg2 : arg2.IsWhole)
    (arg3 : Memref sig .tc .vmem S1024x2048 .bf16) (harg3 : arg3.IsWhole)
    (arg4 : Memref sig .tc .vmem S8x2x128x128 .bf16) (harg4 : arg4.IsWhole)
    (arg5 : Memref sig .tc .vmem S1024x1024 .bf16) (harg5 : arg5.IsWhole)
    (arg6 : Memref sig .tc .vmem S256x1024 .bf16) (harg6 : arg6.IsWhole) (arg7 : Memref sig .tc .vmem S1024x128 .i32)
    (harg7 : arg7.IsWhole) (arg8 : Memref sig .tc .vmem S1024x128 .f32) (harg8 : arg8.IsWhole)
    (arg9 : Memref sig .tc .vmem S1024x1024 .f32) (harg9 : arg9.IsWhole)
    (arg10 : Memref sig .tc .vmem S16x1024x128 .bf16) (harg10 : arg10.IsWhole)
    (arg11 : Memref sig .tc .vmem S1088x128 .f32) (harg11 : arg11.IsWhole)
    (arg12 : Memref sig .tc .vmem S1024x128 .f32) (harg12 : arg12.IsWhole)
    (arg13 : Memref sig .tc .vmem S1024x128 .f32) (harg13 : arg13.IsWhole)
    (x1 : Vec F S1024x1024 .f32) (x2 : Vec F S1024x256 .f32) (x3 : Vec F S1024x2048 .bf16) (x4 : Vec F S8x2x128x128 .bf16) (x5 : Vec F S1024x1024 .bf16) (x6 : Vec F S256x1024 .bf16) :
    Found c arg1 arg2 arg3 arg4 arg5 arg6 arg7 arg8 arg9 arg10 arg11 arg12 arg13 x1 x2 x3 x4 x5 x6
      ⊢ wp frame (wpE (defs₀ (F := F)) Variants.none c none) Set.univ
        (cc0_router
          i arg1 harg1 arg2 harg2 arg3 harg3 arg4 harg4 arg5 harg5 arg6 harg6 arg7 harg7 arg8 harg8 arg9 harg9 arg10
          harg10 arg11 harg11 arg12 harg12 arg13 harg13)
        (fun _ => Held c arg1 arg2 arg3 arg4 arg5 arg6 arg7 arg8 arg9 arg10 arg11 arg12 arg13 x1 x2 x3 x4 x5 x6 (stored x1 x5 x2 x6)) := by
  unfold cc0_router k0_part329
  rw [wp_bind]
  refine load_whole found1 origin _ _ _ ?_
  refine load_whole found5 origin _ _ _ ?_
  refine load_whole found2 origin _ _ _ ?_
  refine load_whole found6 origin _ _ _ ?_
  refine load_any found9.reads _ _ _ fun _ => ?_
  refine store_whole found_held origin _ _ _ _ ?_
  refine Safe.run_bind ?_ fun _ => ?_
  · refine ld reads3 fun _ => ?_
    refine ld writes10.reads fun _ => ?_
    refine st writes10 fun _ => ?_
    exact Safe.pure _
  refine Safe.bind (k0_part330_safe kept_safe) fun _ => ?_
  refine Safe.bind (k0_part331_safe kept_safe) fun _ => ?_
  refine Safe.bind (k0_part332_safe kept_safe) fun _ => ?_
  refine Safe.bind (k0_part333_safe kept_safe) fun _ => ?_
  refine Safe.bind (k0_part334_safe kept_safe) fun _ => ?_
  refine ld writes12.reads fun _ => ?_
  refine ld writes7.reads fun _ => ?_
  refine st writes7 fun _ => ?_
  exact Safe.pure _

/-! ## The pipeline -/

section Run

variable (m : (ℓ : Loc nD τ sig) → Buf (Elt F) ℓ) (ρ : Dev nD → PrngReg)

/-- The two results that are let be. -/
def letBe : Fin 9 → Bool := fun w => w.val == 6 || w.val == 7

/-- The proof data: the arrays as the region finds them; after the body each input's buffer at its block and the third result's
    at `base` of those blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
    | ⟨7, _⟩ => Pipeline.Dat.unnamed (cfg := cfg0) 7 t
    | ⟨8, _⟩ => stored (iblk m c 0 t) (iblk m c 4 t) (iblk m c 1 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after8 (c : Dev nD) (t : Fin cfg0.N) :
    (dats m 0 c).after 8 t = stored (iblk m c 0 t) (iblk m c 4 t) (iblk m c 1 t) (iblk m c 5 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- What is kept between the points: the four scratch buffers at some contents and the generator's register. -/
theorem kept (c : Dev nD) : (Pipeline.ΦA spec0 c : sProp 𝕄)
    = iprop(iprop((∃ x, owns (c : Thread nD τ) (Memref.whole cc0_scratch0) fullShare x)
        ∗ (∃ x, owns (c : Thread nD τ) (Memref.whole cc0_scratch1) fullShare x)
        ∗ (∃ x, owns (c : Thread nD τ) (Memref.whole cc0_scratch2) fullShare x)
        ∗ (∃ x, owns (c : Thread nD τ) (Memref.whole cc0_scratch3) fullShare x)) ∗ (∃ r, prngReg c r)) := by
  unfold Pipeline.ΦA
  rw [scopedRest0_eq]; simp only [owns_whole]; try rfl

/-- What the body finds at point `t`, window by window, … -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare ((dats m 0 c).before 8 t d)))

/-- … and what it leaves. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ owns (c : Thread nD τ) (st0_8 t) fullShare ((dats m 0 c).after 8 t))

set_option maxHeartbeats 1000000 in
theorem body_at (c : Dev nD) (t : Fin cfg0.N) :
    pre m c t ⊢ wp frame (wpE (defs₀ (F := F)) Variants.none c none) Set.univ (bodyAt0 t) (fun _ => post m c t) := by
  have hb := body_triple c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8)) (Memref.whole cc0_scratch0) (Memref.isWhole_whole _)
    (Memref.whole cc0_scratch1) (Memref.isWhole_whole _) (Memref.whole cc0_scratch2) (Memref.isWhole_whole _)
    (Memref.whole cc0_scratch3) (Memref.isWhole_whole _)
    (iblk m c 0 t) (iblk m c 1 t) (iblk m c 2 t) (iblk m c 3 t) (iblk m c 4 t) (iblk m c 5 t)
  unfold pre post bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after8,
    show (dats m 0 c).Φ t.castSucc = Pipeline.ΦA spec0 c from rfl, kept]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, H6, H7, ⟨%d8, H8⟩⟩
  iapply (wp_wand_r frame (wpE (defs₀ (F := F)) Variants.none c none) Set.univ)
  isplitl [S0 S1 S2 S3 H0 H1 H2 H3 H4 H5 H6 H7 H8]
  · iapply hb
    unfold Found
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [S0]; · iexact S0
    isplitl [S1]; · iexact S1
    isplitl [S2]; · iexact S2
    iexact S3
  iintro %u H
  unfold Held
  icases H with ⟨H0, H1, H2, H3, H4, H5, H6, H7, H8, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ letBe := fun t => by
  rw [bigSep_W0, bigSep_W0, body_row]
  exact triple_restated (body_at m c t) rfl .rfl fun _ => .rfl

/-! ## The run and the frame -/

set_option backward.isDefEq.respectTransparency.types false in
set_option maxHeartbeats 800000 in
/-- Every execution terminates, with the arrays at what the proof data say and every semaphore at zero. -/
theorem run : θ_run defs (onTc (τ := τ) (main (F := F))) (s₀ m ρ)
    (fun r => Pipeline.RDat.FramePost (cfgs 0) (fun c => (dats m 0 c).toRForget letBe) (V m) r ∧ r.2.sem = fun _ => 0) :=
  Pipeline.θ_run_frame_forget (Q' := _) cfgs (dats m) (0 : Fin 1) launch0 defs₀ Variants.none letBe m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The run with `base`'s array named. -/
theorem run_base : θ_run defs (onTc (τ := τ) (main (F := F))) ⟨m, fun _ => 0, ρ⟩ fun r => (∀ c : Dev nD,
      r.2.mem ((c.tc : Thread nD τ).loc main_v10_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun _ h => ⟨fun c =>
    ⟨((dats m 0 c).toRForget_arrAt_iff (fgt := letBe) (w := 8) rfl _ _).mp ((h.1 c).1 8),
      (((dats m 0 c).toRForget_arrAt_iff (fgt := letBe) (w := 0) rfl _ _).mp ((h.1 c).1 0)).trans
        (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run m ρ)

/-- The frame: the arguments are as launched, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_base m ρ)

end Run

end Cert.Proof.RoutIdeal

end
-- ==== Proof.MixSpec.lean ====
/-
  THE MIXER LAYER AS MATHEMATICS over the extended reals, one row of 1024 features at a time, and one chunk of
  32 tokens at a time. Every function is indexed by natural numbers (a batch, a token, a feature), sums run over `Fin n`.
  Both programs are shown to compute `out` below.
-/
module

public import Idealize.ShloMosaic.PureOps.Ideal
public import Idealize.ShloMosaic.Lib.Pointwise

@[expose] public section

noncomputable section

namespace Cert.Proof.Mix

open Idealize.ShloMosaic

/-- The arrays the layer takes, as functions of natural numbers. -/
structure Args where
  x : ℕ → ℕ → ℕ → EReal
  g0 : ℕ → EReal
  b0 : ℕ → EReal
  W : ℕ → ℕ → EReal
  hg : ℕ → ℕ → EReal
  ng : ℕ → EReal
  whg : ℕ → ℕ → EReal
  pw : ℕ → ℕ → ℕ → EReal
  ps : ℕ → EReal
  wo : ℕ → ℕ → EReal
  g1 : ℕ → EReal
  b1 : ℕ → EReal

/-- The logistic function. -/
def sig (x : EReal) : EReal := Ideal.div 1 (1 + Ideal.exp (-x))

/-- The mean of a row of 1024. -/
def mean (x : ℕ → EReal) : EReal := Ideal.div (∑ k : Fin 1024, x k) (Ideal.ofBits .f32 0x44800000#32)

/-- Layer normalisation of a row of 1024. -/
def ln (x g b : ℕ → EReal) (j : ℕ) : EReal :=
  (x j - mean x) * Ideal.rsqrt (Ideal.div (∑ k : Fin 1024, (x k - mean x) * (x k - mean x))
    (Ideal.ofBits .f32 0x44800000#32) + Ideal.ofBits .f32 0x3727C5AC#32) * g j + b j

variable (A : Args)

/-- The normalised row. -/
def h0 (X : ℕ → EReal) (j : ℕ) : EReal := ln X A.g0 A.b0 j

/-- The input projection: feature `c` of 6656. -/
def pr (X : ℕ → EReal) (c : ℕ) : EReal := ∑ k : Fin 1024, h0 A X k * A.W k c

/-- The forget gate's lower bound: the first entry of the softmax over the two rows of logits. -/
def lb (j : ℕ) : EReal :=
  Ideal.div (Ideal.exp (A.hg 0 j - Finset.fold max (Ideal.ofBits .f32 0xFF800000#32) (fun i : Fin 2 => A.hg i j) Finset.univ))
    (∑ i : Fin 2, Ideal.exp (A.hg i j -
      Finset.fold max (Ideal.ofBits .f32 0xFF800000#32) (fun i : Fin 2 => A.hg i j) Finset.univ))

/-- The forget gate of a token. -/
def fg (X : ℕ → EReal) (j : ℕ) : EReal := lb A j + (1 - lb A j) * sig (pr A X (1024 + j))

/-- The key of a token: one minus the forget gate. -/
def kk (X : ℕ → EReal) (j : ℕ) : EReal := 1 - fg A X j

/-- The logarithm of the forget gate. -/
def lf (X : ℕ → EReal) (j : ℕ) : EReal := Ideal.log (fg A X j)

/-- Within a chunk `R` of 32 rows: the running sum of the logarithms up to row `r`. -/
def bh (R : ℕ → ℕ → EReal) (r j : ℕ) : EReal := ∑ s ∈ Finset.range (r + 1), lf A (R s) j

/-- The query of a token, carrying the decay from the chunk's start. -/
def qd (R : ℕ → ℕ → EReal) (r j : ℕ) : EReal :=
  pr A (R r) j * sig (pr A (R r) j) * Ideal.ofBits .f32 0x3DB504F3#32 * Ideal.exp (bh A R r j)

/-- The key with the decay undone. -/
def ki (R : ℕ → ℕ → EReal) (r j : ℕ) : EReal := kk A (R r) j * Ideal.exp (-(bh A R r j))

/-- The key decayed to the chunk's end. -/
def ke (R : ℕ → ℕ → EReal) (r j : ℕ) : EReal := kk A (R r) j * Ideal.exp (bh A R 31 j - bh A R r j)

/-- The value of a token. -/
def vv (X : ℕ → EReal) (j : ℕ) : EReal := pr A X (2048 + j)

/-- The decay of a whole chunk. -/
def dec (R : ℕ → ℕ → EReal) (j : ℕ) : EReal := Ideal.exp (bh A R 31 j)

/-- The recurrent state after a chunk: head `h`, value lane `e`, key lane `d`. -/
def step (R : ℕ → ℕ → EReal) (S : ℕ → ℕ → ℕ → EReal) (h e d : ℕ) : EReal :=
  S h e d * dec A R (128 * h + d) + ∑ r : Fin 32, vv A (R r) (128 * h + e) * ke A R r (128 * h + d)

/-- What a token reads of the state its chunk began with. -/
def oi (R : ℕ → ℕ → EReal) (S : ℕ → ℕ → ℕ → EReal) (r h e : ℕ) : EReal :=
  ∑ d : Fin 128, qd A R r (128 * h + d) * S h e d

/-- What a token reads of its own chunk, causally. -/
def oc (R : ℕ → ℕ → EReal) (r h e : ℕ) : EReal :=
  ∑ s : Fin 32, (if s.val ≤ r then ∑ d : Fin 128, qd A R r (128 * h + d) * ki A R s (128 * h + d) else 0)
    * vv A (R s) (128 * h + e)

/-- The output of a head. -/
def oo (R : ℕ → ℕ → EReal) (S : ℕ → ℕ → ℕ → EReal) (r h e : ℕ) : EReal := oc A R r h e + oi A R S r h e

/-- The output gate. -/
def ga (X : ℕ → EReal) (j : ℕ) : EReal := pr A X (3072 + j) * sig (pr A X (3072 + j))

/-- A head of 128 lanes, normalised by its root mean square, scaled and gated. -/
def hn (o : ℕ → EReal) (X : ℕ → EReal) (h e : ℕ) : EReal :=
  o e * Ideal.rsqrt (Ideal.div (∑ k : Fin 128, o k * o k) (Ideal.ofBits .f32 0x43000000#32)
    + Ideal.ofBits .f32 0x358637BD#32) * A.ng e * ga A X (128 * h + e)

/-- The recurrent branch's output feature `j`. -/
def ya (R : ℕ → ℕ → EReal) (S : ℕ → ℕ → ℕ → EReal) (r j : ℕ) : EReal :=
  ∑ k : Fin 1024, hn A (oo A R S r (k / 128)) (R r) (k / 128) (k % 128) * A.whg k j

/-- The number of tokens a window of `w` holds at position `t`, as both programs count it: in words. -/
def cnt (w : BitVec 32) (t : ℕ) : EReal :=
  FloatOps.sitofp (F := Ideal) .f32 (IntOp.minsi (BitVec.ofNat 32 t + 1#32) w)

/-- The pooling window of group `g` less the token itself; `V i` is the value `i` tokens before (0 before the start). -/
def pl (V : ℕ → ℕ → EReal) (t g c : ℕ) : EReal :=
  Ideal.div (∑ i ∈ Finset.range (2 ^ (g + 1)), V i (128 * g + c)) (cnt (BitVec.ofNat 32 (2 ^ (g + 1))) t)
    - V 0 (128 * g + c)

/-- The pooling branch's output feature `j`. -/
def yb (V : ℕ → ℕ → EReal) (t j : ℕ) : EReal :=
  (∑ c : Fin 128, pl V t (j / 256) c * A.pw (j / 256) c (j % 256)) * A.ps j

/-- The layer's output row from the two branches' rows. -/
def fin (X ya yb : ℕ → EReal) (j : ℕ) : EReal :=
  ln (fun j => Ideal.ofBits .f32 0x3F9837F0#32 * h0 A X j
    + ∑ k : Fin 1024, (sig (pr A X (4608 + k)) * ya k + sig (pr A X (5632 + k)) * yb k) * A.wo k j) A.g1 A.b1 j

/-- Chunk `n` of batch `b`. -/
def chunk (b n : ℕ) (r : ℕ) : ℕ → EReal := A.x b (32 * n + r)

/-- The state before chunk `n` of batch `b`. -/
def state (b : ℕ) : ℕ → ℕ → ℕ → ℕ → EReal
  | 0 => fun _ _ _ => 0
  | n + 1 => step A (chunk A b n) (state b n)

/-- The pooled value `i` tokens before token `t` of batch `b`. -/
def back (b t i c : ℕ) : EReal := if i ≤ t then pr A (A.x b (t - i)) (4096 + c) else 0

/-- The layer's output at batch `b`, token `t`, feature `j`. -/
def out (b t j : ℕ) : EReal :=
  fin A (A.x b t) (ya A (chunk A b (t / 32)) (state A b (t / 32)) (t % 32)) (yb A (back A b t) t) j

end Cert.Proof.Mix

end
-- ==== Proof.RoutRef.lean ====
/- The router call's third result, `base`, as mathematics over the extended reals, and its reference read to it: the row
   scaled by α, plus the per-layer embedding, which is a projection of the token's embedding row gated by a sigmoid. -/
module

public import proofs.«01_k».proof.Proof.MixSpec
public import proofs.«01_k».proof.Proof.Gen.Reference3Ideal.Run
public import Idealize.ShloMosaic.Lib.Pointwise

@[expose] public section

set_option maxRecDepth 16384

noncomputable section

namespace Cert.Proof.Rout

open Idealize.ShloMosaic Idealize.ShloMosaic.TcCoe

/-- `base` of token `r` at feature `j`. -/
def base (h : FVec Ideal ⟨2, ![32768, 1024]⟩ .f32) (p : FVec Ideal ⟨4, ![1, 8, 4096, 256]⟩ .f32)
    (g : FVec Ideal ⟨3, ![1, 1024, 1024]⟩ .f32) (w : FVec Ideal ⟨3, ![1, 256, 1024]⟩ .f32) (r : Fin 32768) (j : Fin 1024) : EReal :=
  Ideal.ofBits .f32 0x3F9837F0#32 * h (ix2 r j)
    + Mix.sig (∑ k : Fin 1024, h (ix2 r k) * g (ix3 (0 : Fin 1) k j))
      * ∑ k : Fin 256, p (ix4 (0 : Fin 1) (⟨r.val / 4096, by omega⟩ : Fin 8) (⟨r.val % 4096, by omega⟩ : Fin 4096) k) * w (ix3 (0 : Fin 1) k j)

/-- Token `r` of the flattened batch is token `r % 4096` of sequence `r / 4096`. -/
theorem flat_apply {α : Type} (p : (⟨4, ![1, 8, 4096, 256]⟩ : Shape).Idx → α) (h1 : (⟨4, ![1, 8, 4096, 256]⟩ : Shape).ShapeCasts ⟨3, ![8, 4096, 256]⟩)
    (h2 : (⟨3, ![8, 4096, 256]⟩ : Shape).ShapeCasts ⟨2, ![32768, 256]⟩) (r : Fin 32768) (k : Fin 256) :
    shapeCast _ (shapeCast _ p h1) h2 (ix2 r k)
      = p (ix4 (0 : Fin 1) (⟨r.val / 4096, by omega⟩ : Fin 8) (⟨r.val % 4096, by omega⟩ : Fin 4096) k) := by
  refine (shapeCast_apply _ h2 _ (ix3 (⟨r.val / 4096, by omega⟩ : Fin 8) (⟨r.val % 4096, by omega⟩ : Fin 4096) k) ?_).trans
    (shapeCast_apply _ h1 _ (ix4 (0 : Fin 1) (⟨r.val / 4096, by omega⟩ : Fin 8) (⟨r.val % 4096, by omega⟩ : Fin 4096) k) ?_)
  · rw [Shape.rowMajor_val_three, Shape.rowMajor_val_two]
    show (r.val / 4096 * 4096 + r.val % 4096) * 256 + k.val = r.val * 256 + k.val
    omega
  · rw [Shape.rowMajor_val_four, Shape.rowMajor_val_three]
    show ((0 * 8 + r.val / 4096) * 4096 + r.val % 4096) * 256 + k.val = (r.val / 4096 * 4096 + r.val % 4096) * 256 + k.val
    omega

/-- A matrix kept as the one member of a stack. -/
theorem member_apply {α : Type} {a b : ℕ} (g : (⟨3, ![1, a, b]⟩ : Shape).Idx → α) (h : (⟨3, ![1, a, b]⟩ : Shape).ShapeCasts ⟨2, ![a, b]⟩)
    (k : Fin a) (j : Fin b) : shapeCast _ g h (ix2 k j) = g (ix3 (0 : Fin 1) k j) := by
  refine shapeCast_apply _ h _ (ix3 (0 : Fin 1) k j) ?_
  rw [Shape.rowMajor_val_three, Shape.rowMajor_val_two]
  show (0 * a + k.val) * b + j.val = k.val * b + j.val
  rw [Nat.zero_mul, Nat.zero_add]

open Cert.Reference3Ideal Cert.Reference3Ideal.Gen in
/-- The reference's `base`. -/
theorem reference_base (h : FVec Ideal S32768x1024 .f32) (p : FVec Ideal S1x8x4096x256 .f32) (g : FVec Ideal S1x1024x1024 .f32)
    (w : FVec Ideal S1x256x1024 .f32) (r : Fin 32768) (j : Fin 1024) :
    addf (mulf (broadcastInDim S32768x1024 ![] bcast_S_S32768x1024 (constant S_ .f32 0x3F9837F0#32)) h)
      (mulf (Host.divf (broadcastInDim S32768x1024 ![] bcast_S_S32768x1024 (constant S_ .f32 0x3F800000#32))
        (addf (broadcastInDim S32768x1024 ![] bcast_S_S32768x1024 (constant S_ .f32 0x3F800000#32))
          (Host.exp (Host.negf (Host.dotGeneral (φ₁ := .f32) (φ₂ := .f32) dot_S32768x1024_S1024x1024_S32768x1024_1_0_0_1_n_n none h
            (shapeCast _ g shapeCasts_S1x1024x1024_S1024x1024))))))
        (Host.dotGeneral (φ₁ := .f32) (φ₂ := .f32) dot_S32768x256_S256x1024_S32768x1024_1_0_0_1_n_n none
          (shapeCast _ (shapeCast _ p shapeCasts_S1x8x4096x256_S8x4096x256) shapeCasts_S8x4096x256_S32768x256)
          (shapeCast _ w shapeCasts_S1x256x1024_S256x1024))) (ix2 r j)
      = base h p g w r j := by
  have hp := flat_apply p shapeCasts_S1x8x4096x256_S8x4096x256 shapeCasts_S8x4096x256_S32768x256 r
  have hg := fun k => member_apply g shapeCasts_S1x1024x1024_S1024x1024 k j
  have hw := fun k => member_apply w shapeCasts_S1x256x1024_S256x1024 k j
  generalize (shapeCast _ (shapeCast _ p shapeCasts_S1x8x4096x256_S8x4096x256) shapeCasts_S8x4096x256_S32768x256 : FVec Ideal S32768x256 .f32) = p' at *
  generalize (shapeCast _ g shapeCasts_S1x1024x1024_S1024x1024 : FVec Ideal S1024x1024 .f32) = g' at *
  generalize (shapeCast _ w shapeCasts_S1x256x1024_S256x1024 : FVec Ideal S256x1024 .f32) = w' at *
  unfold base Mix.sig
  simp only [← hp, ← hg, ← hw]
  pointwise [dot_S32768x1024_S1024x1024_S32768x1024_1_0_0_1_n_n, dot_S32768x256_S256x1024_S32768x1024_1_0_0_1_n_n]

end Cert.Proof.Rout

end
-- ==== Proof.RoutValue.lean ====
/- What the router call leaves in its third result, `base`, over the extended reals: row `r` of the result is `base` of
   token `r`. Point `t` of the grid stages rows `1024 t …` of the tokens and of their embeddings, and the two weights whole. -/
module

public import proofs.«01_k».proof.Proof.RoutIdeal
public import proofs.«01_k».proof.Proof.RoutRef
public import Idealize.ShloMosaic.Lib.Pipeline.Value
public import Idealize.ShloMosaic.Lib.Pipeline.ValueKit
public import Idealize.ShloMosaic.Lib.ValueIdx

@[expose] public section

set_option maxRecDepth 16384

noncomputable section

namespace Cert.Proof.Rout

open Cert.Kernel3Ideal Cert.Kernel3Ideal.Gen
open Idealize.ShloMosaic Idealize.ShloMosaic.TcCoe
open Idealize.SL.Sem
open Cert.Proof.RoutIdeal (dats after8 stored)

/-- One point's `base`, at row `r` and feature `j` of its block. -/
theorem pay_at (x1 : FVec Ideal S1024x1024 .f32) (x5 : FVec Ideal S1024x1024 .bf16) (x2 : FVec Ideal S1024x256 .f32) (x6 : FVec Ideal S256x1024 .bf16)
    (r j : Fin 1024) : stored (F := Ideal) x1 x5 x2 x6 (ix2 r j)
      = Ideal.ofBits .f32 0x3F9837F0#32 * x1 (ix2 r j)
        + Mix.sig (∑ k : Fin 1024, x1 (ix2 r k) * x5 (ix2 k j)) * ∑ k : Fin 256, x2 (ix2 r k) * x6 (ix2 k j) := by
  unfold Mix.sig
  pointwise [stored, dot_S1024x1024_S1024x1024_S1024x1024_1_0_0_1_n_n, dot_S1024x256_S256x1024_S1024x1024_1_0_0_1_n_n]
  rw [sub_eq_add_neg, zero_add]

variable (m : (ℓ : Loc nD τ sig) → Buf (Elt Ideal) ℓ) (c : Dev nD)

/-! ## The arrays as the region finds them -/

theorem entry_p : V m c main_v1 = shapeCast S32768x256 (shapeCast S8x4096x256 (m ((c : Thread nD τ).loc main_arg1)) shapeCasts_S1x8x4096x256_S8x4096x256)
    shapeCasts_S8x4096x256_S32768x256 := by
  entry_read
  rfl

theorem entry_g : V m c main_v8 = shapeCast S1024x1024 (m ((c : Thread nD τ).loc main_arg4)) shapeCasts_S1x1024x1024_S1024x1024 := by
  entry_read
  rfl

theorem entry_w : V m c main_v9 = shapeCast S256x1024 (m ((c : Thread nD τ).loc main_arg5)) shapeCasts_S1x256x1024_S256x1024 := by
  entry_read
  rfl

/-! ## The blocks -/

/-- Point `t` stages row block `t` of the tokens and of their embeddings and the weights whole, and writes back row block `t`. -/
theorem idx : ∀ t : Fin cfg0.N, win0_0.index t = ![t.val, 0] ∧ win0_1.index t = ![t.val, 0] ∧ win0_4.index t = ![0, 0]
    ∧ win0_5.index t = ![0, 0] ∧ win0_8.index t = ![t.val, 0] := by decide +kernel

theorem blk_h (t : Fin cfg0.N) (z : S1024x1024.Idx) (a : Fin 32768) (b : Fin 1024) (ha : a.val = t.val * 1024 + (z 0).val) (hb : b.val = (z 1).val) :
    iblk m c 0 t z = m ((c : Thread nD τ).loc main_arg0) (ix2 a b) := by
  have hv : iblk m c 0 t z = V m c main_arg0 ((win0_0.blk t).view.emb z) := rfl
  rw [hv, V_main_arg0]
  have i0 := (idx t).1
  have e0 : ((win0_0.blk t).view.emb z 0).val = t.val * 1024 + (z 0).val := by blk_simp [i0]
  have e1 : ((win0_0.blk t).view.emb z 1).val = (z 1).val := by blk_simp [i0]
  refine congrArg _ (funext fun ax => Fin.ext ?_)
  match ax with
  | ⟨0, _⟩ => exact e0.trans ha.symm
  | ⟨1, _⟩ => exact e1.trans hb.symm

theorem blk_p (t : Fin cfg0.N) (z : S1024x256.Idx) (a : Fin 32768) (b : Fin 256) (ha : a.val = t.val * 1024 + (z 0).val) (hb : b.val = (z 1).val) :
    iblk m c 1 t z = m ((c : Thread nD τ).loc main_arg1)
      (ix4 (0 : Fin 1) (⟨a.val / 4096, by omega⟩ : Fin 8) (⟨a.val % 4096, by omega⟩ : Fin 4096) b) := by
  have hv : iblk m c 1 t z = V m c main_v1 ((win0_1.blk t).view.emb z) := rfl
  rw [hv, entry_p]
  have i0 := (idx t).2.1
  have e0 : ((win0_1.blk t).view.emb z 0).val = t.val * 1024 + (z 0).val := by blk_simp [i0]
  have e1 : ((win0_1.blk t).view.emb z 1).val = (z 1).val := by blk_simp [i0]
  refine Eq.trans (congrArg _ (funext fun ax => Fin.ext ?_)) (flat_apply (m ((c : Thread nD τ).loc main_arg1)) _ _ a b)
  match ax with
  | ⟨0, _⟩ => exact e0.trans ha.symm
  | ⟨1, _⟩ => exact e1.trans hb.symm

theorem blk_g (t : Fin cfg0.N) (k j : Fin 1024) :
    iblk m c 4 t (ix2 k j) = m ((c : Thread nD τ).loc main_arg4) (ix3 (0 : Fin 1) k j) := by
  have hv : iblk m c 4 t (ix2 k j) = V m c main_v8 ((win0_4.blk t).view.emb (ix2 k j)) := rfl
  rw [hv, entry_g]
  have i0 := (idx t).2.2.1
  have e0 : ((win0_4.blk t).view.emb (ix2 k j) 0).val = k.val := by blk_simp [i0]
  have e1 : ((win0_4.blk t).view.emb (ix2 k j) 1).val = j.val := by blk_simp [i0]
  refine Eq.trans (congrArg _ (funext fun ax => Fin.ext ?_)) (member_apply (m ((c : Thread nD τ).loc main_arg4)) _ k j)
  match ax with
  | ⟨0, _⟩ => exact e0
  | ⟨1, _⟩ => exact e1

theorem blk_w (t : Fin cfg0.N) (k : Fin 256) (j : Fin 1024) :
    iblk m c 5 t (ix2 k j) = m ((c : Thread nD τ).loc main_arg5) (ix3 (0 : Fin 1) k j) := by
  have hv : iblk m c 5 t (ix2 k j) = V m c main_v9 ((win0_5.blk t).view.emb (ix2 k j)) := rfl
  rw [hv, entry_w]
  have i0 := (idx t).2.2.2.1
  have e0 : ((win0_5.blk t).view.emb (ix2 k j) 0).val = k.val := by blk_simp [i0]
  have e1 : ((win0_5.blk t).view.emb (ix2 k j) 1).val = j.val := by blk_simp [i0]
  refine Eq.trans (congrArg _ (funext fun ax => Fin.ext ?_)) (member_apply (m ((c : Thread nD τ).loc main_arg5)) _ k j)
  match ax with
  | ⟨0, _⟩ => exact e0
  | ⟨1, _⟩ => exact e1

/-! ## The result -/

/-- `base` as an array. -/
def result : FVec Ideal S32768x1024 .f32 := fun i =>
  base (m ((c : Thread nD τ).loc main_arg0)) (m ((c : Thread nD τ).loc main_arg1)) (m ((c : Thread nD τ).loc main_arg4))
    (m ((c : Thread nD τ).loc main_arg5)) (i 0) (i 1)

/-- One point's `base` is that of the tokens it staged. -/
theorem block_base (t : Fin cfg0.N) (y : S1024x1024.Idx) (z : S32768x1024.Idx) (h0 : (z 0).val = t.val * 1024 + (y 0).val) (h1 : (z 1).val = (y 1).val) :
    stored (F := Ideal) (iblk m c 0 t) (iblk m c 4 t) (iblk m c 1 t) (iblk m c 5 t) y = result m c z := by
  obtain ⟨r, j, rfl⟩ : ∃ (r j : Fin 1024), y = ix2 r j := ⟨y 0, y 1, funext fun ax => by match ax with | ⟨0, _⟩ => rfl | ⟨1, _⟩ => rfl⟩
  have hj : (z 1 : Fin 1024) = j := Fin.ext h1
  refine (pay_at _ _ _ _ r j).trans ?_
  unfold result base
  refine congrArg₂ (fun x y : EReal => x + y) (congrArg (fun x : EReal => Ideal.ofBits .f32 0x3F9837F0#32 * x) ?_)
    (congrArg₂ (fun x y : EReal => x * y) (congrArg Mix.sig (Finset.sum_congr rfl fun k _ => ?_)) (Finset.sum_congr rfl fun k _ => ?_))
  · exact blk_h m c t _ _ _ h0 h1
  · rw [hj]
    exact congrArg₂ (fun x y : EReal => x * y) (blk_h m c t _ _ _ h0 rfl) (blk_g m c t k j)
  · rw [hj]
    exact congrArg₂ (fun x y : EReal => x * y) (blk_p m c t _ (z 0) k h0 rfl) (blk_w m c t k j)

/-- The array of `base` after the run. -/
theorem final : (dats m 0 c).arrAt 8 cfg0.N = result m c := by
  refine (dats m 0 c).arrAt_eq_of_covers 8 _ (by decide +kernel) (fun t hf y => ?_)
  have i1 := (idx t).2.2.2.2
  have e0 : (((cfg0.win 8).blk t).view.emb y 0).val = t.val * 1024 + ((y 0).val) := by blk_simp [i1]
  have e1 : (((cfg0.win 8).blk t).view.emb y 1).val = (y 1).val := by blk_simp [i1]
  generalize ((cfg0.win 8).blk t).view.emb y = z at e0 e1 ⊢
  rw [after8, cast_eq]
  exact block_base m c t ((cfg0.win 8).xinj (cfg0.grid.coords t) y) z e0 e1

end Cert.Proof.Rout

end
-- ==== Proof.PackRun.lean ====
/- The packing call runs, and leaves its table unchanged: the body's triple, the proof data of its one pipeline, the run
   and the frame.

   One grid point stages 512 rows of the table and leaves 2048 rows of words: it packs columns `c` and `512 + c` of each
   row into one word, and stores the 512 words of row `n` as rows `4n`, `4n + 1`, `4n + 2`, `4n + 3` of 128 words, by four
   stores of row stride 4. -/
module

public import proofs.«01_k».proof.Proof.Gen.Kernel.Launch
public import proofs.«01_k».proof.Proof.Gen.Kernel.Points
public import proofs.«01_k».proof.Proof.Gen.Kernel.Skeleton
public import proofs.«01_k».proof.Proof.Gen.Kernel.Frame
public import Idealize.ShloMosaic.Lib.Pipeline.FrameBody
public import Idealize.ShloMosaic.Lib.Tactic
public import Idealize.ShloMosaic.Lib.Claim

@[expose] public section

set_option maxRecDepth 16384

noncomputable section

namespace Cert.Proof.Pack

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## What the body reads and writes -/

/-- The left and the right half of the staged rows. -/
abbrev leftHalf : Rect S512x1024 := Rect.unit (s := S512x1024) ![0, 0] S512x512.size inb_S512x1024_S512x512_0_0
abbrev rightHalf : Rect S512x1024 := Rect.unit (s := S512x1024) ![0, 512] S512x512.size inb_S512x1024_S512x512_0_512
/-- Every fourth row of the words, from row 0, 1, 2 and 3. -/
abbrev rows0 : Rect S2048x128 := ⟨⟨![0, 0], S512x128.size, ![4, 1], inb_S2048x128_S512x128_0_0_s_4_1⟩, spos_4_1⟩
abbrev rows1 : Rect S2048x128 := ⟨⟨![1, 0], S512x128.size, ![4, 1], inb_S2048x128_S512x128_1_0_s_4_1⟩, spos_4_1⟩
abbrev rows2 : Rect S2048x128 := ⟨⟨![2, 0], S512x128.size, ![4, 1], inb_S2048x128_S512x128_2_0_s_4_1⟩, spos_4_1⟩
abbrev rows3 : Rect S2048x128 := ⟨⟨![3, 0], S512x128.size, ![4, 1], inb_S2048x128_S512x128_3_0_s_4_1⟩, spos_4_1⟩

/-- The words one point leaves, from the rows it staged: its four stores, the last first. -/
def packedRows (x : Vec F S512x1024 .f32) : Vec F S2048x128 .i32 :=
  View.canon [⟨rows3, k0_pay5 (View.ld x leftHalf) (View.ld x rightHalf)⟩,
    ⟨rows2, k0_pay4 (View.ld x leftHalf) (View.ld x rightHalf)⟩,
    ⟨rows1, k0_pay3 (View.ld x leftHalf) (View.ld x rightHalf)⟩,
    ⟨rows0, k0_pay2 (View.ld x leftHalf) (View.ld x rightHalf)⟩]

/-- Row `y 0` lies in the family of rows that are `y 0 % 4` modulo 4. -/
theorem mem_rows (k : ℕ) (y : S2048x128.Idx) (inb) (sp) (hk : (y 0).val % 4 = k) :
    y ∈ (⟨⟨![k, 0], S512x128.size, ![4, 1], inb⟩, sp⟩ : Rect S2048x128).set := by
  have h0 : (y 0).val < 2048 := (y 0).isLt
  have h1 : (y 1).val < 128 := (y 1).isLt
  refine (LoadRect.mem_set _).mpr fun a => ?_
  match a with
  | ⟨0, _⟩ => exact ⟨(y 0).val / 4, by show (y 0).val / 4 < 512; omega, by show (y 0).val = k + 4 * ((y 0).val / 4); omega⟩
  | ⟨1, _⟩ => exact ⟨(y 1).val, h1, by show (y 1).val = 0 + 1 * (y 1).val; omega⟩

/-- The four row families cover the words. -/
theorem cover (p3 p2 p1 p0 : Vec F S512x128 .i32) (y : S2048x128.Idx) :
    ∃ pc ∈ ([⟨rows3, p3⟩, ⟨rows2, p2⟩, ⟨rows1, p1⟩, ⟨rows0, p0⟩] : List (View.Piece (Elt F) S2048x128 .i32)), y ∈ pc.1.set := by
  have h : (y 0).val % 4 < 4 := Nat.mod_lt _ (by decide)
  rcases (by omega : (y 0).val % 4 = 3 ∨ (y 0).val % 4 = 2 ∨ (y 0).val % 4 = 1 ∨ (y 0).val % 4 = 0) with h | h | h | h
  · exact ⟨_, List.mem_cons_self, mem_rows 3 y _ _ h⟩
  · exact ⟨_, List.mem_cons_of_mem _ List.mem_cons_self, mem_rows 2 y _ _ h⟩
  · exact ⟨_, List.mem_cons_of_mem _ (List.mem_cons_of_mem _ List.mem_cons_self), mem_rows 1 y _ _ h⟩
  · exact ⟨_, List.mem_cons_of_mem _ (List.mem_cons_of_mem _ (List.mem_cons_of_mem _ List.mem_cons_self)), mem_rows 0 y _ _ h⟩

/-! ## The body's triple -/

set_option maxHeartbeats 1000000 in
/-- The body, its input staged at `x` and its output at anything, ends with the input as it was and the output at
    `packedRows x`. -/
theorem body_triple (c : Dev nD) (E : Set ℕ) (i : grid0.Coords) (arg1 : Memref sig .tc .vmem S512x1024 .f32) (harg1 : arg1.IsWhole)
    (arg2 : Memref sig .tc .vmem S2048x128 .i32) (harg2 : arg2.IsWhole) (x : Vec F S512x1024 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (packedRows x)) -∗ K ⟨⟩))
      ⊢ wp frame (wpE (defs₀ (F := F)) Variants.none c none) E (cc0_pack i arg1 harg1 arg2 harg2) K := by
  simp only [cc0_pack_eq_skeleton]; unfold cc0_pack_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _ _ _ _)

/-! ## The pipeline -/

/-- The proof data: the arrays as the region finds them; after the body the input's buffer at its block and the output's
    at the packed rows of that block; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => packedRows (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_in (c : Dev nD) (t : Fin cfg0.N) : (dats m 0 c).after 0 t = iblk m c 0 t := by dsimp only [dats]
theorem after_out (c : Dev nD) (t : Fin cfg0.N) : (dats m 0 c).after 1 t = packedRows (iblk m c 0 t) := by dsimp only [dats]
theorem before_in (c : Dev nD) (t : Fin cfg0.N) (d) : (dats m 0 c).before 0 t d = iblk m c 0 t :=
  before0_0_of m (dats m 0 c) (A_eq m c 0) (after_in m c) t d

/-- What the body finds at point `t`, window by window, … -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- … and what it leaves. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem body_at (c : Dev nD) (t : Fin cfg0.N) :
    pre m c t ⊢ wp frame (wpE (defs₀ (F := F)) Variants.none c none) Set.univ (bodyAt0 t) (fun _ => post m c t) := by
  unfold pre post bodyAt0
  simp only [before_in]
  rw [show (dats m 0 c).Φ t.succ = (dats m 0 c).Φ t.castSucc from rfl,
    show (dats m 0 c).owesAt () t.succ = (dats m 0 c).owesAt () t.castSucc from rfl, after_in, after_out]
  iintro ⟨HΦ, Ho, ⟨%d0, H0⟩, ⟨%d1, H1⟩⟩
  iapply (body_triple c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run and the frame -/

set_option backward.isDefEq.respectTransparency.types false in
set_option maxHeartbeats 800000 in
/-- Every execution terminates, with the arrays at what the proof data say and every semaphore at zero. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiet m ρ)

/-- The frame: the table is as launched, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run m ρ)) ((θ_run defs _ _).mono (fun _ h => h.2) (run_quiet m ρ))

/-- The run with the words' array named. -/
theorem run_words : θ_run defs (onTc (τ := τ) (main (F := F))) ⟨m, fun _ => 0, ρ⟩ fun r => ∀ c : Dev nD,
      r.2.mem ((c : Thread nD τ).loc main_v1) = (dats m 0 c).arrAt 1 cfg0.N
      ∧ r.2.mem ((c : Thread nD τ).loc main_arg0) = m ((c : Thread nD τ).loc main_arg0) :=
  (θ_run defs _ _).mono (fun _ h c => ⟨(h c).1 1,
      ((h c).2 main_arg0 (Pipeline.mem_restRefs_of main_arg0 (by decide) (by decide))).trans (V_main_arg0 m c)⟩) (run m ρ)

end Cert.Proof.Pack

end
-- ==== Proof.PackValue.lean ====
/- What the packing call leaves: word `(i, l)` of its result packs the entries of row `i / 4` of the table at columns
   `128 (i % 4) + l` and 512 further on, rounded to bf16. The reference is read to the same word. -/
module

public import proofs.«01_k».proof.Proof.PackRun
public import proofs.«01_k».proof.Proof.Gen.Reference.Run
public import Idealize.ShloMosaic.Lib.Pipeline.Value
public import Idealize.ShloMosaic.Lib.Pipeline.ValueKit
public import Idealize.ShloMosaic.Lib.Pointwise
public import Idealize.ShloMosaic.Lib.ValueIdx

@[expose] public section

set_option maxRecDepth 16384

noncomputable section

namespace Cert.Proof.Pack

open Cert.Kernel Cert.Kernel.Gen
open Idealize.ShloMosaic Idealize.ShloMosaic.TcCoe
open Idealize.SL.Sem
open Idealize.ShloMosaic.Pipeline (Dat)

variable {F : FTy → Type} [BitOps F]

/-- Two numbers rounded to bf16, the second in the high half of a word. -/
def word (lo hi : F .f32) : BitVec 32 :=
  BitOps.toBits (FloatOps.truncf (F := F) .bf16 (by decide) hi) ++ BitOps.toBits (FloatOps.truncf (F := F) .bf16 (by decide) lo)

/-- The words of a whole table. -/
def words (tab : Vec F S1x16384x1024 .f32) : Vec F S65536x128 .i32 := fun i =>
  word (tab (ValueIdx.ix3 (0 : Fin 1) (⟨(i 0).val / 4, by have := (i 0).isLt; change _ < 65536 at this; omega⟩ : Fin 16384)
      (⟨128 * ((i 0).val % 4) + (i 1).val, by have := (i 1).isLt; change _ < 128 at this; omega⟩ : Fin 1024)))
    (tab (ValueIdx.ix3 (0 : Fin 1) (⟨(i 0).val / 4, by have := (i 0).isLt; change _ < 65536 at this; omega⟩ : Fin 16384)
      (⟨512 + (128 * ((i 0).val % 4) + (i 1).val), by have := (i 1).isLt; change _ < 128 at this; omega⟩ : Fin 1024)))

/-- The two entries that word `y` of a point packs, wherever their indices come from. -/
theorem word_at (k : ℕ) (hk : k < 4) (x : Vec F S512x1024 .f32) (y : S2048x128.Idx) (z0 z1 : ℕ)
    (e0 : k + 4 * z0 = (y 0).val) (e1 : 0 + 1 * z1 = (y 1).val) (il ir : S512x1024.Idx)
    (hl0 : (il 0).val = 0 + 1 * (0 + z0)) (hl1 : (il 1).val = 0 + 1 * (128 * k + z1))
    (hr0 : (ir 0).val = 0 + 1 * (0 + z0)) (hr1 : (ir 1).val = 512 + 1 * (128 * k + z1)) :
    word (x il) (x ir) = word
      (x (ValueIdx.ix2 (⟨(y 0).val / 4, by have := (y 0).isLt; change _ < 2048 at this; omega⟩ : Fin 512)
        (⟨128 * ((y 0).val % 4) + (y 1).val, by have := (y 1).isLt; change _ < 128 at this; omega⟩ : Fin 1024)))
      (x (ValueIdx.ix2 (⟨(y 0).val / 4, by have := (y 0).isLt; change _ < 2048 at this; omega⟩ : Fin 512)
        (⟨512 + (128 * ((y 0).val % 4) + (y 1).val), by have := (y 1).isLt; change _ < 128 at this; omega⟩ : Fin 1024))) := by
  have a0 : z0 = (y 0).val / 4 := by omega
  have a1 : k = (y 0).val % 4 := by omega
  congr 2 <;> funext a <;> apply Fin.ext
  · match a with
    | ⟨0, _⟩ => show (il 0).val = (y 0).val / 4; omega
    | ⟨1, _⟩ => show (il 1).val = 128 * ((y 0).val % 4) + (y 1).val; omega
  · match a with
    | ⟨0, _⟩ => show (ir 0).val = (y 0).val / 4; omega
    | ⟨1, _⟩ => show (ir 1).val = 512 + (128 * ((y 0).val % 4) + (y 1).val); omega

/-- One point's words at row `4 r + k`, lane `l`. -/
theorem packedRows_apply (x : Vec F S512x1024 .f32) (y : S2048x128.Idx) :
    packedRows x y = word
      (x (ValueIdx.ix2 (⟨(y 0).val / 4, by have := (y 0).isLt; change _ < 2048 at this; omega⟩ : Fin 512)
        (⟨128 * ((y 0).val % 4) + (y 1).val, by have := (y 1).isLt; change _ < 128 at this; omega⟩ : Fin 1024)))
      (x (ValueIdx.ix2 (⟨(y 0).val / 4, by have := (y 0).isLt; change _ < 2048 at this; omega⟩ : Fin 512)
        (⟨512 + (128 * ((y 0).val % 4) + (y 1).val), by have := (y 1).isLt; change _ < 128 at this; omega⟩ : Fin 1024))) := by
  unfold packedRows
  have h0 : (y 0).val < 2048 := (y 0).isLt
  have h1 : (y 1).val < 128 := (y 1).isLt
  refine View.canon_eq_of_allAt _ y _ (cover _ _ _ _ y) ?_
  refine View.allAt_cons _ _ _ ?_ (View.allAt_cons _ _ _ ?_ (View.allAt_cons _ _ _ ?_ (View.allAt_cons _ _ _ ?_ (View.allAt_nil _ _))))
  all_goals
    intro z hz
    have e0 := congrArg (fun i : S2048x128.Idx => (i 0).val) hz
    have e1 := congrArg (fun i : S2048x128.Idx => (i 1).val) hz
    simp only [k0_pay1, k0_pay2, k0_pay3, k0_pay4, k0_pay5, shapeCast_self]
    show word (x (leftHalf.idx _)) (x (rightHalf.idx _)) = _
  · exact word_at 3 (by decide) x y (z 0).val (z 1).val e0 e1 _ _ rfl rfl rfl rfl
  · exact word_at 2 (by decide) x y (z 0).val (z 1).val e0 e1 _ _ rfl rfl rfl rfl
  · exact word_at 1 (by decide) x y (z 0).val (z 1).val e0 e1 _ _ rfl rfl rfl rfl
  · exact word_at 0 (by decide) x y (z 0).val (z 1).val e0 e1 _ _ rfl rfl rfl rfl

/-- The table as the region finds it: the argument reshaped. -/
theorem entry (m : (ℓ : Loc nD τ sig) → Buf (Elt F) ℓ) (c : Dev nD) :
    V m c main_v0 = shapeCast S16384x1024 (m ((c : Thread nD τ).loc main_arg0)) shapeCasts_S1x16384x1024_S16384x1024 := by
  entry_read
  rfl

/-- Dropping a leading unit axis, at one index. -/
theorem drop_apply {α : Type} (tab : S1x16384x1024.Idx → α) (h : S1x16384x1024.ShapeCasts S16384x1024) (j : S16384x1024.Idx) :
    shapeCast S16384x1024 tab h j = tab (ValueIdx.ix3 (0 : Fin 1) (j 0 : Fin 16384) (j 1 : Fin 1024)) := by
  refine shapeCast_apply _ _ _ _ ?_
  rw [Shape.rowMajor_val_three, Shape.rowMajor_val_two]
  show (0 * 16384 + (j 0).val) * 1024 + (j 1).val = _
  rw [Nat.zero_mul, Nat.zero_add]
  rfl

/-- The region's table at one index. -/
theorem entry_apply (m : (ℓ : Loc nD τ sig) → Buf (Elt F) ℓ) (c : Dev nD) (j : S16384x1024.Idx) :
    V m c main_v0 j = m ((c : Thread nD τ).loc main_arg0) (ValueIdx.ix3 (0 : Fin 1) (j 0 : Fin 16384) (j 1 : Fin 1024)) := by
  rw [entry, drop_apply]

/-- Point `t` stages row block `t` of the table and writes back row block `t` of the words. -/
theorem idx : ∀ t : Fin cfg0.N, win0_0.index t = ![t.val, 0] ∧ win0_1.index t = ![t.val, 0] := by decide +kernel

/-- The table's window at point `t`, at one index. -/
theorem iblk_apply (m : (ℓ : Loc nD τ sig) → Buf (Elt F) ℓ) (c : Dev nD) (t : Fin cfg0.N) (z : S512x1024.Idx)
    (a : Fin 16384) (b : Fin 1024) (ha : a.val = t.val * 512 + (z 0).val) (hb : b.val = (z 1).val) :
    iblk m c 0 t z = m ((c : Thread nD τ).loc main_arg0) (ValueIdx.ix3 (0 : Fin 1) a b) := by
  have hv : iblk m c 0 t z = V m c main_v0 ((win0_0.blk t).view.emb z) := rfl
  rw [hv, entry_apply]
  have i0 := (idx t).1
  have e0 : ((win0_0.blk t).view.emb z 0).val = t.val * 512 + (z 0).val := by blk_simp [i0]
  have e1 : ((win0_0.blk t).view.emb z 1).val = (z 1).val := by blk_simp [i0]
  have f0 : ((win0_0.blk t).view.emb z 0 : Fin 16384) = a := Fin.ext (e0.trans ha.symm)
  have f1 : ((win0_0.blk t).view.emb z 1 : Fin 1024) = b := Fin.ext (e1.trans hb.symm)
  rw [f0, f1]

/-- One point's words are those of the whole table at its rows. -/
theorem block_words (m : (ℓ : Loc nD τ sig) → Buf (Elt F) ℓ) (c : Dev nD) (t : Fin cfg0.N) (y : S2048x128.Idx) (z : S65536x128.Idx)
    (h0 : (z 0).val = t.val * 2048 + (y 0).val) (h1 : (z 1).val = (y 1).val) :
    packedRows (iblk m c 0 t) y = words (m ((c : Thread nD τ).loc main_arg0)) z := by
  rw [packedRows_apply]
  unfold words
  have hy : (y 0).val < 2048 := (y 0).isLt
  refine congrArg₂ word (iblk_apply m c t _ _ _ ?_ ?_) (iblk_apply m c t _ _ _ ?_ ?_)
  · show (z 0).val / 4 = t.val * 512 + (y 0).val / 4; omega
  · show 128 * ((z 0).val % 4) + (z 1).val = 128 * ((y 0).val % 4) + (y 1).val; omega
  · show (z 0).val / 4 = t.val * 512 + (y 0).val / 4; omega
  · show 512 + (128 * ((z 0).val % 4) + (z 1).val) = 512 + (128 * ((y 0).val % 4) + (y 1).val); omega

/-- The words' array after the run. -/
theorem final (m : (ℓ : Loc nD τ sig) → Buf (Elt F) ℓ) (c : Dev nD) :
    (dats m 0 c).arrAt 1 cfg0.N = words (m ((c : Thread nD τ).loc main_arg0)) := by
  refine (dats m 0 c).arrAt_eq_of_covers 1 _ (by decide +kernel) (fun t hf y => ?_)
  have i1 := (idx t).2
  have e0 : (((cfg0.win 1).blk t).view.emb y 0).val = t.val * 2048 + ((y 0).val) := by blk_simp [i1]
  have e1 : (((cfg0.win 1).blk t).view.emb y 1).val = (y 1).val := by blk_simp [i1]
  generalize ((cfg0.win 1).blk t).view.emb y = z at e0 e1 ⊢
  rw [after_out, cast_eq]
  exact block_words m c t ((cfg0.win 1).xinj (cfg0.grid.coords t) y) z e0 e1

end Cert.Proof.Pack

end
-- ==== Proof.PackRef.lean ====
/- The packing call's reference, read at a word. -/
module

public import proofs.«01_k».proof.Proof.PackValue
public import proofs.«01_k».proof.Proof.Gen.Reference.Run
public import Idealize.ShloMosaic.Lib.Pointwise

@[expose] public section

set_option maxRecDepth 16384

noncomputable section

namespace Cert.Proof.Pack

open Cert.Reference Cert.Reference.Gen
open Idealize.ShloMosaic Idealize.ShloMosaic.TcCoe

variable {F : FTy → Type} [BitOps F]

/-- A half-word in the low half, another shifted into the high half. -/
theorem or_shift (a b : BitVec 16) :
    IntOp.ori (BitVec.setWidth 32 a) (IntOp.shli ArithUnit.host (BitVec.setWidth 32 b) 16#32) = b ++ a := by
  have h : IntOp.shli ArithUnit.host (BitVec.setWidth 32 b) 16#32 = BitVec.setWidth 32 b <<< 16 := rfl
  rw [h]
  show BitVec.setWidth 32 a ||| BitVec.setWidth 32 b <<< 16 = b ++ a
  apply BitVec.eq_of_getLsbD_eq
  intro i hi
  simp only [BitVec.getLsbD_or, BitVec.getLsbD_setWidth, BitVec.getLsbD_shiftLeft, BitVec.getLsbD_append]
  by_cases h16 : i < 16
  · simp [h16, hi]
  · simp [h16, hi, BitVec.getLsbD_of_ge, show 16 ≤ i by omega]
    intro _; omega

/-- The reference's words are the kernel's. -/
theorem reference_words (tab : Vec F S1x16384x1024 .f32) :
    (shapeCast S65536x128 (ori (extractStridedSlice S16384x512 ![0, 0] (extui 32 (bitcastToInt (truncf .bf16 (shapeCast S16384x1024 tab shapeCasts_S1x16384x1024_S16384x1024) bitsLt_bf16_f32)) natLt_16_32) slices_S16384x1024_S16384x512_0_0) (Host.shli (extractStridedSlice S16384x512 ![0, 512] (extui 32 (bitcastToInt (truncf .bf16 (shapeCast S16384x1024 tab shapeCasts_S1x16384x1024_S16384x1024) bitsLt_bf16_f32)) natLt_16_32) slices_S16384x1024_S16384x512_0_512) (broadcastInDim S16384x512 ![] bcast_S_S16384x512 (constantI S_ 32 16#32)))) shapeCasts_S16384x512_S65536x128)
      = words (F := F) tab := by
  funext i
  pointwise [words, word]
  rw [or_shift]
  simp only [Nat.mul_comm 128]
  rfl

end Cert.Proof.Pack

end
-- ==== Proof.Ref2Run.lean ====
/- The recurrence's reference, run: its arguments stay as launched, and every counter is at zero. -/
module

public import proofs.«01_k».proof.Proof.Gen.Reference2Ideal.Run
public import Idealize.ShloMosaic.Lib.Claim
public import Idealize.ShloMosaic.Lib.Quiescent

@[expose] public section

set_option maxRecDepth 16384

noncomputable section

namespace Cert.Proof.Ref2

open Cert.Reference2Ideal Cert.Reference2Ideal.Gen Cert.Reference2Ideal.Value
open Idealize.ShloMosaic Idealize.ShloMosaic.TcCoe
open Idealize.ShloMosaic.StableHlo
open Idealize.SL.Sem

variable {F : FTy → Type} [FloatOps F]

/-! ## What each stretch after the loop writes -/

/-- The results of stretch 11, in order. -/
abbrev post11_W : List (Ref sig .tc) := [main_v98, main_v99, main_v100, main_v101, main_v102, main_cst_16, main_v103, main_v104, main_cst_17, main_v105, main_v106, main_cst_18, main_v107, main_v108, main_v109, main_v110, main_v111, main_v112, main_v113, main_v114, main_v115, main_v116]
theorem post11_writes : (hostOps0_11 : List (HloOp τ sig (Elt F))).Forall fun op => op.writes ⊆ (post11_W.map (Proc.devRef (τ := τ) .tc)).toFinset :=
  StableHlo.forall_writes_sub_of_map rfl
/-- The results of stretch 12, in order. -/
abbrev post12_W : List (Ref sig .tc) := [main_call8_v0, main_call8_v1, main_call8_cst, main_call8_v2, main_call8_v3, main_call8_cst_0, main_call8_v4, main_call8_v5, main_v117]
theorem post12_writes : (hostOps0_12 : List (HloOp τ sig (Elt F))).Forall fun op => op.writes ⊆ (post12_W.map (Proc.devRef (τ := τ) .tc)).toFinset :=
  StableHlo.forall_writes_sub_of_map rfl
/-- The results of stretch 13, in order. -/
abbrev post13_W : List (Ref sig .tc) := [main_v118, main_v119, main_v120, main_v121, main_v122, main_c_19]
theorem post13_writes : (hostOps0_13 : List (HloOp τ sig (Elt F))).Forall fun op => op.writes ⊆ (post13_W.map (Proc.devRef (τ := τ) .tc)).toFinset :=
  StableHlo.forall_writes_sub_of_map rfl
/-- The results of stretch 14, in order. -/
abbrev post14_W : List (Ref sig .tc) := [main_call9_v0, main_v123]
theorem post14_writes : (hostOps0_14 : List (HloOp τ sig (Elt F))).Forall fun op => op.writes ⊆ (post14_W.map (Proc.devRef (τ := τ) .tc)).toFinset :=
  StableHlo.forall_writes_sub_of_map rfl
/-- The results of stretch 15, in order. -/
abbrev post15_W : List (Ref sig .tc) := [main_v124, main_v125, main_v126, main_c_20, main_v127, main_v128, main_c_21, main_v129, main_v130, main_v131, main_v132, main_v133, main_v134, main_v135, main_v136, main_c_22]
theorem post15_writes : (hostOps0_15 : List (HloOp τ sig (Elt F))).Forall fun op => op.writes ⊆ (post15_W.map (Proc.devRef (τ := τ) .tc)).toFinset :=
  StableHlo.forall_writes_sub_of_map rfl
/-- The results of stretch 16, in order. -/
abbrev post16_W : List (Ref sig .tc) := [main_call10_v0, main_v137]
theorem post16_writes : (hostOps0_16 : List (HloOp τ sig (Elt F))).Forall fun op => op.writes ⊆ (post16_W.map (Proc.devRef (τ := τ) .tc)).toFinset :=
  StableHlo.forall_writes_sub_of_map rfl
/-- The results of stretch 17, in order. -/
abbrev post17_W : List (Ref sig .tc) := [main_v138, main_v139, main_v140, main_v141, main_v142, main_v143, main_v144, main_c_23, main_v145, main_v146, main_c_24, main_v147, main_v148, main_v149, main_v150, main_v151, main_v152, main_v153, main_v154, main_c_25]
theorem post17_writes : (hostOps0_17 : List (HloOp τ sig (Elt F))).Forall fun op => op.writes ⊆ (post17_W.map (Proc.devRef (τ := τ) .tc)).toFinset :=
  StableHlo.forall_writes_sub_of_map rfl
/-- The results of stretch 18, in order. -/
abbrev post18_W : List (Ref sig .tc) := [main_call11_v0, main_v155]
theorem post18_writes : (hostOps0_18 : List (HloOp τ sig (Elt F))).Forall fun op => op.writes ⊆ (post18_W.map (Proc.devRef (τ := τ) .tc)).toFinset :=
  StableHlo.forall_writes_sub_of_map rfl
/-- The results of stretch 19, in order. -/
abbrev post19_W : List (Ref sig .tc) := [main_v156, main_v157, main_v158, main_v159, main_v160, main_v161, main_v162, main_v163, main_v164, main_v165, main_v166, main_v167, main_v168, main_v169, main_v170, main_c_26, main_v171, main_v172, main_c_27, main_v173, main_v174, main_v175, main_v176, main_v177, main_v178, main_v179, main_v180, main_c_28]
theorem post19_writes : (hostOps0_19 : List (HloOp τ sig (Elt F))).Forall fun op => op.writes ⊆ (post19_W.map (Proc.devRef (τ := τ) .tc)).toFinset :=
  StableHlo.forall_writes_sub_of_map rfl
/-- The results of stretch 20, in order. -/
abbrev post20_W : List (Ref sig .tc) := [main_call12_v0, main_v181]
theorem post20_writes : (hostOps0_20 : List (HloOp τ sig (Elt F))).Forall fun op => op.writes ⊆ (post20_W.map (Proc.devRef (τ := τ) .tc)).toFinset :=
  StableHlo.forall_writes_sub_of_map rfl
/-- The results of stretch 21, in order. -/
abbrev post21_W : List (Ref sig .tc) := [main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_c_29, main_v213, main_v214, main_c_30, main_v215, main_v216, main_v217, main_v218, main_v219, main_v220, main_v221, main_v222, main_v223, main_v224, main_v225, main_v226, main_v227, main_v228, main_v229, main_v230, main_v231, main_v232, main_v233, main_v234, main_v235, main_v236, main_cst_31, main_v237, main_v238, main_cst_32, main_v239, main_v240, main_v241, main_v242, main_v243, main_cst_33, main_v244, main_v245, main_cst_34, main_v246, main_v247, main_v248, main_v249, main_cst_35, main_v250, main_v251, main_v252, main_v253, main_v254, main_v255, main_v256, main_cst_36, main_v257, main_v258, main_cst_37, main_v259, main_v260, main_v261, main_v262, main_v263, main_cst_38, main_v264, main_v265, main_cst_39, main_v266, main_v267, main_v268, main_v269, main_cst_40, main_v270, main_v271, main_v272, main_v273, main_v274, main_v275, main_v276, main_v277, main_v278, main_v279, main_v280, main_v281]
theorem post21_writes : (hostOps0_21 : List (HloOp τ sig (Elt F))).Forall fun op => op.writes ⊆ (post21_W.map (Proc.devRef (τ := τ) .tc)).toFinset :=
  StableHlo.forall_writes_sub_of_map rfl

abbrev pre_W : List (Ref sig .tc) := hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W
abbrev loop_W : List (Ref sig .tc) := condOps_W ++ while0Ops0_W ++ while0Ops0_1_W ++ while0Ops0_2_W ++ while0Ops0_3_W ++ while0Ops0_4_W
abbrev post_W : List (Ref sig .tc) := post11_W ++ post12_W ++ post13_W ++ post14_W ++ post15_W ++ post16_W ++ post17_W ++ post18_W ++ post19_W ++ post20_W ++ post21_W

variable (m : (ℓ : Loc nD τ sig) → Buf (Elt F) ℓ) (c : Dev nD)

/-- A buffer that no stretch before the loop writes is as launched at the loop's entry. -/
theorem pre_keep (V : Valuation τ sig (Elt F)) (r : Ref sig .tc) (h : r ∉ pre_W) :
    afterL preI V (Proc.devRef .tc r) = V (Proc.devRef .tc r) := by
  simp only [pre_W, List.mem_append, not_or] at h
  simp only [afterL_cons, afterL_nil]
  obtain ⟨⟨⟨⟨⟨⟨⟨⟨⟨⟨h0, h1⟩, h2⟩, h3⟩, h4⟩, h5⟩, h6⟩, h7⟩, h8⟩, h9⟩, h10⟩ := h
  rw [after_of_writes_sub _ _ hostOps0_10_writes h10, after_of_writes_sub _ _ hostOps0_9_writes h9,
    after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- A buffer that neither the loop's condition nor its body writes keeps its contents through any number of trips … -/
theorem trips_keep (W : Dev nD → Valuation τ sig (Elt F)) (r : Ref sig .tc) (h : r ∉ loop_W) (k : ℕ) :
    atTrip condOps bodyI W k c (Proc.devRef .tc r) = W c (Proc.devRef .tc r) := by
  simp only [loop_W, List.mem_append, not_or] at h
  obtain ⟨⟨⟨⟨⟨hc, h0⟩, h1⟩, h2⟩, h3⟩, h4⟩ := h
  induction k with
  | zero => rfl
  | succ k ih =>
    rw [atTrip_succ]
    simp only [afterL_cons, afterL_nil]
    rw [after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_of_writes_sub _ _ condOps_writes hc, ih]

/-- … and through the exit. -/
theorem exit_keep (W : Dev nD → Valuation τ sig (Elt F)) (r : Ref sig .tc) (h : r ∉ loop_W) (k : ℕ) :
    after condOps (atTrip condOps bodyI W k c) (Proc.devRef .tc r) = W c (Proc.devRef .tc r) := by
  rw [after_of_writes_sub _ _ condOps_writes (fun hc => h (by simp only [loop_W, List.mem_append]; tauto)), trips_keep c W r h]

theorem post_keep (V : Valuation τ sig (Elt F)) (r : Ref sig .tc) (h : r ∉ post_W) :
    afterL postI V (Proc.devRef .tc r) = V (Proc.devRef .tc r) := by
  simp only [post_W, List.mem_append, not_or] at h
  simp only [afterL_cons, afterL_nil]
  obtain ⟨⟨⟨⟨⟨⟨⟨⟨⟨⟨h0, h1⟩, h2⟩, h3⟩, h4⟩, h5⟩, h6⟩, h7⟩, h8⟩, h9⟩, h10⟩ := h
  rw [after_of_writes_sub _ _ post21_writes h10, after_of_writes_sub _ _ post20_writes h9, after_of_writes_sub _ _ post19_writes h8, after_of_writes_sub _ _ post18_writes h7, after_of_writes_sub _ _ post17_writes h6, after_of_writes_sub _ _ post16_writes h5, after_of_writes_sub _ _ post15_writes h4, after_of_writes_sub _ _ post14_writes h3, after_of_writes_sub _ _ post13_writes h2, after_of_writes_sub _ _ post12_writes h1, after_of_writes_sub _ _ post11_writes h0]

/-- A buffer that nothing writes ends as launched. -/
theorem keep (r : Ref sig .tc) (h : r ∉ post_W) (h' : r ∉ loop_W) (h'' : r ∉ pre_W) :
    finalContents condOps preI bodyI postI 128 m c (Proc.devRef .tc r) = m ((c.tc : Thread nD τ).loc r) := by
  rw [show finalContents condOps preI bodyI postI 128 m c = afterL postI (after condOps (atTrip condOps bodyI (entryContents preI m) 128 c)) from rfl,
    post_keep _ r h, exit_keep c _ r h', show entryContents preI m c = afterL preI (launchContents m c) from rfl, pre_keep _ r h'']

/-- The frame: every execution terminates with the twelve arguments as launched and every counter at zero. -/
theorem frame (ρ : Dev nD → PrngReg) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run (defs (F := F)) _ _).mono (fun r h => ⟨fun c => ⟨(h c main_arg0 rfl).trans (keep m c main_arg0 (by decide +kernel) (by decide +kernel) (by decide +kernel)),
    (h c main_arg1 rfl).trans (keep m c main_arg1 (by decide +kernel) (by decide +kernel) (by decide +kernel)),
    (h c main_arg2 rfl).trans (keep m c main_arg2 (by decide +kernel) (by decide +kernel) (by decide +kernel)),
    (h c main_arg3 rfl).trans (keep m c main_arg3 (by decide +kernel) (by decide +kernel) (by decide +kernel)),
    (h c main_arg4 rfl).trans (keep m c main_arg4 (by decide +kernel) (by decide +kernel) (by decide +kernel)),
    (h c main_arg5 rfl).trans (keep m c main_arg5 (by decide +kernel) (by decide +kernel) (by decide +kernel)),
    (h c main_arg6 rfl).trans (keep m c main_arg6 (by decide +kernel) (by decide +kernel) (by decide +kernel)),
    (h c main_arg7 rfl).trans (keep m c main_arg7 (by decide +kernel) (by decide +kernel) (by decide +kernel)),
    (h c main_arg8 rfl).trans (keep m c main_arg8 (by decide +kernel) (by decide +kernel) (by decide +kernel)),
    (h c main_arg9 rfl).trans (keep m c main_arg9 (by decide +kernel) (by decide +kernel) (by decide +kernel)),
    (h c main_arg10 rfl).trans (keep m c main_arg10 (by decide +kernel) (by decide +kernel) (by decide +kernel)),
    (h c main_arg11 rfl).trans (keep m c main_arg11 (by decide +kernel) (by decide +kernel) (by decide +kernel))⟩,
    sem_eq_zero_of_no_sems rfl r.2⟩) (run_fold m ρ)

end Cert.Proof.Ref2

end
-- ==== Proof.RefSums.lean ====
/-
  RUNNING SUMS as the mixer's reference prints them: a window sum whose window is as long as the axis, padded below.
  At the extended reals entry `r` of such a sum is the sum of the entries up to `r`.
-/
module

public import Idealize.ShloMosaic.PureOps.Ideal
public import Idealize.ShloMosaic.Lib.Pointwise
public import Idealize.ShloMosaic.Lib.Claim
public import Idealize.ShloMosaic.Lib.Pipeline.ValueKit.Point

@[expose] public section

noncomputable section

namespace Cert.Proof.Ref2

open Idealize.ShloMosaic Idealize.ShloMosaic.Tactic

/-- A left fold of additions is the sum of what is added. -/
theorem foldl_sum {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A window sum from zero, as a sum over the window's positions. -/
theorem window_sum {s t : Shape} (window strides lo hi : Fin s.rank → ℕ) (x : s.Idx → EReal)
    (h : s.ReduceWindows window strides lo hi t) (j : t.Idx) :
    Ideal.hostReduceWindowAdd window strides lo hi h x 0 j
      = ∑ w : (⟨s.rank, window⟩ : Shape).Idx,
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else 0 := by
  unfold Ideal.hostReduceWindowAdd Host.reduceWindow
  dsimp only
  rw [foldl_sum, zero_add, ← Fin.sum_univ_def]
  refine Eq.trans (Finset.sum_congr rfl fun n _ => ?_) (Equiv.sum_comp (⟨s.rank, window⟩ : Shape).rowMajor.symm (fun w : (⟨s.rank, window⟩ : Shape).Idx =>
    if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else 0))
  congr

/-- The positions of a window of length `N` padded by `N - 1` below that fall on the operand, at row `r`. -/
theorem prefix_sum (N : ℕ) (f : ℕ → EReal) (r : ℕ) (hr : r < N) :
    (∑ k : Fin N, if N - 1 ≤ r + k.val then f (r + k.val - (N - 1)) else 0) = ∑ s ∈ Finset.range (r + 1), f s := by
  rw [Fin.sum_univ_eq_sum_range (fun k => if N - 1 ≤ r + k then f (r + k - (N - 1)) else 0) N, Finset.range_eq_Ico,
    ← Finset.sum_Ico_consecutive _ (Nat.zero_le (N - 1 - r)) (by omega : N - 1 - r ≤ N),
    Finset.sum_eq_zero (fun k hk => if_neg (by have := (Finset.mem_Ico.mp hk).2; omega)), zero_add,
    Finset.sum_Ico_eq_sum_range, show N - (N - 1 - r) = r + 1 by omega]
  refine Finset.sum_congr rfl fun k _ => ?_
  rw [if_pos (by omega)]
  congr 1
  omega

/-- The running sum along the fourth of five axes, of 32 rows. -/
theorem cumsum5 (x : (⟨5, ![8, 8, 128, 32, 128]⟩ : Shape).Idx → EReal)
    (h : (⟨5, ![8, 8, 128, 32, 128]⟩ : Shape).ReduceWindows (![1, 1, 1, 32, 1] : Fin 5 → ℕ) ![1, 1, 1, 1, 1] ![0, 0, 0, 31, 0] ![0, 0, 0, 0, 0]
      ⟨5, ![8, 8, 128, 32, 128]⟩)
    (b hd : Fin 8) (n : Fin 128) (r : Fin 32) (d : Fin 128) (f : ℕ → EReal) (hf : ∀ s : Fin 32, x (ix5 b hd n s d) = f s) :
    Ideal.hostReduceWindowAdd (s := ⟨5, ![8, 8, 128, 32, 128]⟩) (![1, 1, 1, 32, 1] : Fin 5 → ℕ) ![1, 1, 1, 1, 1] ![0, 0, 0, 31, 0] ![0, 0, 0, 0, 0] h x 0 (ix5 b hd n r d)
      = ∑ s ∈ Finset.range (r.val + 1), f s := by
  rw [window_sum, ← prefix_sum 32 f r r.isLt]
  refine (Fintype.sum_equiv (⟨fun k => ix5 (0 : Fin 1) (0 : Fin 1) (0 : Fin 1) k (0 : Fin 1), fun w => w 3, fun _ => rfl, fun w => ?_⟩ :
    Fin 32 ≃ (⟨5, ![1, 1, 1, 32, 1]⟩ : Shape).Idx) _ _ fun k => ?_).symm
  · refine Eq.trans ?_ (eq_ix5 w).symm
    have h0 : w 0 = (0 : Fin 1) := Subsingleton.elim (α := Fin 1) _ _
    have h1 : w 1 = (0 : Fin 1) := Subsingleton.elim (α := Fin 1) _ _
    have h2 : w 2 = (0 : Fin 1) := Subsingleton.elim (α := Fin 1) _ _
    have h4 : w 4 = (0 : Fin 1) := Subsingleton.elim (α := Fin 1) _ _
    rw [h0, h1, h2, h4]
  · have hr := r.isLt
    have hk := k.isLt
    have hb := b.isLt
    have hh := hd.isLt
    have hn := n.isLt
    have hd' := d.isLt
    by_cases hc : 31 ≤ r.val + k.val
    · rw [if_pos hc, dif_pos]
      · refine (hf ⟨r.val + k.val - 31, by omega⟩).symm.trans (congrArg x ?_)
        funext a
        refine Fin.ext ?_
        fin_cases a
        · show b.val = b.val * 1 + 0 - 0; omega
        · show hd.val = hd.val * 1 + 0 - 0; omega
        · show n.val = n.val * 1 + 0 - 0; omega
        · show r.val + k.val - 31 = r.val * 1 + k.val - 31; omega
        · show d.val = d.val * 1 + 0 - 0; omega
      · intro a
        fin_cases a
        · show 0 ≤ b.val * 1 + 0 ∧ b.val * 1 + 0 - 0 < 8; omega
        · show 0 ≤ hd.val * 1 + 0 ∧ hd.val * 1 + 0 - 0 < 8; omega
        · show 0 ≤ n.val * 1 + 0 ∧ n.val * 1 + 0 - 0 < 128; omega
        · show 31 ≤ r.val * 1 + k.val ∧ r.val * 1 + k.val - 31 < 32; omega
        · show 0 ≤ d.val * 1 + 0 ∧ d.val * 1 + 0 - 0 < 128; omega
    · rw [if_neg hc, dif_neg]
      intro hin
      have h3 : 31 ≤ r.val * 1 + k.val := (hin 3).1
      omega

/-- The first entry of a running sum of two rows is the first row's. -/
theorem cumsum2 (x : (⟨2, ![2, 1024]⟩ : Shape).Idx → EReal)
    (h : (⟨2, ![2, 1024]⟩ : Shape).ReduceWindows (![2, 1] : Fin 2 → ℕ) ![1, 1] ![1, 0] ![0, 0] ⟨2, ![2, 1024]⟩) (j : Fin 1024) :
    Ideal.hostReduceWindowAdd (s := ⟨2, ![2, 1024]⟩) (![2, 1] : Fin 2 → ℕ) ![1, 1] ![1, 0] ![0, 0] h x 0 (ix2 0 j) = x (ix2 0 j) := by
  have hj := j.isLt
  rw [window_sum, Finset.sum_eq_single (ix2 (1 : Fin 2) (0 : Fin 1))]
  · rw [dif_pos]
    · refine congrArg x ?_
      funext a
      refine Fin.ext ?_
      fin_cases a
      · rfl
      · show j.val * 1 + 0 - 0 = j.val; omega
    · intro a
      fin_cases a
      · show 1 ≤ 0 * 1 + 1 ∧ 0 * 1 + 1 - 1 < 2; omega
      · show 0 ≤ j.val * 1 + 0 ∧ j.val * 1 + 0 - 0 < 1024; omega
  · intro w _ hw
    rw [dif_neg]
    intro hin
    have h0 : 1 ≤ 0 * 1 + (w 0).val := (hin 0).1
    refine hw ?_
    funext a
    refine Fin.ext ?_
    fin_cases a
    · have : (w 0).val < 2 := (w 0).isLt
      show (w 0).val = 1; omega
    · have : (w 1).val < 1 := (w 1).isLt
      show (w 1).val = 0; omega
  · intro hne
    exact absurd (Finset.mem_univ _) hne

end Cert.Proof.Ref2

end
-- ==== Proof.MixBlock.lean ====
/-
  WHAT ONE BLOCK OF 256 TOKENS COMPUTES, payload by payload: the mixer kernel's vector operations read at an index
  are the functions of `MixSpec`. `X` is the block's rows, `A` the layer's arrays.
-/
module

public import proofs.«01_k».proof.Proof.Gen.Kernel2Ideal.Skeleton
public import proofs.«01_k».proof.Proof.MixSpec
public import Idealize.ShloMosaic.Lib.ValueIdx
public import Idealize.ShloMosaic.Lib.WordCmp
public import Idealize.ShloMosaic.Lib.Pipeline.Value

@[expose] public section

set_option maxRecDepth 4096

noncomputable section

namespace Cert.Proof.Mix

open Idealize.ShloMosaic Idealize.ShloMosaic.TcCoe Idealize.ShloMosaic.Tactic
open Cert.Kernel2Ideal Cert.Kernel2Ideal.Gen

variable (A : Args) (X : ℕ → ℕ → EReal)

theorem zero_less (x : EReal) : 0 - x = -x := by rw [sub_eq_add_neg, zero_add]

/-- The normalised block. -/
theorem h0_at (x0 : Vec Ideal S256x1024 .f32) (x1 x2 : Vec Ideal S1x1024 .f32)
    (hx : ∀ (r : Fin 256) (j : Fin 1024), x0 (ix2 r j) = X r j)
    (hg : ∀ j : Fin 1024, x1 (ix2 0 j) = A.g0 j) (hb : ∀ j : Fin 1024, x2 (ix2 0 j) = A.b0 j)
    (r : Fin 256) (j : Fin 1024) : k0_pay3 x0 x1 x2 (ix2 r j) = h0 A (X r) j := by
  unfold_payloads
  pointwise [hx, hg, hb]
  rfl

theorem hb_at (x0 : Vec Ideal S256x1024 .f32) (x1 x2 : Vec Ideal S1x1024 .f32)
    (hx : ∀ (r : Fin 256) (j : Fin 1024), x0 (ix2 r j) = X r j)
    (hg : ∀ j : Fin 1024, x1 (ix2 0 j) = A.g0 j) (hb : ∀ j : Fin 1024, x2 (ix2 0 j) = A.b0 j)
    (r : Fin 256) (j : Fin 1024) : k0_pay4 x0 x1 x2 (ix2 r j) = h0 A (X r) j :=
  h0_at A X x0 x1 x2 hx hg hb r j

/-- The forget gate's lower bound. -/
theorem lb_at (x4 : Vec Ideal S2x1024 .f32) (hh : ∀ (i : Fin 2) (j : Fin 1024), x4 (ix2 i j) = A.hg i j)
    (j : Fin 1024) : k0_pay5 x4 (ix2 0 j) = lb A j := by
  unfold_payloads
  pointwise [hh]
  rfl

section Proj

variable (hv : Vec Ideal S256x1024 .bf16) (hhv : ∀ (r : Fin 256) (k : Fin 1024), hv (ix2 r k) = h0 A (X r) k)
  (w : Vec Ideal S1024x1024 .bf16) (o : ℕ)
  (hw : ∀ k j : Fin 1024, w (ix2 k j) = A.W k (o + j))

include hhv hw in
/-- A projection onto 1024 columns of the weights. -/
theorem proj_at (r : Fin 256) (j : Fin 1024) :
    (∑ k : Fin 1024, hv (ix2 r k) * w (ix2 k j)) = pr A (X r) (o + j) := by
  unfold pr
  simp only [hhv, hw]

variable (lv : Vec Ideal S1x1024 .f32) (hlv : ∀ j : Fin 1024, lv (ix2 0 j) = lb A j)

include hhv hw hlv in
theorem fg_at (ho : o = 1024) (r : Fin 256) (j : Fin 1024) : k0_pay6 hv lv w (ix2 r j) = fg A (X r) j := by
  subst ho
  unfold_payloads
  pointwise [dot_S256x1024_S1024x1024_S256x1024_1_0_0_1_n_n, hlv, zero_less]
  simp only [proj_at A X hv hhv w 1024 hw]
  rfl

include hhv hw hlv in
theorem kk_at (ho : o = 1024) (r : Fin 256) (j : Fin 1024) : k0_pay7 hv lv w (ix2 r j) = kk A (X r) j := by
  have := fg_at A X hv hhv w o hw lv hlv ho r j
  unfold k0_pay7
  pointwise [this]
  rfl

include hhv hw hlv in
theorem lf_at (ho : o = 1024) (r : Fin 256) (j : Fin 1024) : k0_pay8 hv lv w (ix2 r j) = lf A (X r) j := by
  have := fg_at A X hv hhv w o hw lv hlv ho r j
  unfold k0_pay8
  pointwise [this]
  rfl

include hhv hw in
theorem qd_at (ho : o = 0) (bv : FVec Ideal S256x1024 .f32)
    (hbv : ∀ (r : Fin 256) (j : Fin 1024), bv (ix2 r j) = bh A (fun s => X (32 * (r / 32) + s)) (r % 32) j)
    (r : Fin 256) (j : Fin 1024) :
    k0_pay17 hv bv w (ix2 r j) = qd A (fun s => X (32 * (r / 32) + s)) (r % 32) j := by
  subst ho
  unfold_payloads
  pointwise [dot_S256x1024_S1024x1024_S256x1024_1_0_0_1_n_n, hbv, zero_less]
  simp only [proj_at A X hv hhv w 0 hw, qd, Nat.div_add_mod, Nat.zero_add]
  rfl

include hhv hw in
theorem vv_at (ho : o = 2048) (r : Fin 256) (j : Fin 1024) : k0_pay18 hv w (ix2 r j) = vv A (X r) j := by
  subst ho
  unfold_payloads
  pointwise [dot_S256x1024_S1024x1024_S256x1024_1_0_0_1_n_n]
  simp only [proj_at A X hv hhv w 2048 hw]
  rfl

include hhv hw in
theorem ga_at (ho : o = 3072) (r : Fin 256) (j : Fin 1024) : k0_pay20 hv w (ix2 r j) = ga A (X r) j := by
  subst ho
  unfold_payloads
  pointwise [dot_S256x1024_S1024x1024_S256x1024_1_0_0_1_n_n, zero_less]
  simp only [proj_at A X hv hhv w 3072 hw]
  rfl

end Proj

/-! ### The running sum within a chunk, by doubling shifts -/

/-- A row's place in its chunk. -/
theorem place_at (r : Fin 256) : k0_pay9 (ix2 r 0) = BitVec.ofNat 32 (r % 32) := by
  unfold k0_pay9
  dsimp only
  pointwise
  revert r
  decide +kernel

/-- The sum of up to `n` entries ending at row `r`, not crossing the chunk's start. -/
def win (L : ℕ → EReal) (n r : ℕ) : EReal := ∑ s ∈ Finset.range (min (r % 32 + 1) n), L (r - s)

theorem win_one (L : ℕ → EReal) (r : ℕ) : win L 1 r = L r := by
  unfold win
  rw [Nat.min_eq_right (by omega)]
  simp

theorem win_double (L : ℕ → EReal) (n r : ℕ) (hn : 0 < n) :
    win L n r + (if n ≤ r % 32 then win L n (r - n) else 0) = win L (2 * n) r := by
  unfold win
  split_ifs with h
  · have e : (r - n) % 32 = r % 32 - n := by omega
    have e2 : min (r % 32 + 1) (2 * n) = n + min (r % 32 - n + 1) n := by omega
    rw [e, e2, Finset.sum_range_add, Nat.min_eq_right (show n ≤ r % 32 + 1 by omega)]
    congr 1
    refine Finset.sum_congr rfl fun s _ => ?_
    rw [Nat.sub_sub]
  · rw [add_zero, Nat.min_eq_left (by omega), Nat.min_eq_left (by omega)]

theorem win_full (L : ℕ → EReal) (r : ℕ) :
    win L 32 r = ∑ s ∈ Finset.range (r % 32 + 1), L (32 * (r / 32) + s) := by
  unfold win
  rw [Nat.min_eq_left (by omega), ← Finset.sum_range_reflect]
  refine Finset.sum_congr rfl fun s hs => ?_
  rw [Finset.mem_range] at hs
  congr 1
  omega

/-- One doubling step of the scan. -/
def scan (n : BitVec 32) (v : FVec Ideal S256x1024 .f32) : FVec Ideal S256x1024 .f32 :=
  addf v (select (broadcastTo S256x1024 (shapeCast S256x1 (cmpi .sge k0_pay9 (broadcast S256x1 n)) shapeCasts_S256x1_S256x1)
    broadcasts_S256x1_S256x1024) (dynamicRotate 0 n none v rotates_S256x1024_d0)
    (broadcast S256x1024 (Scalar.ofBits .f32 0x00000000#32)))

theorem cmp_place (n : Fin 32) (r : Fin 256) :
    IntOp.cmpi .sge (BitVec.ofNat 32 (r % 32)) (BitVec.ofNat 32 n) = if n.val ≤ r % 32 then 1#1 else 0#1 := by
  revert n r
  decide +kernel

theorem scan_at (L : ℕ → ℕ → EReal) (n : ℕ) (hn : 0 < n) (hn' : n < 32) (v : FVec Ideal S256x1024 .f32)
    (hv : ∀ (r : Fin 256) (j : Fin 1024), v (ix2 r j) = win (fun t => L t j) n r) (r : Fin 256) (j : Fin 1024) :
    scan (BitVec.ofNat 32 n) v (ix2 r j) = win (fun t => L t j) (2 * n) r := by
  have e : (BitVec.ofNat 32 n).toNat = n := by simp [BitVec.toNat_ofNat]; omega
  rw [← win_double _ n r hn, ← hv]
  unfold scan
  pointwise [place_at, cmp_place ⟨n, hn'⟩, e]
  congr 1
  split_ifs with h
  · rw [hv]
    have e3 : (r.val + 256 - n % 256) % 256 = r.val - n := by have := r.isLt; omega
    simp only [e3]
    rfl
  · rfl

/-- The five doubling steps are the generated payload. -/
theorem scan_pay (hv : FVec Ideal S256x1024 .bf16) (lv : FVec Ideal S1x1024 .f32) (w : Vec Ideal S1024x1024 .bf16) :
    k0_pay11 (k0_pay8 hv lv w) k0_pay9 (k0_pay10 hv lv w)
      = scan 16#32 (scan 8#32 (scan 4#32 (scan 2#32 (scan 1#32 (k0_pay8 hv lv w))))) := rfl

section Scan

variable (hv : Vec Ideal S256x1024 .bf16) (hhv : ∀ (r : Fin 256) (k : Fin 1024), hv (ix2 r k) = h0 A (X r) k)
  (w : Vec Ideal S1024x1024 .bf16)
  (hw : ∀ k j : Fin 1024, w (ix2 k j) = A.W k (1024 + j))
  (lv : Vec Ideal S1x1024 .f32) (hlv : ∀ j : Fin 1024, lv (ix2 0 j) = lb A j)

include hhv hw hlv in
/-- The running sum within the row's chunk. -/
theorem bh_at (r : Fin 256) (j : Fin 1024) :
    k0_pay11 (k0_pay8 hv lv w) k0_pay9 (k0_pay10 hv lv w) (ix2 r j)
      = bh A (fun s => X (32 * (r / 32) + s)) (r % 32) j := by
  rw [scan_pay]
  have h1 := scan_at (fun t j => lf A (X t) j) 1 (by omega) (by omega) (k0_pay8 hv lv w)
    (fun r j => by rw [win_one]; exact lf_at A X hv hhv w 1024 hw lv hlv rfl r j)
  have h2 := scan_at _ 2 (by omega) (by omega) _ h1
  have h4 := scan_at _ 4 (by omega) (by omega) _ h2
  have h8 := scan_at _ 8 (by omega) (by omega) _ h4
  have h16 := scan_at _ 16 (by omega) (by omega) _ h8
  exact (h16 r j).trans (win_full _ _)

end Scan

theorem copy_at (y : FVec Ideal S256x1024 .bf16) (r : Fin 256) (j : Fin 1024) : k0_pay19 y (ix2 r j) = y (ix2 r j) := by
  unfold k0_pay19
  pointwise

section Decays

variable (lv rv : FVec Ideal S256x1024 .f32) (kv : FVec Ideal S256x1024 .f32)
  (hkv : ∀ (r : Fin 256) (j : Fin 1024), kv (ix2 r j) = kk A (X r) j)
  (hbv : ∀ (r : Fin 256) (j : Fin 1024),
    k0_pay11 lv k0_pay9 rv (ix2 r j) = bh A (fun s => X (32 * (r / 32) + s)) (r % 32) j)

include hbv in
/-- The whole chunk's decay, at every row of the chunk. -/
theorem last_at (c : Fin 8) (j : Fin 1024) :
    k0_pay12 lv k0_pay9 rv (ix3 c 0 j) = bh A (fun s => X (32 * c + s)) 31 j := by
  have h := hbv ⟨32 * c.val + 31, by omega⟩ j
  have e1 : (32 * c.val + 31) / 32 = c.val := by omega
  have e2 : (32 * c.val + 31) % 32 = 31 := by omega
  simp only [e1, e2] at h
  rw [← h]
  unfold k0_pay12
  generalize k0_pay11 lv k0_pay9 rv = y
  pointwise
  simp only [Nat.mul_comm c.val 32]

include hbv in
theorem dec_at (c : Fin 8) (j : Fin 1024) :
    k0_pay13 lv k0_pay9 rv (ix2 c j) = dec A (fun s => X (32 * c + s)) j := by
  have h := last_at A X lv rv hbv c j
  unfold dec
  rw [← h]
  unfold k0_pay13
  generalize k0_pay12 lv k0_pay9 rv = y
  pointwise

include hbv in
theorem gap_at (r : Fin 256) (j : Fin 1024) :
    k0_pay14 lv k0_pay9 rv (ix2 r j) = Ideal.exp (bh A (fun s => X (32 * (r / 32) + s)) 31 j
      - bh A (fun s => X (32 * (r / 32) + s)) (r % 32) j) := by
  have h := last_at A X lv rv hbv ⟨r.val / 32, by omega⟩ j
  simp only at h
  rw [← h, ← hbv]
  unfold k0_pay14
  generalize k0_pay11 lv k0_pay9 rv = z
  generalize k0_pay12 lv k0_pay9 rv = y
  pointwise

include hkv hbv in
theorem ke_at (r : Fin 256) (j : Fin 1024) :
    k0_pay15 kv (k0_pay14 lv k0_pay9 rv) (ix2 r j) = ke A (fun s => X (32 * (r / 32) + s)) (r % 32) j := by
  have h := gap_at A X lv rv hbv r j
  unfold k0_pay15
  pointwise [h, hkv]
  unfold ke
  simp only [Nat.div_add_mod]

include hkv hbv in
theorem ki_at (r : Fin 256) (j : Fin 1024) :
    k0_pay16 kv (k0_pay11 lv k0_pay9 rv) (ix2 r j) = ki A (fun s => X (32 * (r / 32) + s)) (r % 32) j := by
  unfold k0_pay16
  pointwise [hbv, hkv, zero_less]
  unfold ki
  simp only [Nat.div_add_mod]

end Decays

/-! ### The causal mask of a block -/

theorem col_word (c : Fin 256) :
    Scalar.select
          (IntOp.andi
            (IntOp.cmpi CmpIPredicate.ne
              (IntOp.subi (BitVec.setWidth 32 (IntOp.cmpi CmpIPredicate.sgt (BitVec.ofNat 32 c) 0#32))
                (BitVec.setWidth 32 (IntOp.cmpi CmpIPredicate.slt (BitVec.ofNat 32 c) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 c) 32#32) 0#32))
          (IntOp.subi (IntOp.divsi ArithUnit.vector (BitVec.ofNat 32 c) 32#32) 1#32)
          (IntOp.divsi ArithUnit.vector (BitVec.ofNat 32 c) 32#32) = BitVec.ofNat 32 (c.val / 32) := by
  revert c
  decide +kernel

theorem eq_word (a b : Fin 8) : IntOp.cmpi .eq (BitVec.ofNat 32 a.val) (BitVec.ofNat 32 b.val)
    = if a.val = b.val then 1#1 else 0#1 := by
  revert a b
  decide +kernel

theorem le_word (a b : Fin 256) : IntOp.cmpi .sle (BitVec.ofNat 32 a.val) (BitVec.ofNat 32 b.val)
    = if a.val ≤ b.val then 1#1 else 0#1 := by
  rw [WordCmp.cmpi_sle_ofNat (by have := a.isLt; omega) (by have := b.isLt; omega)]
  by_cases h : a.val ≤ b.val <;> simp [h] <;> rfl

theorem mask_row (r c : Fin 256) : k0_pay21 (ix2 r c) = BitVec.ofNat 32 (r / 32) := by
  unfold k0_pay21
  dsimp only
  pointwise
  revert r
  decide +kernel

/-- The mask lets a row see the earlier rows of its own chunk, and itself. -/
theorem mask_at (r c : Fin 256) :
    k0_pay24 (iota .tc S256x256 32 [0] iota_S256x256_d0_w32) (iota .tc S256x256 32 [1] iota_S256x256_d1_w32)
      k0_pay21 (32#32) k0_pay22 k0_pay23 0#32 (ix2 r c)
      = if r.val / 32 = c.val / 32 ∧ c.val ≤ r.val then 1#1 else 0#1 := by
  unfold k0_pay24 k0_pay22 k0_pay23
  dsimp only
  pointwise [mask_row]
  rw [col_word, eq_word ⟨r.val / 32, by omega⟩ ⟨c.val / 32, by omega⟩, le_word]
  by_cases h1 : r.val / 32 = c.val / 32 <;> by_cases h2 : c.val ≤ r.val <;> simp [h1, h2] <;> rfl

end Cert.Proof.Mix

end
-- ==== Proof.MixHead.lean ====
/-
  THE RECURRENCE, THE HEADS, THE POOLING AND THE OUTPUT of one block of 256 tokens, read at an index. The kernel repeats
  these vector operations for each chunk, head and pooling group; each pattern is named once here.
-/
module

public import proofs.«01_k».proof.Proof.MixBlock

@[expose] public section

set_option maxRecDepth 4096

noncomputable section

namespace Cert.Proof.Mix

open Idealize.ShloMosaic Idealize.ShloMosaic.TcCoe Idealize.ShloMosaic.Tactic
open Cert.Kernel2Ideal Cert.Kernel2Ideal.Gen

variable (A : Args) (X : ℕ → ℕ → EReal)

/-! ### The recurrence -/

/-- One head's state after a chunk. -/
def stepT (st : Vec Ideal S1x128x128 .f32) (dv : Vec Ideal S1x128 .f32) (vb kb : Vec Ideal S32x128 .bf16) :
    Vec Ideal S1x128x128 .f32 := k0_pay28 (k0_pay27 st dv vb kb)

/-- What a chunk's queries read of the state. -/
def oiT (st : Vec Ideal S1x128x128 .f32) (qb : Vec Ideal S32x128 .bf16) : Vec Ideal S32x128 .f32 := k0_pay26 st qb

theorem stepT_at (R : ℕ → ℕ → EReal) (S : ℕ → ℕ → ℕ → EReal) (h : ℕ) (st : Vec Ideal S1x128x128 .f32)
    (dv : Vec Ideal S1x128 .f32) (vb kb : Vec Ideal S32x128 .bf16)
    (hst : ∀ e d : Fin 128, st (ix3 0 e d) = S h e d)
    (hdv : ∀ d : Fin 128, dv (ix2 0 d) = dec A R (128 * h + d))
    (hvb : ∀ (r : Fin 32) (e : Fin 128), vb (ix2 r e) = vv A (R r) (128 * h + e))
    (hkb : ∀ (r : Fin 32) (d : Fin 128), kb (ix2 r d) = ke A R r (128 * h + d)) (e d : Fin 128) :
    stepT st dv vb kb (ix3 0 e d) = step A R S h e d := by
  unfold stepT
  unfold_payloads
  pointwise [dot_S32x128_S32x128_S128x128_0_0_1_1_n_n, hst, hdv, hvb, hkb]
  rfl

theorem oiT_at (R : ℕ → ℕ → EReal) (S : ℕ → ℕ → ℕ → EReal) (h : ℕ) (st : Vec Ideal S1x128x128 .f32)
    (qb : Vec Ideal S32x128 .bf16)
    (hst : ∀ e d : Fin 128, st (ix3 0 e d) = S h e d)
    (hqb : ∀ (r : Fin 32) (d : Fin 128), qb (ix2 r d) = qd A R r (128 * h + d)) (r : Fin 32) (e : Fin 128) :
    oiT st qb (ix2 r e) = oi A R S r h e := by
  unfold oiT
  unfold_payloads
  pointwise [dot_S32x128_S128x128_S32x128_1_1_0_0_n_n, hst, hqb]
  rfl

/-! ### The heads -/

/-- One head: the masked scores of the block against the values, plus what the state gave, normalised, scaled, gated. -/
def headT (gv : FVec Ideal S256x128 .f32) (mk : IVec S256x256 1) (q k v : Vec Ideal S256x128 .bf16)
    (o : Vec Ideal S256x128 .f32) (ng : Vec Ideal S1x128 .f32) : Vec Ideal S256x128 .bf16 :=
  let v1385 := matmul (φ₁ := .bf16) (φ₂ := .bf16) dot_S256x128_S256x128_S256x256_1_1_0_0_n_n none q k (constant S256x256 .f32 0x00000000#32)
  let v1387 := select mk v1385 (broadcast S256x256 (Scalar.ofBits .f32 0x00000000#32))
  let v1388 := truncf .bf16 v1387 bitsLt_bf16_f32
  let v1390 := matmul (φ₂ := .bf16) dot_S256x256_S256x128_S256x128_1_0_0_1_n_n none v1388 v (constant S256x128 .f32 0x00000000#32)
  let v1392 := addf v1390 o
  let v1393 := mulf v1392 v1392
  let v1394 := multiReduction .add [1] S256 v1393 0x00000000#32 reduces_S256x128_S256 (.inl rfl) rfl
  let v1395 := shapeCast S256x1 v1394 shapeCasts_S256_S256x1
  let v1397 := divf v1395 (broadcast S256x1 (Scalar.ofBits .f32 0x43000000#32))
  let v1399 := addf v1397 (broadcast S256x1 (Scalar.ofBits .f32 0x358637BD#32))
  let v1401 := broadcastTo S256x128 (rsqrt v1399) broadcasts_S256x1_S256x128
  let v1402 := mulf v1392 v1401
  let v1404 := shapeCast S1x128 ng shapeCasts_S1x128_S1x128
  let v1406 := mulf v1402 (broadcastTo S256x128 v1404 broadcasts_S1x128_S256x128)
  let v1408 := mulf v1406 gv
  shapeCast S256x128 (truncf .bf16 v1408 bitsLt_bf16_f32) shapeCasts_S256x128_S256x128

/-- A sum over the block in which a row sees only its own chunk is a sum over the chunk. -/
theorem chunk_sum (r : Fin 256) (F : ℕ → EReal) (V : ℕ → EReal) :
    (∑ s : Fin 256, (if r.val / 32 = s.val / 32 ∧ s.val ≤ r.val then F s else 0) * V s)
      = ∑ s : Fin 32, (if s.val ≤ r.val % 32 then F (32 * (r / 32) + s) else 0) * V (32 * (r / 32) + s) := by
  have e := (finProdFinEquiv (m := 8) (n := 32)).sum_comp
    (fun s : Fin (8 * 32) => (if r.val / 32 = s.val / 32 ∧ s.val ≤ r.val then F s else 0) * V s)
  have hr := r.isLt
  refine Eq.trans e.symm ?_
  rw [Fintype.sum_prod_type, Finset.sum_eq_single (⟨r.val / 32, by omega⟩ : Fin 8)]
  · refine Finset.sum_congr rfl fun s _ => ?_
    have hs := s.isLt
    have e1 : ((finProdFinEquiv ((⟨r.val / 32, by omega⟩ : Fin 8), s) : Fin (8 * 32)) : ℕ) = 32 * (r / 32) + s := by
      simp [finProdFinEquiv]; omega
    rw [e1]
    have e2 : (r.val / 32 = (32 * (r.val / 32) + s.val) / 32 ∧ 32 * (r.val / 32) + s.val ≤ r.val)
        ↔ s.val ≤ r.val % 32 := by omega
    simp only [e2]
  · intro c _ hc
    refine Finset.sum_eq_zero fun s _ => ?_
    have hs := s.isLt
    have e1 : ((finProdFinEquiv (c, s) : Fin (8 * 32)) : ℕ) = 32 * c + s := by
      simp [finProdFinEquiv]; omega
    rw [e1, if_neg, zero_mul]
    rintro ⟨h, _⟩
    exact hc (Fin.ext (by simp only; omega))
  · intro h
    exact absurd (Finset.mem_univ _) h

theorem headT_at (h : ℕ) (S : ℕ → ℕ → ℕ → ℕ → EReal) (gv : FVec Ideal S256x128 .f32) (mk : IVec S256x256 1)
    (q k v : Vec Ideal S256x128 .bf16) (o : Vec Ideal S256x128 .f32) (ng : Vec Ideal S1x128 .f32)
    (hgv : ∀ (r : Fin 256) (e : Fin 128), gv (ix2 r e) = ga A (X r) (128 * h + e))
    (hmk : ∀ r c : Fin 256, mk (ix2 r c) = if r.val / 32 = c.val / 32 ∧ c.val ≤ r.val then 1#1 else 0#1)
    (hq : ∀ (r : Fin 256) (d : Fin 128), q (ix2 r d) = qd A (fun s => X (32 * (r / 32) + s)) (r % 32) (128 * h + d))
    (hk : ∀ (r : Fin 256) (d : Fin 128), k (ix2 r d) = ki A (fun s => X (32 * (r / 32) + s)) (r % 32) (128 * h + d))
    (hv : ∀ (r : Fin 256) (e : Fin 128), v (ix2 r e) = vv A (X r) (128 * h + e))
    (ho : ∀ (r : Fin 256) (e : Fin 128), o (ix2 r e) = oi A (fun s => X (32 * (r / 32) + s)) (S (r / 32)) (r % 32) h e)
    (hng : ∀ e : Fin 128, ng (ix2 0 e) = A.ng e) (r : Fin 256) (e : Fin 128) :
    headT gv mk q k v o ng (ix2 r e)
      = hn A (oo A (fun s => X (32 * (r / 32) + s)) (S (r / 32)) (r % 32) h) (X r) h e := by
  have key : ∀ e : Fin 128, (∑ s : Fin 256, Scalar.select (mk (ix2 r s))
      ((∑ d : Fin 128, q (ix2 r d) * k (ix2 s d)) * v (ix2 s e)) 0)
      = oc A (fun s => X (32 * (r / 32) + s)) (r % 32) h e := by
    intro e
    have c := chunk_sum r (fun s => ∑ d : Fin 128, qd A (fun s => X (32 * (r / 32) + s)) (r % 32) (128 * h + d)
      * ki A (fun t => X (32 * (s / 32) + t)) (s % 32) (128 * h + d)) (fun s => vv A (X s) (128 * h + e))
    refine Eq.trans (Finset.sum_congr rfl fun s _ => ?_) (c.trans ?_)
    · simp only [hmk, hq, hk, hv]
      by_cases hc : r.val / 32 = s.val / 32 ∧ s.val ≤ r.val
      · rw [if_pos hc, if_pos hc]; rfl
      · rw [if_neg hc, if_neg hc, zero_mul]; rfl
    · unfold oc
      refine Finset.sum_congr rfl fun s _ => ?_
      have hs := s.isLt
      have e1 : (32 * (r.val / 32) + s.val) / 32 = r / 32 := by omega
      have e2 : (32 * (r.val / 32) + s.val) % 32 = s := by omega
      simp only [e1, e2]
  unfold headT
  dsimp only
  pointwise [dot_S256x128_S256x128_S256x256_1_1_0_0_n_n, dot_S256x256_S256x128_S256x128_1_0_0_1_n_n, key, ho, hng, hgv]
  rfl

/-! ### The pooling -/

/-- One doubling of the window: add the block shifted down by `n`. -/
def roll (n : BitVec 32) (v : FVec Ideal S272x128 .f32) : FVec Ideal S272x128 .f32 :=
  addf v (dynamicRotate 0 n none v rotates_S272x128_d0)

theorem roll_at (E : ℕ → EReal) (c : Fin 128) (n : ℕ) (hn : n < 272) (v : FVec Ideal S272x128 .f32)
    (hv : ∀ a : Fin 272, n ≤ a.val + 1 → v (ix2 a c) = ∑ i ∈ Finset.range n, E (a - i)) (a : Fin 272)
    (ha : 2 * n ≤ a.val + 1) :
    roll (BitVec.ofNat 32 n) v (ix2 a c) = ∑ i ∈ Finset.range (2 * n), E (a - i) := by
  have e : (BitVec.ofNat 32 n).toNat = n := by simp [BitVec.toNat_ofNat]; omega
  unfold roll
  pointwise [e]
  have e3 : (a.val + 272 - n % 272) % 272 = a.val - n := by have := a.isLt; omega
  simp only [e3]
  rw [two_mul, Finset.sum_range_add, hv a (by omega), hv _ (by simp only; omega)]
  congr 1
  refine Finset.sum_congr rfl fun i _ => ?_
  congr 1
  simp only
  omega

/-- One pooling group, from its windows' sums. -/
def poolT (w : BitVec 32) (sm tok : FVec Ideal S256x128 .f32) (pos : IVec S256x1 32) (wv : Vec Ideal S1x128x256 .bf16) :
    Vec Ideal S256x256 .f32 :=
  let v1642 := addi pos (broadcast S256x1 1#32)
  let v1644 := minsi v1642 (broadcast S256x1 w)
  let v1646 := broadcastTo S256x128 (sitofp .f32 v1644) broadcasts_S256x1_S256x128
  let v1649 := subf (divf sm v1646) tok
  let v1652 := shapeCast S128x256 wv shapeCasts_S1x128x256_S128x256
  shapeCast S256x256 (matmul (φ₂ := .bf16) dot_S256x128_S128x256_S256x256_1_0_0_1_n_n none (truncf .bf16 v1649 bitsLt_bf16_f32) v1652
    (constant S256x256 .f32 0x00000000#32)) shapeCasts_S256x256_S256x256

theorem poolT_at (g : ℕ) (t0 : ℕ) (E : ℕ → ℕ → EReal) (V : ℕ → ℕ → ℕ → EReal) (sm tok : FVec Ideal S256x128 .f32)
    (pos : IVec S256x1 32) (wv : Vec Ideal S1x128x256 .bf16)
    (hsm : ∀ (r : Fin 256) (c : Fin 128), sm (ix2 r c) = ∑ i ∈ Finset.range (2 ^ (g + 1)), E (r + 16 - i) c)
    (hV : ∀ (r : Fin 256) (i : ℕ) (c : Fin 128), i < 2 ^ (g + 1) → E (r + 16 - i) c = V r i (128 * g + c))
    (htok : ∀ (r : Fin 256) (c : Fin 128), tok (ix2 r c) = V r 0 (128 * g + c))
    (hpos : ∀ r : Fin 256, pos (ix2 r 0) = BitVec.ofNat 32 (t0 + r))
    (hw : ∀ (c : Fin 128) (j : Fin 256), wv (ix3 0 c j) = A.pw g c j) (r j : Fin 256) :
    poolT (BitVec.ofNat 32 (2 ^ (g + 1))) sm tok pos wv (ix2 r j)
      = ∑ c : Fin 128, pl (V r) (t0 + r) g c * A.pw g c j := by
  have hsm' : ∀ (c : Fin 128), sm (ix2 r c) = ∑ i ∈ Finset.range (2 ^ (g + 1)), V r i (128 * g + c) := by
    intro c
    rw [hsm]
    exact Finset.sum_congr rfl fun i hi => hV r i c (Finset.mem_range.mp hi)
  unfold poolT
  pointwise [dot_S256x128_S128x256_S256x256_1_0_0_1_n_n, hsm', htok, hpos, hw]
  rfl

/-- The tokens' positions. -/
theorem pos_at (s : ℕ) (hs : s < 16) (r : Fin 256) : k0_pay260 (BitVec.ofNat 32 s) (ix2 r 0) = BitVec.ofNat 32 (256 * s + r) := by
  unfold k0_pay260
  pointwise
  have hr := r.isLt
  apply BitVec.eq_of_toNat_eq
  simp [Scalar.muli, IntOp.muli, IntOp.addi, BitVec.toNat_add, BitVec.toNat_mul, BitVec.toNat_ofNat]
  omega

/-! ### The output -/

theorem ya_at (o : Vec Ideal S256x1024 .bf16) (w : Vec Ideal S1024x1024 .bf16) (H : ℕ → ℕ → EReal)
    (ho : ∀ (r : Fin 256) (k : Fin 1024), o (ix2 r k) = H r k) (hw : ∀ k j : Fin 1024, w (ix2 k j) = A.whg k j)
    (r : Fin 256) (j : Fin 1024) : k0_pay257 o w (ix2 r j) = ∑ k : Fin 1024, H r k * A.whg k j := by
  unfold_payloads
  pointwise [dot_S256x1024_S1024x1024_S256x1024_1_0_0_1_n_n, ho, hw]

theorem yb_at (o : Vec Ideal S256x1024 .f32) (w : Vec Ideal S1x1024 .f32) (H : ℕ → ℕ → EReal)
    (ho : ∀ (r : Fin 256) (k : Fin 1024), o (ix2 r k) = H r k) (hw : ∀ j : Fin 1024, w (ix2 0 j) = A.ps j)
    (r : Fin 256) (j : Fin 1024) : k0_pay269 o w (ix2 r j) = H r j * A.ps j := by
  unfold_payloads
  pointwise [ho, hw]

section Tail

variable (hv : Vec Ideal S256x1024 .bf16) (hhv : ∀ (r : Fin 256) (k : Fin 1024), hv (ix2 r k) = h0 A (X r) k)

include hhv in
theorem pool_val_at (w : Vec Ideal S1024x512 .bf16) (hw : ∀ (k : Fin 1024) (j : Fin 512), w (ix2 k j) = A.W k (4096 + j))
    (r : Fin 256) (j : Fin 512) : k0_pay258 hv w (ix2 r j) = pr A (X r) (4096 + j) := by
  unfold_payloads
  pointwise [dot_S256x1024_S1024x512_S256x512_1_0_0_1_n_n, hhv, hw]
  rfl

include hhv in
theorem pool_ext_at (w : Vec Ideal S1024x512 .bf16) (hw : ∀ (k : Fin 1024) (j : Fin 512), w (ix2 k j) = A.W k (4096 + j))
    (r : Fin 256) (j : Fin 512) : k0_pay259 hv w (ix2 r j) = pr A (X r) (4096 + j) := by
  rw [← pool_val_at A X hv hhv w hw]
  unfold k0_pay259
  generalize k0_pay258 hv w = y
  pointwise

include hhv in
theorem gate_b_at (w : Vec Ideal S1024x1024 .bf16) (hw : ∀ k j : Fin 1024, w (ix2 k j) = A.W k (5632 + j))
    (r : Fin 256) (j : Fin 1024) : k0_pay270 hv w (ix2 r j) = pr A (X r) (5632 + j) := by
  unfold_payloads
  pointwise [dot_S256x1024_S1024x1024_S256x1024_1_0_0_1_n_n, hhv, hw]
  rfl

include hhv in
theorem gate_a_at (w : Vec Ideal S1024x1024 .bf16) (hw : ∀ k j : Fin 1024, w (ix2 k j) = A.W k (4608 + j))
    (r : Fin 256) (j : Fin 1024) : k0_pay271 hv w (ix2 r j) = 1 + Ideal.exp (-(pr A (X r) (4608 + j))) := by
  unfold_payloads
  pointwise [dot_S256x1024_S1024x1024_S256x1024_1_0_0_1_n_n, hhv, hw, zero_less]
  rfl

end Tail

theorem fin_at (Ya Yb : ℕ → ℕ → EReal) (hf ya yb gb ea : FVec Ideal S256x1024 .f32) (wo : Vec Ideal S1024x1024 .bf16)
    (g1 b1 : Vec Ideal S1x1024 .f32)
    (hhf : ∀ (r : Fin 256) (j : Fin 1024), hf (ix2 r j) = h0 A (X r) j)
    (hya : ∀ (r : Fin 256) (j : Fin 1024), ya (ix2 r j) = Ya r j)
    (hyb : ∀ (r : Fin 256) (j : Fin 1024), yb (ix2 r j) = Yb r j)
    (hgb : ∀ (r : Fin 256) (j : Fin 1024), gb (ix2 r j) = pr A (X r) (5632 + j))
    (hea : ∀ (r : Fin 256) (j : Fin 1024), ea (ix2 r j) = 1 + Ideal.exp (-(pr A (X r) (4608 + j))))
    (hwo : ∀ k j : Fin 1024, wo (ix2 k j) = A.wo k j)
    (hg1 : ∀ j : Fin 1024, g1 (ix2 0 j) = A.g1 j) (hb1 : ∀ j : Fin 1024, b1 (ix2 0 j) = A.b1 j)
    (r : Fin 256) (j : Fin 1024) :
    k0_pay272 hf ya yb gb ea (Scalar.ofBits .f32 0x3F800000#32) wo g1 b1 (ix2 r j) = fin A (X r) (Ya r) (Yb r) j := by
  unfold_payloads
  pointwise [dot_S256x1024_S1024x1024_S256x1024_1_0_0_1_n_n, hhf, hya, hyb, hgb, hea, hwo, hg1, hb1, zero_less]
  rfl

end Cert.Proof.Mix

end
-- ==== Proof.MixStage.lean ====
/-
  WHAT A BUFFER STORED TILE BY TILE HOLDS, and what a load of a rectangle reads of it: the bookkeeping of the mixer
  kernel's scratch. `Tiled` follows a two-axis buffer filled one tile at a time; `Stage` follows the recurrent state,
  whose heads are overwritten in turn, chunk after chunk.
-/
module

public import proofs.«01_k».proof.Proof.MixHead

@[expose] public section

set_option maxRecDepth 4096

noncomputable section

namespace Cert.Proof.Mix

open Idealize.ShloMosaic Idealize.ShloMosaic.TcCoe Idealize.ShloMosaic.Tactic
open Cert.Kernel2Ideal Cert.Kernel2Ideal.Gen

/-! ### Rectangles of a two-axis array -/

section Two

variable {R C k m a b : ℕ} {e : EltTy} {inb : ∀ x, (![a, b] : Fin 2 → ℕ) x + (![k, m] : Fin 2 → ℕ) x ≤ (⟨2, ![R, C]⟩ : Shape).size x}

theorem idx_two (r : Fin k) (j : Fin m) (h1 : a + r < R) (h2 : b + j < C) :
    (Rect.unit (s := ⟨2, ![R, C]⟩) ![a, b] ![k, m] inb).toLoadRect.idx (ix2 r j) = ix2 ⟨a + r, h1⟩ ⟨b + j, h2⟩ := by
  funext x
  apply Fin.ext
  match x with
  | ⟨0, _⟩ => simp [LoadRect.idx, Rect.unit, ix2]
  | ⟨1, _⟩ => simp [LoadRect.idx, Rect.unit, ix2]

theorem in_row (inb : ∀ x, (![a, b] : Fin 2 → ℕ) x + (![k, m] : Fin 2 → ℕ) x ≤ (⟨2, ![R, C]⟩ : Shape).size x)
    (r : Fin k) : a + r < R := by have h := inb 0; have := r.isLt; simp at h; omega

theorem in_col (inb : ∀ x, (![a, b] : Fin 2 → ℕ) x + (![k, m] : Fin 2 → ℕ) x ≤ (⟨2, ![R, C]⟩ : Shape).size x)
    (j : Fin m) : b + j < C := by have h := inb 1; have := j.isLt; simp at h; omega

/-- A load of a rectangle of what stores left. -/
theorem load_two {sig : RefSig} {κ : Kind} {sp : Space} (v : View sig κ sp ⟨2, ![R, C]⟩ e)
    (L : List (View.Piece (Elt Ideal) ⟨2, ![R, C]⟩ e)) (r : Fin k) (j : Fin m) :
    v.readCov L (Rect.unit (s := ⟨2, ![R, C]⟩) ![a, b] ![k, m] inb).toLoadRect (ix2 r j)
      = View.canon L (ix2 ⟨a + r, in_row inb r⟩ ⟨b + j, in_col inb j⟩) := by
  rw [View.readCov_eq_canon']
  exact congrArg _ (idx_two r j _ _)

theorem hit_two (L : List (View.Piece (Elt Ideal) ⟨2, ![R, C]⟩ e)) (P : (⟨2, ![k, m]⟩ : Shape).Idx → Elt Ideal e)
    (r : Fin k) (j : Fin m) :
    View.canon ((⟨Rect.unit (s := ⟨2, ![R, C]⟩) ![a, b] ![k, m] inb, P⟩ : View.Piece (Elt Ideal) ⟨2, ![R, C]⟩ e) :: L)
      (ix2 ⟨a + r, in_row inb r⟩ ⟨b + j, in_col inb j⟩) = P (ix2 r j) := by
  rw [← idx_two (inb := inb) r j]
  exact View.canon_cons_emb (Rect.unit (s := ⟨2, ![R, C]⟩) ![a, b] ![k, m] inb) P L (ix2 r j)

theorem miss_two (L : List (View.Piece (Elt Ideal) ⟨2, ![R, C]⟩ e)) (P : (⟨2, ![k, m]⟩ : Shape).Idx → Elt Ideal e)
    (r : Fin R) (j : Fin C) (h : ¬(a ≤ r.val ∧ r.val < a + k ∧ b ≤ j.val ∧ j.val < b + m)) :
    View.canon ((⟨Rect.unit (s := ⟨2, ![R, C]⟩) ![a, b] ![k, m] inb, P⟩ : View.Piece (Elt Ideal) ⟨2, ![R, C]⟩ e) :: L)
      (ix2 r j) = View.canon L (ix2 r j) := by
  apply View.canon_cons_of_not_mem
  intro hm
  have hm' := (Rect.mem_set_unit (s := ⟨2, ![R, C]⟩) (off := ![a, b]) (size := ![k, m]) (inb := inb)).mp hm
  have h0 := hm' 0
  have h1 := hm' 1
  simp [ix2] at h0 h1
  exact h ⟨h0.1, h0.2, h1.1, h1.2⟩

/-- After `n` tiles, in the order `p`, the buffer holds `O` on them. -/
def Tiled (p : ℕ → ℕ → ℕ) (O : ℕ → ℕ → Elt Ideal e) (n : ℕ) (L : List (View.Piece (Elt Ideal) ⟨2, ![R, C]⟩ e)) : Prop :=
  ∀ (r : Fin R) (j : Fin C), p r j < n → View.canon L (ix2 r j) = O r j

theorem Tiled.nil (p : ℕ → ℕ → ℕ) (O : ℕ → ℕ → Elt Ideal e) : Tiled (R := R) (C := C) p O 0 [] :=
  fun _ _ h => absurd h (Nat.not_lt_zero _)

theorem Tiled.cons {p : ℕ → ℕ → ℕ} {O : ℕ → ℕ → Elt Ideal e} {n : ℕ} {L : List (View.Piece (Elt Ideal) ⟨2, ![R, C]⟩ e)}
    (hL : Tiled p O n L) (hp : ∀ r j, r < R → j < C → (p r j = n ↔ a ≤ r ∧ r < a + k ∧ b ≤ j ∧ j < b + m))
    {P : (⟨2, ![k, m]⟩ : Shape).Idx → Elt Ideal e} (hP : ∀ (r : Fin k) (j : Fin m), P (ix2 r j) = O (a + r) (b + j)) :
    Tiled p O (n + 1)
      ((⟨Rect.unit (s := ⟨2, ![R, C]⟩) ![a, b] ![k, m] inb, P⟩ : View.Piece (Elt Ideal) ⟨2, ![R, C]⟩ e) :: L) := by
  intro r j h
  by_cases hm : p r j = n
  · have h' := (hp r j r.isLt j.isLt).mp hm
    obtain ⟨r', rfl⟩ : ∃ r' : Fin k, r = ⟨a + r', in_row inb r'⟩ := ⟨⟨r.val - a, by omega⟩, Fin.ext (by simp only; omega)⟩
    obtain ⟨j', rfl⟩ : ∃ j' : Fin m, j = ⟨b + j', in_col inb j'⟩ := ⟨⟨j.val - b, by omega⟩, Fin.ext (by simp only; omega)⟩
    rw [hit_two, hP]
  · rw [miss_two _ _ _ _ (fun h' => hm ((hp r j r.isLt j.isLt).mpr h'))]
    exact hL r j (by omega)

end Two

/-- A load of a rectangle of an argument's block. -/
theorem arg_two {R C k m a b : ℕ} {e : EltTy} {inb : ∀ x, (![a, b] : Fin 2 → ℕ) x + (![k, m] : Fin 2 → ℕ) x ≤ (⟨2, ![R, C]⟩ : Shape).size x}
    {κ : Kind} {sp : Space} {sig : RefSig} (g : Memref sig κ sp ⟨2, ![R, C]⟩ e) (hg : g.IsWhole)
    (x : (⟨2, ![R, C]⟩ : Shape).Idx → Elt Ideal e) (r : Fin k) (j : Fin m) :
    View.readAt (Elt Ideal) g.view (Rect.unit (s := ⟨2, ![R, C]⟩) ![a, b] ![k, m] inb).toLoadRect (hg.unread x) (ix2 r j)
      = x (ix2 ⟨a + r, in_row inb r⟩ ⟨b + j, in_col inb j⟩) := by
  rw [View.readAt_eq_ld, hg.read_unread]
  exact congrArg x (idx_two r j _ _)

/-- A load of a whole argument's block. -/
theorem arg_whole {R C : ℕ} {e : EltTy} {inb : ∀ x, (![0, 0] : Fin 2 → ℕ) x + (![R, C] : Fin 2 → ℕ) x ≤ (⟨2, ![R, C]⟩ : Shape).size x}
    {κ : Kind} {sp : Space} {sig : RefSig} (g : Memref sig κ sp ⟨2, ![R, C]⟩ e) (hg : g.IsWhole)
    (x : (⟨2, ![R, C]⟩ : Shape).Idx → Elt Ideal e) (r : Fin R) (j : Fin C) :
    View.readAt (Elt Ideal) g.view (Rect.unit (s := ⟨2, ![R, C]⟩) ![0, 0] ![R, C] inb).toLoadRect (hg.unread x) (ix2 r j)
      = x (ix2 r j) := by
  refine (arg_two g hg x r j).trans ?_
  simp only [Nat.zero_add, Fin.eta]

/-- A load of some columns of an argument's block. -/
theorem arg_cols {R C m b : ℕ} {e : EltTy} {inb : ∀ x, (![0, b] : Fin 2 → ℕ) x + (![R, m] : Fin 2 → ℕ) x ≤ (⟨2, ![R, C]⟩ : Shape).size x}
    {κ : Kind} {sp : Space} {sig : RefSig} (g : Memref sig κ sp ⟨2, ![R, C]⟩ e) (hg : g.IsWhole)
    (x : (⟨2, ![R, C]⟩ : Shape).Idx → Elt Ideal e) (r : Fin R) (j : Fin m) :
    View.readAt (Elt Ideal) g.view (Rect.unit (s := ⟨2, ![R, C]⟩) ![0, b] ![R, m] inb).toLoadRect (hg.unread x) (ix2 r j)
      = x (ix2 r ⟨b + j, in_col inb j⟩) := by
  refine (arg_two g hg x r j).trans ?_
  simp only [Nat.zero_add, Fin.eta]

/-- A load of some columns of what stores left. -/
theorem load_cols {R C m b : ℕ} {e : EltTy} {inb : ∀ x, (![0, b] : Fin 2 → ℕ) x + (![R, m] : Fin 2 → ℕ) x ≤ (⟨2, ![R, C]⟩ : Shape).size x}
    {sig : RefSig} {κ : Kind} {sp : Space} (v : View sig κ sp ⟨2, ![R, C]⟩ e)
    (L : List (View.Piece (Elt Ideal) ⟨2, ![R, C]⟩ e)) (r : Fin R) (j : Fin m) :
    v.readCov L (Rect.unit (s := ⟨2, ![R, C]⟩) ![0, b] ![R, m] inb).toLoadRect (ix2 r j)
      = View.canon L (ix2 r ⟨b + j, in_col inb j⟩) := by
  refine (load_two v L r j).trans ?_
  simp only [Nat.zero_add, Fin.eta]

/-- One store of a whole buffer leaves its payload. -/
theorem store_whole {R C : ℕ} {e : EltTy} {inb : ∀ x, (![0, 0] : Fin 2 → ℕ) x + (![R, C] : Fin 2 → ℕ) x ≤ (⟨2, ![R, C]⟩ : Shape).size x}
    (P : (⟨2, ![R, C]⟩ : Shape).Idx → Elt Ideal e) (r : Fin R) (j : Fin C) :
    View.canon [(⟨Rect.unit (s := ⟨2, ![R, C]⟩) ![0, 0] ![R, C] inb, P⟩ : View.Piece (Elt Ideal) ⟨2, ![R, C]⟩ e)] (ix2 r j)
      = P (ix2 r j) := by
  have h := hit_two (inb := inb) [] P r j
  simpa only [Nat.zero_add, Fin.eta] using h

/-! ### Rectangles of a three-axis array -/

theorem idx_three {Q R C k m a b : ℕ} {inb : ∀ x, (![a, b, 0] : Fin 3 → ℕ) x + (![1, k, m] : Fin 3 → ℕ) x ≤ (⟨3, ![Q, R, C]⟩ : Shape).size x}
    (r : Fin k) (j : Fin m) (h0 : a < Q) (h1 : b + r < R) (h2 : j < C) :
    (Rect.unit (s := ⟨3, ![Q, R, C]⟩) ![a, b, 0] ![1, k, m] inb).toLoadRect.idx (ix3 0 r j) = ix3 ⟨a, h0⟩ ⟨b + r, h1⟩ ⟨j, h2⟩ := by
  funext x
  apply Fin.ext
  match x with
  | ⟨0, _⟩ => simp [LoadRect.idx, Rect.unit, ix3]
  | ⟨1, _⟩ => simp [LoadRect.idx, Rect.unit, ix3]
  | ⟨2, _⟩ => simp [LoadRect.idx, Rect.unit, ix3]

/-- A load of one slab of an argument's block. -/
theorem arg_three {Q R C a : ℕ} {e : EltTy} {inb : ∀ x, (![a, 0, 0] : Fin 3 → ℕ) x + (![1, R, C] : Fin 3 → ℕ) x ≤ (⟨3, ![Q, R, C]⟩ : Shape).size x}
    {κ : Kind} {sp : Space} {sig : RefSig} (g : Memref sig κ sp ⟨3, ![Q, R, C]⟩ e) (hg : g.IsWhole)
    (x : (⟨3, ![Q, R, C]⟩ : Shape).Idx → Elt Ideal e) (r : Fin R) (j : Fin C) (h0 : a < Q) :
    View.readAt (Elt Ideal) g.view (Rect.unit (s := ⟨3, ![Q, R, C]⟩) ![a, 0, 0] ![1, R, C] inb).toLoadRect (hg.unread x) (ix3 0 r j)
      = x (ix3 ⟨a, h0⟩ r j) := by
  rw [View.readAt_eq_ld, hg.read_unread]
  refine (congrArg x (idx_three r j h0 (by simp) j.isLt)).trans ?_
  simp only [Nat.zero_add, Fin.eta]

/-! ### The recurrent state -/

/-- After `n` head-steps (8 a chunk) the state buffer holds `S` of the chunk each head has reached. Where the buffer's
    first contents are not among the stores, `w` is false and only the heads stored are known. -/
def Stage (w : Prop) (S : ℕ → ℕ → ℕ → ℕ → EReal) (n : ℕ) (L : List (View.Piece (Elt Ideal) S8x128x128 .f32)) : Prop :=
  ∀ (h : Fin 8) (e d : Fin 128), (w ∨ 8 ≤ n ∨ h.val < n) →
    View.canon L (ix3 h e d) = S (if h.val < n % 8 then n / 8 + 1 else n / 8) h e d

variable {w : Prop} {S : ℕ → ℕ → ℕ → ℕ → EReal} {n : ℕ} {L : List (View.Piece (Elt Ideal) S8x128x128 .f32)}

theorem Stage.load (hL : Stage w S n L) (c h : ℕ) (hh : h < 8) (hn : n = 8 * c + h) (hw : w ∨ 8 ≤ n) {sig : RefSig} {κ : Kind}
    {sp : Space} (v : View sig κ sp S8x128x128 .f32) {inb} (e d : Fin 128) :
    v.readCov L (Rect.unit (s := S8x128x128) ![h, 0, 0] S1x128x128.size inb).toLoadRect (ix3 0 e d) = S c h e d := by
  rw [View.readCov_eq_canon']
  refine (congrArg (View.canon L) (idx_three (Q := 8) (R := 128) (C := 128) (k := 128) (m := 128) e d hh (by simp) d.isLt)).trans ?_
  simp only [Nat.zero_add, Fin.eta]
  rw [hL ⟨h, hh⟩ e d (hw.imp id Or.inl)]
  have e1 : n % 8 = h := by omega
  have e2 : n / 8 = c := by omega
  simp [e1, e2]

theorem Stage.cons (hL : Stage w S n L) (c h : ℕ) (hh : h < 8) (hn : n = 8 * c + h) {P : Vec Ideal S1x128x128 .f32}
    (hP : ∀ e d : Fin 128, P (ix3 0 e d) = S (c + 1) h e d) {inb} :
    Stage w S (n + 1) ((⟨Rect.unit (s := S8x128x128) ![h, 0, 0] S1x128x128.size inb, P⟩ :
      View.Piece (Elt Ideal) S8x128x128 .f32) :: L) := by
  intro h' e d hw
  by_cases he : h'.val = h
  · have e0 : (ix3 h' e d : S8x128x128.Idx)
        = (Rect.unit (s := S8x128x128) ![h, 0, 0] S1x128x128.size inb).emb (ix3 0 e d) := by
      refine Eq.trans ?_ (idx_three (Q := 8) (R := 128) (C := 128) (k := 128) (m := 128) e d hh (by simp) d.isLt).symm
      simp only [Nat.zero_add, Fin.eta]
      congr 1
      exact Fin.ext he
    rw [e0, View.canon_cons_emb, hP]
    have e1 : (if h'.val < (n + 1) % 8 then (n + 1) / 8 + 1 else (n + 1) / 8) = c + 1 := by
      split_ifs <;> omega
    rw [e1, he]
  · rw [View.canon_cons_of_not_mem]
    · rw [hL h' e d (hw.imp id fun hw => by omega)]
      have hlt := h'.isLt
      congr 1
      split_ifs <;> omega
    · intro hm
      have h0 := (Rect.mem_set_unit (s := S8x128x128) (off := ![h, 0, 0]) (size := S1x128x128.size) (inb := inb)).mp hm 0
      simp [ix3] at h0
      omega

/-- One head-step, where the head's state is read back from the stores. -/
theorem Stage.step (A : Args) (X : ℕ → ℕ → EReal)
    (hS : ∀ c h e d, S (c + 1) h e d = step A (fun s => X (32 * c + s)) (S c) h e d)
    (hL : Stage w S n L) (c h : ℕ) (hh : h < 8) (hc : c < 8) (hn : n = 8 * c + h)
    {st : Vec Ideal S1x128x128 .f32} (hst : ∀ e d : Fin 128, st (ix3 0 e d) = S c h e d)
    {LD : List (View.Piece (Elt Ideal) S8x1024 .f32)} {LV LK : List (View.Piece (Elt Ideal) S256x1024 .bf16)}
    (hD : ∀ (c : Fin 8) (j : Fin 1024), View.canon LD (ix2 c j) = dec A (fun s => X (32 * c + s)) j)
    (hV : ∀ (r : Fin 256) (j : Fin 1024), View.canon LV (ix2 r j) = vv A (X r) j)
    (hK : ∀ (r : Fin 256) (j : Fin 1024), View.canon LK (ix2 r j) = ke A (fun s => X (32 * (r / 32) + s)) (r % 32) j)
    {sig : RefSig} {κ : Kind} {sp : Space} {vd : View sig κ sp S8x1024 .f32} {vb vk : View sig κ sp S256x1024 .bf16}
    {i1 i2 i3 i4 L'}
    (hL' : L' = (⟨Rect.unit (s := S8x128x128) ![h, 0, 0] S1x128x128.size i1,
      stepT st (vd.readCov LD (Rect.unit (s := S8x1024) ![c, 128 * h] S1x128.size i2).toLoadRect)
        (vb.readCov LV (Rect.unit (s := S256x1024) ![32 * c, 128 * h] S32x128.size i3).toLoadRect)
        (vk.readCov LK (Rect.unit (s := S256x1024) ![32 * c, 128 * h] S32x128.size i4).toLoadRect)⟩ :
      View.Piece (Elt Ideal) S8x128x128 .f32) :: L) : Stage w S (n + 1) L' := by
  rw [hL']
  refine hL.cons c h hh hn fun e d => ?_
  rw [hS]
  refine stepT_at A (fun s => X (32 * c + s)) (S c) h _ _ _ _ hst (fun d => ?_) (fun r e => ?_) (fun r d => ?_) e d
  · refine (load_two (R := 8) (C := 1024) (k := 1) (m := 128) vd LD 0 d).trans ?_
    rw [hD]
    rfl
  · refine (load_two (R := 256) (C := 1024) (k := 32) (m := 128) vb LV r e).trans ?_
    rw [hV]
  · refine (load_two (R := 256) (C := 1024) (k := 32) (m := 128) vk LK r d).trans ?_
    rw [hK]
    have e1 : (32 * c + r.val) / 32 = c := by have := r.isLt; omega
    have e2 : (32 * c + r.val) % 32 = r := by have := r.isLt; omega
    simp only [e1, e2]

/-- What the chunk's rows read of the state, stored as one tile of the block. -/
theorem oi_tile (A : Args) (X : ℕ → ℕ → EReal) (c h : ℕ) (hh : h < 8) (hc : c < 8)
    {st : Vec Ideal S1x128x128 .f32} (hst : ∀ e d : Fin 128, st (ix3 0 e d) = S c h e d)
    {LQ : List (View.Piece (Elt Ideal) S256x1024 .bf16)}
    (hQ : ∀ (r : Fin 256) (j : Fin 1024), View.canon LQ (ix2 r j) = qd A (fun s => X (32 * (r / 32) + s)) (r % 32) j)
    {sig : RefSig} {κ : Kind} {sp : Space} {vq : View sig κ sp S256x1024 .bf16} {i1 P}
    (hP' : P = oiT st (vq.readCov LQ (Rect.unit (s := S256x1024) ![32 * c, 128 * h] S32x128.size i1).toLoadRect))
    (r : Fin 32) (e : Fin 128) : P (ix2 r e) = oi A (fun s => X (32 * c + s)) (S c) r h e := by
  rw [hP']
  refine oiT_at A (fun s => X (32 * c + s)) (S c) h _ _ hst (fun r d => ?_) r e
  refine (load_two (R := 256) (C := 1024) (k := 32) (m := 128) vq LQ r d).trans ?_
  rw [hQ]
  have e1 : (32 * c + r.val) / 32 = c := by have := r.isLt; omega
  have e2 : (32 * c + r.val) % 32 = r := by have := r.isLt; omega
  simp only [e1, e2]

theorem empty_stage : Stage False S 0 [] := fun h _ _ hw => by
  rcases hw with h | h | h
  · exact h.elim
  · exact absurd h (by decide)
  · exact absurd h (Nat.not_lt_zero _)

/-- A state of zeros. -/
theorem zero_stage (hS0 : ∀ h e d, S 0 h e d = 0) {inb} :
    Stage True S 0 [(⟨Rect.unit (s := S8x128x128) ![0, 0, 0] S8x128x128.size inb, k0_pay1 (F := Ideal)⟩ :
      View.Piece (Elt Ideal) S8x128x128 .f32)] := by
  intro h e d _
  rw [View.canon_unit_zero (by funext x; fin_cases x <;> rfl)]
  simp only [Nat.zero_mod, Nat.zero_div, Nat.not_lt_zero, if_false, hS0]
  unfold k0_pay1
  pointwise

/-- The order in which the chunks' tiles are stored. -/
def tileNo (r j : ℕ) : ℕ := 8 * (r / 32) + j / 128

theorem tileNo_lt (r : Fin 256) (j : Fin 1024) : tileNo r j < 64 := by
  have := r.isLt
  have := j.isLt
  unfold tileNo
  omega

theorem tileNo_iff (c h : ℕ) (hc : c < 8) (hh : h < 8) (r j : ℕ) (_ : r < 256) (_ : j < 1024) :
    tileNo r j = 8 * c + h ↔ 32 * c ≤ r ∧ r < 32 * c + 32 ∧ 128 * h ≤ j ∧ j < 128 * h + 128 := by
  unfold tileNo
  omega

/-- What the tiles hold. -/
def tileVal (A : Args) (X : ℕ → ℕ → EReal) (S : ℕ → ℕ → ℕ → ℕ → EReal) (r j : ℕ) : EReal :=
  oi A (fun s => X (32 * (r / 32) + s)) (S (r / 32)) (r % 32) (j / 128) (j % 128)

theorem tileVal_at (A : Args) (X : ℕ → ℕ → EReal) (S : ℕ → ℕ → ℕ → ℕ → EReal) (c h : ℕ) (r : Fin 32) (e : Fin 128) :
    tileVal A X S (32 * c + r) (128 * h + e) = oi A (fun s => X (32 * c + s)) (S c) r h e := by
  have hr := r.isLt
  have he := e.isLt
  have e1 : (32 * c + r.val) / 32 = c := by omega
  have e2 : (32 * c + r.val) % 32 = r := by omega
  have e3 : (128 * h + e.val) / 128 = h := by omega
  have e4 : (128 * h + e.val) % 128 = e := by omega
  unfold tileVal
  rw [e1, e2, e3, e4]

end Cert.Proof.Mix

end
-- ==== Proof.MixPool.lean ====
/-
  THE POOLING BRANCH OF ONE GRID POINT. The kernel keeps the last 16 tokens' pooled values above the 256 of its block, so
  that a window of up to 16 tokens that starts in the block before is still whole. `ext` is that buffer, and a window's
  sum is built by doubling.
-/
module

public import proofs.«01_k».proof.Proof.MixStage
public import Idealize.ShloMosaic.Lib.WritesUnit

@[expose] public section

set_option maxRecDepth 4096

noncomputable section

namespace Cert.Proof.Mix

open Idealize.ShloMosaic Idealize.ShloMosaic.TcCoe Idealize.ShloMosaic.Tactic
open Cert.Kernel2Ideal Cert.Kernel2Ideal.Gen

variable (A : Args) (X : ℕ → ℕ → EReal) (E : ℕ → ℕ → EReal)

/-- The pooling buffer: 16 rows of the tokens before, then the block's 256. -/
def ext (a c : ℕ) : EReal := if a < 16 then E a c else pr A (X (a - 16)) (4096 + c)

/-- The value `i` tokens before token `r` of the block. -/
def pwin (r i c : ℕ) : EReal := ext A X E (r + 16 - i) c

variable {A X E}

/-- Columns of the buffer, where its first 16 rows were left by the point before. -/
theorem ext_kept {b : ℕ} {κ : Kind} {sp : Space} {sig : RefSig} (g : Memref sig κ sp S272x512 .f32) (hg : g.IsWhole)
    (x : Vec Ideal S272x512 .f32) (P : S256x512.Idx → Elt Ideal .f32) {inb inb'}
    (hx : ∀ (a : Fin 272) (c : Fin 512), a.val < 16 → x (ix2 a c) = E a c)
    (hP : ∀ (r : Fin 256) (c : Fin 512), P (ix2 r c) = pr A (X r) (4096 + c)) (a : Fin 272) (c : Fin 128) :
    View.readAt (Elt Ideal) g.view (Rect.unit (s := S272x512) ![0, b] ![272, 128] inb).toLoadRect
      (g.view.writes (Elt Ideal) (hg.unread x) [(⟨Rect.unit (s := S272x512) ![16, 0] ![256, 512] inb', P⟩ :
        View.Piece (Elt Ideal) S272x512 .f32)]) (ix2 a c) = ext A X E a (b + c) := by
  rw [View.readAt_eq_ld]
  refine (congrArg (g.view.read (Elt Ideal) _) (idx_two (R := 272) (C := 512) (k := 272) (m := 128) (a := 0) (b := b)
    (inb := inb) a c (in_row inb a) (in_col inb c))).trans ?_
  have hb := in_col (R := 272) (C := 512) (k := 272) (m := 128) inb c
  have ha := a.isLt
  unfold ext
  by_cases h : a.val < 16
  · rw [if_pos h]
    refine (View.read_writes_cons_unit_of_not_mem (s := S272x512) g.view _ inb' P [] _ rfl (0 : Fin 2) (Or.inl (by simp [ix2]; omega))).trans ?_
    rw [View.writes_nil, hg.read_unread]
    simp only [Nat.zero_add, Fin.eta]
    exact hx a ⟨b + c, hb⟩ h
  · rw [if_neg h]
    refine (View.read_writes_cons_unit_of_mem (s := S272x512) g.view _ inb' P [] _ (ix2 ⟨a.val - 16, by omega⟩ ⟨b + c, hb⟩) rfl ?_).trans ?_
    · intro x
      match x with
      | ⟨0, _⟩ => simp [ix2]; omega
      | ⟨1, _⟩ => simp [ix2]
    · exact hP _ _

/-- Columns of the buffer, where its first 16 rows were cleared. -/
theorem ext_clear {b : ℕ} {κ : Kind} {sp : Space} {sig : RefSig} (v : View sig κ sp S272x512 .f32)
    (P : S256x512.Idx → Elt Ideal .f32) {inb inb' inb''}
    (hE : ∀ a c, E a c = 0)
    (hP : ∀ (r : Fin 256) (c : Fin 512), P (ix2 r c) = pr A (X r) (4096 + c)) (a : Fin 272) (c : Fin 128) :
    v.readCov [(⟨Rect.unit (s := S272x512) ![16, 0] ![256, 512] inb', P⟩ : View.Piece (Elt Ideal) S272x512 .f32),
        ⟨Rect.unit (s := S272x512) ![0, 0] ![16, 512] inb'', k0_pay2 (F := Ideal)⟩]
      (Rect.unit (s := S272x512) ![0, b] ![272, 128] inb).toLoadRect (ix2 a c) = ext A X E a (b + c) := by
  refine (load_two (R := 272) (C := 512) (k := 272) (m := 128) v _ a c).trans ?_
  have hb := in_col (R := 272) (C := 512) (k := 272) (m := 128) inb c
  have ha := a.isLt
  unfold ext
  by_cases h : a.val < 16
  · rw [if_pos h, hE]
    refine (miss_two (R := 272) (C := 512) _ _ _ _ (by simp only; omega)).trans ?_
    have e := hit_two (R := 272) (C := 512) (e := .f32) (inb := inb'') [] (k0_pay2 (F := Ideal)) ⟨a.val, h⟩ ⟨b + c, hb⟩
    simp only [Nat.zero_add] at e ⊢
    refine e.trans ?_
    unfold k0_pay2
    pointwise
  · rw [if_neg h]
    have e := hit_two (R := 272) (C := 512) (inb := inb') [(⟨Rect.unit (s := S272x512) ![0, 0] ![16, 512] inb'', k0_pay2 (F := Ideal)⟩ : View.Piece (Elt Ideal) S272x512 .f32)]
      P ⟨a.val - 16, by omega⟩ ⟨b + c, hb⟩
    have e2 : 16 + (a.val - 16) = a.val := by omega
    simp only [Nat.zero_add, e2] at e ⊢
    exact e.trans (hP _ _)

/-- The block's last 16 rows, as the point leaves them for the next. -/
theorem ext_left {κ : Kind} {sp : Space} {sig : RefSig} (v : View sig κ sp S272x512 .f32)
    (P : S256x512.Idx → Elt Ideal .f32) (L : List (View.Piece (Elt Ideal) S272x512 .f32)) {inb inb' inb''}
    (hP : ∀ (r : Fin 256) (c : Fin 512), P (ix2 r c) = pr A (X r) (4096 + c)) (a : Fin 272) (c : Fin 512) (h : a.val < 16) :
    View.canon ((⟨Rect.unit (s := S272x512) ![0, 0] ![16, 512] inb'', k0_pay268 (F := Ideal)
        (v.readCov ((⟨Rect.unit (s := S272x512) ![16, 0] ![256, 512] inb', P⟩ : View.Piece (Elt Ideal) S272x512 .f32) :: L)
          (Rect.unit (s := S272x512) ![256, 0] ![16, 512] inb).toLoadRect)⟩ : View.Piece (Elt Ideal) S272x512 .f32)
      :: (⟨Rect.unit (s := S272x512) ![16, 0] ![256, 512] inb', P⟩ : View.Piece (Elt Ideal) S272x512 .f32) :: L) (ix2 a c)
      = pr A (X (240 + a)) (4096 + c) := by
  have e := hit_two (R := 272) (C := 512) (e := .f32) (inb := inb'') ((⟨Rect.unit (s := S272x512) ![16, 0] ![256, 512] inb', P⟩ : View.Piece (Elt Ideal) S272x512 .f32) :: L)
    (k0_pay268 (F := Ideal) (v.readCov ((⟨Rect.unit (s := S272x512) ![16, 0] ![256, 512] inb', P⟩ : View.Piece (Elt Ideal) S272x512 .f32) :: L)
          (Rect.unit (s := S272x512) ![256, 0] ![16, 512] inb).toLoadRect)) ⟨a.val, h⟩ c
  simp only [Nat.zero_add, Fin.eta] at e
  refine e.trans ?_
  have e1 : ∀ y : FVec Ideal S16x512 .f32, k0_pay268 (F := Ideal) y (ix2 ⟨a.val, h⟩ c) = y (ix2 ⟨a.val, h⟩ c) := by
    intro y
    unfold k0_pay268
    pointwise
  refine (e1 _).trans ((load_two (R := 272) (C := 512) (k := 16) (m := 512) v _ _ c).trans ?_)
  have e3 := hit_two (R := 272) (C := 512) (inb := inb') L P ⟨240 + a.val, by omega⟩ c
  have e4 : 16 + (240 + a.val) = 256 + a.val := by omega
  simp only [e4] at e3 ⊢
  exact e3.trans (hP _ _)

/-! ### The four groups -/

section Groups

variable {t0 : ℕ} {tok : FVec Ideal S256x512 .f32} {pos : IVec S256x1 32}
variable (htok : ∀ (r : Fin 256) (c : Fin 512), tok (ix2 r c) = pr A (X r) (4096 + c))
variable (hpos : ∀ r : Fin 256, pos (ix2 r 0) = BitVec.ofNat 32 (t0 + r))

/-- The sums that leave the doublings: rows 16 on of the buffer. -/
theorem sums_at (n b : ℕ) (hn : n ≤ 17) (y : FVec Ideal S272x128 .f32)
    (hy : ∀ (a : Fin 272) (c : Fin 128), n ≤ a.val + 1 → y (ix2 a c) = ∑ i ∈ Finset.range n, ext A X E (a - i) (b + c))
    (r : Fin 256) (c : Fin 128) :
    extractStridedSlice S256x128 ![16, 0] y slices_S272x128_o16_0_S256x128 (ix2 r c)
      = ∑ i ∈ Finset.range n, ext A X E (r + 16 - i) (b + c) := by
  pointwise
  refine (hy _ c (by simp only; omega)).trans ?_
  refine Finset.sum_congr rfl fun i _ => ?_
  congr 1
  simp only
  omega

/-- One doubling of the windows. -/
theorem double_at (n b : ℕ) (hn : n < 272) (y : FVec Ideal S272x128 .f32)
    (hy : ∀ (a : Fin 272) (c : Fin 128), n ≤ a.val + 1 → y (ix2 a c) = ∑ i ∈ Finset.range n, ext A X E (a - i) (b + c))
    (a : Fin 272) (c : Fin 128) (ha : 2 * n ≤ a.val + 1) :
    roll (BitVec.ofNat 32 n) y (ix2 a c) = ∑ i ∈ Finset.range (2 * n), ext A X E (a - i) (b + c) :=
  roll_at (fun k => ext A X E k (b + c)) c n hn y (fun a h => hy a c h) a ha

theorem single_at (b : ℕ) (y : FVec Ideal S272x128 .f32)
    (hy : ∀ (a : Fin 272) (c : Fin 128), y (ix2 a c) = ext A X E a (b + c)) (a : Fin 272) (c : Fin 128) (_ : 1 ≤ a.val + 1) :
    y (ix2 a c) = ∑ i ∈ Finset.range 1, ext A X E (a - i) (b + c) := by
  rw [hy, Finset.sum_range_one, Nat.sub_zero]

include htok hpos in
/-- A group of 128 channels: its windows' means less the tokens, through the group's weights. -/
theorem group_at (g : ℕ) (hg : g < 4) (y : FVec Ideal S272x128 .f32) (wv : Vec Ideal S1x128x256 .bf16) {sl}
    (hy : ∀ (a : Fin 272) (c : Fin 128), 2 ^ (g + 1) ≤ a.val + 1 →
      y (ix2 a c) = ∑ i ∈ Finset.range (2 ^ (g + 1)), ext A X E (a - i) (128 * g + c))
    (hw : ∀ (c : Fin 128) (j : Fin 256), wv (ix3 0 c j) = A.pw g c j) (r j : Fin 256) :
    poolT (BitVec.ofNat 32 (2 ^ (g + 1))) (extractStridedSlice S256x128 ![16, 0] y slices_S272x128_o16_0_S256x128)
      (extractStridedSlice S256x128 ![0, 128 * g] tok sl) pos wv (ix2 r j)
      = ∑ c : Fin 128, pl (pwin A X E r) (t0 + r) g c * A.pw g c j := by
  have h17 : 2 ^ (g + 1) ≤ 17 := by interval_cases g <;> decide
  refine poolT_at A g t0 (fun a c => ext A X E a (128 * g + c)) (pwin A X E) _ _ pos wv ?_ ?_ ?_ hpos hw r j
  · exact sums_at _ _ h17 y hy
  · intro r i c _; rfl
  · intro r c
    have e : 128 * g + c.val < 512 := by have := c.isLt; omega
    unfold pwin ext
    rw [if_neg (by omega), Nat.sub_zero, Nat.add_sub_cancel]
    refine Eq.trans ?_ (htok r ⟨128 * g + c, e⟩)
    pointwise

end Groups

/-! ### The tiles of the two branches' buffers -/

theorem col_iff (m n : ℕ) (hm : 0 < m) (r j : ℕ) (hr : r < 256) (_ : j < 1024) :
    j / m = n ↔ 0 ≤ r ∧ r < 0 + 256 ∧ m * n ≤ j ∧ j < m * n + m := by
  rw [Nat.div_eq_iff hm, Nat.mul_comm n m]
  omega

theorem col_lt (r : Fin 256) (j : Fin 1024) : j.val / 128 < 8 := by have := j.isLt; omega

theorem group_lt (r : Fin 256) (j : Fin 1024) : j.val / 256 < 4 := by have := j.isLt; omega

/-- The normalised heads of the block's tokens. -/
def headVal (A : Args) (X : ℕ → ℕ → EReal) (S : ℕ → ℕ → ℕ → ℕ → EReal) (r j : ℕ) : EReal :=
  hn A (oo A (fun s => X (32 * (r / 32) + s)) (S (r / 32)) (r % 32) (j / 128)) (X r) (j / 128) (j % 128)

/-- The pooling groups of the block's tokens. -/
def poolVal (A : Args) (X : ℕ → ℕ → EReal) (E : ℕ → ℕ → EReal) (t0 r j : ℕ) : EReal :=
  ∑ c : Fin 128, pl (pwin A X E r) (t0 + r) (j / 256) c * A.pw (j / 256) c (j % 256)

theorem poolVal_at (A : Args) (X : ℕ → ℕ → EReal) (E : ℕ → ℕ → EReal) (t0 g : ℕ) (r j : Fin 256) :
    poolVal A X E t0 (0 + r) (256 * g + j) = ∑ c : Fin 128, pl (pwin A X E r) (t0 + r) g c * A.pw g c j := by
  have hj := j.isLt
  have e3 : (256 * g + j.val) / 256 = g := by omega
  have e4 : (256 * g + j.val) % 256 = j := by omega
  unfold poolVal
  rw [e3, e4, Nat.zero_add]

theorem head_tile (A : Args) (X : ℕ → ℕ → EReal) (S : ℕ → ℕ → ℕ → ℕ → EReal) (h : ℕ) (hh : h < 8)
    {LQ LK LV : List (View.Piece (Elt Ideal) S256x1024 .bf16)} {LO : List (View.Piece (Elt Ideal) S256x1024 .f32)}
    {g9 : FVec Ideal S256x1024 .f32} {mk : IVec S256x256 1} {ng : Vec Ideal S1x128 .f32}
    (hg : ∀ (r : Fin 256) (j : Fin 1024), g9 (ix2 r j) = ga A (X r) j)
    (hmk : ∀ r c : Fin 256, mk (ix2 r c) = if r.val / 32 = c.val / 32 ∧ c.val ≤ r.val then 1#1 else 0#1)
    (hQ : ∀ (r : Fin 256) (j : Fin 1024), View.canon LQ (ix2 r j) = qd A (fun s => X (32 * (r / 32) + s)) (r % 32) j)
    (hK : ∀ (r : Fin 256) (j : Fin 1024), View.canon LK (ix2 r j) = ki A (fun s => X (32 * (r / 32) + s)) (r % 32) j)
    (hV : ∀ (r : Fin 256) (j : Fin 1024), View.canon LV (ix2 r j) = vv A (X r) j)
    (hO : ∀ (r : Fin 256) (j : Fin 1024), View.canon LO (ix2 r j)
      = oi A (fun s => X (32 * (r / 32) + s)) (S (r / 32)) (r % 32) (j / 128) (j % 128))
    (hng : ∀ e : Fin 128, ng (ix2 0 e) = A.ng e)
    {sig : RefSig} {κ : Kind} {sp : Space} {vq vk vv' : View sig κ sp S256x1024 .bf16} {vo : View sig κ sp S256x1024 .f32} {i1 sl P}
    (hP : P = headT (extractStridedSlice S256x128 ![0, 128 * h] g9 sl) mk
      (vq.readCov LQ (Rect.unit (s := S256x1024) ![0, 128 * h] S256x128.size i1).toLoadRect)
      (vk.readCov LK (Rect.unit (s := S256x1024) ![0, 128 * h] S256x128.size i1).toLoadRect)
      (vv'.readCov LV (Rect.unit (s := S256x1024) ![0, 128 * h] S256x128.size i1).toLoadRect)
      (vo.readCov LO (Rect.unit (s := S256x1024) ![0, 128 * h] S256x128.size i1).toLoadRect) ng)
    (r : Fin 256) (e : Fin 128) : P (ix2 r e) = headVal A X S (0 + r) (128 * h + e) := by
  have he : ∀ e : Fin 128, (128 * h + e.val) / 128 = h ∧ (128 * h + e.val) % 128 = e := fun e => by
    have := e.isLt
    omega
  rw [hP]
  refine (headT_at A X h S _ _ _ _ _ _ _ ?_ hmk ?_ ?_ ?_ ?_ hng r e).trans ?_
  · intro r e
    have hj : 128 * h + e.val < 1024 := by have := e.isLt; omega
    refine Eq.trans ?_ (hg r ⟨128 * h + e, hj⟩)
    pointwise
  · exact fun r d => (load_cols (R := 256) (C := 1024) (m := 128) vq LQ r d).trans (hQ _ _)
  · exact fun r d => (load_cols (R := 256) (C := 1024) (m := 128) vk LK r d).trans (hK _ _)
  · exact fun r d => (load_cols (R := 256) (C := 1024) (m := 128) vv' LV r d).trans (hV _ _)
  · intro r d
    refine (load_cols (R := 256) (C := 1024) (m := 128) vo LO r d).trans ((hO _ _).trans ?_)
    simp only [(he d).1, (he d).2]
  · unfold headVal
    simp only [(he e).1, (he e).2, Nat.zero_add]

end Cert.Proof.Mix

end
-- ==== Proof.MixStateA.lean ====
/-
  THE FIRST GRID POINT OF A BATCH: the buffers its body fills, the recurrence over its 64 head-steps, and what its 64
  tiles read of the states.
-/
module

public import proofs.«01_k».proof.Proof.MixStage
public import proofs.«01_k».proof.Proof.Gen.Kernel2Ideal.Value

@[expose] public section

set_option maxRecDepth 8192

noncomputable section

namespace Cert.Proof.Mix.CaseA

open Idealize.ShloMosaic Idealize.ShloMosaic.TcCoe Idealize.ShloMosaic.Tactic
open Cert.Kernel2Ideal Cert.Kernel2Ideal.Gen

variable {A : Args} {X : ℕ → ℕ → EReal} {S : ℕ → ℕ → ℕ → ℕ → EReal} {E : ℕ → ℕ → EReal}
variable {c : Dev nD} {i : grid0.Coords}
variable {arg2 : Memref Cert.Kernel2Ideal.sig .tc .vmem S256x1024 .f32} {harg2 : arg2.IsWhole}
variable {arg3 : Memref Cert.Kernel2Ideal.sig .tc .vmem S1x1024 .f32} {harg3 : arg3.IsWhole}
variable {arg4 : Memref Cert.Kernel2Ideal.sig .tc .vmem S1x1024 .f32} {harg4 : arg4.IsWhole}
variable {arg5 : Memref Cert.Kernel2Ideal.sig .tc .vmem S1024x6656 .bf16} {harg5 : arg5.IsWhole}
variable {arg6 : Memref Cert.Kernel2Ideal.sig .tc .vmem S2x1024 .f32} {harg6 : arg6.IsWhole}
variable {arg7 : Memref Cert.Kernel2Ideal.sig .tc .vmem S1x128 .f32} {harg7 : arg7.IsWhole}
variable {arg8 : Memref Cert.Kernel2Ideal.sig .tc .vmem S1024x1024 .bf16} {harg8 : arg8.IsWhole}
variable {arg9 : Memref Cert.Kernel2Ideal.sig .tc .vmem S4x128x256 .bf16} {harg9 : arg9.IsWhole}
variable {arg10 : Memref Cert.Kernel2Ideal.sig .tc .vmem S1x1024 .f32} {harg10 : arg10.IsWhole}
variable {arg11 : Memref Cert.Kernel2Ideal.sig .tc .vmem S1024x1024 .bf16} {harg11 : arg11.IsWhole}
variable {arg12 : Memref Cert.Kernel2Ideal.sig .tc .vmem S1x1024 .f32} {harg12 : arg12.IsWhole}
variable {arg13 : Memref Cert.Kernel2Ideal.sig .tc .vmem S1x1024 .f32} {harg13 : arg13.IsWhole}
variable {arg14 : Memref Cert.Kernel2Ideal.sig .tc .vmem S256x1024 .f32} {harg14 : arg14.IsWhole}
variable {arg15 : Memref Cert.Kernel2Ideal.sig .tc .vmem S8x128x128 .f32} {harg15 : arg15.IsWhole}
variable {arg16 : Memref Cert.Kernel2Ideal.sig .tc .vmem S272x512 .f32} {harg16 : arg16.IsWhole}
variable {arg17 : Memref Cert.Kernel2Ideal.sig .tc .vmem S256x1024 .bf16} {harg17 : arg17.IsWhole}
variable {arg18 : Memref Cert.Kernel2Ideal.sig .tc .vmem S256x1024 .bf16} {harg18 : arg18.IsWhole}
variable {arg19 : Memref Cert.Kernel2Ideal.sig .tc .vmem S256x1024 .bf16} {harg19 : arg19.IsWhole}
variable {arg20 : Memref Cert.Kernel2Ideal.sig .tc .vmem S256x1024 .bf16} {harg20 : arg20.IsWhole}
variable {arg21 : Memref Cert.Kernel2Ideal.sig .tc .vmem S8x1024 .f32} {harg21 : arg21.IsWhole}
variable {arg22 : Memref Cert.Kernel2Ideal.sig .tc .vmem S256x1024 .bf16} {harg22 : arg22.IsWhole}
variable {arg23 : Memref Cert.Kernel2Ideal.sig .tc .vmem S256x1024 .f32} {harg23 : arg23.IsWhole}
variable {arg24 : Memref Cert.Kernel2Ideal.sig .tc .vmem S256x1024 .f32} {harg24 : arg24.IsWhole}
variable {x0 : Vec Ideal S256x1024 .f32}
variable {x1 : Vec Ideal S1x1024 .f32}
variable {x2 : Vec Ideal S1x1024 .f32}
variable {x3 : Vec Ideal S1024x6656 .bf16}
variable {x4 : Vec Ideal S2x1024 .f32}
variable {x5 : Vec Ideal S1x128 .f32}
variable {x6 : Vec Ideal S1024x1024 .bf16}
variable {x7 : Vec Ideal S4x128x256 .bf16}
variable {x8 : Vec Ideal S1x1024 .f32}
variable {x9 : Vec Ideal S1024x1024 .bf16}
variable {x10 : Vec Ideal S1x1024 .f32}
variable {x11 : Vec Ideal S1x1024 .f32}
variable (hx0 : ∀ (r : Fin 256) (j : Fin 1024), x0 (ix2 r j) = X r j)
variable (hx1 : ∀ j : Fin 1024, x1 (ix2 0 j) = A.g0 j) (hx2 : ∀ j : Fin 1024, x2 (ix2 0 j) = A.b0 j)
variable (hx3 : ∀ (k : Fin 1024) (j : Fin 6656), x3 (ix2 k j) = A.W k j)
variable (hx4 : ∀ (i : Fin 2) (j : Fin 1024), x4 (ix2 i j) = A.hg i j)
variable (hx5 : ∀ e : Fin 128, x5 (ix2 0 e) = A.ng e)
variable (hx6 : ∀ k j : Fin 1024, x6 (ix2 k j) = A.whg k j)
variable (hx7 : ∀ (g : Fin 4) (c : Fin 128) (j : Fin 256), x7 (ix3 g c j) = A.pw g c j)
variable (hx8 : ∀ j : Fin 1024, x8 (ix2 0 j) = A.ps j)
variable (hx9 : ∀ k j : Fin 1024, x9 (ix2 k j) = A.wo k j)
variable (hx10 : ∀ j : Fin 1024, x10 (ix2 0 j) = A.g1 j) (hx11 : ∀ j : Fin 1024, x11 (ix2 0 j) = A.b1 j)
variable (hS : ∀ c h e d, S (c + 1) h e d = step A (fun s => X (32 * c + s)) (S c) h e d)
variable (hS0 : ∀ h e d, S 0 h e d = 0)

include hx0 hx1 hx2 in
theorem row_at (r : Fin 256) (j : Fin 1024) : (kernelRun0_A.sl.r c arg2 harg2 arg3 harg3 arg4 harg4 x0 x1 x2) (ix2 r j) = h0 A (X r) j :=
  h0_at A X _ _ _ (fun r j => (arg_whole arg2 harg2 x0 r j).trans (hx0 r j)) (fun j => (arg_whole arg3 harg3 x1 0 j).trans (hx1 j)) (fun j => (arg_whole arg4 harg4 x2 0 j).trans (hx2 j)) r j

include hx0 hx1 hx2 in
theorem rowb_at (r : Fin 256) (j : Fin 1024) : (kernelRun0_A.sl.r_1 c arg2 harg2 arg3 harg3 arg4 harg4 x0 x1 x2) (ix2 r j) = h0 A (X r) j :=
  hb_at A X _ _ _ (fun r j => (arg_whole arg2 harg2 x0 r j).trans (hx0 r j)) (fun j => (arg_whole arg3 harg3 x1 0 j).trans (hx1 j)) (fun j => (arg_whole arg4 harg4 x2 0 j).trans (hx2 j)) r j

include hx4 in
theorem bound_at (j : Fin 1024) : (kernelRun0_A.sl.r_2 c arg6 harg6 x4) (ix2 0 j) = lb A j :=
  lb_at A _ (fun r j => (arg_whole arg6 harg6 x4 r j).trans (hx4 r j)) j

include hx0 hx1 hx2 hx3 hx4 in
theorem key_at (r : Fin 256) (j : Fin 1024) : (kernelRun0_A.sl.r_3 c arg2 harg2 arg3 harg3 arg4 harg4 arg5 harg5 arg6 harg6 x0 x1 x2 x3 x4) (ix2 r j) = kk A (X r) j :=
  kk_at A X _ (rowb_at hx0 hx1 hx2) _ 1024 (fun k j => (arg_cols arg5 harg5 x3 k j).trans (hx3 _ _)) _ (bound_at hx4) rfl r j

include hx0 hx1 hx2 hx3 hx4 in
theorem sum_at (r : Fin 256) (j : Fin 1024) :
    k0_pay11 (kernelRun0_A.sl.r_4 c arg2 harg2 arg3 harg3 arg4 harg4 arg5 harg5 arg6 harg6 x0 x1 x2 x3 x4) k0_pay9 (kernelRun0_A.sl.r_5 c arg2 harg2 arg3 harg3 arg4 harg4 arg5 harg5 arg6 harg6 x0 x1 x2 x3 x4) (ix2 r j) = bh A (fun s => X (32 * (r / 32) + s)) (r % 32) j :=
  bh_at A X _ (rowb_at hx0 hx1 hx2) _ (fun k j => (arg_cols arg5 harg5 x3 k j).trans (hx3 _ _)) _ (bound_at hx4) r j

include hx0 hx1 hx2 hx3 in
theorem val_at (r : Fin 256) (j : Fin 1024) : (kernelRun0_A.sl.r_8 c arg2 harg2 arg3 harg3 arg4 harg4 arg5 harg5 x0 x1 x2 x3) (ix2 r j) = vv A (X r) j :=
  vv_at A X _ (rowb_at hx0 hx1 hx2) _ 2048 (fun k j => (arg_cols arg5 harg5 x3 k j).trans (hx3 _ _)) rfl r j

include hx0 hx1 hx2 hx3 in
theorem gate_at (r : Fin 256) (j : Fin 1024) : (kernelRun0_A.sl.r_9 c arg2 harg2 arg3 harg3 arg4 harg4 arg5 harg5 x0 x1 x2 x3) (ix2 r j) = ga A (X r) j :=
  ga_at A X _ (rowb_at hx0 hx1 hx2) _ 3072 (fun k j => (arg_cols arg5 harg5 x3 k j).trans (hx3 _ _)) rfl r j

include hx0 hx1 hx2 hx3 hx4 in
/-- The queries' buffer. -/
theorem buf_q (r : Fin 256) (j : Fin 1024) :
    View.canon (kernelRun0_A.sl.HS2_1 c arg2 harg2 arg3 harg3 arg4 harg4 arg5 harg5 arg6 harg6 x0 x1 x2 x3 x4) (ix2 r j) = qd A (fun s => X (32 * (r / 32) + s)) (r % 32) j := by
  refine (store_whole _ r j).trans ?_
  refine qd_at A X _ (rowb_at hx0 hx1 hx2) _ 0 (fun k j => (arg_cols arg5 harg5 x3 k j).trans (hx3 _ _)) rfl _ (fun r j => sum_at hx0 hx1 hx2 hx3 hx4 r j) r j

include hx0 hx1 hx2 hx3 hx4 in
/-- The keys' buffer. -/
theorem buf_k (r : Fin 256) (j : Fin 1024) :
    View.canon (kernelRun0_A.sl.HS3_1 c arg2 harg2 arg3 harg3 arg4 harg4 arg5 harg5 arg6 harg6 x0 x1 x2 x3 x4) (ix2 r j) = ki A (fun s => X (32 * (r / 32) + s)) (r % 32) j := by
  refine (store_whole _ r j).trans ?_
  exact ki_at A X _ _ _ (key_at hx0 hx1 hx2 hx3 hx4) (sum_at hx0 hx1 hx2 hx3 hx4) r j

include hx0 hx1 hx2 hx3 hx4 in
/-- The buffer of keys decayed to the chunk's end. -/
theorem buf_e (r : Fin 256) (j : Fin 1024) :
    View.canon (kernelRun0_A.sl.HS4_1 c arg2 harg2 arg3 harg3 arg4 harg4 arg5 harg5 arg6 harg6 x0 x1 x2 x3 x4) (ix2 r j) = ke A (fun s => X (32 * (r / 32) + s)) (r % 32) j := by
  refine (store_whole _ r j).trans ?_
  exact ke_at A X _ _ _ (key_at hx0 hx1 hx2 hx3 hx4) (sum_at hx0 hx1 hx2 hx3 hx4) r j

include hx0 hx1 hx2 hx3 in
/-- The values' buffer. -/
theorem buf_v (r : Fin 256) (j : Fin 1024) : View.canon (kernelRun0_A.sl.HS5_1 c arg2 harg2 arg3 harg3 arg4 harg4 arg5 harg5 x0 x1 x2 x3) (ix2 r j) = vv A (X r) j := by
  refine (store_whole _ r j).trans ?_
  exact (copy_at _ r j).trans (val_at hx0 hx1 hx2 hx3 r j)

include hx0 hx1 hx2 hx3 hx4 in
/-- The chunks' decays. -/
theorem buf_d (n : Fin 8) (j : Fin 1024) : View.canon (kernelRun0_A.sl.HS6_1 c arg2 harg2 arg3 harg3 arg4 harg4 arg5 harg5 arg6 harg6 x0 x1 x2 x3 x4) (ix2 n j) = dec A (fun s => X (32 * n + s)) j := by
  refine (store_whole _ n j).trans ?_
  exact dec_at A X _ _ (sum_at hx0 hx1 hx2 hx3 hx4) n j

variable {hc0 : cond0_0 i}

include hx0 hx1 hx2 hx3 hx4 hS hS0 in
theorem stage_0 : Stage True S 0 (kernelRun0_A.sl.HS0_1) := zero_stage hS0

include hx0 hx1 hx2 hx3 hx4 hS hS0 in
theorem stage_1 : Stage True S 1 (kernelRun0_A.sl.HS0_2 c arg2 harg2 arg3 harg3 arg4 harg4 arg5 harg5 arg6 harg6 arg15 arg19 arg20 arg21 x0 x1 x2 x3 x4) :=
  (stage_0 hx0 hx1 hx2 hx3 hx4 hS hS0).step A X hS 0 0 (by decide) (by decide) (by decide) (st := (arg15.view.readCov (kernelRun0_A.sl.HS0_1) ((Rect.unit (s := S8x128x128) ![0, 0, 0] S1x128x128.size inb_S8x128x128_S1x128x128_0_0_0).toLoadRect))) ((stage_0 hx0 hx1 hx2 hx3 hx4 hS hS0).load 0 0 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_2 : Stage True S 2 (kernelRun0_A.sl.HS0_3 c arg2 harg2 arg3 harg3 arg4 harg4 arg5 harg5 arg6 harg6 arg15 arg19 arg20 arg21 x0 x1 x2 x3 x4) :=
  (stage_1 hx0 hx1 hx2 hx3 hx4 hS hS0).step A X hS 0 1 (by decide) (by decide) (by decide) (st := (arg15.view.readCov (kernelRun0_A.sl.HS0_2 c arg2 harg2 arg3 harg3 arg4 harg4 arg5 harg5 arg6 harg6 arg15 arg19 arg20 arg21 x0 x1 x2 x3 x4) ((Rect.unit (s := S8x128x128) ![1, 0, 0] S1x128x128.size inb_S8x128x128_S1x128x128_1_0_0).toLoadRect))) ((stage_1 hx0 hx1 hx2 hx3 hx4 hS hS0).load 0 1 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_3 : Stage True S 3 (kernelRun0_A.sl.HS0_4 c arg2 harg2 arg3 harg3 arg4 harg4 arg5 harg5 arg6 harg6 arg15 arg19 arg20 arg21 x0 x1 x2 x3 x4) :=
  (stage_2 hx0 hx1 hx2 hx3 hx4 hS hS0).step A X hS 0 2 (by decide) (by decide) (by decide) (st := (arg15.view.readCov (kernelRun0_A.sl.HS0_3 c arg2 harg2 arg3 harg3 arg4 harg4 arg5 harg5 arg6 harg6 arg15 arg19 arg20 arg21 x0 x1 x2 x3 x4) ((Rect.unit (s := S8x128x128) ![2, 0, 0] S1x128x128.size inb_S8x128x128_S1x128x128_2_0_0).toLoadRect))) ((stage_2 hx0 hx1 hx2 hx3 hx4 hS hS0).load 0 2 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_4 : Stage True S 4 (kernelRun0_A.sl.HS0_5 c arg2 harg2 arg3 harg3 arg4 harg4 arg5 harg5 arg6 harg6 arg15 arg19 arg20 arg21 x0 x1 x2 x3 x4) :=
  (stage_3 hx0 hx1 hx2 hx3 hx4 hS hS0).step A X hS 0 3 (by decide) (by decide) (by decide) (st := (arg15.view.readCov (kernelRun0_A.sl.HS0_4 c arg2 harg2 arg3 harg3 arg4 harg4 arg5 harg5 arg6 harg6 arg15 arg19 arg20 arg21 x0 x1 x2 x3 x4) ((Rect.unit (s := S8x128x128) ![3, 0, 0] S1x128x128.size inb_S8x128x128_S1x128x128_3_0_0).toLoadRect))) ((stage_3 hx0 hx1 hx2 hx3 hx4 hS hS0).load 0 3 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_5 : Stage True S 5 (kernelRun0_A.sl.HS0_6 c arg2 harg2 arg3 harg3 arg4 harg4 arg5 harg5 arg6 harg6 arg15 arg19 arg20 arg21 x0 x1 x2 x3 x4) :=
  (stage_4 hx0 hx1 hx2 hx3 hx4 hS hS0).step A X hS 0 4 (by decide) (by decide) (by decide) (st := (arg15.view.readCov (kernelRun0_A.sl.HS0_5 c arg2 harg2 arg3 harg3 arg4 harg4 arg5 harg5 arg6 harg6 arg15 arg19 arg20 arg21 x0 x1 x2 x3 x4) ((Rect.unit (s := S8x128x128) ![4, 0, 0] S1x128x128.size inb_S8x128x128_S1x128x128_4_0_0).toLoadRect))) ((stage_4 hx0 hx1 hx2 hx3 hx4 hS hS0).load 0 4 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_6 : Stage True S 6 (kernelRun0_A.sl.HS0_7 c arg2 harg2 arg3 harg3 arg4 harg4 arg5 harg5 arg6 harg6 arg15 arg19 arg20 arg21 x0 x1 x2 x3 x4) :=
  (stage_5 hx0 hx1 hx2 hx3 hx4 hS hS0).step A X hS 0 5 (by decide) (by decide) (by decide) (st := (arg15.view.readCov (kernelRun0_A.sl.HS0_6 c arg2 harg2 arg3 harg3 arg4 harg4 arg5 harg5 arg6 harg6 arg15 arg19 arg20 arg21 x0 x1 x2 x3 x4) ((Rect.unit (s := S8x128x128) ![5, 0, 0] S1x128x128.size inb_S8x128x128_S1x128x128_5_0_0).toLoadRect))) ((stage_5 hx0 hx1 hx2 hx3 hx4 hS hS0).load 0 5 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_7 : Stage True S 7 (kernelRun0_A.sl.HS0_8 c arg2 harg2 arg3 harg3 arg4 harg4 arg5 harg5 arg6 harg6 arg15 arg19 arg20 arg21 x0 x1 x2 x3 x4) :=
  (stage_6 hx0 hx1 hx2 hx3 hx4 hS hS0).step A X hS 0 6 (by decide) (by decide) (by decide) (st := (arg15.view.readCov (kernelRun0_A.sl.HS0_7 c arg2 harg2 arg3 harg3 arg4 harg4 arg5 harg5 arg6 harg6 arg15 arg19 arg20 arg21 x0 x1 x2 x3 x4) ((Rect.unit (s := S8x128x128) ![6, 0, 0] S1x128x128.size inb_S8x128x128_S1x128x128_6_0_0).toLoadRect))) ((stage_6 hx0 hx1 hx2 hx3 hx4 hS hS0).load 0 6 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_8 : Stage True S 8 (kernelRun0_A.sl.HS0_9 c arg2 harg2 arg3 harg3 arg4 harg4 arg5 harg5 arg6 harg6 arg15 arg19 arg20 arg21 x0 x1 x2 x3 x4) :=
  (stage_7 hx0 hx1 hx2 hx3 hx4 hS hS0).step A X hS 0 7 (by decide) (by decide) (by decide) (st := (arg15.view.readCov (kernelRun0_A.sl.HS0_8 c arg2 harg2 arg3 harg3 arg4 harg4 arg5 harg5 arg6 harg6 arg15 arg19 arg20 arg21 x0 x1 x2 x3 x4) ((Rect.unit (s := S8x128x128) ![7, 0, 0] S1x128x128.size inb_S8x128x128_S1x128x128_7_0_0).toLoadRect))) ((stage_7 hx0 hx1 hx2 hx3 hx4 hS hS0).load 0 7 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_9 : Stage True S 9 (kernelRun0_A.sl.HS0_10 c arg2 harg2 arg3 harg3 arg4 harg4 arg5 harg5 arg6 harg6 arg15 arg19 arg20 arg21 x0 x1 x2 x3 x4) :=
  (stage_8 hx0 hx1 hx2 hx3 hx4 hS hS0).step A X hS 1 0 (by decide) (by decide) (by decide) (st := (arg15.view.readCov (kernelRun0_A.sl.HS0_9 c arg2 harg2 arg3 harg3 arg4 harg4 arg5 harg5 arg6 harg6 arg15 arg19 arg20 arg21 x0 x1 x2 x3 x4) ((Rect.unit (s := S8x128x128) ![0, 0, 0] S1x128x128.size inb_S8x128x128_S1x128x128_0_0_0).toLoadRect))) ((stage_8 hx0 hx1 hx2 hx3 hx4 hS hS0).load 1 0 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_10 : Stage True S 10 (kernelRun0_A.sl.HS0_11 c arg2 harg2 arg3 harg3 arg4 harg4 arg5 harg5 arg6 harg6 arg15 arg19 arg20 arg21 x0 x1 x2 x3 x4) :=
  (stage_9 hx0 hx1 hx2 hx3 hx4 hS hS0).step A X hS 1 1 (by decide) (by decide) (by decide) (st := (arg15.view.readCov (kernelRun0_A.sl.HS0_10 c arg2 harg2 arg3 harg3 arg4 harg4 arg5 harg5 arg6 harg6 arg15 arg19 arg20 arg21 x0 x1 x2 x3 x4) ((Rect.unit (s := S8x128x128) ![1, 0, 0] S1x128x128.size inb_S8x128x128_S1x128x128_1_0_0).toLoadRect))) ((stage_9 hx0 hx1 hx2 hx3 hx4 hS hS0).load 1 1 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_11 : Stage True S 11 (kernelRun0_A.sl.HS0_12 c arg2 harg2 arg3 harg3 arg4 harg4 arg5 harg5 arg6 harg6 arg15 arg19 arg20 arg21 x0 x1 x2 x3 x4) :=
  (stage_10 hx0 hx1 hx2 hx3 hx4 hS hS0).step A X hS 1 2 (by decide) (by decide) (by decide) (st := (arg15.view.readCov (kernelRun0_A.sl.HS0_11 c arg2 harg2 arg3 harg3 arg4 harg4 arg5 harg5 arg6 harg6 arg15 arg19 arg20 arg21 x0 x1 x2 x3 x4) ((Rect.unit (s := S8x128x128) ![2, 0, 0] S1x128x128.size inb_S8x128x128_S1x128x128_2_0_0).toLoadRect))) ((stage_10 hx0 hx1 hx2 hx3 hx4 hS hS0).load 1 2 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_12 : Stage True S 12 (kernelRun0_A.sl.HS0_13 c arg2 harg2 arg3 harg3 arg4 harg4 arg5 harg5 arg6 harg6 arg15 arg19 arg20 arg21 x0 x1 x2 x3 x4) :=
  (stage_11 hx0 hx1 hx2 hx3 hx4 hS hS0).step A X hS 1 3 (by decide) (by decide) (by decide) (st := (arg15.view.readCov (kernelRun0_A.sl.HS0_12 c arg2 harg2 arg3 harg3 arg4 harg4 arg5 harg5 arg6 harg6 arg15 arg19 arg20 arg21 x0 x1 x2 x3 x4) ((Rect.unit (s := S8x128x128) ![3, 0, 0] S1x128x128.size inb_S8x128x128_S1x128x128_3_0_0).toLoadRect))) ((stage_11 hx0 hx1 hx2 hx3 hx4 hS hS0).load 1 3 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_13 : Stage True S 13 (kernelRun0_A.sl.HS0_14 c arg2 harg2 arg3 harg3 arg4 harg4 arg5 harg5 arg6 harg6 arg15 arg19 arg20 arg21 x0 x1 x2 x3 x4) :=
  (stage_12 hx0 hx1 hx2 hx3 hx4 hS hS0).step A X hS 1 4 (by decide) (by decide) (by decide) (st := (arg15.view.readCov (kernelRun0_A.sl.HS0_13 c arg2 harg2 arg3 harg3 arg4 harg4 arg5 harg5 arg6 harg6 arg15 arg19 arg20 arg21 x0 x1 x2 x3 x4) ((Rect.unit (s := S8x128x128) ![4, 0, 0] S1x128x128.size inb_S8x128x128_S1x128x128_4_0_0).toLoadRect))) ((stage_12 hx0 hx1 hx2 hx3 hx4 hS hS0).load 1 4 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_14 : Stage True S 14 (kernelRun0_A.sl.HS0_15 c arg2 harg2 arg3 harg3 arg4 harg4 arg5 harg5 arg6 harg6 arg15 arg19 arg20 arg21 x0 x1 x2 x3 x4) :=
  (stage_13 hx0 hx1 hx2 hx3 hx4 hS hS0).step A X hS 1 5 (by decide) (by decide) (by decide) (st := (arg15.view.readCov (kernelRun0_A.sl.HS0_14 c arg2 harg2 arg3 harg3 arg4 harg4 arg5 harg5 arg6 harg6 arg15 arg19 arg20 arg21 x0 x1 x2 x3 x4) ((Rect.unit (s := S8x128x128) ![5, 0, 0] S1x128x128.size inb_S8x128x128_S1x128x128_5_0_0).toLoadRect))) ((stage_13 hx0 hx1 hx2 hx3 hx4 hS hS0).load 1 5 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_15 : Stage True S 15 (kernelRun0_A.sl.HS0_16 c arg2 harg2 arg3 harg3 arg4 harg4 arg5 harg5 arg6 harg6 arg15 arg19 arg20 arg21 x0 x1 x2 x3 x4) :=
  (stage_14 hx0 hx1 hx2 hx3 hx4 hS hS0).step A X hS 1 6 (by decide) (by decide) (by decide) (st := (arg15.view.readCov (kernelRun0_A.sl.HS0_15 c arg2 harg2 arg3 harg3 arg4 harg4 arg5 harg5 arg6 harg6 arg15 arg19 arg20 arg21 x0 x1 x2 x3 x4) ((Rect.unit (s := S8x128x128) ![6, 0, 0] S1x128x128.size inb_S8x128x128_S1x128x128_6_0_0).toLoadRect))) ((stage_14 hx0 hx1 hx2 hx3 hx4 hS hS0).load 1 6 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_16 : Stage True S 16 (kernelRun0_A.sl.HS0_17 c arg2 harg2 arg3 harg3 arg4 harg4 arg5 harg5 arg6 harg6 arg15 arg19 arg20 arg21 x0 x1 x2 x3 x4) :=
  (stage_15 hx0 hx1 hx2 hx3 hx4 hS hS0).step A X hS 1 7 (by decide) (by decide) (by decide) (st := (arg15.view.readCov (kernelRun0_A.sl.HS0_16 c arg2 harg2 arg3 harg3 arg4 harg4 arg5 harg5 arg6 harg6 arg15 arg19 arg20 arg21 x0 x1 x2 x3 x4) ((Rect.unit (s := S8x128x128) ![7, 0, 0] S1x128x128.size inb_S8x128x128_S1x128x128_7_0_0).toLoadRect))) ((stage_15 hx0 hx1 hx2 hx3 hx4 hS hS0).load 1 7 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_17 : Stage True S 17 (kernelRun0_A.sl.HS0_18 c arg2 harg2 arg3 harg3 arg4 harg4 arg5 harg5 arg6 harg6 arg15 arg19 arg20 arg21 x0 x1 x2 x3 x4) :=
  (stage_16 hx0 hx1 hx2 hx3 hx4 hS hS0).step A X hS 2 0 (by decide) (by decide) (by decide) (st := (arg15.view.readCov (kernelRun0_A.sl.HS0_17 c arg2 harg2 arg3 harg3 arg4 harg4 arg5 harg5 arg6 harg6 arg15 arg19 arg20 arg21 x0 x1 x2 x3 x4) ((Rect.unit (s := S8x128x128) ![0, 0, 0] S1x128x128.size inb_S8x128x128_S1x128x128_0_0_0).toLoadRect))) ((stage_16 hx0 hx1 hx2 hx3 hx4 hS hS0).load 2 0 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_18 : Stage True S 18 (kernelRun0_A.sl.HS0_19 c arg2 harg2 arg3 harg3 arg4 harg4 arg5 harg5 arg6 harg6 arg15 arg19 arg20 arg21 x0 x1 x2 x3 x4) :=
  (stage_17 hx0 hx1 hx2 hx3 hx4 hS hS0).step A X hS 2 1 (by decide) (by decide) (by decide) (st := (arg15.view.readCov (kernelRun0_A.sl.HS0_18 c arg2 harg2 arg3 harg3 arg4 harg4 arg5 harg5 arg6 harg6 arg15 arg19 arg20 arg21 x0 x1 x2 x3 x4) ((Rect.unit (s := S8x128x128) ![1, 0, 0] S1x128x128.size inb_S8x128x128_S1x128x128_1_0_0).toLoadRect))) ((stage_17 hx0 hx1 hx2 hx3 hx4 hS hS0).load 2 1 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_19 : Stage True S 19 (kernelRun0_A.sl.HS0_20 c arg2 harg2 arg3 harg3 arg4 harg4 arg5 harg5 arg6 harg6 arg15 arg19 arg20 arg21 x0 x1 x2 x3 x4) :=
  (stage_18 hx0 hx1 hx2 hx3 hx4 hS hS0).step A X hS 2 2 (by decide) (by decide) (by decide) (st := (arg15.view.readCov (kernelRun0_A.sl.HS0_19 c arg2 harg2 arg3 harg3 arg4 harg4 arg5 harg5 arg6 harg6 arg15 arg19 arg20 arg21 x0 x1 x2 x3 x4) ((Rect.unit (s := S8x128x128) ![2, 0, 0] S1x128x128.size inb_S8x128x128_S1x128x128_2_0_0).toLoadRect))) ((stage_18 hx0 hx1 hx2 hx3 hx4 hS hS0).load 2 2 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_20 : Stage True S 20 (kernelRun0_A.sl.HS0_21 c arg2 harg2 arg3 harg3 arg4 harg4 arg5 harg5 arg6 harg6 arg15 arg19 arg20 arg21 x0 x1 x2 x3 x4) :=
  (stage_19 hx0 hx1 hx2 hx3 hx4 hS hS0).step A X hS 2 3 (by decide) (by decide) (by decide) (st := (arg15.view.readCov (kernelRun0_A.sl.HS0_20 c arg2 harg2 arg3 harg3 arg4 harg4 arg5 harg5 arg6 harg6 arg15 arg19 arg20 arg21 x0 x1 x2 x3 x4) ((Rect.unit (s := S8x128x128) ![3, 0, 0] S1x128x128.size inb_S8x128x128_S1x128x128_3_0_0).toLoadRect))) ((stage_19 hx0 hx1 hx2 hx3 hx4 hS hS0).load 2 3 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_21 : Stage True S 21 (kernelRun0_A.sl.HS0_22 c arg2 harg2 arg3 harg3 arg4 harg4 arg5 harg5 arg6 harg6 arg15 arg19 arg20 arg21 x0 x1 x2 x3 x4) :=
  (stage_20 hx0 hx1 hx2 hx3 hx4 hS hS0).step A X hS 2 4 (by decide) (by decide) (by decide) (st := (arg15.view.readCov (kernelRun0_A.sl.HS0_21 c arg2 harg2 arg3 harg3 arg4 harg4 arg5 harg5 arg6 harg6 arg15 arg19 arg20 arg21 x0 x1 x2 x3 x4) ((Rect.unit (s := S8x128x128) ![4, 0, 0] S1x128x128.size inb_S8x128x128_S1x128x128_4_0_0).toLoadRect))) ((stage_20 hx0 hx1 hx2 hx3 hx4 hS hS0).load 2 4 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_22 : Stage True S 22 (kernelRun0_A.sl.HS0_23 c arg2 harg2 arg3 harg3 arg4 harg4 arg5 harg5 arg6 harg6 arg15 arg19 arg20 arg21 x0 x1 x2 x3 x4) :=
  (stage_21 hx0 hx1 hx2 hx3 hx4 hS hS0).step A X hS 2 5 (by decide) (by decide) (by decide) (st := (arg15.view.readCov (kernelRun0_A.sl.HS0_22 c arg2 harg2 arg3 harg3 arg4 harg4 arg5 harg5 arg6 harg6 arg15 arg19 arg20 arg21 x0 x1 x2 x3 x4) ((Rect.unit (s := S8x128x128) ![5, 0, 0] S1x128x128.size inb_S8x128x128_S1x128x128_5_0_0).toLoadRect))) ((stage_21 hx0 hx1 hx2 hx3 hx4 hS hS0).load 2 5 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_23 : Stage True S 23 (kernelRun0_A.sl.HS0_24 c arg2 harg2 arg3 harg3 arg4 harg4 arg5 harg5 arg6 harg6 arg15 arg19 arg20 arg21 x0 x1 x2 x3 x4) :=
  (stage_22 hx0 hx1 hx2 hx3 hx4 hS hS0).step A X hS 2 6 (by decide) (by decide) (by decide) (st := (arg15.view.readCov (kernelRun0_A.sl.HS0_23 c arg2 harg2 arg3 harg3 arg4 harg4 arg5 harg5 arg6 harg6 arg15 arg19 arg20 arg21 x0 x1 x2 x3 x4) ((Rect.unit (s := S8x128x128) ![6, 0, 0] S1x128x128.size inb_S8x128x128_S1x128x128_6_0_0).toLoadRect))) ((stage_22 hx0 hx1 hx2 hx3 hx4 hS hS0).load 2 6 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_24 : Stage True S 24 (kernelRun0_A.sl.HS0_25 c arg2 harg2 arg3 harg3 arg4 harg4 arg5 harg5 arg6 harg6 arg15 arg19 arg20 arg21 x0 x1 x2 x3 x4) :=
  (stage_23 hx0 hx1 hx2 hx3 hx4 hS hS0).step A X hS 2 7 (by decide) (by decide) (by decide) (st := (arg15.view.readCov (kernelRun0_A.sl.HS0_24 c arg2 harg2 arg3 harg3 arg4 harg4 arg5 harg5 arg6 harg6 arg15 arg19 arg20 arg21 x0 x1 x2 x3 x4) ((Rect.unit (s := S8x128x128) ![7, 0, 0] S1x128x128.size inb_S8x128x128_S1x128x128_7_0_0).toLoadRect))) ((stage_23 hx0 hx1 hx2 hx3 hx4 hS hS0).load 2 7 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_25 : Stage True S 25 (kernelRun0_A.sl.HS0_26 c arg2 harg2 arg3 harg3 arg4 harg4 arg5 harg5 arg6 harg6 arg15 arg19 arg20 arg21 x0 x1 x2 x3 x4) :=
  (stage_24 hx0 hx1 hx2 hx3 hx4 hS hS0).step A X hS 3 0 (by decide) (by decide) (by decide) (st := (arg15.view.readCov (kernelRun0_A.sl.HS0_25 c arg2 harg2 arg3 harg3 arg4 harg4 arg5 harg5 arg6 harg6 arg15 arg19 arg20 arg21 x0 x1 x2 x3 x4) ((Rect.unit (s := S8x128x128) ![0, 0, 0] S1x128x128.size inb_S8x128x128_S1x128x128_0_0_0).toLoadRect))) ((stage_24 hx0 hx1 hx2 hx3 hx4 hS hS0).load 3 0 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_26 : Stage True S 26 (kernelRun0_A.sl.HS0_27 c arg2 harg2 arg3 harg3 arg4 harg4 arg5 harg5 arg6 harg6 arg15 arg19 arg20 arg21 x0 x1 x2 x3 x4) :=
  (stage_25 hx0 hx1 hx2 hx3 hx4 hS hS0).step A X hS 3 1 (by decide) (by decide) (by decide) (st := (arg15.view.readCov (kernelRun0_A.sl.HS0_26 c arg2 harg2 arg3 harg3 arg4 harg4 arg5 harg5 arg6 harg6 arg15 arg19 arg20 arg21 x0 x1 x2 x3 x4) ((Rect.unit (s := S8x128x128) ![1, 0, 0] S1x128x128.size inb_S8x128x128_S1x128x128_1_0_0).toLoadRect))) ((stage_25 hx0 hx1 hx2 hx3 hx4 hS hS0).load 3 1 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_27 : Stage True S 27 (kernelRun0_A.sl.HS0_28 c arg2 harg2 arg3 harg3 arg4 harg4 arg5 harg5 arg6 harg6 arg15 arg19 arg20 arg21 x0 x1 x2 x3 x4) :=
  (stage_26 hx0 hx1 hx2 hx3 hx4 hS hS0).step A X hS 3 2 (by decide) (by decide) (by decide) (st := (arg15.view.readCov (kernelRun0_A.sl.HS0_27 c arg2 harg2 arg3 harg3 arg4 harg4 arg5 harg5 arg6 harg6 arg15 arg19 arg20 arg21 x0 x1 x2 x3 x4) ((Rect.unit (s := S8x128x128) ![2, 0, 0] S1x128x128.size inb_S8x128x128_S1x128x128_2_0_0).toLoadRect))) ((stage_26 hx0 hx1 hx2 hx3 hx4 hS hS0).load 3 2 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_28 : Stage True S 28 (kernelRun0_A.sl.HS0_29 c arg2 harg2 arg3 harg3 arg4 harg4 arg5 harg5 arg6 harg6 arg15 arg19 arg20 arg21 x0 x1 x2 x3 x4) :=
  (stage_27 hx0 hx1 hx2 hx3 hx4 hS hS0).step A X hS 3 3 (by decide) (by decide) (by decide) (st := (arg15.view.readCov (kernelRun0_A.sl.HS0_28 c arg2 harg2 arg3 harg3 arg4 harg4 arg5 harg5 arg6 harg6 arg15 arg19 arg20 arg21 x0 x1 x2 x3 x4) ((Rect.unit (s := S8x128x128) ![3, 0, 0] S1x128x128.size inb_S8x128x128_S1x128x128_3_0_0).toLoadRect))) ((stage_27 hx0 hx1 hx2 hx3 hx4 hS hS0).load 3 3 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_29 : Stage True S 29 (kernelRun0_A.sl.HS0_30 c arg2 harg2 arg3 harg3 arg4 harg4 arg5 harg5 arg6 harg6 arg15 arg19 arg20 arg21 x0 x1 x2 x3 x4) :=
  (stage_28 hx0 hx1 hx2 hx3 hx4 hS hS0).step A X hS 3 4 (by decide) (by decide) (by decide) (st := (arg15.view.readCov (kernelRun0_A.sl.HS0_29 c arg2 harg2 arg3 harg3 arg4 harg4 arg5 harg5 arg6 harg6 arg15 arg19 arg20 arg21 x0 x1 x2 x3 x4) ((Rect.unit (s := S8x128x128) ![4, 0, 0] S1x128x128.size inb_S8x128x128_S1x128x128_4_0_0).toLoadRect))) ((stage_28 hx0 hx1 hx2 hx3 hx4 hS hS0).load 3 4 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_30 : Stage True S 30 (kernelRun0_A.sl.HS0_31 c arg2 harg2 arg3 harg3 arg4 harg4 arg5 harg5 arg6 harg6 arg15 arg19 arg20 arg21 x0 x1 x2 x3 x4) :=
  (stage_29 hx0 hx1 hx2 hx3 hx4 hS hS0).step A X hS 3 5 (by decide) (by decide) (by decide) (st := (arg15.view.readCov (kernelRun0_A.sl.HS0_30 c arg2 harg2 arg3 harg3 arg4 harg4 arg5 harg5 arg6 harg6 arg15 arg19 arg20 arg21 x0 x1 x2 x3 x4) ((Rect.unit (s := S8x128x128) ![5, 0, 0] S1x128x128.size inb_S8x128x128_S1x128x128_5_0_0).toLoadRect))) ((stage_29 hx0 hx1 hx2 hx3 hx4 hS hS0).load 3 5 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_31 : Stage True S 31 (kernelRun0_A.sl.HS0_32 c arg2 harg2 arg3 harg3 arg4 harg4 arg5 harg5 arg6 harg6 arg15 arg19 arg20 arg21 x0 x1 x2 x3 x4) :=
  (stage_30 hx0 hx1 hx2 hx3 hx4 hS hS0).step A X hS 3 6 (by decide) (by decide) (by decide) (st := (arg15.view.readCov (kernelRun0_A.sl.HS0_31 c arg2 harg2 arg3 harg3 arg4 harg4 arg5 harg5 arg6 harg6 arg15 arg19 arg20 arg21 x0 x1 x2 x3 x4) ((Rect.unit (s := S8x128x128) ![6, 0, 0] S1x128x128.size inb_S8x128x128_S1x128x128_6_0_0).toLoadRect))) ((stage_30 hx0 hx1 hx2 hx3 hx4 hS hS0).load 3 6 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_32 : Stage True S 32 (kernelRun0_A.sl.HS0_33 c arg2 harg2 arg3 harg3 arg4 harg4 arg5 harg5 arg6 harg6 arg15 arg19 arg20 arg21 x0 x1 x2 x3 x4) :=
  (stage_31 hx0 hx1 hx2 hx3 hx4 hS hS0).step A X hS 3 7 (by decide) (by decide) (by decide) (st := (arg15.view.readCov (kernelRun0_A.sl.HS0_32 c arg2 harg2 arg3 harg3 arg4 harg4 arg5 harg5 arg6 harg6 arg15 arg19 arg20 arg21 x0 x1 x2 x3 x4) ((Rect.unit (s := S8x128x128) ![7, 0, 0] S1x128x128.size inb_S8x128x128_S1x128x128_7_0_0).toLoadRect))) ((stage_31 hx0 hx1 hx2 hx3 hx4 hS hS0).load 3 7 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_33 : Stage True S 33 (kernelRun0_A.sl.HS0_34 c arg2 harg2 arg3 harg3 arg4 harg4 arg5 harg5 arg6 harg6 arg15 arg19 arg20 arg21 x0 x1 x2 x3 x4) :=
  (stage_32 hx0 hx1 hx2 hx3 hx4 hS hS0).step A X hS 4 0 (by decide) (by decide) (by decide) (st := (arg15.view.readCov (kernelRun0_A.sl.HS0_33 c arg2 harg2 arg3 harg3 arg4 harg4 arg5 harg5 arg6 harg6 arg15 arg19 arg20 arg21 x0 x1 x2 x3 x4) ((Rect.unit (s := S8x128x128) ![0, 0, 0] S1x128x128.size inb_S8x128x128_S1x128x128_0_0_0).toLoadRect))) ((stage_32 hx0 hx1 hx2 hx3 hx4 hS hS0).load 4 0 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_34 : Stage True S 34 (kernelRun0_A.sl.HS0_35 c arg2 harg2 arg3 harg3 arg4 harg4 arg5 harg5 arg6 harg6 arg15 arg19 arg20 arg21 x0 x1 x2 x3 x4) :=
  (stage_33 hx0 hx1 hx2 hx3 hx4 hS hS0).step A X hS 4 1 (by decide) (by decide) (by decide) (st := (arg15.view.readCov (kernelRun0_A.sl.HS0_34 c arg2 harg2 arg3 harg3 arg4 harg4 arg5 harg5 arg6 harg6 arg15 arg19 arg20 arg21 x0 x1 x2 x3 x4) ((Rect.unit (s := S8x128x128) ![1, 0, 0] S1x128x128.size inb_S8x128x128_S1x128x128_1_0_0).toLoadRect))) ((stage_33 hx0 hx1 hx2 hx3 hx4 hS hS0).load 4 1 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_35 : Stage True S 35 (kernelRun0_A.sl.HS0_36 c arg2 harg2 arg3 harg3 arg4 harg4 arg5 harg5 arg6 harg6 arg15 arg19 arg20 arg21 x0 x1 x2 x3 x4) :=
  (stage_34 hx0 hx1 hx2 hx3 hx4 hS hS0).step A X hS 4 2 (by decide) (by decide) (by decide) (st := (arg15.view.readCov (kernelRun0_A.sl.HS0_35 c arg2 harg2 arg3 harg3 arg4 harg4 arg5 harg5 arg6 harg6 arg15 arg19 arg20 arg21 x0 x1 x2 x3 x4) ((Rect.unit (s := S8x128x128) ![2, 0, 0] S1x128x128.size inb_S8x128x128_S1x128x128_2_0_0).toLoadRect))) ((stage_34 hx0 hx1 hx2 hx3 hx4 hS hS0).load 4 2 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_36 : Stage True S 36 (kernelRun0_A.sl.HS0_37 c arg2 harg2 arg3 harg3 arg4 harg4 arg5 harg5 arg6 harg6 arg15 arg19 arg20 arg21 x0 x1 x2 x3 x4) :=
  (stage_35 hx0 hx1 hx2 hx3 hx4 hS hS0).step A X hS 4 3 (by decide) (by decide) (by decide) (st := (arg15.view.readCov (kernelRun0_A.sl.HS0_36 c arg2 harg2 arg3 harg3 arg4 harg4 arg5 harg5 arg6 harg6 arg15 arg19 arg20 arg21 x0 x1 x2 x3 x4) ((Rect.unit (s := S8x128x128) ![3, 0, 0] S1x128x128.size inb_S8x128x128_S1x128x128_3_0_0).toLoadRect))) ((stage_35 hx0 hx1 hx2 hx3 hx4 hS hS0).load 4 3 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_37 : Stage True S 37 (kernelRun0_A.sl.HS0_38 c arg2 harg2 arg3 harg3 arg4 harg4 arg5 harg5 arg6 harg6 arg15 arg19 arg20 arg21 x0 x1 x2 x3 x4) :=
  (stage_36 hx0 hx1 hx2 hx3 hx4 hS hS0).step A X hS 4 4 (by decide) (by decide) (by decide) (st := (arg15.view.readCov (kernelRun0_A.sl.HS0_37 c arg2 harg2 arg3 harg3 arg4 harg4 arg5 harg5 arg6 harg6 arg15 arg19 arg20 arg21 x0 x1 x2 x3 x4) ((Rect.unit (s := S8x128x128) ![4, 0, 0] S1x128x128.size inb_S8x128x128_S1x128x128_4_0_0).toLoadRect))) ((stage_36 hx0 hx1 hx2 hx3 hx4 hS hS0).load 4 4 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_38 : Stage True S 38 (kernelRun0_A.sl.HS0_39 c arg2 harg2 arg3 harg3 arg4 harg4 arg5 harg5 arg6 harg6 arg15 arg19 arg20 arg21 x0 x1 x2 x3 x4) :=
  (stage_37 hx0 hx1 hx2 hx3 hx4 hS hS0).step A X hS 4 5 (by decide) (by decide) (by decide) (st := (arg15.view.readCov (kernelRun0_A.sl.HS0_38 c arg2 harg2 arg3 harg3 arg4 harg4 arg5 harg5 arg6 harg6 arg15 arg19 arg20 arg21 x0 x1 x2 x3 x4) ((Rect.unit (s := S8x128x128) ![5, 0, 0] S1x128x128.size inb_S8x128x128_S1x128x128_5_0_0).toLoadRect))) ((stage_37 hx0 hx1 hx2 hx3 hx4 hS hS0).load 4 5 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_39 : Stage True S 39 (kernelRun0_A.sl.HS0_40 c arg2 harg2 arg3 harg3 arg4 harg4 arg5 harg5 arg6 harg6 arg15 arg19 arg20 arg21 x0 x1 x2 x3 x4) :=
  (stage_38 hx0 hx1 hx2 hx3 hx4 hS hS0).step A X hS 4 6 (by decide) (by decide) (by decide) (st := (arg15.view.readCov (kernelRun0_A.sl.HS0_39 c arg2 harg2 arg3 harg3 arg4 harg4 arg5 harg5 arg6 harg6 arg15 arg19 arg20 arg21 x0 x1 x2 x3 x4) ((Rect.unit (s := S8x128x128) ![6, 0, 0] S1x128x128.size inb_S8x128x128_S1x128x128_6_0_0).toLoadRect))) ((stage_38 hx0 hx1 hx2 hx3 hx4 hS hS0).load 4 6 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_40 : Stage True S 40 (kernelRun0_A.sl.HS0_41 c arg2 harg2 arg3 harg3 arg4 harg4 arg5 harg5 arg6 harg6 arg15 arg19 arg20 arg21 x0 x1 x2 x3 x4) :=
  (stage_39 hx0 hx1 hx2 hx3 hx4 hS hS0).step A X hS 4 7 (by decide) (by decide) (by decide) (st := (arg15.view.readCov (kernelRun0_A.sl.HS0_40 c arg2 harg2 arg3 harg3 arg4 harg4 arg5 harg5 arg6 harg6 arg15 arg19 arg20 arg21 x0 x1 x2 x3 x4) ((Rect.unit (s := S8x128x128) ![7, 0, 0] S1x128x128.size inb_S8x128x128_S1x128x128_7_0_0).toLoadRect))) ((stage_39 hx0 hx1 hx2 hx3 hx4 hS hS0).load 4 7 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_41 : Stage True S 41 (kernelRun0_A.sl.HS0_42 c arg2 harg2 arg3 harg3 arg4 harg4 arg5 harg5 arg6 harg6 arg15 arg19 arg20 arg21 x0 x1 x2 x3 x4) :=
  (stage_40 hx0 hx1 hx2 hx3 hx4 hS hS0).step A X hS 5 0 (by decide) (by decide) (by decide) (st := (arg15.view.readCov (kernelRun0_A.sl.HS0_41 c arg2 harg2 arg3 harg3 arg4 harg4 arg5 harg5 arg6 harg6 arg15 arg19 arg20 arg21 x0 x1 x2 x3 x4) ((Rect.unit (s := S8x128x128) ![0, 0, 0] S1x128x128.size inb_S8x128x128_S1x128x128_0_0_0).toLoadRect))) ((stage_40 hx0 hx1 hx2 hx3 hx4 hS hS0).load 5 0 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_42 : Stage True S 42 (kernelRun0_A.sl.HS0_43 c arg2 harg2 arg3 harg3 arg4 harg4 arg5 harg5 arg6 harg6 arg15 arg19 arg20 arg21 x0 x1 x2 x3 x4) :=
  (stage_41 hx0 hx1 hx2 hx3 hx4 hS hS0).step A X hS 5 1 (by decide) (by decide) (by decide) (st := (arg15.view.readCov (kernelRun0_A.sl.HS0_42 c arg2 harg2 arg3 harg3 arg4 harg4 arg5 harg5 arg6 harg6 arg15 arg19 arg20 arg21 x0 x1 x2 x3 x4) ((Rect.unit (s := S8x128x128) ![1, 0, 0] S1x128x128.size inb_S8x128x128_S1x128x128_1_0_0).toLoadRect))) ((stage_41 hx0 hx1 hx2 hx3 hx4 hS hS0).load 5 1 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_43 : Stage True S 43 (kernelRun0_A.sl.HS0_44 c arg2 harg2 arg3 harg3 arg4 harg4 arg5 harg5 arg6 harg6 arg15 arg19 arg20 arg21 x0 x1 x2 x3 x4) :=
  (stage_42 hx0 hx1 hx2 hx3 hx4 hS hS0).step A X hS 5 2 (by decide) (by decide) (by decide) (st := (arg15.view.readCov (kernelRun0_A.sl.HS0_43 c arg2 harg2 arg3 harg3 arg4 harg4 arg5 harg5 arg6 harg6 arg15 arg19 arg20 arg21 x0 x1 x2 x3 x4) ((Rect.unit (s := S8x128x128) ![2, 0, 0] S1x128x128.size inb_S8x128x128_S1x128x128_2_0_0).toLoadRect))) ((stage_42 hx0 hx1 hx2 hx3 hx4 hS hS0).load 5 2 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_44 : Stage True S 44 (kernelRun0_A.sl.HS0_45 c arg2 harg2 arg3 harg3 arg4 harg4 arg5 harg5 arg6 harg6 arg15 arg19 arg20 arg21 x0 x1 x2 x3 x4) :=
  (stage_43 hx0 hx1 hx2 hx3 hx4 hS hS0).step A X hS 5 3 (by decide) (by decide) (by decide) (st := (arg15.view.readCov (kernelRun0_A.sl.HS0_44 c arg2 harg2 arg3 harg3 arg4 harg4 arg5 harg5 arg6 harg6 arg15 arg19 arg20 arg21 x0 x1 x2 x3 x4) ((Rect.unit (s := S8x128x128) ![3, 0, 0] S1x128x128.size inb_S8x128x128_S1x128x128_3_0_0).toLoadRect))) ((stage_43 hx0 hx1 hx2 hx3 hx4 hS hS0).load 5 3 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_45 : Stage True S 45 (kernelRun0_A.sl.HS0_46 c arg2 harg2 arg3 harg3 arg4 harg4 arg5 harg5 arg6 harg6 arg15 arg19 arg20 arg21 x0 x1 x2 x3 x4) :=
  (stage_44 hx0 hx1 hx2 hx3 hx4 hS hS0).step A X hS 5 4 (by decide) (by decide) (by decide) (st := (arg15.view.readCov (kernelRun0_A.sl.HS0_45 c arg2 harg2 arg3 harg3 arg4 harg4 arg5 harg5 arg6 harg6 arg15 arg19 arg20 arg21 x0 x1 x2 x3 x4) ((Rect.unit (s := S8x128x128) ![4, 0, 0] S1x128x128.size inb_S8x128x128_S1x128x128_4_0_0).toLoadRect))) ((stage_44 hx0 hx1 hx2 hx3 hx4 hS hS0).load 5 4 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_46 : Stage True S 46 (kernelRun0_A.sl.HS0_47 c arg2 harg2 arg3 harg3 arg4 harg4 arg5 harg5 arg6 harg6 arg15 arg19 arg20 arg21 x0 x1 x2 x3 x4) :=
  (stage_45 hx0 hx1 hx2 hx3 hx4 hS hS0).step A X hS 5 5 (by decide) (by decide) (by decide) (st := (arg15.view.readCov (kernelRun0_A.sl.HS0_46 c arg2 harg2 arg3 harg3 arg4 harg4 arg5 harg5 arg6 harg6 arg15 arg19 arg20 arg21 x0 x1 x2 x3 x4) ((Rect.unit (s := S8x128x128) ![5, 0, 0] S1x128x128.size inb_S8x128x128_S1x128x128_5_0_0).toLoadRect))) ((stage_45 hx0 hx1 hx2 hx3 hx4 hS hS0).load 5 5 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_47 : Stage True S 47 (kernelRun0_A.sl.HS0_48 c arg2 harg2 arg3 harg3 arg4 harg4 arg5 harg5 arg6 harg6 arg15 arg19 arg20 arg21 x0 x1 x2 x3 x4) :=
  (stage_46 hx0 hx1 hx2 hx3 hx4 hS hS0).step A X hS 5 6 (by decide) (by decide) (by decide) (st := (arg15.view.readCov (kernelRun0_A.sl.HS0_47 c arg2 harg2 arg3 harg3 arg4 harg4 arg5 harg5 arg6 harg6 arg15 arg19 arg20 arg21 x0 x1 x2 x3 x4) ((Rect.unit (s := S8x128x128) ![6, 0, 0] S1x128x128.size inb_S8x128x128_S1x128x128_6_0_0).toLoadRect))) ((stage_46 hx0 hx1 hx2 hx3 hx4 hS hS0).load 5 6 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_48 : Stage True S 48 (kernelRun0_A.sl.HS0_49 c arg2 harg2 arg3 harg3 arg4 harg4 arg5 harg5 arg6 harg6 arg15 arg19 arg20 arg21 x0 x1 x2 x3 x4) :=
  (stage_47 hx0 hx1 hx2 hx3 hx4 hS hS0).step A X hS 5 7 (by decide) (by decide) (by decide) (st := (arg15.view.readCov (kernelRun0_A.sl.HS0_48 c arg2 harg2 arg3 harg3 arg4 harg4 arg5 harg5 arg6 harg6 arg15 arg19 arg20 arg21 x0 x1 x2 x3 x4) ((Rect.unit (s := S8x128x128) ![7, 0, 0] S1x128x128.size inb_S8x128x128_S1x128x128_7_0_0).toLoadRect))) ((stage_47 hx0 hx1 hx2 hx3 hx4 hS hS0).load 5 7 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_49 : Stage True S 49 (kernelRun0_A.sl.HS0_50 c arg2 harg2 arg3 harg3 arg4 harg4 arg5 harg5 arg6 harg6 arg15 arg19 arg20 arg21 x0 x1 x2 x3 x4) :=
  (stage_48 hx0 hx1 hx2 hx3 hx4 hS hS0).step A X hS 6 0 (by decide) (by decide) (by decide) (st := (arg15.view.readCov (kernelRun0_A.sl.HS0_49 c arg2 harg2 arg3 harg3 arg4 harg4 arg5 harg5 arg6 harg6 arg15 arg19 arg20 arg21 x0 x1 x2 x3 x4) ((Rect.unit (s := S8x128x128) ![0, 0, 0] S1x128x128.size inb_S8x128x128_S1x128x128_0_0_0).toLoadRect))) ((stage_48 hx0 hx1 hx2 hx3 hx4 hS hS0).load 6 0 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_50 : Stage True S 50 (kernelRun0_A.sl.HS0_51 c arg2 harg2 arg3 harg3 arg4 harg4 arg5 harg5 arg6 harg6 arg15 arg19 arg20 arg21 x0 x1 x2 x3 x4) :=
  (stage_49 hx0 hx1 hx2 hx3 hx4 hS hS0).step A X hS 6 1 (by decide) (by decide) (by decide) (st := (arg15.view.readCov (kernelRun0_A.sl.HS0_50 c arg2 harg2 arg3 harg3 arg4 harg4 arg5 harg5 arg6 harg6 arg15 arg19 arg20 arg21 x0 x1 x2 x3 x4) ((Rect.unit (s := S8x128x128) ![1, 0, 0] S1x128x128.size inb_S8x128x128_S1x128x128_1_0_0).toLoadRect))) ((stage_49 hx0 hx1 hx2 hx3 hx4 hS hS0).load 6 1 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_51 : Stage True S 51 (kernelRun0_A.sl.HS0_52 c arg2 harg2 arg3 harg3 arg4 harg4 arg5 harg5 arg6 harg6 arg15 arg19 arg20 arg21 x0 x1 x2 x3 x4) :=
  (stage_50 hx0 hx1 hx2 hx3 hx4 hS hS0).step A X hS 6 2 (by decide) (by decide) (by decide) (st := (arg15.view.readCov (kernelRun0_A.sl.HS0_51 c arg2 harg2 arg3 harg3 arg4 harg4 arg5 harg5 arg6 harg6 arg15 arg19 arg20 arg21 x0 x1 x2 x3 x4) ((Rect.unit (s := S8x128x128) ![2, 0, 0] S1x128x128.size inb_S8x128x128_S1x128x128_2_0_0).toLoadRect))) ((stage_50 hx0 hx1 hx2 hx3 hx4 hS hS0).load 6 2 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_52 : Stage True S 52 (kernelRun0_A.sl.HS0_53 c arg2 harg2 arg3 harg3 arg4 harg4 arg5 harg5 arg6 harg6 arg15 arg19 arg20 arg21 x0 x1 x2 x3 x4) :=
  (stage_51 hx0 hx1 hx2 hx3 hx4 hS hS0).step A X hS 6 3 (by decide) (by decide) (by decide) (st := (arg15.view.readCov (kernelRun0_A.sl.HS0_52 c arg2 harg2 arg3 harg3 arg4 harg4 arg5 harg5 arg6 harg6 arg15 arg19 arg20 arg21 x0 x1 x2 x3 x4) ((Rect.unit (s := S8x128x128) ![3, 0, 0] S1x128x128.size inb_S8x128x128_S1x128x128_3_0_0).toLoadRect))) ((stage_51 hx0 hx1 hx2 hx3 hx4 hS hS0).load 6 3 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_53 : Stage True S 53 (kernelRun0_A.sl.HS0_54 c arg2 harg2 arg3 harg3 arg4 harg4 arg5 harg5 arg6 harg6 arg15 arg19 arg20 arg21 x0 x1 x2 x3 x4) :=
  (stage_52 hx0 hx1 hx2 hx3 hx4 hS hS0).step A X hS 6 4 (by decide) (by decide) (by decide) (st := (arg15.view.readCov (kernelRun0_A.sl.HS0_53 c arg2 harg2 arg3 harg3 arg4 harg4 arg5 harg5 arg6 harg6 arg15 arg19 arg20 arg21 x0 x1 x2 x3 x4) ((Rect.unit (s := S8x128x128) ![4, 0, 0] S1x128x128.size inb_S8x128x128_S1x128x128_4_0_0).toLoadRect))) ((stage_52 hx0 hx1 hx2 hx3 hx4 hS hS0).load 6 4 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_54 : Stage True S 54 (kernelRun0_A.sl.HS0_55 c arg2 harg2 arg3 harg3 arg4 harg4 arg5 harg5 arg6 harg6 arg15 arg19 arg20 arg21 x0 x1 x2 x3 x4) :=
  (stage_53 hx0 hx1 hx2 hx3 hx4 hS hS0).step A X hS 6 5 (by decide) (by decide) (by decide) (st := (arg15.view.readCov (kernelRun0_A.sl.HS0_54 c arg2 harg2 arg3 harg3 arg4 harg4 arg5 harg5 arg6 harg6 arg15 arg19 arg20 arg21 x0 x1 x2 x3 x4) ((Rect.unit (s := S8x128x128) ![5, 0, 0] S1x128x128.size inb_S8x128x128_S1x128x128_5_0_0).toLoadRect))) ((stage_53 hx0 hx1 hx2 hx3 hx4 hS hS0).load 6 5 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_55 : Stage True S 55 (kernelRun0_A.sl.HS0_56 c arg2 harg2 arg3 harg3 arg4 harg4 arg5 harg5 arg6 harg6 arg15 arg19 arg20 arg21 x0 x1 x2 x3 x4) :=
  (stage_54 hx0 hx1 hx2 hx3 hx4 hS hS0).step A X hS 6 6 (by decide) (by decide) (by decide) (st := (arg15.view.readCov (kernelRun0_A.sl.HS0_55 c arg2 harg2 arg3 harg3 arg4 harg4 arg5 harg5 arg6 harg6 arg15 arg19 arg20 arg21 x0 x1 x2 x3 x4) ((Rect.unit (s := S8x128x128) ![6, 0, 0] S1x128x128.size inb_S8x128x128_S1x128x128_6_0_0).toLoadRect))) ((stage_54 hx0 hx1 hx2 hx3 hx4 hS hS0).load 6 6 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_56 : Stage True S 56 (kernelRun0_A.sl.HS0_57 c arg2 harg2 arg3 harg3 arg4 harg4 arg5 harg5 arg6 harg6 arg15 arg19 arg20 arg21 x0 x1 x2 x3 x4) :=
  (stage_55 hx0 hx1 hx2 hx3 hx4 hS hS0).step A X hS 6 7 (by decide) (by decide) (by decide) (st := (arg15.view.readCov (kernelRun0_A.sl.HS0_56 c arg2 harg2 arg3 harg3 arg4 harg4 arg5 harg5 arg6 harg6 arg15 arg19 arg20 arg21 x0 x1 x2 x3 x4) ((Rect.unit (s := S8x128x128) ![7, 0, 0] S1x128x128.size inb_S8x128x128_S1x128x128_7_0_0).toLoadRect))) ((stage_55 hx0 hx1 hx2 hx3 hx4 hS hS0).load 6 7 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_57 : Stage True S 57 (kernelRun0_A.sl.HS0_58 c arg2 harg2 arg3 harg3 arg4 harg4 arg5 harg5 arg6 harg6 arg15 arg19 arg20 arg21 x0 x1 x2 x3 x4) :=
  (stage_56 hx0 hx1 hx2 hx3 hx4 hS hS0).step A X hS 7 0 (by decide) (by decide) (by decide) (st := (arg15.view.readCov (kernelRun0_A.sl.HS0_57 c arg2 harg2 arg3 harg3 arg4 harg4 arg5 harg5 arg6 harg6 arg15 arg19 arg20 arg21 x0 x1 x2 x3 x4) ((Rect.unit (s := S8x128x128) ![0, 0, 0] S1x128x128.size inb_S8x128x128_S1x128x128_0_0_0).toLoadRect))) ((stage_56 hx0 hx1 hx2 hx3 hx4 hS hS0).load 7 0 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_58 : Stage True S 58 (kernelRun0_A.sl.HS0_59 c arg2 harg2 arg3 harg3 arg4 harg4 arg5 harg5 arg6 harg6 arg15 arg19 arg20 arg21 x0 x1 x2 x3 x4) :=
  (stage_57 hx0 hx1 hx2 hx3 hx4 hS hS0).step A X hS 7 1 (by decide) (by decide) (by decide) (st := (arg15.view.readCov (kernelRun0_A.sl.HS0_58 c arg2 harg2 arg3 harg3 arg4 harg4 arg5 harg5 arg6 harg6 arg15 arg19 arg20 arg21 x0 x1 x2 x3 x4) ((Rect.unit (s := S8x128x128) ![1, 0, 0] S1x128x128.size inb_S8x128x128_S1x128x128_1_0_0).toLoadRect))) ((stage_57 hx0 hx1 hx2 hx3 hx4 hS hS0).load 7 1 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_59 : Stage True S 59 (kernelRun0_A.sl.HS0_60 c arg2 harg2 arg3 harg3 arg4 harg4 arg5 harg5 arg6 harg6 arg15 arg19 arg20 arg21 x0 x1 x2 x3 x4) :=
  (stage_58 hx0 hx1 hx2 hx3 hx4 hS hS0).step A X hS 7 2 (by decide) (by decide) (by decide) (st := (arg15.view.readCov (kernelRun0_A.sl.HS0_59 c arg2 harg2 arg3 harg3 arg4 harg4 arg5 harg5 arg6 harg6 arg15 arg19 arg20 arg21 x0 x1 x2 x3 x4) ((Rect.unit (s := S8x128x128) ![2, 0, 0] S1x128x128.size inb_S8x128x128_S1x128x128_2_0_0).toLoadRect))) ((stage_58 hx0 hx1 hx2 hx3 hx4 hS hS0).load 7 2 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_60 : Stage True S 60 (kernelRun0_A.sl.HS0_61 c arg2 harg2 arg3 harg3 arg4 harg4 arg5 harg5 arg6 harg6 arg15 arg19 arg20 arg21 x0 x1 x2 x3 x4) :=
  (stage_59 hx0 hx1 hx2 hx3 hx4 hS hS0).step A X hS 7 3 (by decide) (by decide) (by decide) (st := (arg15.view.readCov (kernelRun0_A.sl.HS0_60 c arg2 harg2 arg3 harg3 arg4 harg4 arg5 harg5 arg6 harg6 arg15 arg19 arg20 arg21 x0 x1 x2 x3 x4) ((Rect.unit (s := S8x128x128) ![3, 0, 0] S1x128x128.size inb_S8x128x128_S1x128x128_3_0_0).toLoadRect))) ((stage_59 hx0 hx1 hx2 hx3 hx4 hS hS0).load 7 3 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_61 : Stage True S 61 (kernelRun0_A.sl.HS0_62 c arg2 harg2 arg3 harg3 arg4 harg4 arg5 harg5 arg6 harg6 arg15 arg19 arg20 arg21 x0 x1 x2 x3 x4) :=
  (stage_60 hx0 hx1 hx2 hx3 hx4 hS hS0).step A X hS 7 4 (by decide) (by decide) (by decide) (st := (arg15.view.readCov (kernelRun0_A.sl.HS0_61 c arg2 harg2 arg3 harg3 arg4 harg4 arg5 harg5 arg6 harg6 arg15 arg19 arg20 arg21 x0 x1 x2 x3 x4) ((Rect.unit (s := S8x128x128) ![4, 0, 0] S1x128x128.size inb_S8x128x128_S1x128x128_4_0_0).toLoadRect))) ((stage_60 hx0 hx1 hx2 hx3 hx4 hS hS0).load 7 4 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_62 : Stage True S 62 (kernelRun0_A.sl.HS0_63 c arg2 harg2 arg3 harg3 arg4 harg4 arg5 harg5 arg6 harg6 arg15 arg19 arg20 arg21 x0 x1 x2 x3 x4) :=
  (stage_61 hx0 hx1 hx2 hx3 hx4 hS hS0).step A X hS 7 5 (by decide) (by decide) (by decide) (st := (arg15.view.readCov (kernelRun0_A.sl.HS0_62 c arg2 harg2 arg3 harg3 arg4 harg4 arg5 harg5 arg6 harg6 arg15 arg19 arg20 arg21 x0 x1 x2 x3 x4) ((Rect.unit (s := S8x128x128) ![5, 0, 0] S1x128x128.size inb_S8x128x128_S1x128x128_5_0_0).toLoadRect))) ((stage_61 hx0 hx1 hx2 hx3 hx4 hS hS0).load 7 5 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_63 : Stage True S 63 (kernelRun0_A.sl.HS0_64 c arg2 harg2 arg3 harg3 arg4 harg4 arg5 harg5 arg6 harg6 arg15 arg19 arg20 arg21 x0 x1 x2 x3 x4) :=
  (stage_62 hx0 hx1 hx2 hx3 hx4 hS hS0).step A X hS 7 6 (by decide) (by decide) (by decide) (st := (arg15.view.readCov (kernelRun0_A.sl.HS0_63 c arg2 harg2 arg3 harg3 arg4 harg4 arg5 harg5 arg6 harg6 arg15 arg19 arg20 arg21 x0 x1 x2 x3 x4) ((Rect.unit (s := S8x128x128) ![6, 0, 0] S1x128x128.size inb_S8x128x128_S1x128x128_6_0_0).toLoadRect))) ((stage_62 hx0 hx1 hx2 hx3 hx4 hS hS0).load 7 6 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
theorem stage_64 : Stage True S 64 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11).2.1 := by
  unfold kernelRun0_A
  exact (stage_63 hx0 hx1 hx2 hx3 hx4 hS hS0).step A X hS 7 7 (by decide) (by decide) (by decide) (st := (arg15.view.readCov (kernelRun0_A.sl.HS0_64 c arg2 harg2 arg3 harg3 arg4 harg4 arg5 harg5 arg6 harg6 arg15 arg19 arg20 arg21 x0 x1 x2 x3 x4) ((Rect.unit (s := S8x128x128) ![7, 0, 0] S1x128x128.size inb_S8x128x128_S1x128x128_7_0_0).toLoadRect))) ((stage_63 hx0 hx1 hx2 hx3 hx4 hS hS0).load 7 7 (by decide) (by decide) (Or.inl trivial) _) (buf_d hx0 hx1 hx2 hx3 hx4) (buf_v hx0 hx1 hx2 hx3) (buf_e hx0 hx1 hx2 hx3 hx4) rfl

include hx0 hx1 hx2 hx3 hx4 hS hS0 in
/-- What the chunks read of the states. -/
theorem buf_o (r : Fin 256) (j : Fin 1024) : View.canon (kernelRun0_A.sl.HS9_64 c arg2 harg2 arg3 harg3 arg4 harg4 arg5 harg5 arg6 harg6 arg15 arg17 arg19 arg20 arg21 x0 x1 x2 x3 x4) (ix2 r j)
    = oi A (fun s => X (32 * (r / 32) + s)) (S (r / 32)) (r % 32) (j / 128) (j % 128) := by
  have t : Tiled tileNo (tileVal A X S) 64 (kernelRun0_A.sl.HS9_64 c arg2 harg2 arg3 harg3 arg4 harg4 arg5 harg5 arg6 harg6 arg15 arg17 arg19 arg20 arg21 x0 x1 x2 x3 x4) := by
    refine Tiled.cons (n := 63) (a := 224) (b := 896) (k := 32) (m := 128) ?_ (tileNo_iff 7 7 (by decide) (by decide)) (fun r e => (oi_tile A X 7 7 (by decide) (by decide) ((stage_63 hx0 hx1 hx2 hx3 hx4 hS hS0).load 7 7 (by decide) (by decide) (Or.inl trivial) _) (buf_q hx0 hx1 hx2 hx3 hx4) (vq := arg17.view) (i1 := inb_S256x1024_S32x128_224_896) rfl r e).trans (tileVal_at A X S 7 7 r e).symm)
    refine Tiled.cons (n := 62) (a := 224) (b := 768) (k := 32) (m := 128) ?_ (tileNo_iff 7 6 (by decide) (by decide)) (fun r e => (oi_tile A X 7 6 (by decide) (by decide) ((stage_62 hx0 hx1 hx2 hx3 hx4 hS hS0).load 7 6 (by decide) (by decide) (Or.inl trivial) _) (buf_q hx0 hx1 hx2 hx3 hx4) (vq := arg17.view) (i1 := inb_S256x1024_S32x128_224_768) rfl r e).trans (tileVal_at A X S 7 6 r e).symm)
    refine Tiled.cons (n := 61) (a := 224) (b := 640) (k := 32) (m := 128) ?_ (tileNo_iff 7 5 (by decide) (by decide)) (fun r e => (oi_tile A X 7 5 (by decide) (by decide) ((stage_61 hx0 hx1 hx2 hx3 hx4 hS hS0).load 7 5 (by decide) (by decide) (Or.inl trivial) _) (buf_q hx0 hx1 hx2 hx3 hx4) (vq := arg17.view) (i1 := inb_S256x1024_S32x128_224_640) rfl r e).trans (tileVal_at A X S 7 5 r e).symm)
    refine Tiled.cons (n := 60) (a := 224) (b := 512) (k := 32) (m := 128) ?_ (tileNo_iff 7 4 (by decide) (by decide)) (fun r e => (oi_tile A X 7 4 (by decide) (by decide) ((stage_60 hx0 hx1 hx2 hx3 hx4 hS hS0).load 7 4 (by decide) (by decide) (Or.inl trivial) _) (buf_q hx0 hx1 hx2 hx3 hx4) (vq := arg17.view) (i1 := inb_S256x1024_S32x128_224_512) rfl r e).trans (tileVal_at A X S 7 4 r e).symm)
    refine Tiled.cons (n := 59) (a := 224) (b := 384) (k := 32) (m := 128) ?_ (tileNo_iff 7 3 (by decide) (by decide)) (fun r e => (oi_tile A X 7 3 (by decide) (by decide) ((stage_59 hx0 hx1 hx2 hx3 hx4 hS hS0).load 7 3 (by decide) (by decide) (Or.inl trivial) _) (buf_q hx0 hx1 hx2 hx3 hx4) (vq := arg17.view) (i1 := inb_S256x1024_S32x128_224_384) rfl r e).trans (tileVal_at A X S 7 3 r e).symm)
    refine Tiled.cons (n := 58) (a := 224) (b := 256) (k := 32) (m := 128) ?_ (tileNo_iff 7 2 (by decide) (by decide)) (fun r e => (oi_tile A X 7 2 (by decide) (by decide) ((stage_58 hx0 hx1 hx2 hx3 hx4 hS hS0).load 7 2 (by decide) (by decide) (Or.inl trivial) _) (buf_q hx0 hx1 hx2 hx3 hx4) (vq := arg17.view) (i1 := inb_S256x1024_S32x128_224_256) rfl r e).trans (tileVal_at A X S 7 2 r e).symm)
    refine Tiled.cons (n := 57) (a := 224) (b := 128) (k := 32) (m := 128) ?_ (tileNo_iff 7 1 (by decide) (by decide)) (fun r e => (oi_tile A X 7 1 (by decide) (by decide) ((stage_57 hx0 hx1 hx2 hx3 hx4 hS hS0).load 7 1 (by decide) (by decide) (Or.inl trivial) _) (buf_q hx0 hx1 hx2 hx3 hx4) (vq := arg17.view) (i1 := inb_S256x1024_S32x128_224_128) rfl r e).trans (tileVal_at A X S 7 1 r e).symm)
    refine Tiled.cons (n := 56) (a := 224) (b := 0) (k := 32) (m := 128) ?_ (tileNo_iff 7 0 (by decide) (by decide)) (fun r e => (oi_tile A X 7 0 (by decide) (by decide) ((stage_56 hx0 hx1 hx2 hx3 hx4 hS hS0).load 7 0 (by decide) (by decide) (Or.inl trivial) _) (buf_q hx0 hx1 hx2 hx3 hx4) (vq := arg17.view) (i1 := inb_S256x1024_S32x128_224_0) rfl r e).trans (tileVal_at A X S 7 0 r e).symm)
    refine Tiled.cons (n := 55) (a := 192) (b := 896) (k := 32) (m := 128) ?_ (tileNo_iff 6 7 (by decide) (by decide)) (fun r e => (oi_tile A X 6 7 (by decide) (by decide) ((stage_55 hx0 hx1 hx2 hx3 hx4 hS hS0).load 6 7 (by decide) (by decide) (Or.inl trivial) _) (buf_q hx0 hx1 hx2 hx3 hx4) (vq := arg17.view) (i1 := inb_S256x1024_S32x128_192_896) rfl r e).trans (tileVal_at A X S 6 7 r e).symm)
    refine Tiled.cons (n := 54) (a := 192) (b := 768) (k := 32) (m := 128) ?_ (tileNo_iff 6 6 (by decide) (by decide)) (fun r e => (oi_tile A X 6 6 (by decide) (by decide) ((stage_54 hx0 hx1 hx2 hx3 hx4 hS hS0).load 6 6 (by decide) (by decide) (Or.inl trivial) _) (buf_q hx0 hx1 hx2 hx3 hx4) (vq := arg17.view) (i1 := inb_S256x1024_S32x128_192_768) rfl r e).trans (tileVal_at A X S 6 6 r e).symm)
    refine Tiled.cons (n := 53) (a := 192) (b := 640) (k := 32) (m := 128) ?_ (tileNo_iff 6 5 (by decide) (by decide)) (fun r e => (oi_tile A X 6 5 (by decide) (by decide) ((stage_53 hx0 hx1 hx2 hx3 hx4 hS hS0).load 6 5 (by decide) (by decide) (Or.inl trivial) _) (buf_q hx0 hx1 hx2 hx3 hx4) (vq := arg17.view) (i1 := inb_S256x1024_S32x128_192_640) rfl r e).trans (tileVal_at A X S 6 5 r e).symm)
    refine Tiled.cons (n := 52) (a := 192) (b := 512) (k := 32) (m := 128) ?_ (tileNo_iff 6 4 (by decide) (by decide)) (fun r e => (oi_tile A X 6 4 (by decide) (by decide) ((stage_52 hx0 hx1 hx2 hx3 hx4 hS hS0).load 6 4 (by decide) (by decide) (Or.inl trivial) _) (buf_q hx0 hx1 hx2 hx3 hx4) (vq := arg17.view) (i1 := inb_S256x1024_S32x128_192_512) rfl r e).trans (tileVal_at A X S 6 4 r e).symm)
    refine Tiled.cons (n := 51) (a := 192) (b := 384) (k := 32) (m := 128) ?_ (tileNo_iff 6 3 (by decide) (by decide)) (fun r e => (oi_tile A X 6 3 (by decide) (by decide) ((stage_51 hx0 hx1 hx2 hx3 hx4 hS hS0).load 6 3 (by decide) (by decide) (Or.inl trivial) _) (buf_q hx0 hx1 hx2 hx3 hx4) (vq := arg17.view) (i1 := inb_S256x1024_S32x128_192_384) rfl r e).trans (tileVal_at A X S 6 3 r e).symm)
    refine Tiled.cons (n := 50) (a := 192) (b := 256) (k := 32) (m := 128) ?_ (tileNo_iff 6 2 (by decide) (by decide)) (fun r e => (oi_tile A X 6 2 (by decide) (by decide) ((stage_50 hx0 hx1 hx2 hx3 hx4 hS hS0).load 6 2 (by decide) (by decide) (Or.inl trivial) _) (buf_q hx0 hx1 hx2 hx3 hx4) (vq := arg17.view) (i1 := inb_S256x1024_S32x128_192_256) rfl r e).trans (tileVal_at A X S 6 2 r e).symm)
    refine Tiled.cons (n := 49) (a := 192) (b := 128) (k := 32) (m := 128) ?_ (tileNo_iff 6 1 (by decide) (by decide)) (fun r e => (oi_tile A X 6 1 (by decide) (by decide) ((stage_49 hx0 hx1 hx2 hx3 hx4 hS hS0).load 6 1 (by decide) (by decide) (Or.inl trivial) _) (buf_q hx0 hx1 hx2 hx3 hx4) (vq := arg17.view) (i1 := inb_S256x1024_S32x128_192_128) rfl r e).trans (tileVal_at A X S 6 1 r e).symm)
    refine Tiled.cons (n := 48) (a := 192) (b := 0) (k := 32) (m := 128) ?_ (tileNo_iff 6 0 (by decide) (by decide)) (fun r e => (oi_tile A X 6 0 (by decide) (by decide) ((stage_48 hx0 hx1 hx2 hx3 hx4 hS hS0).load 6 0 (by decide) (by decide) (Or.inl trivial) _) (buf_q hx0 hx1 hx2 hx3 hx4) (vq := arg17.view) (i1 := inb_S256x1024_S32x128_192_0) rfl r e).trans (tileVal_at A X S 6 0 r e).symm)
    refine Tiled.cons (n := 47) (a := 160) (b := 896) (k := 32) (m := 128) ?_ (tileNo_iff 5 7 (by decide) (by decide)) (fun r e => (oi_tile A X 5 7 (by decide) (by decide) ((stage_47 hx0 hx1 hx2 hx3 hx4 hS hS0).load 5 7 (by decide) (by decide) (Or.inl trivial) _) (buf_q hx0 hx1 hx2 hx3 hx4) (vq := arg17.view) (i1 := inb_S256x1024_S32x128_160_896) rfl r e).trans (tileVal_at A X S 5 7 r e).symm)
    refine Tiled.cons (n := 46) (a := 160) (b := 768) (k := 32) (m := 128) ?_ (tileNo_iff 5 6 (by decide) (by decide)) (fun r e => (oi_tile A X 5 6 (by decide) (by decide) ((stage_46 hx0 hx1 hx2 hx3 hx4 hS hS0).load 5 6 (by decide) (by decide) (Or.inl trivial) _) (buf_q hx0 hx1 hx2 hx3 hx4) (vq := arg17.view) (i1 := inb_S256x1024_S32x128_160_768) rfl r e).trans (tileVal_at A X S 5 6 r e).symm)
    refine Tiled.cons (n := 45) (a := 160) (b := 640) (k := 32) (m := 128) ?_ (tileNo_iff 5 5 (by decide) (by decide)) (fun r e => (oi_tile A X 5 5 (by decide) (by decide) ((stage_45 hx0 hx1 hx2 hx3 hx4 hS hS0).load 5 5 (by decide) (by decide) (Or.inl trivial) _) (buf_q hx0 hx1 hx2 hx3 hx4) (vq := arg17.view) (i1 := inb_S256x1024_S32x128_160_640) rfl r e).trans (tileVal_at A X S 5 5 r e).symm)
    refine Tiled.cons (n := 44) (a := 160) (b := 512) (k := 32) (m := 128) ?_ (tileNo_iff 5 4 (by decide) (by decide)) (fun r e => (oi_tile A X 5 4 (by decide) (by decide) ((stage_44 hx0 hx1 hx2 hx3 hx4 hS hS0).load 5 4 (by decide) (by decide) (Or.inl trivial) _) (buf_q hx0 hx1 hx2 hx3 hx4) (vq := arg17.view) (i1 := inb_S256x1024_S32x128_160_512) rfl r e).trans (tileVal_at A X S 5 4 r e).symm)
    refine Tiled.cons (n := 43) (a := 160) (b := 384) (k := 32) (m := 128) ?_ (tileNo_iff 5 3 (by decide) (by decide)) (fun r e => (oi_tile A X 5 3 (by decide) (by decide) ((stage_43 hx0 hx1 hx2 hx3 hx4 hS hS0).load 5 3 (by decide) (by decide) (Or.inl trivial) _) (buf_q hx0 hx1 hx2 hx3 hx4) (vq := arg17.view) (i1 := inb_S256x1024_S32x128_160_384) rfl r e).trans (tileVal_at A X S 5 3 r e).symm)
    refine Tiled.cons (n := 42) (a := 160) (b := 256) (k := 32) (m := 128) ?_ (tileNo_iff 5 2 (by decide) (by decide)) (fun r e => (oi_tile A X 5 2 (by decide) (by decide) ((stage_42 hx0 hx1 hx2 hx3 hx4 hS hS0).load 5 2 (by decide) (by decide) (Or.inl trivial) _) (buf_q hx0 hx1 hx2 hx3 hx4) (vq := arg17.view) (i1 := inb_S256x1024_S32x128_160_256) rfl r e).trans (tileVal_at A X S 5 2 r e).symm)
    refine Tiled.cons (n := 41) (a := 160) (b := 128) (k := 32) (m := 128) ?_ (tileNo_iff 5 1 (by decide) (by decide)) (fun r e => (oi_tile A X 5 1 (by decide) (by decide) ((stage_41 hx0 hx1 hx2 hx3 hx4 hS hS0).load 5 1 (by decide) (by decide) (Or.inl trivial) _) (buf_q hx0 hx1 hx2 hx3 hx4) (vq := arg17.view) (i1 := inb_S256x1024_S32x128_160_128) rfl r e).trans (tileVal_at A X S 5 1 r e).symm)
    refine Tiled.cons (n := 40) (a := 160) (b := 0) (k := 32) (m := 128) ?_ (tileNo_iff 5 0 (by decide) (by decide)) (fun r e => (oi_tile A X 5 0 (by decide) (by decide) ((stage_40 hx0 hx1 hx2 hx3 hx4 hS hS0).load 5 0 (by decide) (by decide) (Or.inl trivial) _) (buf_q hx0 hx1 hx2 hx3 hx4) (vq := arg17.view) (i1 := inb_S256x1024_S32x128_160_0) rfl r e).trans (tileVal_at A X S 5 0 r e).symm)
    refine Tiled.cons (n := 39) (a := 128) (b := 896) (k := 32) (m := 128) ?_ (tileNo_iff 4 7 (by decide) (by decide)) (fun r e => (oi_tile A X 4 7 (by decide) (by decide) ((stage_39 hx0 hx1 hx2 hx3 hx4 hS hS0).load 4 7 (by decide) (by decide) (Or.inl trivial) _) (buf_q hx0 hx1 hx2 hx3 hx4) (vq := arg17.view) (i1 := inb_S256x1024_S32x128_128_896) rfl r e).trans (tileVal_at A X S 4 7 r e).symm)
    refine Tiled.cons (n := 38) (a := 128) (b := 768) (k := 32) (m := 128) ?_ (tileNo_iff 4 6 (by decide) (by decide)) (fun r e => (oi_tile A X 4 6 (by decide) (by decide) ((stage_38 hx0 hx1 hx2 hx3 hx4 hS hS0).load 4 6 (by decide) (by decide) (Or.inl trivial) _) (buf_q hx0 hx1 hx2 hx3 hx4) (vq := arg17.view) (i1 := inb_S256x1024_S32x128_128_768) rfl r e).trans (tileVal_at A X S 4 6 r e).symm)
    refine Tiled.cons (n := 37) (a := 128) (b := 640) (k := 32) (m := 128) ?_ (tileNo_iff 4 5 (by decide) (by decide)) (fun r e => (oi_tile A X 4 5 (by decide) (by decide) ((stage_37 hx0 hx1 hx2 hx3 hx4 hS hS0).load 4 5 (by decide) (by decide) (Or.inl trivial) _) (buf_q hx0 hx1 hx2 hx3 hx4) (vq := arg17.view) (i1 := inb_S256x1024_S32x128_128_640) rfl r e).trans (tileVal_at A X S 4 5 r e).symm)
    refine Tiled.cons (n := 36) (a := 128) (b := 512) (k := 32) (m := 128) ?_ (tileNo_iff 4 4 (by decide) (by decide)) (fun r e => (oi_tile A X 4 4 (by decide) (by decide) ((stage_36 hx0 hx1 hx2 hx3 hx4 hS hS0).load 4 4 (by decide) (by decide) (Or.inl trivial) _) (buf_q hx0 hx1 hx2 hx3 hx4) (vq := arg17.view) (i1 := inb_S256x1024_S32x128_128_512) rfl r e).trans (tileVal_at A X S 4 4 r e).symm)
    refine Tiled.cons (n := 35) (a := 128) (b := 384) (k := 32) (m := 128) ?_ (tileNo_iff 4 3 (by decide) (by decide)) (fun r e => (oi_tile A X 4 3 (by decide) (by decide) ((stage_35 hx0 hx1 hx2 hx3 hx4 hS hS0).load 4 3 (by decide) (by decide) (Or.inl trivial) _) (buf_q hx0 hx1 hx2 hx3 hx4) (vq := arg17.view) (i1 := inb_S256x1024_S32x128_128_384) rfl r e).trans (tileVal_at A X S 4 3 r e).symm)
    refine Tiled.cons (n := 34) (a := 128) (b := 256) (k := 32) (m := 128) ?_ (tileNo_iff 4 2 (by decide) (by decide)) (fun r e => (oi_tile A X 4 2 (by decide) (by decide) ((stage_34 hx0 hx1 hx2 hx3 hx4 hS hS0).load 4 2 (by decide) (by decide) (Or.inl trivial) _) (buf_q hx0 hx1 hx2 hx3 hx4) (vq := arg17.view) (i1 := inb_S256x1024_S32x128_128_256) rfl r e).trans (tileVal_at A X S 4 2 r e).symm)
    refine Tiled.cons (n := 33) (a := 128) (b := 128) (k := 32) (m := 128) ?_ (tileNo_iff 4 1 (by decide) (by decide)) (fun r e => (oi_tile A X 4 1 (by decide) (by decide) ((stage_33 hx0 hx1 hx2 hx3 hx4 hS hS0).load 4 1 (by decide) (by decide) (Or.inl trivial) _) (buf_q hx0 hx1 hx2 hx3 hx4) (vq := arg17.view) (i1 := inb_S256x1024_S32x128_128_128) rfl r e).trans (tileVal_at A X S 4 1 r e).symm)
    refine Tiled.cons (n := 32) (a := 128) (b := 0) (k := 32) (m := 128) ?_ (tileNo_iff 4 0 (by decide) (by decide)) (fun r e => (oi_tile A X 4 0 (by decide) (by decide) ((stage_32 hx0 hx1 hx2 hx3 hx4 hS hS0).load 4 0 (by decide) (by decide) (Or.inl trivial) _) (buf_q hx0 hx1 hx2 hx3 hx4) (vq := arg17.view) (i1 := inb_S256x1024_S32x128_128_0) rfl r e).trans (tileVal_at A X S 4 0 r e).symm)
    refine Tiled.cons (n := 31) (a := 96) (b := 896) (k := 32) (m := 128) ?_ (tileNo_iff 3 7 (by decide) (by decide)) (fun r e => (oi_tile A X 3 7 (by decide) (by decide) ((stage_31 hx0 hx1 hx2 hx3 hx4 hS hS0).load 3 7 (by decide) (by decide) (Or.inl trivial) _) (buf_q hx0 hx1 hx2 hx3 hx4) (vq := arg17.view) (i1 := inb_S256x1024_S32x128_96_896) rfl r e).trans (tileVal_at A X S 3 7 r e).symm)
    refine Tiled.cons (n := 30) (a := 96) (b := 768) (k := 32) (m := 128) ?_ (tileNo_iff 3 6 (by decide) (by decide)) (fun r e => (oi_tile A X 3 6 (by decide) (by decide) ((stage_30 hx0 hx1 hx2 hx3 hx4 hS hS0).load 3 6 (by decide) (by decide) (Or.inl trivial) _) (buf_q hx0 hx1 hx2 hx3 hx4) (vq := arg17.view) (i1 := inb_S256x1024_S32x128_96_768) rfl r e).trans (tileVal_at A X S 3 6 r e).symm)
    refine Tiled.cons (n := 29) (a := 96) (b := 640) (k := 32) (m := 128) ?_ (tileNo_iff 3 5 (by decide) (by decide)) (fun r e => (oi_tile A X 3 5 (by decide) (by decide) ((stage_29 hx0 hx1 hx2 hx3 hx4 hS hS0).load 3 5 (by decide) (by decide) (Or.inl trivial) _) (buf_q hx0 hx1 hx2 hx3 hx4) (vq := arg17.view) (i1 := inb_S256x1024_S32x128_96_640) rfl r e).trans (tileVal_at A X S 3 5 r e).symm)
    refine Tiled.cons (n := 28) (a := 96) (b := 512) (k := 32) (m := 128) ?_ (tileNo_iff 3 4 (by decide) (by decide)) (fun r e => (oi_tile A X 3 4 (by decide) (by decide) ((stage_28 hx0 hx1 hx2 hx3 hx4 hS hS0).load 3 4 (by decide) (by decide) (Or.inl trivial) _) (buf_q hx0 hx1 hx2 hx3 hx4) (vq := arg17.view) (i1 := inb_S256x1024_S32x128_96_512) rfl r e).trans (tileVal_at A X S 3 4 r e).symm)
    refine Tiled.cons (n := 27) (a := 96) (b := 384) (k := 32) (m := 128) ?_ (tileNo_iff 3 3 (by decide) (by decide)) (fun r e => (oi_tile A X 3 3 (by decide) (by decide) ((stage_27 hx0 hx1 hx2 hx3 hx4 hS hS0).load 3 3 (by decide) (by decide) (Or.inl trivial) _) (buf_q hx0 hx1 hx2 hx3 hx4) (vq := arg17.view) (i1 := inb_S256x1024_S32x128_96_384) rfl r e).trans (tileVal_at A X S 3 3 r e).symm)
    refine Tiled.cons (n := 26) (a := 96) (b := 256) (k := 32) (m := 128) ?_ (tileNo_iff 3 2 (by decide) (by decide)) (fun r e => (oi_tile A X 3 2 (by decide) (by decide) ((stage_26 hx0 hx1 hx2 hx3 hx4 hS hS0).load 3 2 (by decide) (by decide) (Or.inl trivial) _) (buf_q hx0 hx1 hx2 hx3 hx4) (vq := arg17.view) (i1 := inb_S256x1024_S32x128_96_256) rfl r e).trans (tileVal_at A X S 3 2 r e).symm)
    refine Tiled.cons (n := 25) (a := 96) (b := 128) (k := 32) (m := 128) ?_ (tileNo_iff 3 1 (by decide) (by decide)) (fun r e => (oi_tile A X 3 1 (by decide) (by decide) ((stage_25 hx0 hx1 hx2 hx3 hx4 hS hS0).load 3 1 (by decide) (by decide) (Or.inl trivial) _) (buf_q hx0 hx1 hx2 hx3 hx4) (vq := arg17.view) (i1 := inb_S256x1024_S32x128_96_128) rfl r e).trans (tileVal_at A X S 3 1 r e).symm)
    refine Tiled.cons (n := 24) (a := 96) (b := 0) (k := 32) (m := 128) ?_ (tileNo_iff 3 0 (by decide) (by decide)) (fun r e => (oi_tile A X 3 0 (by decide) (by decide) ((stage_24 hx0 hx1 hx2 hx3 hx4 hS hS0).load 3 0 (by decide) (by decide) (Or.inl trivial) _) (buf_q hx0 hx1 hx2 hx3 hx4) (vq := arg17.view) (i1 := inb_S256x1024_S32x128_96_0) rfl r e).trans (tileVal_at A X S 3 0 r e).symm)
    refine Tiled.cons (n := 23) (a := 64) (b := 896) (k := 32) (m := 128) ?_ (tileNo_iff 2 7 (by decide) (by decide)) (fun r e => (oi_tile A X 2 7 (by decide) (by decide) ((stage_23 hx0 hx1 hx2 hx3 hx4 hS hS0).load 2 7 (by decide) (by decide) (Or.inl trivial) _) (buf_q hx0 hx1 hx2 hx3 hx4) (vq := arg17.view) (i1 := inb_S256x1024_S32x128_64_896) rfl r e).trans (tileVal_at A X S 2 7 r e).symm)
    refine Tiled.cons (n := 22) (a := 64) (b := 768) (k := 32) (m := 128) ?_ (tileNo_iff 2 6 (by decide) (by decide)) (fun r e => (oi_tile A X 2 6 (by decide) (by decide) ((stage_22 hx0 hx1 hx2 hx3 hx4 hS hS0).load 2 6 (by decide) (by decide) (Or.inl trivial) _) (buf_q hx0 hx1 hx2 hx3 hx4) (vq := arg17.view) (i1 := inb_S256x1024_S32x128_64_768) rfl r e).trans (tileVal_at A X S 2 6 r e).symm)
    refine Tiled.cons (n := 21) (a := 64) (b := 640) (k := 32) (m := 128) ?_ (tileNo_iff 2 5 (by decide) (by decide)) (fun r e => (oi_tile A X 2 5 (by decide) (by decide) ((stage_21 hx0 hx1 hx2 hx3 hx4 hS hS0).load 2 5 (by decide) (by decide) (Or.inl trivial) _) (buf_q hx0 hx1 hx2 hx3 hx4) (vq := arg17.view) (i1 := inb_S256x1024_S32x128_64_640) rfl r e).trans (tileVal_at A X S 2 5 r e).symm)
    refine Tiled.cons (n := 20) (a := 64) (b := 512) (k := 32) (m := 128) ?_ (tileNo_iff 2 4 (by decide) (by decide)) (fun r e => (oi_tile A X 2 4 (by decide) (by decide) ((stage_20 hx0 hx1 hx2 hx3 hx4 hS hS0).load 2 4 (by decide) (by decide) (Or.inl trivial) _) (buf_q hx0 hx1 hx2 hx3 hx4) (vq := arg17.view) (i1 := inb_S256x1024_S32x128_64_512) rfl r e).trans (tileVal_at A X S 2 4 r e).symm)
    refine Tiled.cons (n := 19) (a := 64) (b := 384) (k := 32) (m := 128) ?_ (tileNo_iff 2 3 (by decide) (by decide)) (fun r e => (oi_tile A X 2 3 (by decide) (by decide) ((stage_19 hx0 hx1 hx2 hx3 hx4 hS hS0).load 2 3 (by decide) (by decide) (Or.inl trivial) _) (buf_q hx0 hx1 hx2 hx3 hx4) (vq := arg17.view) (i1 := inb_S256x1024_S32x128_64_384) rfl r e).trans (tileVal_at A X S 2 3 r e).symm)
    refine Tiled.cons (n := 18) (a := 64) (b := 256) (k := 32) (m := 128) ?_ (tileNo_iff 2 2 (by decide) (by decide)) (fun r e => (oi_tile A X 2 2 (by decide) (by decide) ((stage_18 hx0 hx1 hx2 hx3 hx4 hS hS0).load 2 2 (by decide) (by decide) (Or.inl trivial) _) (buf_q hx0 hx1 hx2 hx3 hx4) (vq := arg17.view) (i1 := inb_S256x1024_S32x128_64_256) rfl r e).trans (tileVal_at A X S 2 2 r e).symm)
    refine Tiled.cons (n := 17) (a := 64) (b := 128) (k := 32) (m := 128) ?_ (tileNo_iff 2 1 (by decide) (by decide)) (fun r e => (oi_tile A X 2 1 (by decide) (by decide) ((stage_17 hx0 hx1 hx2 hx3 hx4 hS hS0).load 2 1 (by decide) (by decide) (Or.inl trivial) _) (buf_q hx0 hx1 hx2 hx3 hx4) (vq := arg17.view) (i1 := inb_S256x1024_S32x128_64_128) rfl r e).trans (tileVal_at A X S 2 1 r e).symm)
    refine Tiled.cons (n := 16) (a := 64) (b := 0) (k := 32) (m := 128) ?_ (tileNo_iff 2 0 (by decide) (by decide)) (fun r e => (oi_tile A X 2 0 (by decide) (by decide) ((stage_16 hx0 hx1 hx2 hx3 hx4 hS hS0).load 2 0 (by decide) (by decide) (Or.inl trivial) _) (buf_q hx0 hx1 hx2 hx3 hx4) (vq := arg17.view) (i1 := inb_S256x1024_S32x128_64_0) rfl r e).trans (tileVal_at A X S 2 0 r e).symm)
    refine Tiled.cons (n := 15) (a := 32) (b := 896) (k := 32) (m := 128) ?_ (tileNo_iff 1 7 (by decide) (by decide)) (fun r e => (oi_tile A X 1 7 (by decide) (by decide) ((stage_15 hx0 hx1 hx2 hx3 hx4 hS hS0).load 1 7 (by decide) (by decide) (Or.inl trivial) _) (buf_q hx0 hx1 hx2 hx3 hx4) (vq := arg17.view) (i1 := inb_S256x1024_S32x128_32_896) rfl r e).trans (tileVal_at A X S 1 7 r e).symm)
    refine Tiled.cons (n := 14) (a := 32) (b := 768) (k := 32) (m := 128) ?_ (tileNo_iff 1 6 (by decide) (by decide)) (fun r e => (oi_tile A X 1 6 (by decide) (by decide) ((stage_14 hx0 hx1 hx2 hx3 hx4 hS hS0).load 1 6 (by decide) (by decide) (Or.inl trivial) _) (buf_q hx0 hx1 hx2 hx3 hx4) (vq := arg17.view) (i1 := inb_S256x1024_S32x128_32_768) rfl r e).trans (tileVal_at A X S 1 6 r e).symm)
    refine Tiled.cons (n := 13) (a := 32) (b := 640) (k := 32) (m := 128) ?_ (tileNo_iff 1 5 (by decide) (by decide)) (fun r e => (oi_tile A X 1 5 (by decide) (by decide) ((stage_13 hx0 hx1 hx2 hx3 hx4 hS hS0).load 1 5 (by decide) (by decide) (Or.inl trivial) _) (buf_q hx0 hx1 hx2 hx3 hx4) (vq := arg17.view) (i1 := inb_S256x1024_S32x128_32_640) rfl r e).trans (tileVal_at A X S 1 5 r e).symm)
    refine Tiled.cons (n := 12) (a := 32) (b := 512) (k := 32) (m := 128) ?_ (tileNo_iff 1 4 (by decide) (by decide)) (fun r e => (oi_tile A X 1 4 (by decide) (by decide) ((stage_12 hx0 hx1 hx2 hx3 hx4 hS hS0).load 1 4 (by decide) (by decide) (Or.inl trivial) _) (buf_q hx0 hx1 hx2 hx3 hx4) (vq := arg17.view) (i1 := inb_S256x1024_S32x128_32_512) rfl r e).trans (tileVal_at A X S 1 4 r e).symm)
    refine Tiled.cons (n := 11) (a := 32) (b := 384) (k := 32) (m := 128) ?_ (tileNo_iff 1 3 (by decide) (by decide)) (fun r e => (oi_tile A X 1 3 (by decide) (by decide) ((stage_11 hx0 hx1 hx2 hx3 hx4 hS hS0).load 1 3 (by decide) (by decide) (Or.inl trivial) _) (buf_q hx0 hx1 hx2 hx3 hx4) (vq := arg17.view) (i1 := inb_S256x1024_S32x128_32_384) rfl r e).trans (tileVal_at A X S 1 3 r e).symm)
    refine Tiled.cons (n := 10) (a := 32) (b := 256) (k := 32) (m := 128) ?_ (tileNo_iff 1 2 (by decide) (by decide)) (fun r e => (oi_tile A X 1 2 (by decide) (by decide) ((stage_10 hx0 hx1 hx2 hx3 hx4 hS hS0).load 1 2 (by decide) (by decide) (Or.inl trivial) _) (buf_q hx0 hx1 hx2 hx3 hx4) (vq := arg17.view) (i1 := inb_S256x1024_S32x128_32_256) rfl r e).trans (tileVal_at A X S 1 2 r e).symm)
    refine Tiled.cons (n := 9) (a := 32) (b := 128) (k := 32) (m := 128) ?_ (tileNo_iff 1 1 (by decide) (by decide)) (fun r e => (oi_tile A X 1 1 (by decide) (by decide) ((stage_9 hx0 hx1 hx2 hx3 hx4 hS hS0).load 1 1 (by decide) (by decide) (Or.inl trivial) _) (buf_q hx0 hx1 hx2 hx3 hx4) (vq := arg17.view) (i1 := inb_S256x1024_S32x128_32_128) rfl r e).trans (tileVal_at A X S 1 1 r e).symm)
    refine Tiled.cons (n := 8) (a := 32) (b := 0) (k := 32) (m := 128) ?_ (tileNo_iff 1 0 (by decide) (by decide)) (fun r e => (oi_tile A X 1 0 (by decide) (by decide) ((stage_8 hx0 hx1 hx2 hx3 hx4 hS hS0).load 1 0 (by decide) (by decide) (Or.inl trivial) _) (buf_q hx0 hx1 hx2 hx3 hx4) (vq := arg17.view) (i1 := inb_S256x1024_S32x128_32_0) rfl r e).trans (tileVal_at A X S 1 0 r e).symm)
    refine Tiled.cons (n := 7) (a := 0) (b := 896) (k := 32) (m := 128) ?_ (tileNo_iff 0 7 (by decide) (by decide)) (fun r e => (oi_tile A X 0 7 (by decide) (by decide) ((stage_7 hx0 hx1 hx2 hx3 hx4 hS hS0).load 0 7 (by decide) (by decide) (Or.inl trivial) _) (buf_q hx0 hx1 hx2 hx3 hx4) (vq := arg17.view) (i1 := inb_S256x1024_S32x128_0_896) rfl r e).trans (tileVal_at A X S 0 7 r e).symm)
    refine Tiled.cons (n := 6) (a := 0) (b := 768) (k := 32) (m := 128) ?_ (tileNo_iff 0 6 (by decide) (by decide)) (fun r e => (oi_tile A X 0 6 (by decide) (by decide) ((stage_6 hx0 hx1 hx2 hx3 hx4 hS hS0).load 0 6 (by decide) (by decide) (Or.inl trivial) _) (buf_q hx0 hx1 hx2 hx3 hx4) (vq := arg17.view) (i1 := inb_S256x1024_S32x128_0_768) rfl r e).trans (tileVal_at A X S 0 6 r e).symm)
    refine Tiled.cons (n := 5) (a := 0) (b := 640) (k := 32) (m := 128) ?_ (tileNo_iff 0 5 (by decide) (by decide)) (fun r e => (oi_tile A X 0 5 (by decide) (by decide) ((stage_5 hx0 hx1 hx2 hx3 hx4 hS hS0).load 0 5 (by decide) (by decide) (Or.inl trivial) _) (buf_q hx0 hx1 hx2 hx3 hx4) (vq := arg17.view) (i1 := inb_S256x1024_S32x128_0_640) rfl r e).trans (tileVal_at A X S 0 5 r e).symm)
    refine Tiled.cons (n := 4) (a := 0) (b := 512) (k := 32) (m := 128) ?_ (tileNo_iff 0 4 (by decide) (by decide)) (fun r e => (oi_tile A X 0 4 (by decide) (by decide) ((stage_4 hx0 hx1 hx2 hx3 hx4 hS hS0).load 0 4 (by decide) (by decide) (Or.inl trivial) _) (buf_q hx0 hx1 hx2 hx3 hx4) (vq := arg17.view) (i1 := inb_S256x1024_S32x128_0_512) rfl r e).trans (tileVal_at A X S 0 4 r e).symm)
    refine Tiled.cons (n := 3) (a := 0) (b := 384) (k := 32) (m := 128) ?_ (tileNo_iff 0 3 (by decide) (by decide)) (fun r e => (oi_tile A X 0 3 (by decide) (by decide) ((stage_3 hx0 hx1 hx2 hx3 hx4 hS hS0).load 0 3 (by decide) (by decide) (Or.inl trivial) _) (buf_q hx0 hx1 hx2 hx3 hx4) (vq := arg17.view) (i1 := inb_S256x1024_S32x128_0_384) rfl r e).trans (tileVal_at A X S 0 3 r e).symm)
    refine Tiled.cons (n := 2) (a := 0) (b := 256) (k := 32) (m := 128) ?_ (tileNo_iff 0 2 (by decide) (by decide)) (fun r e => (oi_tile A X 0 2 (by decide) (by decide) ((stage_2 hx0 hx1 hx2 hx3 hx4 hS hS0).load 0 2 (by decide) (by decide) (Or.inl trivial) _) (buf_q hx0 hx1 hx2 hx3 hx4) (vq := arg17.view) (i1 := inb_S256x1024_S32x128_0_256) rfl r e).trans (tileVal_at A X S 0 2 r e).symm)
    refine Tiled.cons (n := 1) (a := 0) (b := 128) (k := 32) (m := 128) ?_ (tileNo_iff 0 1 (by decide) (by decide)) (fun r e => (oi_tile A X 0 1 (by decide) (by decide) ((stage_1 hx0 hx1 hx2 hx3 hx4 hS hS0).load 0 1 (by decide) (by decide) (Or.inl trivial) _) (buf_q hx0 hx1 hx2 hx3 hx4) (vq := arg17.view) (i1 := inb_S256x1024_S32x128_0_128) rfl r e).trans (tileVal_at A X S 0 1 r e).symm)
    refine Tiled.cons (n := 0) (a := 0) (b := 0) (k := 32) (m := 128) ?_ (tileNo_iff 0 0 (by decide) (by decide)) (fun r e => (oi_tile A X 0 0 (by decide) (by decide) ((stage_0 hx0 hx1 hx2 hx3 hx4 hS hS0).load 0 0 (by decide) (by decide) (Or.inl trivial) _) (buf_q hx0 hx1 hx2 hx3 hx4) (vq := arg17.view) (i1 := inb_S256x1024_S32x128_0_0) rfl r e).trans (tileVal_at A X S 0 0 r e).symm)
    exact Tiled.nil _ _
  exact (t r j (tileNo_lt r j)).trans rfl

end Cert.Proof.Mix.CaseA

end
-- ==== Proof.MixOutA.lean ====
/-
  WHAT A BATCH'S FIRST GRID POINT LEAVES: its block of the output, the state and the pooling rows, where the carried
  buffers were cleared.
-/
module

public import proofs.«01_k».proof.Proof.MixPool
public import proofs.«01_k».proof.Proof.MixStateA

@[expose] public section

set_option maxRecDepth 8192

noncomputable section

namespace Cert.Proof.Mix.CaseA

open Idealize.ShloMosaic Idealize.ShloMosaic.TcCoe Idealize.ShloMosaic.Tactic
open Cert.Kernel2Ideal Cert.Kernel2Ideal.Gen

variable {A : Args} {X : ℕ → ℕ → EReal} {S : ℕ → ℕ → ℕ → ℕ → EReal} {E : ℕ → ℕ → EReal}
variable {c : Dev nD} {i : grid0.Coords}
variable {arg2 : Memref Cert.Kernel2Ideal.sig .tc .vmem S256x1024 .f32} {harg2 : arg2.IsWhole}
variable {arg3 : Memref Cert.Kernel2Ideal.sig .tc .vmem S1x1024 .f32} {harg3 : arg3.IsWhole}
variable {arg4 : Memref Cert.Kernel2Ideal.sig .tc .vmem S1x1024 .f32} {harg4 : arg4.IsWhole}
variable {arg5 : Memref Cert.Kernel2Ideal.sig .tc .vmem S1024x6656 .bf16} {harg5 : arg5.IsWhole}
variable {arg6 : Memref Cert.Kernel2Ideal.sig .tc .vmem S2x1024 .f32} {harg6 : arg6.IsWhole}
variable {arg7 : Memref Cert.Kernel2Ideal.sig .tc .vmem S1x128 .f32} {harg7 : arg7.IsWhole}
variable {arg8 : Memref Cert.Kernel2Ideal.sig .tc .vmem S1024x1024 .bf16} {harg8 : arg8.IsWhole}
variable {arg9 : Memref Cert.Kernel2Ideal.sig .tc .vmem S4x128x256 .bf16} {harg9 : arg9.IsWhole}
variable {arg10 : Memref Cert.Kernel2Ideal.sig .tc .vmem S1x1024 .f32} {harg10 : arg10.IsWhole}
variable {arg11 : Memref Cert.Kernel2Ideal.sig .tc .vmem S1024x1024 .bf16} {harg11 : arg11.IsWhole}
variable {arg12 : Memref Cert.Kernel2Ideal.sig .tc .vmem S1x1024 .f32} {harg12 : arg12.IsWhole}
variable {arg13 : Memref Cert.Kernel2Ideal.sig .tc .vmem S1x1024 .f32} {harg13 : arg13.IsWhole}
variable {arg14 : Memref Cert.Kernel2Ideal.sig .tc .vmem S256x1024 .f32} {harg14 : arg14.IsWhole}
variable {arg15 : Memref Cert.Kernel2Ideal.sig .tc .vmem S8x128x128 .f32} {harg15 : arg15.IsWhole}
variable {arg16 : Memref Cert.Kernel2Ideal.sig .tc .vmem S272x512 .f32} {harg16 : arg16.IsWhole}
variable {arg17 : Memref Cert.Kernel2Ideal.sig .tc .vmem S256x1024 .bf16} {harg17 : arg17.IsWhole}
variable {arg18 : Memref Cert.Kernel2Ideal.sig .tc .vmem S256x1024 .bf16} {harg18 : arg18.IsWhole}
variable {arg19 : Memref Cert.Kernel2Ideal.sig .tc .vmem S256x1024 .bf16} {harg19 : arg19.IsWhole}
variable {arg20 : Memref Cert.Kernel2Ideal.sig .tc .vmem S256x1024 .bf16} {harg20 : arg20.IsWhole}
variable {arg21 : Memref Cert.Kernel2Ideal.sig .tc .vmem S8x1024 .f32} {harg21 : arg21.IsWhole}
variable {arg22 : Memref Cert.Kernel2Ideal.sig .tc .vmem S256x1024 .bf16} {harg22 : arg22.IsWhole}
variable {arg23 : Memref Cert.Kernel2Ideal.sig .tc .vmem S256x1024 .f32} {harg23 : arg23.IsWhole}
variable {arg24 : Memref Cert.Kernel2Ideal.sig .tc .vmem S256x1024 .f32} {harg24 : arg24.IsWhole}
variable {x0 : Vec Ideal S256x1024 .f32}
variable {x1 : Vec Ideal S1x1024 .f32}
variable {x2 : Vec Ideal S1x1024 .f32}
variable {x3 : Vec Ideal S1024x6656 .bf16}
variable {x4 : Vec Ideal S2x1024 .f32}
variable {x5 : Vec Ideal S1x128 .f32}
variable {x6 : Vec Ideal S1024x1024 .bf16}
variable {x7 : Vec Ideal S4x128x256 .bf16}
variable {x8 : Vec Ideal S1x1024 .f32}
variable {x9 : Vec Ideal S1024x1024 .bf16}
variable {x10 : Vec Ideal S1x1024 .f32}
variable {x11 : Vec Ideal S1x1024 .f32}
variable (hx0 : ∀ (r : Fin 256) (j : Fin 1024), x0 (ix2 r j) = X r j)
variable (hx1 : ∀ j : Fin 1024, x1 (ix2 0 j) = A.g0 j) (hx2 : ∀ j : Fin 1024, x2 (ix2 0 j) = A.b0 j)
variable (hx3 : ∀ (k : Fin 1024) (j : Fin 6656), x3 (ix2 k j) = A.W k j)
variable (hx4 : ∀ (i : Fin 2) (j : Fin 1024), x4 (ix2 i j) = A.hg i j)
variable (hx5 : ∀ e : Fin 128, x5 (ix2 0 e) = A.ng e)
variable (hx6 : ∀ k j : Fin 1024, x6 (ix2 k j) = A.whg k j)
variable (hx7 : ∀ (g : Fin 4) (c : Fin 128) (j : Fin 256), x7 (ix3 g c j) = A.pw g c j)
variable (hx8 : ∀ j : Fin 1024, x8 (ix2 0 j) = A.ps j)
variable (hx9 : ∀ k j : Fin 1024, x9 (ix2 k j) = A.wo k j)
variable (hx10 : ∀ j : Fin 1024, x10 (ix2 0 j) = A.g1 j) (hx11 : ∀ j : Fin 1024, x11 (ix2 0 j) = A.b1 j)
variable (hS : ∀ c h e d, S (c + 1) h e d = step A (fun s => X (32 * c + s)) (S c) h e d)
variable (hS0 : ∀ h e d, S 0 h e d = 0)

variable {hc0 : cond0_0 i}
variable (hE0 : ∀ a c, E a c = 0)

include hx0 hx1 hx2 hx3 hx4 hx5 hS hS0 in
/-- The normalised heads' buffer. -/
theorem buf_h (r : Fin 256) (j : Fin 1024) : View.canon (kernelRun0_A.sl.HS7_8 c arg2 harg2 arg3 harg3 arg4 harg4 arg5 harg5 arg6 harg6 arg7 harg7 arg15 arg17 arg18 arg19 arg20 arg21 arg24 x0 x1 x2 x3 x4 x5) (ix2 r j) = headVal A X S r j := by
  have hg := fun (e : Fin 128) => (arg_whole (inb := inb_S1x128_S1x128_0_0) arg7 harg7 x5 0 e).trans (hx5 e)
  have t : Tiled (fun _ j => j / 128) (headVal A X S) 8 (kernelRun0_A.sl.HS7_8 c arg2 harg2 arg3 harg3 arg4 harg4 arg5 harg5 arg6 harg6 arg7 harg7 arg15 arg17 arg18 arg19 arg20 arg21 arg24 x0 x1 x2 x3 x4 x5) := by
    refine Tiled.cons (n := 7) (a := 0) (b := 896) (k := 256) (m := 128) ?_ (col_iff 128 7 (by decide)) (head_tile A X S 7 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hS0) hg
      (vq := arg17.view) (vk := arg18.view) (vv' := arg20.view) (vo := arg24.view) (i1 := inb_S256x1024_S256x128_0_896) (sl := slices_S256x1024_o0_896_S256x128) rfl)
    refine Tiled.cons (n := 6) (a := 0) (b := 768) (k := 256) (m := 128) ?_ (col_iff 128 6 (by decide)) (head_tile A X S 6 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hS0) hg
      (vq := arg17.view) (vk := arg18.view) (vv' := arg20.view) (vo := arg24.view) (i1 := inb_S256x1024_S256x128_0_768) (sl := slices_S256x1024_o0_768_S256x128) rfl)
    refine Tiled.cons (n := 5) (a := 0) (b := 640) (k := 256) (m := 128) ?_ (col_iff 128 5 (by decide)) (head_tile A X S 5 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hS0) hg
      (vq := arg17.view) (vk := arg18.view) (vv' := arg20.view) (vo := arg24.view) (i1 := inb_S256x1024_S256x128_0_640) (sl := slices_S256x1024_o0_640_S256x128) rfl)
    refine Tiled.cons (n := 4) (a := 0) (b := 512) (k := 256) (m := 128) ?_ (col_iff 128 4 (by decide)) (head_tile A X S 4 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hS0) hg
      (vq := arg17.view) (vk := arg18.view) (vv' := arg20.view) (vo := arg24.view) (i1 := inb_S256x1024_S256x128_0_512) (sl := slices_S256x1024_o0_512_S256x128) rfl)
    refine Tiled.cons (n := 3) (a := 0) (b := 384) (k := 256) (m := 128) ?_ (col_iff 128 3 (by decide)) (head_tile A X S 3 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hS0) hg
      (vq := arg17.view) (vk := arg18.view) (vv' := arg20.view) (vo := arg24.view) (i1 := inb_S256x1024_S256x128_0_384) (sl := slices_S256x1024_o0_384_S256x128) rfl)
    refine Tiled.cons (n := 2) (a := 0) (b := 256) (k := 256) (m := 128) ?_ (col_iff 128 2 (by decide)) (head_tile A X S 2 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hS0) hg
      (vq := arg17.view) (vk := arg18.view) (vv' := arg20.view) (vo := arg24.view) (i1 := inb_S256x1024_S256x128_0_256) (sl := slices_S256x1024_o0_256_S256x128) rfl)
    refine Tiled.cons (n := 1) (a := 0) (b := 128) (k := 256) (m := 128) ?_ (col_iff 128 1 (by decide)) (head_tile A X S 1 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hS0) hg
      (vq := arg17.view) (vk := arg18.view) (vv' := arg20.view) (vo := arg24.view) (i1 := inb_S256x1024_S256x128_0_128) (sl := slices_S256x1024_o0_128_S256x128) rfl)
    refine Tiled.cons (n := 0) (a := 0) (b := 0) (k := 256) (m := 128) ?_ (col_iff 128 0 (by decide)) (head_tile A X S 0 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hS0) hg
      (vq := arg17.view) (vk := arg18.view) (vv' := arg20.view) (vo := arg24.view) (i1 := inb_S256x1024_S256x128_0_0) (sl := slices_S256x1024_o0_0_S256x128) rfl)
    exact Tiled.nil _ _
  exact t r j (col_lt r j)

include hx0 hx1 hx2 hx3 hx4 hx5 hx6 hS hS0 in
/-- The recurrent branch's rows. -/
theorem branch_a (r : Fin 256) (j : Fin 1024) : (kernelRun0_A.sl.r_62 c arg2 harg2 arg3 harg3 arg4 harg4 arg5 harg5 arg6 harg6 arg7 harg7 arg8 harg8 arg15 arg17 arg18 arg19 arg20 arg21 arg22 arg24 x0 x1 x2 x3 x4 x5 x6) (ix2 r j)
    = ya A (fun s => X (32 * (r / 32) + s)) (S (r / 32)) (r % 32) j := by
  refine (ya_at A _ _ (headVal A X S) (fun r k => (load_cols (R := 256) (C := 1024) (m := 1024) arg22.view _ r k).trans ?_)
    (fun k j => (arg_whole arg8 harg8 x6 k j).trans (hx6 k j)) r j).trans ?_
  · simp only [Nat.zero_add, Fin.eta]
    exact buf_h hx0 hx1 hx2 hx3 hx4 hx5 hS hS0 r k
  · unfold ya headVal
    have e : 32 * (r.val / 32) + r.val % 32 = r := by omega
    simp only [e]

include hx0 hx1 hx2 hx3 in
theorem tok_at (r : Fin 256) (j : Fin 512) : (kernelRun0_A.sl.r_63 c arg2 harg2 arg3 harg3 arg4 harg4 arg5 harg5 x0 x1 x2 x3) (ix2 r j) = pr A (X r) (4096 + j) :=
  pool_val_at A X _ (rowb_at hx0 hx1 hx2) _ (fun k j => (arg_cols arg5 harg5 x3 k j).trans (hx3 _ _)) r j

include hx0 hx1 hx2 hx3 in
theorem new_at (r : Fin 256) (j : Fin 512) : k0_pay259 (kernelRun0_A.sl.r_1 c arg2 harg2 arg3 harg3 arg4 harg4 x0 x1 x2)
    (View.readAt (Elt Ideal) arg5.view (Rect.unit (s := S1024x6656) ![0, 4096] S1024x512.size inb_S1024x6656_S1024x512_0_4096).toLoadRect (harg5.unread x3)) (ix2 r j)
    = pr A (X r) (4096 + j) :=
  pool_ext_at A X _ (rowb_at hx0 hx1 hx2) _ (fun k j => (arg_cols arg5 harg5 x3 k j).trans (hx3 _ _)) r j

include hx0 hx1 hx2 hx3 hE0 in
theorem ext_0 (a : Fin 272) (c' : Fin 128) : (kernelRun0_A.sl.v1637 c arg2 harg2 arg3 harg3 arg4 harg4 arg5 harg5 arg16 x0 x1 x2 x3) (ix2 a c') = ext A X E a (128 * 0 + c') :=
  ext_clear (b := 0) arg16.view _ hE0 (new_at hx0 hx1 hx2 hx3) a c'

include hx0 hx1 hx2 hx3 hE0 in
theorem ext_1 (a : Fin 272) (c' : Fin 128) : (kernelRun0_A.sl.v1657 c arg2 harg2 arg3 harg3 arg4 harg4 arg5 harg5 arg16 x0 x1 x2 x3) (ix2 a c') = ext A X E a (128 * 1 + c') :=
  ext_clear (b := 128) arg16.view _ hE0 (new_at hx0 hx1 hx2 hx3) a c'

include hx0 hx1 hx2 hx3 hE0 in
theorem ext_2 (a : Fin 272) (c' : Fin 128) : (kernelRun0_A.sl.v1679 c arg2 harg2 arg3 harg3 arg4 harg4 arg5 harg5 arg16 x0 x1 x2 x3) (ix2 a c') = ext A X E a (128 * 2 + c') :=
  ext_clear (b := 256) arg16.view _ hE0 (new_at hx0 hx1 hx2 hx3) a c'

include hx0 hx1 hx2 hx3 hE0 in
theorem ext_3 (a : Fin 272) (c' : Fin 128) : (kernelRun0_A.sl.v1703 c arg2 harg2 arg3 harg3 arg4 harg4 arg5 harg5 arg16 x0 x1 x2 x3) (ix2 a c') = ext A X E a (128 * 3 + c') :=
  ext_clear (b := 384) arg16.view _ hE0 (new_at hx0 hx1 hx2 hx3) a c'

theorem pos_of (r : Fin 256) : (kernelRun0_A.sl.r_64 i) (ix2 r 0) = BitVec.ofNat 32 (256 * (i 1).val + r) :=
  pos_at _ (show (i 1).val < 16 from (i 1).isLt) r

include hx0 hx1 hx2 hx3 hx7 hE0 in
/-- The pooling groups' buffer. -/
theorem buf_p (r : Fin 256) (j : Fin 1024) : View.canon (kernelRun0_A.sl.HS8_4 c i arg2 harg2 arg3 harg3 arg4 harg4 arg5 harg5 arg9 harg9 arg16 x0 x1 x2 x3 x7) (ix2 r j) = poolVal A X E (256 * (i 1).val) r j := by
  have t : Tiled (fun _ j => j / 256) (poolVal A X E (256 * (i 1).val)) 4 (kernelRun0_A.sl.HS8_4 c i arg2 harg2 arg3 harg3 arg4 harg4 arg5 harg5 arg9 harg9 arg16 x0 x1 x2 x3 x7) := by
    refine Tiled.cons (n := 3) (a := 0) (b := 768) (k := 256) (m := 256) ?_ (col_iff 256 3 (by decide)) (fun r j => (group_at (A := A) (X := X) (E := E) (tok := (kernelRun0_A.sl.r_63 c arg2 harg2 arg3 harg3 arg4 harg4 arg5 harg5 x0 x1 x2 x3)) (pos := (kernelRun0_A.sl.r_64 i)) (t0 := 256 * (i 1).val) (tok_at hx0 hx1 hx2 hx3) pos_of 3 (by decide) _ _ (sl := slices_S256x512_o0_384_S256x128)
      (double_at 8 (128 * 3) (by decide) _ (double_at 4 (128 * 3) (by decide) _ (double_at 2 (128 * 3) (by decide) _ (double_at 1 (128 * 3) (by decide) _ (single_at (A := A) (X := X) (E := E) (128 * 3) _ (ext_3 hx0 hx1 hx2 hx3 hE0))))))
      (fun c j => (arg_three (a := 3) (inb := inb_S4x128x256_S1x128x256_3_0_0) arg9 harg9 x7 c j (by decide)).trans (hx7 ⟨3, by decide⟩ c j)) r j).trans (poolVal_at A X E _ 3 r j).symm)
    refine Tiled.cons (n := 2) (a := 0) (b := 512) (k := 256) (m := 256) ?_ (col_iff 256 2 (by decide)) (fun r j => (group_at (A := A) (X := X) (E := E) (tok := (kernelRun0_A.sl.r_63 c arg2 harg2 arg3 harg3 arg4 harg4 arg5 harg5 x0 x1 x2 x3)) (pos := (kernelRun0_A.sl.r_64 i)) (t0 := 256 * (i 1).val) (tok_at hx0 hx1 hx2 hx3) pos_of 2 (by decide) _ _ (sl := slices_S256x512_o0_256_S256x128)
      (double_at 4 (128 * 2) (by decide) _ (double_at 2 (128 * 2) (by decide) _ (double_at 1 (128 * 2) (by decide) _ (single_at (A := A) (X := X) (E := E) (128 * 2) _ (ext_2 hx0 hx1 hx2 hx3 hE0)))))
      (fun c j => (arg_three (a := 2) (inb := inb_S4x128x256_S1x128x256_2_0_0) arg9 harg9 x7 c j (by decide)).trans (hx7 ⟨2, by decide⟩ c j)) r j).trans (poolVal_at A X E _ 2 r j).symm)
    refine Tiled.cons (n := 1) (a := 0) (b := 256) (k := 256) (m := 256) ?_ (col_iff 256 1 (by decide)) (fun r j => (group_at (A := A) (X := X) (E := E) (tok := (kernelRun0_A.sl.r_63 c arg2 harg2 arg3 harg3 arg4 harg4 arg5 harg5 x0 x1 x2 x3)) (pos := (kernelRun0_A.sl.r_64 i)) (t0 := 256 * (i 1).val) (tok_at hx0 hx1 hx2 hx3) pos_of 1 (by decide) _ _ (sl := slices_S256x512_o0_128_S256x128)
      (double_at 2 (128 * 1) (by decide) _ (double_at 1 (128 * 1) (by decide) _ (single_at (A := A) (X := X) (E := E) (128 * 1) _ (ext_1 hx0 hx1 hx2 hx3 hE0))))
      (fun c j => (arg_three (a := 1) (inb := inb_S4x128x256_S1x128x256_1_0_0) arg9 harg9 x7 c j (by decide)).trans (hx7 ⟨1, by decide⟩ c j)) r j).trans (poolVal_at A X E _ 1 r j).symm)
    refine Tiled.cons (n := 0) (a := 0) (b := 0) (k := 256) (m := 256) ?_ (col_iff 256 0 (by decide)) (fun r j => (group_at (A := A) (X := X) (E := E) (tok := (kernelRun0_A.sl.r_63 c arg2 harg2 arg3 harg3 arg4 harg4 arg5 harg5 x0 x1 x2 x3)) (pos := (kernelRun0_A.sl.r_64 i)) (t0 := 256 * (i 1).val) (tok_at hx0 hx1 hx2 hx3) pos_of 0 (by decide) _ _ (sl := slices_S256x512_o0_0_S256x128)
      (double_at 1 (128 * 0) (by decide) _ (single_at (A := A) (X := X) (E := E) (128 * 0) _ (ext_0 hx0 hx1 hx2 hx3 hE0)))
      (fun c j => (arg_three (a := 0) (inb := inb_S4x128x256_S1x128x256_0_0_0) arg9 harg9 x7 c j (by decide)).trans (hx7 ⟨0, by decide⟩ c j)) r j).trans (poolVal_at A X E _ 0 r j).symm)
    exact Tiled.nil _ _
  exact t r j (group_lt r j)

include hx0 hx1 hx2 hx3 hx7 hx8 hE0 in
/-- The pooling branch's rows. -/
theorem branch_b (r : Fin 256) (j : Fin 1024) : (kernelRun0_A.sl.r_68 c i arg2 harg2 arg3 harg3 arg4 harg4 arg5 harg5 arg9 harg9 arg10 harg10 arg16 arg23 x0 x1 x2 x3 x7 x8) (ix2 r j) = yb A (pwin A X E r) (256 * (i 1).val + r) j := by
  refine (yb_at A _ _ (poolVal A X E (256 * (i 1).val)) (fun r k => (load_cols (R := 256) (C := 1024) (m := 1024) arg23.view _ r k).trans ?_)
    (fun j => (arg_whole arg10 harg10 x8 0 j).trans (hx8 j)) r j).trans rfl
  simp only [Nat.zero_add, Fin.eta]
  exact buf_p hx0 hx1 hx2 hx3 hx7 hE0 r k

include hx0 hx1 hx2 hx3 hx4 hx5 hx6 hx7 hx8 hx9 hx10 hx11 hS hS0 hE0 in
/-- The block this point writes. -/
theorem out_at (r : Fin 256) (j : Fin 1024) : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11).1 (ix2 r j)
    = fin A (X r) (ya A (fun s => X (32 * (r / 32) + s)) (S (r / 32)) (r % 32)) (yb A (pwin A X E r) (256 * (i 1).val + r)) j := by
  unfold kernelRun0_A
  refine (store_whole _ r j).trans ?_
  exact fin_at A X (fun r => ya A (fun s => X (32 * (r / 32) + s)) (S (r / 32)) (r % 32)) (fun r => yb A (pwin A X E r) (256 * (i 1).val + r))
    _ _ _ _ _ _ _ _ (row_at hx0 hx1 hx2) (branch_a hx0 hx1 hx2 hx3 hx4 hx5 hx6 hS hS0) (branch_b hx0 hx1 hx2 hx3 hx7 hx8 hE0)
    (gate_b_at A X _ (rowb_at hx0 hx1 hx2) _ (fun k j => (arg_cols arg5 harg5 x3 k j).trans (hx3 _ _)))
    (gate_a_at A X _ (rowb_at hx0 hx1 hx2) _ (fun k j => (arg_cols arg5 harg5 x3 k j).trans (hx3 _ _)))
    (fun k j => (arg_whole arg11 harg11 x9 k j).trans (hx9 k j)) (fun j => (arg_whole arg12 harg12 x10 0 j).trans (hx10 j))
    (fun j => (arg_whole arg13 harg13 x11 0 j).trans (hx11 j)) r j

include hx0 hx1 hx2 hx3 in
/-- The rows this point leaves for the next point's pooling. -/
theorem ext_at (a : Fin 272) (j : Fin 512) (h : a.val < 16) : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11).2.2.1 (ix2 a j) = pr A (X (240 + a)) (4096 + j) := by
  unfold kernelRun0_A
  exact ext_left arg16.view _ _ (new_at hx0 hx1 hx2 hx3) a j h

include hx0 hx1 hx2 hx3 hx4 hS hS0 in
/-- The state this point leaves. -/
theorem state_at (h : Fin 8) (e d : Fin 128) : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11).2.1 (ix3 h e d) = S 8 h e d :=
  (stage_64 hx0 hx1 hx2 hx3 hx4 hS hS0 h e d (Or.inr (Or.inl (by decide)))).trans rfl

end Cert.Proof.Mix.CaseA

end
-- ==== Proof.MixStateB.lean ====
/-
  ANY LATER GRID POINT OF A BATCH: the buffers its body fills, the recurrence over its 64 head-steps from the state it
  was handed, and what its 64 tiles read of the states.
-/
module

public import proofs.«01_k».proof.Proof.MixStage
public import proofs.«01_k».proof.Proof.Gen.Kernel2Ideal.Value

@[expose] public section

set_option maxRecDepth 8192

noncomputable section

namespace Cert.Proof.Mix.CaseB

open Idealize.ShloMosaic Idealize.ShloMosaic.TcCoe Idealize.ShloMosaic.Tactic
open Cert.Kernel2Ideal Cert.Kernel2Ideal.Gen

variable {A : Args} {X : ℕ → ℕ → EReal} {S : ℕ → ℕ → ℕ → ℕ → EReal} {E : ℕ → ℕ → EReal}
variable {c : Dev nD} {i : grid0.Coords}
variable {arg2 : Memref Cert.Kernel2Ideal.sig .tc .vmem S256x1024 .f32} {harg2 : arg2.IsWhole}
variable {arg3 : Memref Cert.Kernel2Ideal.sig .tc .vmem S1x1024 .f32} {harg3 : arg3.IsWhole}
variable {arg4 : Memref Cert.Kernel2Ideal.sig .tc .vmem S1x1024 .f32} {harg4 : arg4.IsWhole}
variable {arg5 : Memref Cert.Kernel2Ideal.sig .tc .vmem S1024x6656 .bf16} {harg5 : arg5.IsWhole}
variable {arg6 : Memref Cert.Kernel2Ideal.sig .tc .vmem S2x1024 .f32} {harg6 : arg6.IsWhole}
variable {arg7 : Memref Cert.Kernel2Ideal.sig .tc .vmem S1x128 .f32} {harg7 : arg7.IsWhole}
variable {arg8 : Memref Cert.Kernel2Ideal.sig .tc .vmem S1024x1024 .bf16} {harg8 : arg8.IsWhole}
variable {arg9 : Memref Cert.Kernel2Ideal.sig .tc .vmem S4x128x256 .bf16} {harg9 : arg9.IsWhole}
variable {arg10 : Memref Cert.Kernel2Ideal.sig .tc .vmem S1x1024 .f32} {harg10 : arg10.IsWhole}
variable {arg11 : Memref Cert.Kernel2Ideal.sig .tc .vmem S1024x1024 .bf16} {harg11 : arg11.IsWhole}
variable {arg12 : Memref Cert.Kernel2Ideal.sig .tc .vmem S1x1024 .f32} {harg12 : arg12.IsWhole}
variable {arg13 : Memref Cert.Kernel2Ideal.sig .tc .vmem S1x1024 .f32} {harg13 : arg13.IsWhole}
variable {arg14 : Memref Cert.Kernel2Ideal.sig .tc .vmem S256x1024 .f32} {harg14 : arg14.IsWhole}
variable {arg15 : Memref Cert.Kernel2Ideal.sig .tc .vmem S8x128x128 .f32} {harg15 : arg15.IsWhole}
variable {arg16 : Memref Cert.Kernel2Ideal.sig .tc .vmem S272x512 .f32} {harg16 : arg16.IsWhole}
variable {arg17 : Memref Cert.Kernel2Ideal.sig .tc .vmem S256x1024 .bf16} {harg17 : arg17.IsWhole}
variable {arg18 : Memref Cert.Kernel2Ideal.sig .tc .vmem S256x1024 .bf16} {harg18 : arg18.IsWhole}
variable {arg19 : Memref Cert.Kernel2Ideal.sig .tc .vmem S256x1024 .bf16} {harg19 : arg19.IsWhole}
variable {arg20 : Memref Cert.Kernel2Ideal.sig .tc .vmem S256x1024 .bf16} {harg20 : arg20.IsWhole}
variable {arg21 : Memref Cert.Kernel2Ideal.sig .tc .vmem S8x1024 .f32} {harg21 : arg21.IsWhole}
variable {arg22 : Memref Cert.Kernel2Ideal.sig .tc .vmem S256x1024 .bf16} {harg22 : arg22.IsWhole}
variable {arg23 : Memref Cert.Kernel2Ideal.sig .tc .vmem S256x1024 .f32} {harg23 : arg23.IsWhole}
variable {arg24 : Memref Cert.Kernel2Ideal.sig .tc .vmem S256x1024 .f32} {harg24 : arg24.IsWhole}
variable {x0 : Vec Ideal S256x1024 .f32}
variable {x1 : Vec Ideal S1x1024 .f32}
variable {x2 : Vec Ideal S1x1024 .f32}
variable {x3 : Vec Ideal S1024x6656 .bf16}
variable {x4 : Vec Ideal S2x1024 .f32}
variable {x5 : Vec Ideal S1x128 .f32}
variable {x6 : Vec Ideal S1024x1024 .bf16}
variable {x7 : Vec Ideal S4x128x256 .bf16}
variable {x8 : Vec Ideal S1x1024 .f32}
variable {x9 : Vec Ideal S1024x1024 .bf16}
variable {x10 : Vec Ideal S1x1024 .f32}
variable {x11 : Vec Ideal S1x1024 .f32}
variable {xs0 : Vec Ideal S8x128x128 .f32} {xs1 : Vec Ideal S272x512 .f32}
variable (hx0 : ∀ (r : Fin 256) (j : Fin 1024), x0 (ix2 r j) = X r j)
variable (hx1 : ∀ j : Fin 1024, x1 (ix2 0 j) = A.g0 j) (hx2 : ∀ j : Fin 1024, x2 (ix2 0 j) = A.b0 j)
variable (hx3 : ∀ (k : Fin 1024) (j : Fin 6656), x3 (ix2 k j) = A.W k j)
variable (hx4 : ∀ (i : Fin 2) (j : Fin 1024), x4 (ix2 i j) = A.hg i j)
variable (hx5 : ∀ e : Fin 128, x5 (ix2 0 e) = A.ng e)
variable (hx6 : ∀ k j : Fin 1024, x6 (ix2 k j) = A.whg k j)
variable (hx7 : ∀ (g : Fin 4) (c : Fin 128) (j : Fin 256), x7 (ix3 g c j) = A.pw g c j)
variable (hx8 : ∀ j : Fin 1024, x8 (ix2 0 j) = A.ps j)
variable (hx9 : ∀ k j : Fin 1024, x9 (ix2 k j) = A.wo k j)
variable (hx10 : ∀ j : Fin 1024, x10 (ix2 0 j) = A.g1 j) (hx11 : ∀ j : Fin 1024, x11 (ix2 0 j) = A.b1 j)
variable (hS : ∀ c h e d, S (c + 1) h e d = step A (fun s => X (32 * c + s)) (S c) h e d)
variable (hxs0 : ∀ (h : Fin 8) (e d : Fin 128), xs0 (ix3 h e d) = S 0 h e d)
variable (hxs1 : ∀ (r : Fin 272) (j : Fin 512), r.val < 16 → xs1 (ix2 r j) = E r j)

include hx0 hx1 hx2 in
theorem row_at (r : Fin 256) (j : Fin 1024) : (kernelRun0_B.sl.r c arg2 harg2 arg3 harg3 arg4 harg4 x0 x1 x2) (ix2 r j) = h0 A (X r) j :=
  h0_at A X _ _ _ (fun r j => (arg_whole arg2 harg2 x0 r j).trans (hx0 r j)) (fun j => (arg_whole arg3 harg3 x1 0 j).trans (hx1 j)) (fun j => (arg_whole arg4 harg4 x2 0 j).trans (hx2 j)) r j

include hx0 hx1 hx2 in
theorem rowb_at (r : Fin 256) (j : Fin 1024) : (kernelRun0_B.sl.r_1 c arg2 harg2 arg3 harg3 arg4 harg4 x0 x1 x2) (ix2 r j) = h0 A (X r) j :=
  hb_at A X _ _ _ (fun r j => (arg_whole arg2 harg2 x0 r j).trans (hx0 r j)) (fun j => (arg_whole arg3 harg3 x1 0 j).trans (hx1 j)) (fun j => (arg_whole arg4 harg4 x2 0 j).trans (hx2 j)) r j

include hx4 in
theorem bound_at (j : Fin 1024) : (kernelRun0_B.sl.r_2 c arg6 harg6 x4) (ix2 0 j) = lb A j :=
  lb_at A _ (fun r j => (arg_whole arg6 harg6 x4 r j).trans (hx4 r j)) j

include hx0 hx1 hx2 hx3 hx4 in
theorem key_at (r : Fin 256) (j : Fin 1024) : (kernelRun0_B.sl.r_3 c arg2 harg2 arg3 harg3 arg4 harg4 arg5 harg5 arg6 harg6 x0 x1 x2 x3 x4) (ix2 r j) = kk A (X r) j :=
  kk_at A X _ (rowb_at hx0 hx1 hx2) _ 1024 (fun k j => (arg_cols arg5 harg5 x3 k j).trans (hx3 _ _)) _ (bound_at hx4) rfl r j

include hx0 hx1 hx2 hx3 hx4 in
theorem sum_at (r : Fin 256) (j : Fin 1024) :
    k0_pay11 (kernelRun0_B.sl.r_4 c arg2 harg2 arg3 harg3 arg4 harg4 arg5 harg5 arg6 harg6 x0 x1 x2 x3 x4) k0_pay9 (kernelRun0_B.sl.r_5 c arg2 harg2 arg3 harg3 arg4 harg4 arg5 harg5 arg6 harg6 x0 x1 x2 x3 x4) (ix2 r j) = bh A (fun s => X (32 * (r / 32) + s)) (r % 32) j :=
  bh_at A X _ (rowb_at hx0 hx1 hx2) _ (fun k j => (arg_cols arg5 harg5 x3 k j).trans (hx3 _ _)) _ (bound_at hx4) r j

include hx0 hx1 hx2 hx3 in
theorem val_at (r : Fin 256) (j : Fin 1024) : (kernelRun0_B.sl.r_8 c arg2 harg2 arg3 harg3 arg4 harg4 arg5 harg5 x0 x1 x2 x3) (ix2 r j) = vv A (X r) j :=
  vv_at A X _ (rowb_at hx0 hx1 hx2) _ 2048 (fun k j => (arg_cols arg5 harg5 x3 k j).trans (hx3 _ _)) rfl r j

include hx0 hx1 hx2 hx3 in
theorem gate_at (r : Fin 256) (j : Fin 1024) : (kernelRun0_B.sl.r_9 c arg2 harg2 arg3 harg3 arg4 harg4 arg5 harg5 x0 x1 x2 x3) (ix2 r j) = ga A (X r) j :=
  ga_at A X _ (rowb_at hx0 hx1 hx2) _ 3072 (fun k j => (arg_cols arg5 harg5 x3 k j).trans (hx3 _ _)) rfl r j

include hx0 hx1 hx2 hx3 hx4 in
/-- The queries' buffer. -/
theorem buf_q (r : Fin 256) (j : Fin 1024) :
    View.canon (kernelRun0_B.sl.HS2_1 c arg2 harg2 arg3 harg3 arg4 harg4 arg5 harg5 arg6 harg6 x0 x1 x2 x3 x4) (ix2 r j) = qd A (fun s => X (32 * (r / 32) + s)) (r % 32) j := by
  refine (store_whole _ r j).trans ?_
  refine qd_at A X _ (rowb_at hx0 hx1 hx2) _ 0 (fun k j => (arg_cols arg5 harg5 x3 k j).trans (hx3 _ _)) rfl _ (fun r j => sum_at hx0 hx1 hx2 hx3 hx4 r j) r j

include hx0 hx1 hx2 hx3 hx4 in
/-- The keys' buffer. -/
theorem buf_k (r : Fin 256) (j : Fin 1024) :
    View.canon (kernelRun0_B.sl.HS3_1 c arg2 harg2 arg3 harg3 arg4 harg4 arg5 harg5 arg6 harg6 x0 x1 x2 x3 x4) (ix2 r j) = ki A (fun s => X (32 * (r / 32) + s)) (r % 32) j := by
  refine (store_whole _ r j).trans ?_
  exact ki_at A X _ _ _ (key_at hx0 hx1 hx2 hx3 hx4) (sum_at hx0 hx1 hx2 hx3 hx4) r j

include hx0 hx1 hx2 hx3 hx4 in
/-- The buffer of keys decayed to the chunk's end. -/
theorem buf_e (r : Fin 256) (j : Fin 1024) :
    View.canon (kernelRun0_B.sl.HS4_1 c arg2 harg2 arg3 harg3 arg4 harg4 arg5 harg5 arg6 harg6 x0 x1 x2 x3 x4) (ix2 r j) = ke A (fun s => X (32 * (r / 32) + s)) (r % 32) j := by
  refine (store_whole _ r j).trans ?_
  exact ke_at A X _ _ _ (key_at hx0 hx1 hx2 hx3 hx4) (sum_at hx0 hx1 hx2 hx3 hx4) r j

include hx0 hx1 hx2 hx3 in
/-- The values' buffer. -/
theorem buf_v (r : Fin 256) (j : Fin 1024) : View.canon (kernelRun0_B.sl.HS5_1 c arg2 harg2 arg3 harg3 arg4 harg4 arg5 harg5 x0 x1 x2 x3) (ix2 r j) = vv A (X r) j := by
  refine (store_whole _ r j).trans ?_
  exact (copy_at _ r j).trans (val_at hx0 hx1 hx2 hx3 r j)

include hx0 hx1 hx2 hx3 hx4 in
/-- The chunks' decays. -/
theorem buf_d (n : Fin 8) (j : Fin 1024) : View.canon (kernelRun0_B.sl.HS6_1 c arg2 harg2 arg3 harg3 arg4 harg4 arg5 harg5 arg6 harg6 x0 x1 x2 x3 x4) (ix2 n j) = dec A (fun s => X (32 * n + s)) j := by
  refine (store_whole _ n j).trans ?_
  exact dec_at A X _ _ (sum_at hx0 hx1 hx2 hx3 hx4) n j

variable {hc0 : ¬cond0_0 i}

include hx0 hx1 hx2 hx3 hx4 hS hxs0 in
theorem stage_8 : Stage False S 8 (kernelRun0_B.sl.HS0_8 c arg2 harg2 arg3 harg3 arg4 harg4 arg5 harg5 arg6 harg6 arg15 harg15 arg19 arg20 arg21 x0 x1 x2 x3 x4 xs0) := by
  have s0 : Stage False S 0 [] := empty_stage
  refine Stage.step A X hS (n := 7) ?_ 0 7 (by decide) (by decide) (by decide) (st := (View.readAt (Elt Ideal) arg15.view ((Rect.unit (s := S8x128x128) ![7, 0, 0] S1x128x128.size inb_S8x128x128_S1x128x128_7_0_0).toLoadRect) (harg15.unread xs0))) (fun e d => (arg_three arg15 harg15 xs0 e d (by decide)).trans (hxs0 ⟨7, by decide⟩ e d)) (buf_d hx0 hx1 hx2 hx3 hx4) (buf_v hx0 hx1 hx2 hx3) (buf_e hx0 hx1 hx2 hx3 hx4) rfl
  refine Stage.step A X hS (n := 6) ?_ 0 6 (by decide) (by decide) (by decide) (st := (View.readAt (Elt Ideal) arg15.view ((Rect.unit (s := S8x128x128) ![6, 0, 0] S1x128x128.size inb_S8x128x128_S1x128x128_6_0_0).toLoadRect) (harg15.unread xs0))) (fun e d => (arg_three arg15 harg15 xs0 e d (by decide)).trans (hxs0 ⟨6, by decide⟩ e d)) (buf_d hx0 hx1 hx2 hx3 hx4) (buf_v hx0 hx1 hx2 hx3) (buf_e hx0 hx1 hx2 hx3 hx4) rfl
  refine Stage.step A X hS (n := 5) ?_ 0 5 (by decide) (by decide) (by decide) (st := (View.readAt (Elt Ideal) arg15.view ((Rect.unit (s := S8x128x128) ![5, 0, 0] S1x128x128.size inb_S8x128x128_S1x128x128_5_0_0).toLoadRect) (harg15.unread xs0))) (fun e d => (arg_three arg15 harg15 xs0 e d (by decide)).trans (hxs0 ⟨5, by decide⟩ e d)) (buf_d hx0 hx1 hx2 hx3 hx4) (buf_v hx0 hx1 hx2 hx3) (buf_e hx0 hx1 hx2 hx3 hx4) rfl
  refine Stage.step A X hS (n := 4) ?_ 0 4 (by decide) (by decide) (by decide) (st := (View.readAt (Elt Ideal) arg15.view ((Rect.unit (s := S8x128x128) ![4, 0, 0] S1x128x128.size inb_S8x128x128_S1x128x128_4_0_0).toLoadRect) (harg15.unread xs0))) (fun e d => (arg_three arg15 harg15 xs0 e d (by decide)).trans (hxs0 ⟨4, by decide⟩ e d)) (buf_d hx0 hx1 hx2 hx3 hx4) (buf_v hx0 hx1 hx2 hx3) (buf_e hx0 hx1 hx2 hx3 hx4) rfl
  refine Stage.step A X hS (n := 3) ?_ 0 3 (by decide) (by decide) (by decide) (st := (View.readAt (Elt Ideal) arg15.view ((Rect.unit (s := S8x128x128) ![3, 0, 0] S1x128x128.size inb_S8x128x128_S1x128x128_3_0_0).toLoadRect) (harg15.unread xs0))) (fun e d => (arg_three arg15 harg15 xs0 e d (by decide)).trans (hxs0 ⟨3, by decide⟩ e d)) (buf_d hx0 hx1 hx2 hx3 hx4) (buf_v hx0 hx1 hx2 hx3) (buf_e hx0 hx1 hx2 hx3 hx4) rfl
  refine Stage.step A X hS (n := 2) ?_ 0 2 (by decide) (by decide) (by decide) (st := (View.readAt (Elt Ideal) arg15.view ((Rect.unit (s := S8x128x128) ![2, 0, 0] S1x128x128.size inb_S8x128x128_S1x128x128_2_0_0).toLoadRect) (harg15.unread xs0))) (fun e d => (arg_three arg15 harg15 xs0 e d (by decide)).trans (hxs0 ⟨2, by decide⟩ e d)) (buf_d hx0 hx1 hx2 hx3 hx4) (buf_v hx0 hx1 hx2 hx3) (buf_e hx0 hx1 hx2 hx3 hx4) rfl
  refine Stage.step A X hS (n := 1) ?_ 0 1 (by decide) (by decide) (by decide) (st := (View.readAt (Elt Ideal) arg15.view ((Rect.unit (s := S8x128x128) ![1, 0, 0] S1x128x128.size inb_S8x128x128_S1x128x128_1_0_0).toLoadRect) (harg15.unread xs0))) (fun e d => (arg_three arg15 harg15 xs0 e d (by decide)).trans (hxs0 ⟨1, by decide⟩ e d)) (buf_d hx0 hx1 hx2 hx3 hx4) (buf_v hx0 hx1 hx2 hx3) (buf_e hx0 hx1 hx2 hx3 hx4) rfl
  refine Stage.step A X hS (n := 0) ?_ 0 0 (by decide) (by decide) (by decide) (st := (View.readAt (Elt Ideal) arg15.view ((Rect.unit (s := S8x128x128) ![0, 0, 0] S1x128x128.size inb_S8x128x128_S1x128x128_0_0_0).toLoadRect) (harg15.unread xs0))) (fun e d => (arg_three arg15 harg15 xs0 e d (by decide)).trans (hxs0 ⟨0, by decide⟩ e d)) (buf_d hx0 hx1 hx2 hx3 hx4) (buf_v hx0 hx1 hx2 hx3) (buf_e hx0 hx1 hx2 hx3 hx4) rfl
  exact s0

include hx0 hx1 hx2 hx3 hx4 hS hxs0 in
theorem stage_9 : Stage False S 9 (kernelRun0_B.sl.HS0_9 c arg2 harg2 arg3 harg3 arg4 harg4 arg5 harg5 arg6 harg6 arg15 harg15 arg19 arg20 arg21 x0 x1 x2 x3 x4 xs0) :=
  (stage_8 hx0 hx1 hx2 hx3 hx4 hS hxs0).step A X hS 1 0 (by decide) (by decide) (by decide) (st := (arg15.view.readCov (kernelRun0_B.sl.HS0_8 c arg2 harg2 arg3 harg3 arg4 harg4 arg5 harg5 arg6 harg6 arg15 harg15 arg19 arg20 arg21 x0 x1 x2 x3 x4 xs0) ((Rect.unit (s := S8x128x128) ![0, 0, 0] S1x128x128.size inb_S8x128x128_S1x128x128_0_0_0).toLoadRect))) ((stage_8 hx0 hx1 hx2 hx3 hx4 hS hxs0).load 1 0 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_10 : Stage False S 10 (kernelRun0_B.sl.HS0_10 c arg2 harg2 arg3 harg3 arg4 harg4 arg5 harg5 arg6 harg6 arg15 harg15 arg19 arg20 arg21 x0 x1 x2 x3 x4 xs0) :=
  (stage_9 hx0 hx1 hx2 hx3 hx4 hS hxs0).step A X hS 1 1 (by decide) (by decide) (by decide) (st := (arg15.view.readCov (kernelRun0_B.sl.HS0_9 c arg2 harg2 arg3 harg3 arg4 harg4 arg5 harg5 arg6 harg6 arg15 harg15 arg19 arg20 arg21 x0 x1 x2 x3 x4 xs0) ((Rect.unit (s := S8x128x128) ![1, 0, 0] S1x128x128.size inb_S8x128x128_S1x128x128_1_0_0).toLoadRect))) ((stage_9 hx0 hx1 hx2 hx3 hx4 hS hxs0).load 1 1 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_11 : Stage False S 11 (kernelRun0_B.sl.HS0_11 c arg2 harg2 arg3 harg3 arg4 harg4 arg5 harg5 arg6 harg6 arg15 harg15 arg19 arg20 arg21 x0 x1 x2 x3 x4 xs0) :=
  (stage_10 hx0 hx1 hx2 hx3 hx4 hS hxs0).step A X hS 1 2 (by decide) (by decide) (by decide) (st := (arg15.view.readCov (kernelRun0_B.sl.HS0_10 c arg2 harg2 arg3 harg3 arg4 harg4 arg5 harg5 arg6 harg6 arg15 harg15 arg19 arg20 arg21 x0 x1 x2 x3 x4 xs0) ((Rect.unit (s := S8x128x128) ![2, 0, 0] S1x128x128.size inb_S8x128x128_S1x128x128_2_0_0).toLoadRect))) ((stage_10 hx0 hx1 hx2 hx3 hx4 hS hxs0).load 1 2 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_12 : Stage False S 12 (kernelRun0_B.sl.HS0_12 c arg2 harg2 arg3 harg3 arg4 harg4 arg5 harg5 arg6 harg6 arg15 harg15 arg19 arg20 arg21 x0 x1 x2 x3 x4 xs0) :=
  (stage_11 hx0 hx1 hx2 hx3 hx4 hS hxs0).step A X hS 1 3 (by decide) (by decide) (by decide) (st := (arg15.view.readCov (kernelRun0_B.sl.HS0_11 c arg2 harg2 arg3 harg3 arg4 harg4 arg5 harg5 arg6 harg6 arg15 harg15 arg19 arg20 arg21 x0 x1 x2 x3 x4 xs0) ((Rect.unit (s := S8x128x128) ![3, 0, 0] S1x128x128.size inb_S8x128x128_S1x128x128_3_0_0).toLoadRect))) ((stage_11 hx0 hx1 hx2 hx3 hx4 hS hxs0).load 1 3 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_13 : Stage False S 13 (kernelRun0_B.sl.HS0_13 c arg2 harg2 arg3 harg3 arg4 harg4 arg5 harg5 arg6 harg6 arg15 harg15 arg19 arg20 arg21 x0 x1 x2 x3 x4 xs0) :=
  (stage_12 hx0 hx1 hx2 hx3 hx4 hS hxs0).step A X hS 1 4 (by decide) (by decide) (by decide) (st := (arg15.view.readCov (kernelRun0_B.sl.HS0_12 c arg2 harg2 arg3 harg3 arg4 harg4 arg5 harg5 arg6 harg6 arg15 harg15 arg19 arg20 arg21 x0 x1 x2 x3 x4 xs0) ((Rect.unit (s := S8x128x128) ![4, 0, 0] S1x128x128.size inb_S8x128x128_S1x128x128_4_0_0).toLoadRect))) ((stage_12 hx0 hx1 hx2 hx3 hx4 hS hxs0).load 1 4 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_14 : Stage False S 14 (kernelRun0_B.sl.HS0_14 c arg2 harg2 arg3 harg3 arg4 harg4 arg5 harg5 arg6 harg6 arg15 harg15 arg19 arg20 arg21 x0 x1 x2 x3 x4 xs0) :=
  (stage_13 hx0 hx1 hx2 hx3 hx4 hS hxs0).step A X hS 1 5 (by decide) (by decide) (by decide) (st := (arg15.view.readCov (kernelRun0_B.sl.HS0_13 c arg2 harg2 arg3 harg3 arg4 harg4 arg5 harg5 arg6 harg6 arg15 harg15 arg19 arg20 arg21 x0 x1 x2 x3 x4 xs0) ((Rect.unit (s := S8x128x128) ![5, 0, 0] S1x128x128.size inb_S8x128x128_S1x128x128_5_0_0).toLoadRect))) ((stage_13 hx0 hx1 hx2 hx3 hx4 hS hxs0).load 1 5 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_15 : Stage False S 15 (kernelRun0_B.sl.HS0_15 c arg2 harg2 arg3 harg3 arg4 harg4 arg5 harg5 arg6 harg6 arg15 harg15 arg19 arg20 arg21 x0 x1 x2 x3 x4 xs0) :=
  (stage_14 hx0 hx1 hx2 hx3 hx4 hS hxs0).step A X hS 1 6 (by decide) (by decide) (by decide) (st := (arg15.view.readCov (kernelRun0_B.sl.HS0_14 c arg2 harg2 arg3 harg3 arg4 harg4 arg5 harg5 arg6 harg6 arg15 harg15 arg19 arg20 arg21 x0 x1 x2 x3 x4 xs0) ((Rect.unit (s := S8x128x128) ![6, 0, 0] S1x128x128.size inb_S8x128x128_S1x128x128_6_0_0).toLoadRect))) ((stage_14 hx0 hx1 hx2 hx3 hx4 hS hxs0).load 1 6 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_16 : Stage False S 16 (kernelRun0_B.sl.HS0_16 c arg2 harg2 arg3 harg3 arg4 harg4 arg5 harg5 arg6 harg6 arg15 harg15 arg19 arg20 arg21 x0 x1 x2 x3 x4 xs0) :=
  (stage_15 hx0 hx1 hx2 hx3 hx4 hS hxs0).step A X hS 1 7 (by decide) (by decide) (by decide) (st := (arg15.view.readCov (kernelRun0_B.sl.HS0_15 c arg2 harg2 arg3 harg3 arg4 harg4 arg5 harg5 arg6 harg6 arg15 harg15 arg19 arg20 arg21 x0 x1 x2 x3 x4 xs0) ((Rect.unit (s := S8x128x128) ![7, 0, 0] S1x128x128.size inb_S8x128x128_S1x128x128_7_0_0).toLoadRect))) ((stage_15 hx0 hx1 hx2 hx3 hx4 hS hxs0).load 1 7 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_17 : Stage False S 17 (kernelRun0_B.sl.HS0_17 c arg2 harg2 arg3 harg3 arg4 harg4 arg5 harg5 arg6 harg6 arg15 harg15 arg19 arg20 arg21 x0 x1 x2 x3 x4 xs0) :=
  (stage_16 hx0 hx1 hx2 hx3 hx4 hS hxs0).step A X hS 2 0 (by decide) (by decide) (by decide) (st := (arg15.view.readCov (kernelRun0_B.sl.HS0_16 c arg2 harg2 arg3 harg3 arg4 harg4 arg5 harg5 arg6 harg6 arg15 harg15 arg19 arg20 arg21 x0 x1 x2 x3 x4 xs0) ((Rect.unit (s := S8x128x128) ![0, 0, 0] S1x128x128.size inb_S8x128x128_S1x128x128_0_0_0).toLoadRect))) ((stage_16 hx0 hx1 hx2 hx3 hx4 hS hxs0).load 2 0 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_18 : Stage False S 18 (kernelRun0_B.sl.HS0_18 c arg2 harg2 arg3 harg3 arg4 harg4 arg5 harg5 arg6 harg6 arg15 harg15 arg19 arg20 arg21 x0 x1 x2 x3 x4 xs0) :=
  (stage_17 hx0 hx1 hx2 hx3 hx4 hS hxs0).step A X hS 2 1 (by decide) (by decide) (by decide) (st := (arg15.view.readCov (kernelRun0_B.sl.HS0_17 c arg2 harg2 arg3 harg3 arg4 harg4 arg5 harg5 arg6 harg6 arg15 harg15 arg19 arg20 arg21 x0 x1 x2 x3 x4 xs0) ((Rect.unit (s := S8x128x128) ![1, 0, 0] S1x128x128.size inb_S8x128x128_S1x128x128_1_0_0).toLoadRect))) ((stage_17 hx0 hx1 hx2 hx3 hx4 hS hxs0).load 2 1 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_19 : Stage False S 19 (kernelRun0_B.sl.HS0_19 c arg2 harg2 arg3 harg3 arg4 harg4 arg5 harg5 arg6 harg6 arg15 harg15 arg19 arg20 arg21 x0 x1 x2 x3 x4 xs0) :=
  (stage_18 hx0 hx1 hx2 hx3 hx4 hS hxs0).step A X hS 2 2 (by decide) (by decide) (by decide) (st := (arg15.view.readCov (kernelRun0_B.sl.HS0_18 c arg2 harg2 arg3 harg3 arg4 harg4 arg5 harg5 arg6 harg6 arg15 harg15 arg19 arg20 arg21 x0 x1 x2 x3 x4 xs0) ((Rect.unit (s := S8x128x128) ![2, 0, 0] S1x128x128.size inb_S8x128x128_S1x128x128_2_0_0).toLoadRect))) ((stage_18 hx0 hx1 hx2 hx3 hx4 hS hxs0).load 2 2 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_20 : Stage False S 20 (kernelRun0_B.sl.HS0_20 c arg2 harg2 arg3 harg3 arg4 harg4 arg5 harg5 arg6 harg6 arg15 harg15 arg19 arg20 arg21 x0 x1 x2 x3 x4 xs0) :=
  (stage_19 hx0 hx1 hx2 hx3 hx4 hS hxs0).step A X hS 2 3 (by decide) (by decide) (by decide) (st := (arg15.view.readCov (kernelRun0_B.sl.HS0_19 c arg2 harg2 arg3 harg3 arg4 harg4 arg5 harg5 arg6 harg6 arg15 harg15 arg19 arg20 arg21 x0 x1 x2 x3 x4 xs0) ((Rect.unit (s := S8x128x128) ![3, 0, 0] S1x128x128.size inb_S8x128x128_S1x128x128_3_0_0).toLoadRect))) ((stage_19 hx0 hx1 hx2 hx3 hx4 hS hxs0).load 2 3 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_21 : Stage False S 21 (kernelRun0_B.sl.HS0_21 c arg2 harg2 arg3 harg3 arg4 harg4 arg5 harg5 arg6 harg6 arg15 harg15 arg19 arg20 arg21 x0 x1 x2 x3 x4 xs0) :=
  (stage_20 hx0 hx1 hx2 hx3 hx4 hS hxs0).step A X hS 2 4 (by decide) (by decide) (by decide) (st := (arg15.view.readCov (kernelRun0_B.sl.HS0_20 c arg2 harg2 arg3 harg3 arg4 harg4 arg5 harg5 arg6 harg6 arg15 harg15 arg19 arg20 arg21 x0 x1 x2 x3 x4 xs0) ((Rect.unit (s := S8x128x128) ![4, 0, 0] S1x128x128.size inb_S8x128x128_S1x128x128_4_0_0).toLoadRect))) ((stage_20 hx0 hx1 hx2 hx3 hx4 hS hxs0).load 2 4 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_22 : Stage False S 22 (kernelRun0_B.sl.HS0_22 c arg2 harg2 arg3 harg3 arg4 harg4 arg5 harg5 arg6 harg6 arg15 harg15 arg19 arg20 arg21 x0 x1 x2 x3 x4 xs0) :=
  (stage_21 hx0 hx1 hx2 hx3 hx4 hS hxs0).step A X hS 2 5 (by decide) (by decide) (by decide) (st := (arg15.view.readCov (kernelRun0_B.sl.HS0_21 c arg2 harg2 arg3 harg3 arg4 harg4 arg5 harg5 arg6 harg6 arg15 harg15 arg19 arg20 arg21 x0 x1 x2 x3 x4 xs0) ((Rect.unit (s := S8x128x128) ![5, 0, 0] S1x128x128.size inb_S8x128x128_S1x128x128_5_0_0).toLoadRect))) ((stage_21 hx0 hx1 hx2 hx3 hx4 hS hxs0).load 2 5 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_23 : Stage False S 23 (kernelRun0_B.sl.HS0_23 c arg2 harg2 arg3 harg3 arg4 harg4 arg5 harg5 arg6 harg6 arg15 harg15 arg19 arg20 arg21 x0 x1 x2 x3 x4 xs0) :=
  (stage_22 hx0 hx1 hx2 hx3 hx4 hS hxs0).step A X hS 2 6 (by decide) (by decide) (by decide) (st := (arg15.view.readCov (kernelRun0_B.sl.HS0_22 c arg2 harg2 arg3 harg3 arg4 harg4 arg5 harg5 arg6 harg6 arg15 harg15 arg19 arg20 arg21 x0 x1 x2 x3 x4 xs0) ((Rect.unit (s := S8x128x128) ![6, 0, 0] S1x128x128.size inb_S8x128x128_S1x128x128_6_0_0).toLoadRect))) ((stage_22 hx0 hx1 hx2 hx3 hx4 hS hxs0).load 2 6 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_24 : Stage False S 24 (kernelRun0_B.sl.HS0_24 c arg2 harg2 arg3 harg3 arg4 harg4 arg5 harg5 arg6 harg6 arg15 harg15 arg19 arg20 arg21 x0 x1 x2 x3 x4 xs0) :=
  (stage_23 hx0 hx1 hx2 hx3 hx4 hS hxs0).step A X hS 2 7 (by decide) (by decide) (by decide) (st := (arg15.view.readCov (kernelRun0_B.sl.HS0_23 c arg2 harg2 arg3 harg3 arg4 harg4 arg5 harg5 arg6 harg6 arg15 harg15 arg19 arg20 arg21 x0 x1 x2 x3 x4 xs0) ((Rect.unit (s := S8x128x128) ![7, 0, 0] S1x128x128.size inb_S8x128x128_S1x128x128_7_0_0).toLoadRect))) ((stage_23 hx0 hx1 hx2 hx3 hx4 hS hxs0).load 2 7 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_25 : Stage False S 25 (kernelRun0_B.sl.HS0_25 c arg2 harg2 arg3 harg3 arg4 harg4 arg5 harg5 arg6 harg6 arg15 harg15 arg19 arg20 arg21 x0 x1 x2 x3 x4 xs0) :=
  (stage_24 hx0 hx1 hx2 hx3 hx4 hS hxs0).step A X hS 3 0 (by decide) (by decide) (by decide) (st := (arg15.view.readCov (kernelRun0_B.sl.HS0_24 c arg2 harg2 arg3 harg3 arg4 harg4 arg5 harg5 arg6 harg6 arg15 harg15 arg19 arg20 arg21 x0 x1 x2 x3 x4 xs0) ((Rect.unit (s := S8x128x128) ![0, 0, 0] S1x128x128.size inb_S8x128x128_S1x128x128_0_0_0).toLoadRect))) ((stage_24 hx0 hx1 hx2 hx3 hx4 hS hxs0).load 3 0 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_26 : Stage False S 26 (kernelRun0_B.sl.HS0_26 c arg2 harg2 arg3 harg3 arg4 harg4 arg5 harg5 arg6 harg6 arg15 harg15 arg19 arg20 arg21 x0 x1 x2 x3 x4 xs0) :=
  (stage_25 hx0 hx1 hx2 hx3 hx4 hS hxs0).step A X hS 3 1 (by decide) (by decide) (by decide) (st := (arg15.view.readCov (kernelRun0_B.sl.HS0_25 c arg2 harg2 arg3 harg3 arg4 harg4 arg5 harg5 arg6 harg6 arg15 harg15 arg19 arg20 arg21 x0 x1 x2 x3 x4 xs0) ((Rect.unit (s := S8x128x128) ![1, 0, 0] S1x128x128.size inb_S8x128x128_S1x128x128_1_0_0).toLoadRect))) ((stage_25 hx0 hx1 hx2 hx3 hx4 hS hxs0).load 3 1 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_27 : Stage False S 27 (kernelRun0_B.sl.HS0_27 c arg2 harg2 arg3 harg3 arg4 harg4 arg5 harg5 arg6 harg6 arg15 harg15 arg19 arg20 arg21 x0 x1 x2 x3 x4 xs0) :=
  (stage_26 hx0 hx1 hx2 hx3 hx4 hS hxs0).step A X hS 3 2 (by decide) (by decide) (by decide) (st := (arg15.view.readCov (kernelRun0_B.sl.HS0_26 c arg2 harg2 arg3 harg3 arg4 harg4 arg5 harg5 arg6 harg6 arg15 harg15 arg19 arg20 arg21 x0 x1 x2 x3 x4 xs0) ((Rect.unit (s := S8x128x128) ![2, 0, 0] S1x128x128.size inb_S8x128x128_S1x128x128_2_0_0).toLoadRect))) ((stage_26 hx0 hx1 hx2 hx3 hx4 hS hxs0).load 3 2 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_28 : Stage False S 28 (kernelRun0_B.sl.HS0_28 c arg2 harg2 arg3 harg3 arg4 harg4 arg5 harg5 arg6 harg6 arg15 harg15 arg19 arg20 arg21 x0 x1 x2 x3 x4 xs0) :=
  (stage_27 hx0 hx1 hx2 hx3 hx4 hS hxs0).step A X hS 3 3 (by decide) (by decide) (by decide) (st := (arg15.view.readCov (kernelRun0_B.sl.HS0_27 c arg2 harg2 arg3 harg3 arg4 harg4 arg5 harg5 arg6 harg6 arg15 harg15 arg19 arg20 arg21 x0 x1 x2 x3 x4 xs0) ((Rect.unit (s := S8x128x128) ![3, 0, 0] S1x128x128.size inb_S8x128x128_S1x128x128_3_0_0).toLoadRect))) ((stage_27 hx0 hx1 hx2 hx3 hx4 hS hxs0).load 3 3 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_29 : Stage False S 29 (kernelRun0_B.sl.HS0_29 c arg2 harg2 arg3 harg3 arg4 harg4 arg5 harg5 arg6 harg6 arg15 harg15 arg19 arg20 arg21 x0 x1 x2 x3 x4 xs0) :=
  (stage_28 hx0 hx1 hx2 hx3 hx4 hS hxs0).step A X hS 3 4 (by decide) (by decide) (by decide) (st := (arg15.view.readCov (kernelRun0_B.sl.HS0_28 c arg2 harg2 arg3 harg3 arg4 harg4 arg5 harg5 arg6 harg6 arg15 harg15 arg19 arg20 arg21 x0 x1 x2 x3 x4 xs0) ((Rect.unit (s := S8x128x128) ![4, 0, 0] S1x128x128.size inb_S8x128x128_S1x128x128_4_0_0).toLoadRect))) ((stage_28 hx0 hx1 hx2 hx3 hx4 hS hxs0).load 3 4 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_30 : Stage False S 30 (kernelRun0_B.sl.HS0_30 c arg2 harg2 arg3 harg3 arg4 harg4 arg5 harg5 arg6 harg6 arg15 harg15 arg19 arg20 arg21 x0 x1 x2 x3 x4 xs0) :=
  (stage_29 hx0 hx1 hx2 hx3 hx4 hS hxs0).step A X hS 3 5 (by decide) (by decide) (by decide) (st := (arg15.view.readCov (kernelRun0_B.sl.HS0_29 c arg2 harg2 arg3 harg3 arg4 harg4 arg5 harg5 arg6 harg6 arg15 harg15 arg19 arg20 arg21 x0 x1 x2 x3 x4 xs0) ((Rect.unit (s := S8x128x128) ![5, 0, 0] S1x128x128.size inb_S8x128x128_S1x128x128_5_0_0).toLoadRect))) ((stage_29 hx0 hx1 hx2 hx3 hx4 hS hxs0).load 3 5 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_31 : Stage False S 31 (kernelRun0_B.sl.HS0_31 c arg2 harg2 arg3 harg3 arg4 harg4 arg5 harg5 arg6 harg6 arg15 harg15 arg19 arg20 arg21 x0 x1 x2 x3 x4 xs0) :=
  (stage_30 hx0 hx1 hx2 hx3 hx4 hS hxs0).step A X hS 3 6 (by decide) (by decide) (by decide) (st := (arg15.view.readCov (kernelRun0_B.sl.HS0_30 c arg2 harg2 arg3 harg3 arg4 harg4 arg5 harg5 arg6 harg6 arg15 harg15 arg19 arg20 arg21 x0 x1 x2 x3 x4 xs0) ((Rect.unit (s := S8x128x128) ![6, 0, 0] S1x128x128.size inb_S8x128x128_S1x128x128_6_0_0).toLoadRect))) ((stage_30 hx0 hx1 hx2 hx3 hx4 hS hxs0).load 3 6 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_32 : Stage False S 32 (kernelRun0_B.sl.HS0_32 c arg2 harg2 arg3 harg3 arg4 harg4 arg5 harg5 arg6 harg6 arg15 harg15 arg19 arg20 arg21 x0 x1 x2 x3 x4 xs0) :=
  (stage_31 hx0 hx1 hx2 hx3 hx4 hS hxs0).step A X hS 3 7 (by decide) (by decide) (by decide) (st := (arg15.view.readCov (kernelRun0_B.sl.HS0_31 c arg2 harg2 arg3 harg3 arg4 harg4 arg5 harg5 arg6 harg6 arg15 harg15 arg19 arg20 arg21 x0 x1 x2 x3 x4 xs0) ((Rect.unit (s := S8x128x128) ![7, 0, 0] S1x128x128.size inb_S8x128x128_S1x128x128_7_0_0).toLoadRect))) ((stage_31 hx0 hx1 hx2 hx3 hx4 hS hxs0).load 3 7 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_33 : Stage False S 33 (kernelRun0_B.sl.HS0_33 c arg2 harg2 arg3 harg3 arg4 harg4 arg5 harg5 arg6 harg6 arg15 harg15 arg19 arg20 arg21 x0 x1 x2 x3 x4 xs0) :=
  (stage_32 hx0 hx1 hx2 hx3 hx4 hS hxs0).step A X hS 4 0 (by decide) (by decide) (by decide) (st := (arg15.view.readCov (kernelRun0_B.sl.HS0_32 c arg2 harg2 arg3 harg3 arg4 harg4 arg5 harg5 arg6 harg6 arg15 harg15 arg19 arg20 arg21 x0 x1 x2 x3 x4 xs0) ((Rect.unit (s := S8x128x128) ![0, 0, 0] S1x128x128.size inb_S8x128x128_S1x128x128_0_0_0).toLoadRect))) ((stage_32 hx0 hx1 hx2 hx3 hx4 hS hxs0).load 4 0 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_34 : Stage False S 34 (kernelRun0_B.sl.HS0_34 c arg2 harg2 arg3 harg3 arg4 harg4 arg5 harg5 arg6 harg6 arg15 harg15 arg19 arg20 arg21 x0 x1 x2 x3 x4 xs0) :=
  (stage_33 hx0 hx1 hx2 hx3 hx4 hS hxs0).step A X hS 4 1 (by decide) (by decide) (by decide) (st := (arg15.view.readCov (kernelRun0_B.sl.HS0_33 c arg2 harg2 arg3 harg3 arg4 harg4 arg5 harg5 arg6 harg6 arg15 harg15 arg19 arg20 arg21 x0 x1 x2 x3 x4 xs0) ((Rect.unit (s := S8x128x128) ![1, 0, 0] S1x128x128.size inb_S8x128x128_S1x128x128_1_0_0).toLoadRect))) ((stage_33 hx0 hx1 hx2 hx3 hx4 hS hxs0).load 4 1 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_35 : Stage False S 35 (kernelRun0_B.sl.HS0_35 c arg2 harg2 arg3 harg3 arg4 harg4 arg5 harg5 arg6 harg6 arg15 harg15 arg19 arg20 arg21 x0 x1 x2 x3 x4 xs0) :=
  (stage_34 hx0 hx1 hx2 hx3 hx4 hS hxs0).step A X hS 4 2 (by decide) (by decide) (by decide) (st := (arg15.view.readCov (kernelRun0_B.sl.HS0_34 c arg2 harg2 arg3 harg3 arg4 harg4 arg5 harg5 arg6 harg6 arg15 harg15 arg19 arg20 arg21 x0 x1 x2 x3 x4 xs0) ((Rect.unit (s := S8x128x128) ![2, 0, 0] S1x128x128.size inb_S8x128x128_S1x128x128_2_0_0).toLoadRect))) ((stage_34 hx0 hx1 hx2 hx3 hx4 hS hxs0).load 4 2 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_36 : Stage False S 36 (kernelRun0_B.sl.HS0_36 c arg2 harg2 arg3 harg3 arg4 harg4 arg5 harg5 arg6 harg6 arg15 harg15 arg19 arg20 arg21 x0 x1 x2 x3 x4 xs0) :=
  (stage_35 hx0 hx1 hx2 hx3 hx4 hS hxs0).step A X hS 4 3 (by decide) (by decide) (by decide) (st := (arg15.view.readCov (kernelRun0_B.sl.HS0_35 c arg2 harg2 arg3 harg3 arg4 harg4 arg5 harg5 arg6 harg6 arg15 harg15 arg19 arg20 arg21 x0 x1 x2 x3 x4 xs0) ((Rect.unit (s := S8x128x128) ![3, 0, 0] S1x128x128.size inb_S8x128x128_S1x128x128_3_0_0).toLoadRect))) ((stage_35 hx0 hx1 hx2 hx3 hx4 hS hxs0).load 4 3 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_37 : Stage False S 37 (kernelRun0_B.sl.HS0_37 c arg2 harg2 arg3 harg3 arg4 harg4 arg5 harg5 arg6 harg6 arg15 harg15 arg19 arg20 arg21 x0 x1 x2 x3 x4 xs0) :=
  (stage_36 hx0 hx1 hx2 hx3 hx4 hS hxs0).step A X hS 4 4 (by decide) (by decide) (by decide) (st := (arg15.view.readCov (kernelRun0_B.sl.HS0_36 c arg2 harg2 arg3 harg3 arg4 harg4 arg5 harg5 arg6 harg6 arg15 harg15 arg19 arg20 arg21 x0 x1 x2 x3 x4 xs0) ((Rect.unit (s := S8x128x128) ![4, 0, 0] S1x128x128.size inb_S8x128x128_S1x128x128_4_0_0).toLoadRect))) ((stage_36 hx0 hx1 hx2 hx3 hx4 hS hxs0).load 4 4 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_38 : Stage False S 38 (kernelRun0_B.sl.HS0_38 c arg2 harg2 arg3 harg3 arg4 harg4 arg5 harg5 arg6 harg6 arg15 harg15 arg19 arg20 arg21 x0 x1 x2 x3 x4 xs0) :=
  (stage_37 hx0 hx1 hx2 hx3 hx4 hS hxs0).step A X hS 4 5 (by decide) (by decide) (by decide) (st := (arg15.view.readCov (kernelRun0_B.sl.HS0_37 c arg2 harg2 arg3 harg3 arg4 harg4 arg5 harg5 arg6 harg6 arg15 harg15 arg19 arg20 arg21 x0 x1 x2 x3 x4 xs0) ((Rect.unit (s := S8x128x128) ![5, 0, 0] S1x128x128.size inb_S8x128x128_S1x128x128_5_0_0).toLoadRect))) ((stage_37 hx0 hx1 hx2 hx3 hx4 hS hxs0).load 4 5 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_39 : Stage False S 39 (kernelRun0_B.sl.HS0_39 c arg2 harg2 arg3 harg3 arg4 harg4 arg5 harg5 arg6 harg6 arg15 harg15 arg19 arg20 arg21 x0 x1 x2 x3 x4 xs0) :=
  (stage_38 hx0 hx1 hx2 hx3 hx4 hS hxs0).step A X hS 4 6 (by decide) (by decide) (by decide) (st := (arg15.view.readCov (kernelRun0_B.sl.HS0_38 c arg2 harg2 arg3 harg3 arg4 harg4 arg5 harg5 arg6 harg6 arg15 harg15 arg19 arg20 arg21 x0 x1 x2 x3 x4 xs0) ((Rect.unit (s := S8x128x128) ![6, 0, 0] S1x128x128.size inb_S8x128x128_S1x128x128_6_0_0).toLoadRect))) ((stage_38 hx0 hx1 hx2 hx3 hx4 hS hxs0).load 4 6 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_40 : Stage False S 40 (kernelRun0_B.sl.HS0_40 c arg2 harg2 arg3 harg3 arg4 harg4 arg5 harg5 arg6 harg6 arg15 harg15 arg19 arg20 arg21 x0 x1 x2 x3 x4 xs0) :=
  (stage_39 hx0 hx1 hx2 hx3 hx4 hS hxs0).step A X hS 4 7 (by decide) (by decide) (by decide) (st := (arg15.view.readCov (kernelRun0_B.sl.HS0_39 c arg2 harg2 arg3 harg3 arg4 harg4 arg5 harg5 arg6 harg6 arg15 harg15 arg19 arg20 arg21 x0 x1 x2 x3 x4 xs0) ((Rect.unit (s := S8x128x128) ![7, 0, 0] S1x128x128.size inb_S8x128x128_S1x128x128_7_0_0).toLoadRect))) ((stage_39 hx0 hx1 hx2 hx3 hx4 hS hxs0).load 4 7 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_41 : Stage False S 41 (kernelRun0_B.sl.HS0_41 c arg2 harg2 arg3 harg3 arg4 harg4 arg5 harg5 arg6 harg6 arg15 harg15 arg19 arg20 arg21 x0 x1 x2 x3 x4 xs0) :=
  (stage_40 hx0 hx1 hx2 hx3 hx4 hS hxs0).step A X hS 5 0 (by decide) (by decide) (by decide) (st := (arg15.view.readCov (kernelRun0_B.sl.HS0_40 c arg2 harg2 arg3 harg3 arg4 harg4 arg5 harg5 arg6 harg6 arg15 harg15 arg19 arg20 arg21 x0 x1 x2 x3 x4 xs0) ((Rect.unit (s := S8x128x128) ![0, 0, 0] S1x128x128.size inb_S8x128x128_S1x128x128_0_0_0).toLoadRect))) ((stage_40 hx0 hx1 hx2 hx3 hx4 hS hxs0).load 5 0 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_42 : Stage False S 42 (kernelRun0_B.sl.HS0_42 c arg2 harg2 arg3 harg3 arg4 harg4 arg5 harg5 arg6 harg6 arg15 harg15 arg19 arg20 arg21 x0 x1 x2 x3 x4 xs0) :=
  (stage_41 hx0 hx1 hx2 hx3 hx4 hS hxs0).step A X hS 5 1 (by decide) (by decide) (by decide) (st := (arg15.view.readCov (kernelRun0_B.sl.HS0_41 c arg2 harg2 arg3 harg3 arg4 harg4 arg5 harg5 arg6 harg6 arg15 harg15 arg19 arg20 arg21 x0 x1 x2 x3 x4 xs0) ((Rect.unit (s := S8x128x128) ![1, 0, 0] S1x128x128.size inb_S8x128x128_S1x128x128_1_0_0).toLoadRect))) ((stage_41 hx0 hx1 hx2 hx3 hx4 hS hxs0).load 5 1 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_43 : Stage False S 43 (kernelRun0_B.sl.HS0_43 c arg2 harg2 arg3 harg3 arg4 harg4 arg5 harg5 arg6 harg6 arg15 harg15 arg19 arg20 arg21 x0 x1 x2 x3 x4 xs0) :=
  (stage_42 hx0 hx1 hx2 hx3 hx4 hS hxs0).step A X hS 5 2 (by decide) (by decide) (by decide) (st := (arg15.view.readCov (kernelRun0_B.sl.HS0_42 c arg2 harg2 arg3 harg3 arg4 harg4 arg5 harg5 arg6 harg6 arg15 harg15 arg19 arg20 arg21 x0 x1 x2 x3 x4 xs0) ((Rect.unit (s := S8x128x128) ![2, 0, 0] S1x128x128.size inb_S8x128x128_S1x128x128_2_0_0).toLoadRect))) ((stage_42 hx0 hx1 hx2 hx3 hx4 hS hxs0).load 5 2 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_44 : Stage False S 44 (kernelRun0_B.sl.HS0_44 c arg2 harg2 arg3 harg3 arg4 harg4 arg5 harg5 arg6 harg6 arg15 harg15 arg19 arg20 arg21 x0 x1 x2 x3 x4 xs0) :=
  (stage_43 hx0 hx1 hx2 hx3 hx4 hS hxs0).step A X hS 5 3 (by decide) (by decide) (by decide) (st := (arg15.view.readCov (kernelRun0_B.sl.HS0_43 c arg2 harg2 arg3 harg3 arg4 harg4 arg5 harg5 arg6 harg6 arg15 harg15 arg19 arg20 arg21 x0 x1 x2 x3 x4 xs0) ((Rect.unit (s := S8x128x128) ![3, 0, 0] S1x128x128.size inb_S8x128x128_S1x128x128_3_0_0).toLoadRect))) ((stage_43 hx0 hx1 hx2 hx3 hx4 hS hxs0).load 5 3 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_45 : Stage False S 45 (kernelRun0_B.sl.HS0_45 c arg2 harg2 arg3 harg3 arg4 harg4 arg5 harg5 arg6 harg6 arg15 harg15 arg19 arg20 arg21 x0 x1 x2 x3 x4 xs0) :=
  (stage_44 hx0 hx1 hx2 hx3 hx4 hS hxs0).step A X hS 5 4 (by decide) (by decide) (by decide) (st := (arg15.view.readCov (kernelRun0_B.sl.HS0_44 c arg2 harg2 arg3 harg3 arg4 harg4 arg5 harg5 arg6 harg6 arg15 harg15 arg19 arg20 arg21 x0 x1 x2 x3 x4 xs0) ((Rect.unit (s := S8x128x128) ![4, 0, 0] S1x128x128.size inb_S8x128x128_S1x128x128_4_0_0).toLoadRect))) ((stage_44 hx0 hx1 hx2 hx3 hx4 hS hxs0).load 5 4 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_46 : Stage False S 46 (kernelRun0_B.sl.HS0_46 c arg2 harg2 arg3 harg3 arg4 harg4 arg5 harg5 arg6 harg6 arg15 harg15 arg19 arg20 arg21 x0 x1 x2 x3 x4 xs0) :=
  (stage_45 hx0 hx1 hx2 hx3 hx4 hS hxs0).step A X hS 5 5 (by decide) (by decide) (by decide) (st := (arg15.view.readCov (kernelRun0_B.sl.HS0_45 c arg2 harg2 arg3 harg3 arg4 harg4 arg5 harg5 arg6 harg6 arg15 harg15 arg19 arg20 arg21 x0 x1 x2 x3 x4 xs0) ((Rect.unit (s := S8x128x128) ![5, 0, 0] S1x128x128.size inb_S8x128x128_S1x128x128_5_0_0).toLoadRect))) ((stage_45 hx0 hx1 hx2 hx3 hx4 hS hxs0).load 5 5 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_47 : Stage False S 47 (kernelRun0_B.sl.HS0_47 c arg2 harg2 arg3 harg3 arg4 harg4 arg5 harg5 arg6 harg6 arg15 harg15 arg19 arg20 arg21 x0 x1 x2 x3 x4 xs0) :=
  (stage_46 hx0 hx1 hx2 hx3 hx4 hS hxs0).step A X hS 5 6 (by decide) (by decide) (by decide) (st := (arg15.view.readCov (kernelRun0_B.sl.HS0_46 c arg2 harg2 arg3 harg3 arg4 harg4 arg5 harg5 arg6 harg6 arg15 harg15 arg19 arg20 arg21 x0 x1 x2 x3 x4 xs0) ((Rect.unit (s := S8x128x128) ![6, 0, 0] S1x128x128.size inb_S8x128x128_S1x128x128_6_0_0).toLoadRect))) ((stage_46 hx0 hx1 hx2 hx3 hx4 hS hxs0).load 5 6 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_48 : Stage False S 48 (kernelRun0_B.sl.HS0_48 c arg2 harg2 arg3 harg3 arg4 harg4 arg5 harg5 arg6 harg6 arg15 harg15 arg19 arg20 arg21 x0 x1 x2 x3 x4 xs0) :=
  (stage_47 hx0 hx1 hx2 hx3 hx4 hS hxs0).step A X hS 5 7 (by decide) (by decide) (by decide) (st := (arg15.view.readCov (kernelRun0_B.sl.HS0_47 c arg2 harg2 arg3 harg3 arg4 harg4 arg5 harg5 arg6 harg6 arg15 harg15 arg19 arg20 arg21 x0 x1 x2 x3 x4 xs0) ((Rect.unit (s := S8x128x128) ![7, 0, 0] S1x128x128.size inb_S8x128x128_S1x128x128_7_0_0).toLoadRect))) ((stage_47 hx0 hx1 hx2 hx3 hx4 hS hxs0).load 5 7 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_49 : Stage False S 49 (kernelRun0_B.sl.HS0_49 c arg2 harg2 arg3 harg3 arg4 harg4 arg5 harg5 arg6 harg6 arg15 harg15 arg19 arg20 arg21 x0 x1 x2 x3 x4 xs0) :=
  (stage_48 hx0 hx1 hx2 hx3 hx4 hS hxs0).step A X hS 6 0 (by decide) (by decide) (by decide) (st := (arg15.view.readCov (kernelRun0_B.sl.HS0_48 c arg2 harg2 arg3 harg3 arg4 harg4 arg5 harg5 arg6 harg6 arg15 harg15 arg19 arg20 arg21 x0 x1 x2 x3 x4 xs0) ((Rect.unit (s := S8x128x128) ![0, 0, 0] S1x128x128.size inb_S8x128x128_S1x128x128_0_0_0).toLoadRect))) ((stage_48 hx0 hx1 hx2 hx3 hx4 hS hxs0).load 6 0 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_50 : Stage False S 50 (kernelRun0_B.sl.HS0_50 c arg2 harg2 arg3 harg3 arg4 harg4 arg5 harg5 arg6 harg6 arg15 harg15 arg19 arg20 arg21 x0 x1 x2 x3 x4 xs0) :=
  (stage_49 hx0 hx1 hx2 hx3 hx4 hS hxs0).step A X hS 6 1 (by decide) (by decide) (by decide) (st := (arg15.view.readCov (kernelRun0_B.sl.HS0_49 c arg2 harg2 arg3 harg3 arg4 harg4 arg5 harg5 arg6 harg6 arg15 harg15 arg19 arg20 arg21 x0 x1 x2 x3 x4 xs0) ((Rect.unit (s := S8x128x128) ![1, 0, 0] S1x128x128.size inb_S8x128x128_S1x128x128_1_0_0).toLoadRect))) ((stage_49 hx0 hx1 hx2 hx3 hx4 hS hxs0).load 6 1 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_51 : Stage False S 51 (kernelRun0_B.sl.HS0_51 c arg2 harg2 arg3 harg3 arg4 harg4 arg5 harg5 arg6 harg6 arg15 harg15 arg19 arg20 arg21 x0 x1 x2 x3 x4 xs0) :=
  (stage_50 hx0 hx1 hx2 hx3 hx4 hS hxs0).step A X hS 6 2 (by decide) (by decide) (by decide) (st := (arg15.view.readCov (kernelRun0_B.sl.HS0_50 c arg2 harg2 arg3 harg3 arg4 harg4 arg5 harg5 arg6 harg6 arg15 harg15 arg19 arg20 arg21 x0 x1 x2 x3 x4 xs0) ((Rect.unit (s := S8x128x128) ![2, 0, 0] S1x128x128.size inb_S8x128x128_S1x128x128_2_0_0).toLoadRect))) ((stage_50 hx0 hx1 hx2 hx3 hx4 hS hxs0).load 6 2 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_52 : Stage False S 52 (kernelRun0_B.sl.HS0_52 c arg2 harg2 arg3 harg3 arg4 harg4 arg5 harg5 arg6 harg6 arg15 harg15 arg19 arg20 arg21 x0 x1 x2 x3 x4 xs0) :=
  (stage_51 hx0 hx1 hx2 hx3 hx4 hS hxs0).step A X hS 6 3 (by decide) (by decide) (by decide) (st := (arg15.view.readCov (kernelRun0_B.sl.HS0_51 c arg2 harg2 arg3 harg3 arg4 harg4 arg5 harg5 arg6 harg6 arg15 harg15 arg19 arg20 arg21 x0 x1 x2 x3 x4 xs0) ((Rect.unit (s := S8x128x128) ![3, 0, 0] S1x128x128.size inb_S8x128x128_S1x128x128_3_0_0).toLoadRect))) ((stage_51 hx0 hx1 hx2 hx3 hx4 hS hxs0).load 6 3 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_53 : Stage False S 53 (kernelRun0_B.sl.HS0_53 c arg2 harg2 arg3 harg3 arg4 harg4 arg5 harg5 arg6 harg6 arg15 harg15 arg19 arg20 arg21 x0 x1 x2 x3 x4 xs0) :=
  (stage_52 hx0 hx1 hx2 hx3 hx4 hS hxs0).step A X hS 6 4 (by decide) (by decide) (by decide) (st := (arg15.view.readCov (kernelRun0_B.sl.HS0_52 c arg2 harg2 arg3 harg3 arg4 harg4 arg5 harg5 arg6 harg6 arg15 harg15 arg19 arg20 arg21 x0 x1 x2 x3 x4 xs0) ((Rect.unit (s := S8x128x128) ![4, 0, 0] S1x128x128.size inb_S8x128x128_S1x128x128_4_0_0).toLoadRect))) ((stage_52 hx0 hx1 hx2 hx3 hx4 hS hxs0).load 6 4 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_54 : Stage False S 54 (kernelRun0_B.sl.HS0_54 c arg2 harg2 arg3 harg3 arg4 harg4 arg5 harg5 arg6 harg6 arg15 harg15 arg19 arg20 arg21 x0 x1 x2 x3 x4 xs0) :=
  (stage_53 hx0 hx1 hx2 hx3 hx4 hS hxs0).step A X hS 6 5 (by decide) (by decide) (by decide) (st := (arg15.view.readCov (kernelRun0_B.sl.HS0_53 c arg2 harg2 arg3 harg3 arg4 harg4 arg5 harg5 arg6 harg6 arg15 harg15 arg19 arg20 arg21 x0 x1 x2 x3 x4 xs0) ((Rect.unit (s := S8x128x128) ![5, 0, 0] S1x128x128.size inb_S8x128x128_S1x128x128_5_0_0).toLoadRect))) ((stage_53 hx0 hx1 hx2 hx3 hx4 hS hxs0).load 6 5 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_55 : Stage False S 55 (kernelRun0_B.sl.HS0_55 c arg2 harg2 arg3 harg3 arg4 harg4 arg5 harg5 arg6 harg6 arg15 harg15 arg19 arg20 arg21 x0 x1 x2 x3 x4 xs0) :=
  (stage_54 hx0 hx1 hx2 hx3 hx4 hS hxs0).step A X hS 6 6 (by decide) (by decide) (by decide) (st := (arg15.view.readCov (kernelRun0_B.sl.HS0_54 c arg2 harg2 arg3 harg3 arg4 harg4 arg5 harg5 arg6 harg6 arg15 harg15 arg19 arg20 arg21 x0 x1 x2 x3 x4 xs0) ((Rect.unit (s := S8x128x128) ![6, 0, 0] S1x128x128.size inb_S8x128x128_S1x128x128_6_0_0).toLoadRect))) ((stage_54 hx0 hx1 hx2 hx3 hx4 hS hxs0).load 6 6 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_56 : Stage False S 56 (kernelRun0_B.sl.HS0_56 c arg2 harg2 arg3 harg3 arg4 harg4 arg5 harg5 arg6 harg6 arg15 harg15 arg19 arg20 arg21 x0 x1 x2 x3 x4 xs0) :=
  (stage_55 hx0 hx1 hx2 hx3 hx4 hS hxs0).step A X hS 6 7 (by decide) (by decide) (by decide) (st := (arg15.view.readCov (kernelRun0_B.sl.HS0_55 c arg2 harg2 arg3 harg3 arg4 harg4 arg5 harg5 arg6 harg6 arg15 harg15 arg19 arg20 arg21 x0 x1 x2 x3 x4 xs0) ((Rect.unit (s := S8x128x128) ![7, 0, 0] S1x128x128.size inb_S8x128x128_S1x128x128_7_0_0).toLoadRect))) ((stage_55 hx0 hx1 hx2 hx3 hx4 hS hxs0).load 6 7 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_57 : Stage False S 57 (kernelRun0_B.sl.HS0_57 c arg2 harg2 arg3 harg3 arg4 harg4 arg5 harg5 arg6 harg6 arg15 harg15 arg19 arg20 arg21 x0 x1 x2 x3 x4 xs0) :=
  (stage_56 hx0 hx1 hx2 hx3 hx4 hS hxs0).step A X hS 7 0 (by decide) (by decide) (by decide) (st := (arg15.view.readCov (kernelRun0_B.sl.HS0_56 c arg2 harg2 arg3 harg3 arg4 harg4 arg5 harg5 arg6 harg6 arg15 harg15 arg19 arg20 arg21 x0 x1 x2 x3 x4 xs0) ((Rect.unit (s := S8x128x128) ![0, 0, 0] S1x128x128.size inb_S8x128x128_S1x128x128_0_0_0).toLoadRect))) ((stage_56 hx0 hx1 hx2 hx3 hx4 hS hxs0).load 7 0 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_58 : Stage False S 58 (kernelRun0_B.sl.HS0_58 c arg2 harg2 arg3 harg3 arg4 harg4 arg5 harg5 arg6 harg6 arg15 harg15 arg19 arg20 arg21 x0 x1 x2 x3 x4 xs0) :=
  (stage_57 hx0 hx1 hx2 hx3 hx4 hS hxs0).step A X hS 7 1 (by decide) (by decide) (by decide) (st := (arg15.view.readCov (kernelRun0_B.sl.HS0_57 c arg2 harg2 arg3 harg3 arg4 harg4 arg5 harg5 arg6 harg6 arg15 harg15 arg19 arg20 arg21 x0 x1 x2 x3 x4 xs0) ((Rect.unit (s := S8x128x128) ![1, 0, 0] S1x128x128.size inb_S8x128x128_S1x128x128_1_0_0).toLoadRect))) ((stage_57 hx0 hx1 hx2 hx3 hx4 hS hxs0).load 7 1 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_59 : Stage False S 59 (kernelRun0_B.sl.HS0_59 c arg2 harg2 arg3 harg3 arg4 harg4 arg5 harg5 arg6 harg6 arg15 harg15 arg19 arg20 arg21 x0 x1 x2 x3 x4 xs0) :=
  (stage_58 hx0 hx1 hx2 hx3 hx4 hS hxs0).step A X hS 7 2 (by decide) (by decide) (by decide) (st := (arg15.view.readCov (kernelRun0_B.sl.HS0_58 c arg2 harg2 arg3 harg3 arg4 harg4 arg5 harg5 arg6 harg6 arg15 harg15 arg19 arg20 arg21 x0 x1 x2 x3 x4 xs0) ((Rect.unit (s := S8x128x128) ![2, 0, 0] S1x128x128.size inb_S8x128x128_S1x128x128_2_0_0).toLoadRect))) ((stage_58 hx0 hx1 hx2 hx3 hx4 hS hxs0).load 7 2 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_60 : Stage False S 60 (kernelRun0_B.sl.HS0_60 c arg2 harg2 arg3 harg3 arg4 harg4 arg5 harg5 arg6 harg6 arg15 harg15 arg19 arg20 arg21 x0 x1 x2 x3 x4 xs0) :=
  (stage_59 hx0 hx1 hx2 hx3 hx4 hS hxs0).step A X hS 7 3 (by decide) (by decide) (by decide) (st := (arg15.view.readCov (kernelRun0_B.sl.HS0_59 c arg2 harg2 arg3 harg3 arg4 harg4 arg5 harg5 arg6 harg6 arg15 harg15 arg19 arg20 arg21 x0 x1 x2 x3 x4 xs0) ((Rect.unit (s := S8x128x128) ![3, 0, 0] S1x128x128.size inb_S8x128x128_S1x128x128_3_0_0).toLoadRect))) ((stage_59 hx0 hx1 hx2 hx3 hx4 hS hxs0).load 7 3 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_61 : Stage False S 61 (kernelRun0_B.sl.HS0_61 c arg2 harg2 arg3 harg3 arg4 harg4 arg5 harg5 arg6 harg6 arg15 harg15 arg19 arg20 arg21 x0 x1 x2 x3 x4 xs0) :=
  (stage_60 hx0 hx1 hx2 hx3 hx4 hS hxs0).step A X hS 7 4 (by decide) (by decide) (by decide) (st := (arg15.view.readCov (kernelRun0_B.sl.HS0_60 c arg2 harg2 arg3 harg3 arg4 harg4 arg5 harg5 arg6 harg6 arg15 harg15 arg19 arg20 arg21 x0 x1 x2 x3 x4 xs0) ((Rect.unit (s := S8x128x128) ![4, 0, 0] S1x128x128.size inb_S8x128x128_S1x128x128_4_0_0).toLoadRect))) ((stage_60 hx0 hx1 hx2 hx3 hx4 hS hxs0).load 7 4 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_62 : Stage False S 62 (kernelRun0_B.sl.HS0_62 c arg2 harg2 arg3 harg3 arg4 harg4 arg5 harg5 arg6 harg6 arg15 harg15 arg19 arg20 arg21 x0 x1 x2 x3 x4 xs0) :=
  (stage_61 hx0 hx1 hx2 hx3 hx4 hS hxs0).step A X hS 7 5 (by decide) (by decide) (by decide) (st := (arg15.view.readCov (kernelRun0_B.sl.HS0_61 c arg2 harg2 arg3 harg3 arg4 harg4 arg5 harg5 arg6 harg6 arg15 harg15 arg19 arg20 arg21 x0 x1 x2 x3 x4 xs0) ((Rect.unit (s := S8x128x128) ![5, 0, 0] S1x128x128.size inb_S8x128x128_S1x128x128_5_0_0).toLoadRect))) ((stage_61 hx0 hx1 hx2 hx3 hx4 hS hxs0).load 7 5 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_63 : Stage False S 63 (kernelRun0_B.sl.HS0_63 c arg2 harg2 arg3 harg3 arg4 harg4 arg5 harg5 arg6 harg6 arg15 harg15 arg19 arg20 arg21 x0 x1 x2 x3 x4 xs0) :=
  (stage_62 hx0 hx1 hx2 hx3 hx4 hS hxs0).step A X hS 7 6 (by decide) (by decide) (by decide) (st := (arg15.view.readCov (kernelRun0_B.sl.HS0_62 c arg2 harg2 arg3 harg3 arg4 harg4 arg5 harg5 arg6 harg6 arg15 harg15 arg19 arg20 arg21 x0 x1 x2 x3 x4 xs0) ((Rect.unit (s := S8x128x128) ![6, 0, 0] S1x128x128.size inb_S8x128x128_S1x128x128_6_0_0).toLoadRect))) ((stage_62 hx0 hx1 hx2 hx3 hx4 hS hxs0).load 7 6 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
theorem stage_64 : Stage False S 64 (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xs0 xs1).2.1 := by
  unfold kernelRun0_B
  exact (stage_63 hx0 hx1 hx2 hx3 hx4 hS hxs0).step A X hS 7 7 (by decide) (by decide) (by decide) (st := (arg15.view.readCov (kernelRun0_B.sl.HS0_63 c arg2 harg2 arg3 harg3 arg4 harg4 arg5 harg5 arg6 harg6 arg15 harg15 arg19 arg20 arg21 x0 x1 x2 x3 x4 xs0) ((Rect.unit (s := S8x128x128) ![7, 0, 0] S1x128x128.size inb_S8x128x128_S1x128x128_7_0_0).toLoadRect))) ((stage_63 hx0 hx1 hx2 hx3 hx4 hS hxs0).load 7 7 (by decide) (by decide) (Or.inr (by decide)) _) (buf_d hx0 hx1 hx2 hx3 hx4) (buf_v hx0 hx1 hx2 hx3) (buf_e hx0 hx1 hx2 hx3 hx4) rfl

include hx0 hx1 hx2 hx3 hx4 hS hxs0 in
/-- What the chunks read of the states. -/
theorem buf_o (r : Fin 256) (j : Fin 1024) : View.canon (kernelRun0_B.sl.HS9_64 c arg2 harg2 arg3 harg3 arg4 harg4 arg5 harg5 arg6 harg6 arg15 harg15 arg17 arg19 arg20 arg21 x0 x1 x2 x3 x4 xs0) (ix2 r j)
    = oi A (fun s => X (32 * (r / 32) + s)) (S (r / 32)) (r % 32) (j / 128) (j % 128) := by
  have t : Tiled tileNo (tileVal A X S) 64 (kernelRun0_B.sl.HS9_64 c arg2 harg2 arg3 harg3 arg4 harg4 arg5 harg5 arg6 harg6 arg15 harg15 arg17 arg19 arg20 arg21 x0 x1 x2 x3 x4 xs0) := by
    refine Tiled.cons (n := 63) (a := 224) (b := 896) (k := 32) (m := 128) ?_ (tileNo_iff 7 7 (by decide) (by decide)) (fun r e => (oi_tile A X 7 7 (by decide) (by decide) ((stage_63 hx0 hx1 hx2 hx3 hx4 hS hxs0).load 7 7 (by decide) (by decide) (Or.inr (by decide)) _) (buf_q hx0 hx1 hx2 hx3 hx4) (vq := arg17.view) (i1 := inb_S256x1024_S32x128_224_896) rfl r e).trans (tileVal_at A X S 7 7 r e).symm)
    refine Tiled.cons (n := 62) (a := 224) (b := 768) (k := 32) (m := 128) ?_ (tileNo_iff 7 6 (by decide) (by decide)) (fun r e => (oi_tile A X 7 6 (by decide) (by decide) ((stage_62 hx0 hx1 hx2 hx3 hx4 hS hxs0).load 7 6 (by decide) (by decide) (Or.inr (by decide)) _) (buf_q hx0 hx1 hx2 hx3 hx4) (vq := arg17.view) (i1 := inb_S256x1024_S32x128_224_768) rfl r e).trans (tileVal_at A X S 7 6 r e).symm)
    refine Tiled.cons (n := 61) (a := 224) (b := 640) (k := 32) (m := 128) ?_ (tileNo_iff 7 5 (by decide) (by decide)) (fun r e => (oi_tile A X 7 5 (by decide) (by decide) ((stage_61 hx0 hx1 hx2 hx3 hx4 hS hxs0).load 7 5 (by decide) (by decide) (Or.inr (by decide)) _) (buf_q hx0 hx1 hx2 hx3 hx4) (vq := arg17.view) (i1 := inb_S256x1024_S32x128_224_640) rfl r e).trans (tileVal_at A X S 7 5 r e).symm)
    refine Tiled.cons (n := 60) (a := 224) (b := 512) (k := 32) (m := 128) ?_ (tileNo_iff 7 4 (by decide) (by decide)) (fun r e => (oi_tile A X 7 4 (by decide) (by decide) ((stage_60 hx0 hx1 hx2 hx3 hx4 hS hxs0).load 7 4 (by decide) (by decide) (Or.inr (by decide)) _) (buf_q hx0 hx1 hx2 hx3 hx4) (vq := arg17.view) (i1 := inb_S256x1024_S32x128_224_512) rfl r e).trans (tileVal_at A X S 7 4 r e).symm)
    refine Tiled.cons (n := 59) (a := 224) (b := 384) (k := 32) (m := 128) ?_ (tileNo_iff 7 3 (by decide) (by decide)) (fun r e => (oi_tile A X 7 3 (by decide) (by decide) ((stage_59 hx0 hx1 hx2 hx3 hx4 hS hxs0).load 7 3 (by decide) (by decide) (Or.inr (by decide)) _) (buf_q hx0 hx1 hx2 hx3 hx4) (vq := arg17.view) (i1 := inb_S256x1024_S32x128_224_384) rfl r e).trans (tileVal_at A X S 7 3 r e).symm)
    refine Tiled.cons (n := 58) (a := 224) (b := 256) (k := 32) (m := 128) ?_ (tileNo_iff 7 2 (by decide) (by decide)) (fun r e => (oi_tile A X 7 2 (by decide) (by decide) ((stage_58 hx0 hx1 hx2 hx3 hx4 hS hxs0).load 7 2 (by decide) (by decide) (Or.inr (by decide)) _) (buf_q hx0 hx1 hx2 hx3 hx4) (vq := arg17.view) (i1 := inb_S256x1024_S32x128_224_256) rfl r e).trans (tileVal_at A X S 7 2 r e).symm)
    refine Tiled.cons (n := 57) (a := 224) (b := 128) (k := 32) (m := 128) ?_ (tileNo_iff 7 1 (by decide) (by decide)) (fun r e => (oi_tile A X 7 1 (by decide) (by decide) ((stage_57 hx0 hx1 hx2 hx3 hx4 hS hxs0).load 7 1 (by decide) (by decide) (Or.inr (by decide)) _) (buf_q hx0 hx1 hx2 hx3 hx4) (vq := arg17.view) (i1 := inb_S256x1024_S32x128_224_128) rfl r e).trans (tileVal_at A X S 7 1 r e).symm)
    refine Tiled.cons (n := 56) (a := 224) (b := 0) (k := 32) (m := 128) ?_ (tileNo_iff 7 0 (by decide) (by decide)) (fun r e => (oi_tile A X 7 0 (by decide) (by decide) ((stage_56 hx0 hx1 hx2 hx3 hx4 hS hxs0).load 7 0 (by decide) (by decide) (Or.inr (by decide)) _) (buf_q hx0 hx1 hx2 hx3 hx4) (vq := arg17.view) (i1 := inb_S256x1024_S32x128_224_0) rfl r e).trans (tileVal_at A X S 7 0 r e).symm)
    refine Tiled.cons (n := 55) (a := 192) (b := 896) (k := 32) (m := 128) ?_ (tileNo_iff 6 7 (by decide) (by decide)) (fun r e => (oi_tile A X 6 7 (by decide) (by decide) ((stage_55 hx0 hx1 hx2 hx3 hx4 hS hxs0).load 6 7 (by decide) (by decide) (Or.inr (by decide)) _) (buf_q hx0 hx1 hx2 hx3 hx4) (vq := arg17.view) (i1 := inb_S256x1024_S32x128_192_896) rfl r e).trans (tileVal_at A X S 6 7 r e).symm)
    refine Tiled.cons (n := 54) (a := 192) (b := 768) (k := 32) (m := 128) ?_ (tileNo_iff 6 6 (by decide) (by decide)) (fun r e => (oi_tile A X 6 6 (by decide) (by decide) ((stage_54 hx0 hx1 hx2 hx3 hx4 hS hxs0).load 6 6 (by decide) (by decide) (Or.inr (by decide)) _) (buf_q hx0 hx1 hx2 hx3 hx4) (vq := arg17.view) (i1 := inb_S256x1024_S32x128_192_768) rfl r e).trans (tileVal_at A X S 6 6 r e).symm)
    refine Tiled.cons (n := 53) (a := 192) (b := 640) (k := 32) (m := 128) ?_ (tileNo_iff 6 5 (by decide) (by decide)) (fun r e => (oi_tile A X 6 5 (by decide) (by decide) ((stage_53 hx0 hx1 hx2 hx3 hx4 hS hxs0).load 6 5 (by decide) (by decide) (Or.inr (by decide)) _) (buf_q hx0 hx1 hx2 hx3 hx4) (vq := arg17.view) (i1 := inb_S256x1024_S32x128_192_640) rfl r e).trans (tileVal_at A X S 6 5 r e).symm)
    refine Tiled.cons (n := 52) (a := 192) (b := 512) (k := 32) (m := 128) ?_ (tileNo_iff 6 4 (by decide) (by decide)) (fun r e => (oi_tile A X 6 4 (by decide) (by decide) ((stage_52 hx0 hx1 hx2 hx3 hx4 hS hxs0).load 6 4 (by decide) (by decide) (Or.inr (by decide)) _) (buf_q hx0 hx1 hx2 hx3 hx4) (vq := arg17.view) (i1 := inb_S256x1024_S32x128_192_512) rfl r e).trans (tileVal_at A X S 6 4 r e).symm)
    refine Tiled.cons (n := 51) (a := 192) (b := 384) (k := 32) (m := 128) ?_ (tileNo_iff 6 3 (by decide) (by decide)) (fun r e => (oi_tile A X 6 3 (by decide) (by decide) ((stage_51 hx0 hx1 hx2 hx3 hx4 hS hxs0).load 6 3 (by decide) (by decide) (Or.inr (by decide)) _) (buf_q hx0 hx1 hx2 hx3 hx4) (vq := arg17.view) (i1 := inb_S256x1024_S32x128_192_384) rfl r e).trans (tileVal_at A X S 6 3 r e).symm)
    refine Tiled.cons (n := 50) (a := 192) (b := 256) (k := 32) (m := 128) ?_ (tileNo_iff 6 2 (by decide) (by decide)) (fun r e => (oi_tile A X 6 2 (by decide) (by decide) ((stage_50 hx0 hx1 hx2 hx3 hx4 hS hxs0).load 6 2 (by decide) (by decide) (Or.inr (by decide)) _) (buf_q hx0 hx1 hx2 hx3 hx4) (vq := arg17.view) (i1 := inb_S256x1024_S32x128_192_256) rfl r e).trans (tileVal_at A X S 6 2 r e).symm)
    refine Tiled.cons (n := 49) (a := 192) (b := 128) (k := 32) (m := 128) ?_ (tileNo_iff 6 1 (by decide) (by decide)) (fun r e => (oi_tile A X 6 1 (by decide) (by decide) ((stage_49 hx0 hx1 hx2 hx3 hx4 hS hxs0).load 6 1 (by decide) (by decide) (Or.inr (by decide)) _) (buf_q hx0 hx1 hx2 hx3 hx4) (vq := arg17.view) (i1 := inb_S256x1024_S32x128_192_128) rfl r e).trans (tileVal_at A X S 6 1 r e).symm)
    refine Tiled.cons (n := 48) (a := 192) (b := 0) (k := 32) (m := 128) ?_ (tileNo_iff 6 0 (by decide) (by decide)) (fun r e => (oi_tile A X 6 0 (by decide) (by decide) ((stage_48 hx0 hx1 hx2 hx3 hx4 hS hxs0).load 6 0 (by decide) (by decide) (Or.inr (by decide)) _) (buf_q hx0 hx1 hx2 hx3 hx4) (vq := arg17.view) (i1 := inb_S256x1024_S32x128_192_0) rfl r e).trans (tileVal_at A X S 6 0 r e).symm)
    refine Tiled.cons (n := 47) (a := 160) (b := 896) (k := 32) (m := 128) ?_ (tileNo_iff 5 7 (by decide) (by decide)) (fun r e => (oi_tile A X 5 7 (by decide) (by decide) ((stage_47 hx0 hx1 hx2 hx3 hx4 hS hxs0).load 5 7 (by decide) (by decide) (Or.inr (by decide)) _) (buf_q hx0 hx1 hx2 hx3 hx4) (vq := arg17.view) (i1 := inb_S256x1024_S32x128_160_896) rfl r e).trans (tileVal_at A X S 5 7 r e).symm)
    refine Tiled.cons (n := 46) (a := 160) (b := 768) (k := 32) (m := 128) ?_ (tileNo_iff 5 6 (by decide) (by decide)) (fun r e => (oi_tile A X 5 6 (by decide) (by decide) ((stage_46 hx0 hx1 hx2 hx3 hx4 hS hxs0).load 5 6 (by decide) (by decide) (Or.inr (by decide)) _) (buf_q hx0 hx1 hx2 hx3 hx4) (vq := arg17.view) (i1 := inb_S256x1024_S32x128_160_768) rfl r e).trans (tileVal_at A X S 5 6 r e).symm)
    refine Tiled.cons (n := 45) (a := 160) (b := 640) (k := 32) (m := 128) ?_ (tileNo_iff 5 5 (by decide) (by decide)) (fun r e => (oi_tile A X 5 5 (by decide) (by decide) ((stage_45 hx0 hx1 hx2 hx3 hx4 hS hxs0).load 5 5 (by decide) (by decide) (Or.inr (by decide)) _) (buf_q hx0 hx1 hx2 hx3 hx4) (vq := arg17.view) (i1 := inb_S256x1024_S32x128_160_640) rfl r e).trans (tileVal_at A X S 5 5 r e).symm)
    refine Tiled.cons (n := 44) (a := 160) (b := 512) (k := 32) (m := 128) ?_ (tileNo_iff 5 4 (by decide) (by decide)) (fun r e => (oi_tile A X 5 4 (by decide) (by decide) ((stage_44 hx0 hx1 hx2 hx3 hx4 hS hxs0).load 5 4 (by decide) (by decide) (Or.inr (by decide)) _) (buf_q hx0 hx1 hx2 hx3 hx4) (vq := arg17.view) (i1 := inb_S256x1024_S32x128_160_512) rfl r e).trans (tileVal_at A X S 5 4 r e).symm)
    refine Tiled.cons (n := 43) (a := 160) (b := 384) (k := 32) (m := 128) ?_ (tileNo_iff 5 3 (by decide) (by decide)) (fun r e => (oi_tile A X 5 3 (by decide) (by decide) ((stage_43 hx0 hx1 hx2 hx3 hx4 hS hxs0).load 5 3 (by decide) (by decide) (Or.inr (by decide)) _) (buf_q hx0 hx1 hx2 hx3 hx4) (vq := arg17.view) (i1 := inb_S256x1024_S32x128_160_384) rfl r e).trans (tileVal_at A X S 5 3 r e).symm)
    refine Tiled.cons (n := 42) (a := 160) (b := 256) (k := 32) (m := 128) ?_ (tileNo_iff 5 2 (by decide) (by decide)) (fun r e => (oi_tile A X 5 2 (by decide) (by decide) ((stage_42 hx0 hx1 hx2 hx3 hx4 hS hxs0).load 5 2 (by decide) (by decide) (Or.inr (by decide)) _) (buf_q hx0 hx1 hx2 hx3 hx4) (vq := arg17.view) (i1 := inb_S256x1024_S32x128_160_256) rfl r e).trans (tileVal_at A X S 5 2 r e).symm)
    refine Tiled.cons (n := 41) (a := 160) (b := 128) (k := 32) (m := 128) ?_ (tileNo_iff 5 1 (by decide) (by decide)) (fun r e => (oi_tile A X 5 1 (by decide) (by decide) ((stage_41 hx0 hx1 hx2 hx3 hx4 hS hxs0).load 5 1 (by decide) (by decide) (Or.inr (by decide)) _) (buf_q hx0 hx1 hx2 hx3 hx4) (vq := arg17.view) (i1 := inb_S256x1024_S32x128_160_128) rfl r e).trans (tileVal_at A X S 5 1 r e).symm)
    refine Tiled.cons (n := 40) (a := 160) (b := 0) (k := 32) (m := 128) ?_ (tileNo_iff 5 0 (by decide) (by decide)) (fun r e => (oi_tile A X 5 0 (by decide) (by decide) ((stage_40 hx0 hx1 hx2 hx3 hx4 hS hxs0).load 5 0 (by decide) (by decide) (Or.inr (by decide)) _) (buf_q hx0 hx1 hx2 hx3 hx4) (vq := arg17.view) (i1 := inb_S256x1024_S32x128_160_0) rfl r e).trans (tileVal_at A X S 5 0 r e).symm)
    refine Tiled.cons (n := 39) (a := 128) (b := 896) (k := 32) (m := 128) ?_ (tileNo_iff 4 7 (by decide) (by decide)) (fun r e => (oi_tile A X 4 7 (by decide) (by decide) ((stage_39 hx0 hx1 hx2 hx3 hx4 hS hxs0).load 4 7 (by decide) (by decide) (Or.inr (by decide)) _) (buf_q hx0 hx1 hx2 hx3 hx4) (vq := arg17.view) (i1 := inb_S256x1024_S32x128_128_896) rfl r e).trans (tileVal_at A X S 4 7 r e).symm)
    refine Tiled.cons (n := 38) (a := 128) (b := 768) (k := 32) (m := 128) ?_ (tileNo_iff 4 6 (by decide) (by decide)) (fun r e => (oi_tile A X 4 6 (by decide) (by decide) ((stage_38 hx0 hx1 hx2 hx3 hx4 hS hxs0).load 4 6 (by decide) (by decide) (Or.inr (by decide)) _) (buf_q hx0 hx1 hx2 hx3 hx4) (vq := arg17.view) (i1 := inb_S256x1024_S32x128_128_768) rfl r e).trans (tileVal_at A X S 4 6 r e).symm)
    refine Tiled.cons (n := 37) (a := 128) (b := 640) (k := 32) (m := 128) ?_ (tileNo_iff 4 5 (by decide) (by decide)) (fun r e => (oi_tile A X 4 5 (by decide) (by decide) ((stage_37 hx0 hx1 hx2 hx3 hx4 hS hxs0).load 4 5 (by decide) (by decide) (Or.inr (by decide)) _) (buf_q hx0 hx1 hx2 hx3 hx4) (vq := arg17.view) (i1 := inb_S256x1024_S32x128_128_640) rfl r e).trans (tileVal_at A X S 4 5 r e).symm)
    refine Tiled.cons (n := 36) (a := 128) (b := 512) (k := 32) (m := 128) ?_ (tileNo_iff 4 4 (by decide) (by decide)) (fun r e => (oi_tile A X 4 4 (by decide) (by decide) ((stage_36 hx0 hx1 hx2 hx3 hx4 hS hxs0).load 4 4 (by decide) (by decide) (Or.inr (by decide)) _) (buf_q hx0 hx1 hx2 hx3 hx4) (vq := arg17.view) (i1 := inb_S256x1024_S32x128_128_512) rfl r e).trans (tileVal_at A X S 4 4 r e).symm)
    refine Tiled.cons (n := 35) (a := 128) (b := 384) (k := 32) (m := 128) ?_ (tileNo_iff 4 3 (by decide) (by decide)) (fun r e => (oi_tile A X 4 3 (by decide) (by decide) ((stage_35 hx0 hx1 hx2 hx3 hx4 hS hxs0).load 4 3 (by decide) (by decide) (Or.inr (by decide)) _) (buf_q hx0 hx1 hx2 hx3 hx4) (vq := arg17.view) (i1 := inb_S256x1024_S32x128_128_384) rfl r e).trans (tileVal_at A X S 4 3 r e).symm)
    refine Tiled.cons (n := 34) (a := 128) (b := 256) (k := 32) (m := 128) ?_ (tileNo_iff 4 2 (by decide) (by decide)) (fun r e => (oi_tile A X 4 2 (by decide) (by decide) ((stage_34 hx0 hx1 hx2 hx3 hx4 hS hxs0).load 4 2 (by decide) (by decide) (Or.inr (by decide)) _) (buf_q hx0 hx1 hx2 hx3 hx4) (vq := arg17.view) (i1 := inb_S256x1024_S32x128_128_256) rfl r e).trans (tileVal_at A X S 4 2 r e).symm)
    refine Tiled.cons (n := 33) (a := 128) (b := 128) (k := 32) (m := 128) ?_ (tileNo_iff 4 1 (by decide) (by decide)) (fun r e => (oi_tile A X 4 1 (by decide) (by decide) ((stage_33 hx0 hx1 hx2 hx3 hx4 hS hxs0).load 4 1 (by decide) (by decide) (Or.inr (by decide)) _) (buf_q hx0 hx1 hx2 hx3 hx4) (vq := arg17.view) (i1 := inb_S256x1024_S32x128_128_128) rfl r e).trans (tileVal_at A X S 4 1 r e).symm)
    refine Tiled.cons (n := 32) (a := 128) (b := 0) (k := 32) (m := 128) ?_ (tileNo_iff 4 0 (by decide) (by decide)) (fun r e => (oi_tile A X 4 0 (by decide) (by decide) ((stage_32 hx0 hx1 hx2 hx3 hx4 hS hxs0).load 4 0 (by decide) (by decide) (Or.inr (by decide)) _) (buf_q hx0 hx1 hx2 hx3 hx4) (vq := arg17.view) (i1 := inb_S256x1024_S32x128_128_0) rfl r e).trans (tileVal_at A X S 4 0 r e).symm)
    refine Tiled.cons (n := 31) (a := 96) (b := 896) (k := 32) (m := 128) ?_ (tileNo_iff 3 7 (by decide) (by decide)) (fun r e => (oi_tile A X 3 7 (by decide) (by decide) ((stage_31 hx0 hx1 hx2 hx3 hx4 hS hxs0).load 3 7 (by decide) (by decide) (Or.inr (by decide)) _) (buf_q hx0 hx1 hx2 hx3 hx4) (vq := arg17.view) (i1 := inb_S256x1024_S32x128_96_896) rfl r e).trans (tileVal_at A X S 3 7 r e).symm)
    refine Tiled.cons (n := 30) (a := 96) (b := 768) (k := 32) (m := 128) ?_ (tileNo_iff 3 6 (by decide) (by decide)) (fun r e => (oi_tile A X 3 6 (by decide) (by decide) ((stage_30 hx0 hx1 hx2 hx3 hx4 hS hxs0).load 3 6 (by decide) (by decide) (Or.inr (by decide)) _) (buf_q hx0 hx1 hx2 hx3 hx4) (vq := arg17.view) (i1 := inb_S256x1024_S32x128_96_768) rfl r e).trans (tileVal_at A X S 3 6 r e).symm)
    refine Tiled.cons (n := 29) (a := 96) (b := 640) (k := 32) (m := 128) ?_ (tileNo_iff 3 5 (by decide) (by decide)) (fun r e => (oi_tile A X 3 5 (by decide) (by decide) ((stage_29 hx0 hx1 hx2 hx3 hx4 hS hxs0).load 3 5 (by decide) (by decide) (Or.inr (by decide)) _) (buf_q hx0 hx1 hx2 hx3 hx4) (vq := arg17.view) (i1 := inb_S256x1024_S32x128_96_640) rfl r e).trans (tileVal_at A X S 3 5 r e).symm)
    refine Tiled.cons (n := 28) (a := 96) (b := 512) (k := 32) (m := 128) ?_ (tileNo_iff 3 4 (by decide) (by decide)) (fun r e => (oi_tile A X 3 4 (by decide) (by decide) ((stage_28 hx0 hx1 hx2 hx3 hx4 hS hxs0).load 3 4 (by decide) (by decide) (Or.inr (by decide)) _) (buf_q hx0 hx1 hx2 hx3 hx4) (vq := arg17.view) (i1 := inb_S256x1024_S32x128_96_512) rfl r e).trans (tileVal_at A X S 3 4 r e).symm)
    refine Tiled.cons (n := 27) (a := 96) (b := 384) (k := 32) (m := 128) ?_ (tileNo_iff 3 3 (by decide) (by decide)) (fun r e => (oi_tile A X 3 3 (by decide) (by decide) ((stage_27 hx0 hx1 hx2 hx3 hx4 hS hxs0).load 3 3 (by decide) (by decide) (Or.inr (by decide)) _) (buf_q hx0 hx1 hx2 hx3 hx4) (vq := arg17.view) (i1 := inb_S256x1024_S32x128_96_384) rfl r e).trans (tileVal_at A X S 3 3 r e).symm)
    refine Tiled.cons (n := 26) (a := 96) (b := 256) (k := 32) (m := 128) ?_ (tileNo_iff 3 2 (by decide) (by decide)) (fun r e => (oi_tile A X 3 2 (by decide) (by decide) ((stage_26 hx0 hx1 hx2 hx3 hx4 hS hxs0).load 3 2 (by decide) (by decide) (Or.inr (by decide)) _) (buf_q hx0 hx1 hx2 hx3 hx4) (vq := arg17.view) (i1 := inb_S256x1024_S32x128_96_256) rfl r e).trans (tileVal_at A X S 3 2 r e).symm)
    refine Tiled.cons (n := 25) (a := 96) (b := 128) (k := 32) (m := 128) ?_ (tileNo_iff 3 1 (by decide) (by decide)) (fun r e => (oi_tile A X 3 1 (by decide) (by decide) ((stage_25 hx0 hx1 hx2 hx3 hx4 hS hxs0).load 3 1 (by decide) (by decide) (Or.inr (by decide)) _) (buf_q hx0 hx1 hx2 hx3 hx4) (vq := arg17.view) (i1 := inb_S256x1024_S32x128_96_128) rfl r e).trans (tileVal_at A X S 3 1 r e).symm)
    refine Tiled.cons (n := 24) (a := 96) (b := 0) (k := 32) (m := 128) ?_ (tileNo_iff 3 0 (by decide) (by decide)) (fun r e => (oi_tile A X 3 0 (by decide) (by decide) ((stage_24 hx0 hx1 hx2 hx3 hx4 hS hxs0).load 3 0 (by decide) (by decide) (Or.inr (by decide)) _) (buf_q hx0 hx1 hx2 hx3 hx4) (vq := arg17.view) (i1 := inb_S256x1024_S32x128_96_0) rfl r e).trans (tileVal_at A X S 3 0 r e).symm)
    refine Tiled.cons (n := 23) (a := 64) (b := 896) (k := 32) (m := 128) ?_ (tileNo_iff 2 7 (by decide) (by decide)) (fun r e => (oi_tile A X 2 7 (by decide) (by decide) ((stage_23 hx0 hx1 hx2 hx3 hx4 hS hxs0).load 2 7 (by decide) (by decide) (Or.inr (by decide)) _) (buf_q hx0 hx1 hx2 hx3 hx4) (vq := arg17.view) (i1 := inb_S256x1024_S32x128_64_896) rfl r e).trans (tileVal_at A X S 2 7 r e).symm)
    refine Tiled.cons (n := 22) (a := 64) (b := 768) (k := 32) (m := 128) ?_ (tileNo_iff 2 6 (by decide) (by decide)) (fun r e => (oi_tile A X 2 6 (by decide) (by decide) ((stage_22 hx0 hx1 hx2 hx3 hx4 hS hxs0).load 2 6 (by decide) (by decide) (Or.inr (by decide)) _) (buf_q hx0 hx1 hx2 hx3 hx4) (vq := arg17.view) (i1 := inb_S256x1024_S32x128_64_768) rfl r e).trans (tileVal_at A X S 2 6 r e).symm)
    refine Tiled.cons (n := 21) (a := 64) (b := 640) (k := 32) (m := 128) ?_ (tileNo_iff 2 5 (by decide) (by decide)) (fun r e => (oi_tile A X 2 5 (by decide) (by decide) ((stage_21 hx0 hx1 hx2 hx3 hx4 hS hxs0).load 2 5 (by decide) (by decide) (Or.inr (by decide)) _) (buf_q hx0 hx1 hx2 hx3 hx4) (vq := arg17.view) (i1 := inb_S256x1024_S32x128_64_640) rfl r e).trans (tileVal_at A X S 2 5 r e).symm)
    refine Tiled.cons (n := 20) (a := 64) (b := 512) (k := 32) (m := 128) ?_ (tileNo_iff 2 4 (by decide) (by decide)) (fun r e => (oi_tile A X 2 4 (by decide) (by decide) ((stage_20 hx0 hx1 hx2 hx3 hx4 hS hxs0).load 2 4 (by decide) (by decide) (Or.inr (by decide)) _) (buf_q hx0 hx1 hx2 hx3 hx4) (vq := arg17.view) (i1 := inb_S256x1024_S32x128_64_512) rfl r e).trans (tileVal_at A X S 2 4 r e).symm)
    refine Tiled.cons (n := 19) (a := 64) (b := 384) (k := 32) (m := 128) ?_ (tileNo_iff 2 3 (by decide) (by decide)) (fun r e => (oi_tile A X 2 3 (by decide) (by decide) ((stage_19 hx0 hx1 hx2 hx3 hx4 hS hxs0).load 2 3 (by decide) (by decide) (Or.inr (by decide)) _) (buf_q hx0 hx1 hx2 hx3 hx4) (vq := arg17.view) (i1 := inb_S256x1024_S32x128_64_384) rfl r e).trans (tileVal_at A X S 2 3 r e).symm)
    refine Tiled.cons (n := 18) (a := 64) (b := 256) (k := 32) (m := 128) ?_ (tileNo_iff 2 2 (by decide) (by decide)) (fun r e => (oi_tile A X 2 2 (by decide) (by decide) ((stage_18 hx0 hx1 hx2 hx3 hx4 hS hxs0).load 2 2 (by decide) (by decide) (Or.inr (by decide)) _) (buf_q hx0 hx1 hx2 hx3 hx4) (vq := arg17.view) (i1 := inb_S256x1024_S32x128_64_256) rfl r e).trans (tileVal_at A X S 2 2 r e).symm)
    refine Tiled.cons (n := 17) (a := 64) (b := 128) (k := 32) (m := 128) ?_ (tileNo_iff 2 1 (by decide) (by decide)) (fun r e => (oi_tile A X 2 1 (by decide) (by decide) ((stage_17 hx0 hx1 hx2 hx3 hx4 hS hxs0).load 2 1 (by decide) (by decide) (Or.inr (by decide)) _) (buf_q hx0 hx1 hx2 hx3 hx4) (vq := arg17.view) (i1 := inb_S256x1024_S32x128_64_128) rfl r e).trans (tileVal_at A X S 2 1 r e).symm)
    refine Tiled.cons (n := 16) (a := 64) (b := 0) (k := 32) (m := 128) ?_ (tileNo_iff 2 0 (by decide) (by decide)) (fun r e => (oi_tile A X 2 0 (by decide) (by decide) ((stage_16 hx0 hx1 hx2 hx3 hx4 hS hxs0).load 2 0 (by decide) (by decide) (Or.inr (by decide)) _) (buf_q hx0 hx1 hx2 hx3 hx4) (vq := arg17.view) (i1 := inb_S256x1024_S32x128_64_0) rfl r e).trans (tileVal_at A X S 2 0 r e).symm)
    refine Tiled.cons (n := 15) (a := 32) (b := 896) (k := 32) (m := 128) ?_ (tileNo_iff 1 7 (by decide) (by decide)) (fun r e => (oi_tile A X 1 7 (by decide) (by decide) ((stage_15 hx0 hx1 hx2 hx3 hx4 hS hxs0).load 1 7 (by decide) (by decide) (Or.inr (by decide)) _) (buf_q hx0 hx1 hx2 hx3 hx4) (vq := arg17.view) (i1 := inb_S256x1024_S32x128_32_896) rfl r e).trans (tileVal_at A X S 1 7 r e).symm)
    refine Tiled.cons (n := 14) (a := 32) (b := 768) (k := 32) (m := 128) ?_ (tileNo_iff 1 6 (by decide) (by decide)) (fun r e => (oi_tile A X 1 6 (by decide) (by decide) ((stage_14 hx0 hx1 hx2 hx3 hx4 hS hxs0).load 1 6 (by decide) (by decide) (Or.inr (by decide)) _) (buf_q hx0 hx1 hx2 hx3 hx4) (vq := arg17.view) (i1 := inb_S256x1024_S32x128_32_768) rfl r e).trans (tileVal_at A X S 1 6 r e).symm)
    refine Tiled.cons (n := 13) (a := 32) (b := 640) (k := 32) (m := 128) ?_ (tileNo_iff 1 5 (by decide) (by decide)) (fun r e => (oi_tile A X 1 5 (by decide) (by decide) ((stage_13 hx0 hx1 hx2 hx3 hx4 hS hxs0).load 1 5 (by decide) (by decide) (Or.inr (by decide)) _) (buf_q hx0 hx1 hx2 hx3 hx4) (vq := arg17.view) (i1 := inb_S256x1024_S32x128_32_640) rfl r e).trans (tileVal_at A X S 1 5 r e).symm)
    refine Tiled.cons (n := 12) (a := 32) (b := 512) (k := 32) (m := 128) ?_ (tileNo_iff 1 4 (by decide) (by decide)) (fun r e => (oi_tile A X 1 4 (by decide) (by decide) ((stage_12 hx0 hx1 hx2 hx3 hx4 hS hxs0).load 1 4 (by decide) (by decide) (Or.inr (by decide)) _) (buf_q hx0 hx1 hx2 hx3 hx4) (vq := arg17.view) (i1 := inb_S256x1024_S32x128_32_512) rfl r e).trans (tileVal_at A X S 1 4 r e).symm)
    refine Tiled.cons (n := 11) (a := 32) (b := 384) (k := 32) (m := 128) ?_ (tileNo_iff 1 3 (by decide) (by decide)) (fun r e => (oi_tile A X 1 3 (by decide) (by decide) ((stage_11 hx0 hx1 hx2 hx3 hx4 hS hxs0).load 1 3 (by decide) (by decide) (Or.inr (by decide)) _) (buf_q hx0 hx1 hx2 hx3 hx4) (vq := arg17.view) (i1 := inb_S256x1024_S32x128_32_384) rfl r e).trans (tileVal_at A X S 1 3 r e).symm)
    refine Tiled.cons (n := 10) (a := 32) (b := 256) (k := 32) (m := 128) ?_ (tileNo_iff 1 2 (by decide) (by decide)) (fun r e => (oi_tile A X 1 2 (by decide) (by decide) ((stage_10 hx0 hx1 hx2 hx3 hx4 hS hxs0).load 1 2 (by decide) (by decide) (Or.inr (by decide)) _) (buf_q hx0 hx1 hx2 hx3 hx4) (vq := arg17.view) (i1 := inb_S256x1024_S32x128_32_256) rfl r e).trans (tileVal_at A X S 1 2 r e).symm)
    refine Tiled.cons (n := 9) (a := 32) (b := 128) (k := 32) (m := 128) ?_ (tileNo_iff 1 1 (by decide) (by decide)) (fun r e => (oi_tile A X 1 1 (by decide) (by decide) ((stage_9 hx0 hx1 hx2 hx3 hx4 hS hxs0).load 1 1 (by decide) (by decide) (Or.inr (by decide)) _) (buf_q hx0 hx1 hx2 hx3 hx4) (vq := arg17.view) (i1 := inb_S256x1024_S32x128_32_128) rfl r e).trans (tileVal_at A X S 1 1 r e).symm)
    refine Tiled.cons (n := 8) (a := 32) (b := 0) (k := 32) (m := 128) ?_ (tileNo_iff 1 0 (by decide) (by decide)) (fun r e => (oi_tile A X 1 0 (by decide) (by decide) ((stage_8 hx0 hx1 hx2 hx3 hx4 hS hxs0).load 1 0 (by decide) (by decide) (Or.inr (by decide)) _) (buf_q hx0 hx1 hx2 hx3 hx4) (vq := arg17.view) (i1 := inb_S256x1024_S32x128_32_0) rfl r e).trans (tileVal_at A X S 1 0 r e).symm)
    refine Tiled.cons (n := 7) (a := 0) (b := 896) (k := 32) (m := 128) ?_ (tileNo_iff 0 7 (by decide) (by decide)) (fun r e => (oi_tile A X 0 7 (by decide) (by decide) (fun e d => (arg_three arg15 harg15 xs0 e d (by decide)).trans (hxs0 ⟨7, by decide⟩ e d)) (buf_q hx0 hx1 hx2 hx3 hx4) (vq := arg17.view) (i1 := inb_S256x1024_S32x128_0_896) rfl r e).trans (tileVal_at A X S 0 7 r e).symm)
    refine Tiled.cons (n := 6) (a := 0) (b := 768) (k := 32) (m := 128) ?_ (tileNo_iff 0 6 (by decide) (by decide)) (fun r e => (oi_tile A X 0 6 (by decide) (by decide) (fun e d => (arg_three arg15 harg15 xs0 e d (by decide)).trans (hxs0 ⟨6, by decide⟩ e d)) (buf_q hx0 hx1 hx2 hx3 hx4) (vq := arg17.view) (i1 := inb_S256x1024_S32x128_0_768) rfl r e).trans (tileVal_at A X S 0 6 r e).symm)
    refine Tiled.cons (n := 5) (a := 0) (b := 640) (k := 32) (m := 128) ?_ (tileNo_iff 0 5 (by decide) (by decide)) (fun r e => (oi_tile A X 0 5 (by decide) (by decide) (fun e d => (arg_three arg15 harg15 xs0 e d (by decide)).trans (hxs0 ⟨5, by decide⟩ e d)) (buf_q hx0 hx1 hx2 hx3 hx4) (vq := arg17.view) (i1 := inb_S256x1024_S32x128_0_640) rfl r e).trans (tileVal_at A X S 0 5 r e).symm)
    refine Tiled.cons (n := 4) (a := 0) (b := 512) (k := 32) (m := 128) ?_ (tileNo_iff 0 4 (by decide) (by decide)) (fun r e => (oi_tile A X 0 4 (by decide) (by decide) (fun e d => (arg_three arg15 harg15 xs0 e d (by decide)).trans (hxs0 ⟨4, by decide⟩ e d)) (buf_q hx0 hx1 hx2 hx3 hx4) (vq := arg17.view) (i1 := inb_S256x1024_S32x128_0_512) rfl r e).trans (tileVal_at A X S 0 4 r e).symm)
    refine Tiled.cons (n := 3) (a := 0) (b := 384) (k := 32) (m := 128) ?_ (tileNo_iff 0 3 (by decide) (by decide)) (fun r e => (oi_tile A X 0 3 (by decide) (by decide) (fun e d => (arg_three arg15 harg15 xs0 e d (by decide)).trans (hxs0 ⟨3, by decide⟩ e d)) (buf_q hx0 hx1 hx2 hx3 hx4) (vq := arg17.view) (i1 := inb_S256x1024_S32x128_0_384) rfl r e).trans (tileVal_at A X S 0 3 r e).symm)
    refine Tiled.cons (n := 2) (a := 0) (b := 256) (k := 32) (m := 128) ?_ (tileNo_iff 0 2 (by decide) (by decide)) (fun r e => (oi_tile A X 0 2 (by decide) (by decide) (fun e d => (arg_three arg15 harg15 xs0 e d (by decide)).trans (hxs0 ⟨2, by decide⟩ e d)) (buf_q hx0 hx1 hx2 hx3 hx4) (vq := arg17.view) (i1 := inb_S256x1024_S32x128_0_256) rfl r e).trans (tileVal_at A X S 0 2 r e).symm)
    refine Tiled.cons (n := 1) (a := 0) (b := 128) (k := 32) (m := 128) ?_ (tileNo_iff 0 1 (by decide) (by decide)) (fun r e => (oi_tile A X 0 1 (by decide) (by decide) (fun e d => (arg_three arg15 harg15 xs0 e d (by decide)).trans (hxs0 ⟨1, by decide⟩ e d)) (buf_q hx0 hx1 hx2 hx3 hx4) (vq := arg17.view) (i1 := inb_S256x1024_S32x128_0_128) rfl r e).trans (tileVal_at A X S 0 1 r e).symm)
    refine Tiled.cons (n := 0) (a := 0) (b := 0) (k := 32) (m := 128) ?_ (tileNo_iff 0 0 (by decide) (by decide)) (fun r e => (oi_tile A X 0 0 (by decide) (by decide) (fun e d => (arg_three arg15 harg15 xs0 e d (by decide)).trans (hxs0 ⟨0, by decide⟩ e d)) (buf_q hx0 hx1 hx2 hx3 hx4) (vq := arg17.view) (i1 := inb_S256x1024_S32x128_0_0) rfl r e).trans (tileVal_at A X S 0 0 r e).symm)
    exact Tiled.nil _ _
  exact (t r j (tileNo_lt r j)).trans rfl

end Cert.Proof.Mix.CaseB

end
-- ==== Proof.MixOutB.lean ====
/-
  WHAT ANY LATER GRID POINT OF A BATCH LEAVES: its block of the output, the state and the pooling rows, from what the
  point before left.
-/
module

public import proofs.«01_k».proof.Proof.MixPool
public import proofs.«01_k».proof.Proof.MixStateB

@[expose] public section

set_option maxRecDepth 8192

noncomputable section

namespace Cert.Proof.Mix.CaseB

open Idealize.ShloMosaic Idealize.ShloMosaic.TcCoe Idealize.ShloMosaic.Tactic
open Cert.Kernel2Ideal Cert.Kernel2Ideal.Gen

variable {A : Args} {X : ℕ → ℕ → EReal} {S : ℕ → ℕ → ℕ → ℕ → EReal} {E : ℕ → ℕ → EReal}
variable {c : Dev nD} {i : grid0.Coords}
variable {arg2 : Memref Cert.Kernel2Ideal.sig .tc .vmem S256x1024 .f32} {harg2 : arg2.IsWhole}
variable {arg3 : Memref Cert.Kernel2Ideal.sig .tc .vmem S1x1024 .f32} {harg3 : arg3.IsWhole}
variable {arg4 : Memref Cert.Kernel2Ideal.sig .tc .vmem S1x1024 .f32} {harg4 : arg4.IsWhole}
variable {arg5 : Memref Cert.Kernel2Ideal.sig .tc .vmem S1024x6656 .bf16} {harg5 : arg5.IsWhole}
variable {arg6 : Memref Cert.Kernel2Ideal.sig .tc .vmem S2x1024 .f32} {harg6 : arg6.IsWhole}
variable {arg7 : Memref Cert.Kernel2Ideal.sig .tc .vmem S1x128 .f32} {harg7 : arg7.IsWhole}
variable {arg8 : Memref Cert.Kernel2Ideal.sig .tc .vmem S1024x1024 .bf16} {harg8 : arg8.IsWhole}
variable {arg9 : Memref Cert.Kernel2Ideal.sig .tc .vmem S4x128x256 .bf16} {harg9 : arg9.IsWhole}
variable {arg10 : Memref Cert.Kernel2Ideal.sig .tc .vmem S1x1024 .f32} {harg10 : arg10.IsWhole}
variable {arg11 : Memref Cert.Kernel2Ideal.sig .tc .vmem S1024x1024 .bf16} {harg11 : arg11.IsWhole}
variable {arg12 : Memref Cert.Kernel2Ideal.sig .tc .vmem S1x1024 .f32} {harg12 : arg12.IsWhole}
variable {arg13 : Memref Cert.Kernel2Ideal.sig .tc .vmem S1x1024 .f32} {harg13 : arg13.IsWhole}
variable {arg14 : Memref Cert.Kernel2Ideal.sig .tc .vmem S256x1024 .f32} {harg14 : arg14.IsWhole}
variable {arg15 : Memref Cert.Kernel2Ideal.sig .tc .vmem S8x128x128 .f32} {harg15 : arg15.IsWhole}
variable {arg16 : Memref Cert.Kernel2Ideal.sig .tc .vmem S272x512 .f32} {harg16 : arg16.IsWhole}
variable {arg17 : Memref Cert.Kernel2Ideal.sig .tc .vmem S256x1024 .bf16} {harg17 : arg17.IsWhole}
variable {arg18 : Memref Cert.Kernel2Ideal.sig .tc .vmem S256x1024 .bf16} {harg18 : arg18.IsWhole}
variable {arg19 : Memref Cert.Kernel2Ideal.sig .tc .vmem S256x1024 .bf16} {harg19 : arg19.IsWhole}
variable {arg20 : Memref Cert.Kernel2Ideal.sig .tc .vmem S256x1024 .bf16} {harg20 : arg20.IsWhole}
variable {arg21 : Memref Cert.Kernel2Ideal.sig .tc .vmem S8x1024 .f32} {harg21 : arg21.IsWhole}
variable {arg22 : Memref Cert.Kernel2Ideal.sig .tc .vmem S256x1024 .bf16} {harg22 : arg22.IsWhole}
variable {arg23 : Memref Cert.Kernel2Ideal.sig .tc .vmem S256x1024 .f32} {harg23 : arg23.IsWhole}
variable {arg24 : Memref Cert.Kernel2Ideal.sig .tc .vmem S256x1024 .f32} {harg24 : arg24.IsWhole}
variable {x0 : Vec Ideal S256x1024 .f32}
variable {x1 : Vec Ideal S1x1024 .f32}
variable {x2 : Vec Ideal S1x1024 .f32}
variable {x3 : Vec Ideal S1024x6656 .bf16}
variable {x4 : Vec Ideal S2x1024 .f32}
variable {x5 : Vec Ideal S1x128 .f32}
variable {x6 : Vec Ideal S1024x1024 .bf16}
variable {x7 : Vec Ideal S4x128x256 .bf16}
variable {x8 : Vec Ideal S1x1024 .f32}
variable {x9 : Vec Ideal S1024x1024 .bf16}
variable {x10 : Vec Ideal S1x1024 .f32}
variable {x11 : Vec Ideal S1x1024 .f32}
variable {xs0 : Vec Ideal S8x128x128 .f32} {xs1 : Vec Ideal S272x512 .f32}
variable (hx0 : ∀ (r : Fin 256) (j : Fin 1024), x0 (ix2 r j) = X r j)
variable (hx1 : ∀ j : Fin 1024, x1 (ix2 0 j) = A.g0 j) (hx2 : ∀ j : Fin 1024, x2 (ix2 0 j) = A.b0 j)
variable (hx3 : ∀ (k : Fin 1024) (j : Fin 6656), x3 (ix2 k j) = A.W k j)
variable (hx4 : ∀ (i : Fin 2) (j : Fin 1024), x4 (ix2 i j) = A.hg i j)
variable (hx5 : ∀ e : Fin 128, x5 (ix2 0 e) = A.ng e)
variable (hx6 : ∀ k j : Fin 1024, x6 (ix2 k j) = A.whg k j)
variable (hx7 : ∀ (g : Fin 4) (c : Fin 128) (j : Fin 256), x7 (ix3 g c j) = A.pw g c j)
variable (hx8 : ∀ j : Fin 1024, x8 (ix2 0 j) = A.ps j)
variable (hx9 : ∀ k j : Fin 1024, x9 (ix2 k j) = A.wo k j)
variable (hx10 : ∀ j : Fin 1024, x10 (ix2 0 j) = A.g1 j) (hx11 : ∀ j : Fin 1024, x11 (ix2 0 j) = A.b1 j)
variable (hS : ∀ c h e d, S (c + 1) h e d = step A (fun s => X (32 * c + s)) (S c) h e d)
variable (hxs0 : ∀ (h : Fin 8) (e d : Fin 128), xs0 (ix3 h e d) = S 0 h e d)
variable (hxs1 : ∀ (r : Fin 272) (j : Fin 512), r.val < 16 → xs1 (ix2 r j) = E r j)

variable {hc0 : ¬cond0_0 i}

include hx0 hx1 hx2 hx3 hx4 hx5 hS hxs0 in
/-- The normalised heads' buffer. -/
theorem buf_h (r : Fin 256) (j : Fin 1024) : View.canon (kernelRun0_B.sl.HS7_8 c arg2 harg2 arg3 harg3 arg4 harg4 arg5 harg5 arg6 harg6 arg7 harg7 arg15 harg15 arg17 arg18 arg19 arg20 arg21 arg24 x0 x1 x2 x3 x4 x5 xs0) (ix2 r j) = headVal A X S r j := by
  have hg := fun (e : Fin 128) => (arg_whole (inb := inb_S1x128_S1x128_0_0) arg7 harg7 x5 0 e).trans (hx5 e)
  have t : Tiled (fun _ j => j / 128) (headVal A X S) 8 (kernelRun0_B.sl.HS7_8 c arg2 harg2 arg3 harg3 arg4 harg4 arg5 harg5 arg6 harg6 arg7 harg7 arg15 harg15 arg17 arg18 arg19 arg20 arg21 arg24 x0 x1 x2 x3 x4 x5 xs0) := by
    refine Tiled.cons (n := 7) (a := 0) (b := 896) (k := 256) (m := 128) ?_ (col_iff 128 7 (by decide)) (head_tile A X S 7 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hxs0) hg
      (vq := arg17.view) (vk := arg18.view) (vv' := arg20.view) (vo := arg24.view) (i1 := inb_S256x1024_S256x128_0_896) (sl := slices_S256x1024_o0_896_S256x128) rfl)
    refine Tiled.cons (n := 6) (a := 0) (b := 768) (k := 256) (m := 128) ?_ (col_iff 128 6 (by decide)) (head_tile A X S 6 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hxs0) hg
      (vq := arg17.view) (vk := arg18.view) (vv' := arg20.view) (vo := arg24.view) (i1 := inb_S256x1024_S256x128_0_768) (sl := slices_S256x1024_o0_768_S256x128) rfl)
    refine Tiled.cons (n := 5) (a := 0) (b := 640) (k := 256) (m := 128) ?_ (col_iff 128 5 (by decide)) (head_tile A X S 5 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hxs0) hg
      (vq := arg17.view) (vk := arg18.view) (vv' := arg20.view) (vo := arg24.view) (i1 := inb_S256x1024_S256x128_0_640) (sl := slices_S256x1024_o0_640_S256x128) rfl)
    refine Tiled.cons (n := 4) (a := 0) (b := 512) (k := 256) (m := 128) ?_ (col_iff 128 4 (by decide)) (head_tile A X S 4 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hxs0) hg
      (vq := arg17.view) (vk := arg18.view) (vv' := arg20.view) (vo := arg24.view) (i1 := inb_S256x1024_S256x128_0_512) (sl := slices_S256x1024_o0_512_S256x128) rfl)
    refine Tiled.cons (n := 3) (a := 0) (b := 384) (k := 256) (m := 128) ?_ (col_iff 128 3 (by decide)) (head_tile A X S 3 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hxs0) hg
      (vq := arg17.view) (vk := arg18.view) (vv' := arg20.view) (vo := arg24.view) (i1 := inb_S256x1024_S256x128_0_384) (sl := slices_S256x1024_o0_384_S256x128) rfl)
    refine Tiled.cons (n := 2) (a := 0) (b := 256) (k := 256) (m := 128) ?_ (col_iff 128 2 (by decide)) (head_tile A X S 2 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hxs0) hg
      (vq := arg17.view) (vk := arg18.view) (vv' := arg20.view) (vo := arg24.view) (i1 := inb_S256x1024_S256x128_0_256) (sl := slices_S256x1024_o0_256_S256x128) rfl)
    refine Tiled.cons (n := 1) (a := 0) (b := 128) (k := 256) (m := 128) ?_ (col_iff 128 1 (by decide)) (head_tile A X S 1 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hxs0) hg
      (vq := arg17.view) (vk := arg18.view) (vv' := arg20.view) (vo := arg24.view) (i1 := inb_S256x1024_S256x128_0_128) (sl := slices_S256x1024_o0_128_S256x128) rfl)
    refine Tiled.cons (n := 0) (a := 0) (b := 0) (k := 256) (m := 128) ?_ (col_iff 128 0 (by decide)) (head_tile A X S 0 (by decide) (gate_at hx0 hx1 hx2 hx3) mask_at
      (buf_q hx0 hx1 hx2 hx3 hx4) (buf_k hx0 hx1 hx2 hx3 hx4) (buf_v hx0 hx1 hx2 hx3) (buf_o hx0 hx1 hx2 hx3 hx4 hS hxs0) hg
      (vq := arg17.view) (vk := arg18.view) (vv' := arg20.view) (vo := arg24.view) (i1 := inb_S256x1024_S256x128_0_0) (sl := slices_S256x1024_o0_0_S256x128) rfl)
    exact Tiled.nil _ _
  exact t r j (col_lt r j)

include hx0 hx1 hx2 hx3 hx4 hx5 hx6 hS hxs0 in
/-- The recurrent branch's rows. -/
theorem branch_a (r : Fin 256) (j : Fin 1024) : (kernelRun0_B.sl.r_62 c arg2 harg2 arg3 harg3 arg4 harg4 arg5 harg5 arg6 harg6 arg7 harg7 arg8 harg8 arg15 harg15 arg17 arg18 arg19 arg20 arg21 arg22 arg24 x0 x1 x2 x3 x4 x5 x6 xs0) (ix2 r j)
    = ya A (fun s => X (32 * (r / 32) + s)) (S (r / 32)) (r % 32) j := by
  refine (ya_at A _ _ (headVal A X S) (fun r k => (load_cols (R := 256) (C := 1024) (m := 1024) arg22.view _ r k).trans ?_)
    (fun k j => (arg_whole arg8 harg8 x6 k j).trans (hx6 k j)) r j).trans ?_
  · simp only [Nat.zero_add, Fin.eta]
    exact buf_h hx0 hx1 hx2 hx3 hx4 hx5 hS hxs0 r k
  · unfold ya headVal
    have e : 32 * (r.val / 32) + r.val % 32 = r := by omega
    simp only [e]

include hx0 hx1 hx2 hx3 in
theorem tok_at (r : Fin 256) (j : Fin 512) : (kernelRun0_B.sl.r_63 c arg2 harg2 arg3 harg3 arg4 harg4 arg5 harg5 x0 x1 x2 x3) (ix2 r j) = pr A (X r) (4096 + j) :=
  pool_val_at A X _ (rowb_at hx0 hx1 hx2) _ (fun k j => (arg_cols arg5 harg5 x3 k j).trans (hx3 _ _)) r j

include hx0 hx1 hx2 hx3 in
theorem new_at (r : Fin 256) (j : Fin 512) : k0_pay259 (kernelRun0_B.sl.r_1 c arg2 harg2 arg3 harg3 arg4 harg4 x0 x1 x2)
    (View.readAt (Elt Ideal) arg5.view (Rect.unit (s := S1024x6656) ![0, 4096] S1024x512.size inb_S1024x6656_S1024x512_0_4096).toLoadRect (harg5.unread x3)) (ix2 r j)
    = pr A (X r) (4096 + j) :=
  pool_ext_at A X _ (rowb_at hx0 hx1 hx2) _ (fun k j => (arg_cols arg5 harg5 x3 k j).trans (hx3 _ _)) r j

include hx0 hx1 hx2 hx3 hxs1 in
theorem ext_0 (a : Fin 272) (c' : Fin 128) : (kernelRun0_B.sl.v1637 c arg2 harg2 arg3 harg3 arg4 harg4 arg5 harg5 arg16 harg16 x0 x1 x2 x3 xs1) (ix2 a c') = ext A X E a (128 * 0 + c') :=
  ext_kept (b := 0) arg16 harg16 xs1 _ hxs1 (new_at hx0 hx1 hx2 hx3) a c'

include hx0 hx1 hx2 hx3 hxs1 in
theorem ext_1 (a : Fin 272) (c' : Fin 128) : (kernelRun0_B.sl.v1657 c arg2 harg2 arg3 harg3 arg4 harg4 arg5 harg5 arg16 harg16 x0 x1 x2 x3 xs1) (ix2 a c') = ext A X E a (128 * 1 + c') :=
  ext_kept (b := 128) arg16 harg16 xs1 _ hxs1 (new_at hx0 hx1 hx2 hx3) a c'

include hx0 hx1 hx2 hx3 hxs1 in
theorem ext_2 (a : Fin 272) (c' : Fin 128) : (kernelRun0_B.sl.v1679 c arg2 harg2 arg3 harg3 arg4 harg4 arg5 harg5 arg16 harg16 x0 x1 x2 x3 xs1) (ix2 a c') = ext A X E a (128 * 2 + c') :=
  ext_kept (b := 256) arg16 harg16 xs1 _ hxs1 (new_at hx0 hx1 hx2 hx3) a c'

include hx0 hx1 hx2 hx3 hxs1 in
theorem ext_3 (a : Fin 272) (c' : Fin 128) : (kernelRun0_B.sl.v1703 c arg2 harg2 arg3 harg3 arg4 harg4 arg5 harg5 arg16 harg16 x0 x1 x2 x3 xs1) (ix2 a c') = ext A X E a (128 * 3 + c') :=
  ext_kept (b := 384) arg16 harg16 xs1 _ hxs1 (new_at hx0 hx1 hx2 hx3) a c'

theorem pos_of (r : Fin 256) : (kernelRun0_B.sl.r_64 i) (ix2 r 0) = BitVec.ofNat 32 (256 * (i 1).val + r) :=
  pos_at _ (show (i 1).val < 16 from (i 1).isLt) r

include hx0 hx1 hx2 hx3 hx7 hxs1 in
/-- The pooling groups' buffer. -/
theorem buf_p (r : Fin 256) (j : Fin 1024) : View.canon (kernelRun0_B.sl.HS8_4 c i arg2 harg2 arg3 harg3 arg4 harg4 arg5 harg5 arg9 harg9 arg16 harg16 x0 x1 x2 x3 x7 xs1) (ix2 r j) = poolVal A X E (256 * (i 1).val) r j := by
  have t : Tiled (fun _ j => j / 256) (poolVal A X E (256 * (i 1).val)) 4 (kernelRun0_B.sl.HS8_4 c i arg2 harg2 arg3 harg3 arg4 harg4 arg5 harg5 arg9 harg9 arg16 harg16 x0 x1 x2 x3 x7 xs1) := by
    refine Tiled.cons (n := 3) (a := 0) (b := 768) (k := 256) (m := 256) ?_ (col_iff 256 3 (by decide)) (fun r j => (group_at (A := A) (X := X) (E := E) (tok := (kernelRun0_B.sl.r_63 c arg2 harg2 arg3 harg3 arg4 harg4 arg5 harg5 x0 x1 x2 x3)) (pos := (kernelRun0_B.sl.r_64 i)) (t0 := 256 * (i 1).val) (tok_at hx0 hx1 hx2 hx3) pos_of 3 (by decide) _ _ (sl := slices_S256x512_o0_384_S256x128)
      (double_at 8 (128 * 3) (by decide) _ (double_at 4 (128 * 3) (by decide) _ (double_at 2 (128 * 3) (by decide) _ (double_at 1 (128 * 3) (by decide) _ (single_at (A := A) (X := X) (E := E) (128 * 3) _ (ext_3 hx0 hx1 hx2 hx3 hxs1))))))
      (fun c j => (arg_three (a := 3) (inb := inb_S4x128x256_S1x128x256_3_0_0) arg9 harg9 x7 c j (by decide)).trans (hx7 ⟨3, by decide⟩ c j)) r j).trans (poolVal_at A X E _ 3 r j).symm)
    refine Tiled.cons (n := 2) (a := 0) (b := 512) (k := 256) (m := 256) ?_ (col_iff 256 2 (by decide)) (fun r j => (group_at (A := A) (X := X) (E := E) (tok := (kernelRun0_B.sl.r_63 c arg2 harg2 arg3 harg3 arg4 harg4 arg5 harg5 x0 x1 x2 x3)) (pos := (kernelRun0_B.sl.r_64 i)) (t0 := 256 * (i 1).val) (tok_at hx0 hx1 hx2 hx3) pos_of 2 (by decide) _ _ (sl := slices_S256x512_o0_256_S256x128)
      (double_at 4 (128 * 2) (by decide) _ (double_at 2 (128 * 2) (by decide) _ (double_at 1 (128 * 2) (by decide) _ (single_at (A := A) (X := X) (E := E) (128 * 2) _ (ext_2 hx0 hx1 hx2 hx3 hxs1)))))
      (fun c j => (arg_three (a := 2) (inb := inb_S4x128x256_S1x128x256_2_0_0) arg9 harg9 x7 c j (by decide)).trans (hx7 ⟨2, by decide⟩ c j)) r j).trans (poolVal_at A X E _ 2 r j).symm)
    refine Tiled.cons (n := 1) (a := 0) (b := 256) (k := 256) (m := 256) ?_ (col_iff 256 1 (by decide)) (fun r j => (group_at (A := A) (X := X) (E := E) (tok := (kernelRun0_B.sl.r_63 c arg2 harg2 arg3 harg3 arg4 harg4 arg5 harg5 x0 x1 x2 x3)) (pos := (kernelRun0_B.sl.r_64 i)) (t0 := 256 * (i 1).val) (tok_at hx0 hx1 hx2 hx3) pos_of 1 (by decide) _ _ (sl := slices_S256x512_o0_128_S256x128)
      (double_at 2 (128 * 1) (by decide) _ (double_at 1 (128 * 1) (by decide) _ (single_at (A := A) (X := X) (E := E) (128 * 1) _ (ext_1 hx0 hx1 hx2 hx3 hxs1))))
      (fun c j => (arg_three (a := 1) (inb := inb_S4x128x256_S1x128x256_1_0_0) arg9 harg9 x7 c j (by decide)).trans (hx7 ⟨1, by decide⟩ c j)) r j).trans (poolVal_at A X E _ 1 r j).symm)
    refine Tiled.cons (n := 0) (a := 0) (b := 0) (k := 256) (m := 256) ?_ (col_iff 256 0 (by decide)) (fun r j => (group_at (A := A) (X := X) (E := E) (tok := (kernelRun0_B.sl.r_63 c arg2 harg2 arg3 harg3 arg4 harg4 arg5 harg5 x0 x1 x2 x3)) (pos := (kernelRun0_B.sl.r_64 i)) (t0 := 256 * (i 1).val) (tok_at hx0 hx1 hx2 hx3) pos_of 0 (by decide) _ _ (sl := slices_S256x512_o0_0_S256x128)
      (double_at 1 (128 * 0) (by decide) _ (single_at (A := A) (X := X) (E := E) (128 * 0) _ (ext_0 hx0 hx1 hx2 hx3 hxs1)))
      (fun c j => (arg_three (a := 0) (inb := inb_S4x128x256_S1x128x256_0_0_0) arg9 harg9 x7 c j (by decide)).trans (hx7 ⟨0, by decide⟩ c j)) r j).trans (poolVal_at A X E _ 0 r j).symm)
    exact Tiled.nil _ _
  exact t r j (group_lt r j)

include hx0 hx1 hx2 hx3 hx7 hx8 hxs1 in
/-- The pooling branch's rows. -/
theorem branch_b (r : Fin 256) (j : Fin 1024) : (kernelRun0_B.sl.r_68 c i arg2 harg2 arg3 harg3 arg4 harg4 arg5 harg5 arg9 harg9 arg10 harg10 arg16 harg16 arg23 x0 x1 x2 x3 x7 x8 xs1) (ix2 r j) = yb A (pwin A X E r) (256 * (i 1).val + r) j := by
  refine (yb_at A _ _ (poolVal A X E (256 * (i 1).val)) (fun r k => (load_cols (R := 256) (C := 1024) (m := 1024) arg23.view _ r k).trans ?_)
    (fun j => (arg_whole arg10 harg10 x8 0 j).trans (hx8 j)) r j).trans rfl
  simp only [Nat.zero_add, Fin.eta]
  exact buf_p hx0 hx1 hx2 hx3 hx7 hxs1 r k

include hx0 hx1 hx2 hx3 hx4 hx5 hx6 hx7 hx8 hx9 hx10 hx11 hS hxs0 hxs1 in
/-- The block this point writes. -/
theorem out_at (r : Fin 256) (j : Fin 1024) : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xs0 xs1).1 (ix2 r j)
    = fin A (X r) (ya A (fun s => X (32 * (r / 32) + s)) (S (r / 32)) (r % 32)) (yb A (pwin A X E r) (256 * (i 1).val + r)) j := by
  unfold kernelRun0_B
  refine (store_whole _ r j).trans ?_
  exact fin_at A X (fun r => ya A (fun s => X (32 * (r / 32) + s)) (S (r / 32)) (r % 32)) (fun r => yb A (pwin A X E r) (256 * (i 1).val + r))
    _ _ _ _ _ _ _ _ (row_at hx0 hx1 hx2) (branch_a hx0 hx1 hx2 hx3 hx4 hx5 hx6 hS hxs0) (branch_b hx0 hx1 hx2 hx3 hx7 hx8 hxs1)
    (gate_b_at A X _ (rowb_at hx0 hx1 hx2) _ (fun k j => (arg_cols arg5 harg5 x3 k j).trans (hx3 _ _)))
    (gate_a_at A X _ (rowb_at hx0 hx1 hx2) _ (fun k j => (arg_cols arg5 harg5 x3 k j).trans (hx3 _ _)))
    (fun k j => (arg_whole arg11 harg11 x9 k j).trans (hx9 k j)) (fun j => (arg_whole arg12 harg12 x10 0 j).trans (hx10 j))
    (fun j => (arg_whole arg13 harg13 x11 0 j).trans (hx11 j)) r j

include hx0 hx1 hx2 hx3 in
/-- The rows this point leaves for the next point's pooling. -/
theorem ext_at (a : Fin 272) (j : Fin 512) (h : a.val < 16) : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xs0 xs1).2.2.1 (ix2 a j) = pr A (X (240 + a)) (4096 + j) := by
  unfold kernelRun0_B
  exact ext_left arg16.view _ _ (new_at hx0 hx1 hx2 hx3) a j h

include hx0 hx1 hx2 hx3 hx4 hS hxs0 in
/-- The state this point leaves. -/
theorem state_at (h : Fin 8) (e d : Fin 128) : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xs0 xs1).2.1 (ix3 h e d) = S 8 h e d :=
  (stage_64 hx0 hx1 hx2 hx3 hx4 hS hxs0 h e d (Or.inr (Or.inl (by decide)))).trans rfl

end Cert.Proof.Mix.CaseB

end
-- ==== Proof.MixGrid.lean ====
/-
  THE GRID OF THE MIXER'S KERNEL: what its points are handed, and by induction over a batch's 16 points, that the carried
  state and the carried rows are those of `MixSpec`, so that the array the kernel returns is `out`.
-/
module

public import proofs.«01_k».proof.Proof.MixOutA
public import proofs.«01_k».proof.Proof.MixOutB
public import Idealize.ShloMosaic.Lib.Claim
public import Idealize.ShloMosaic.Lib.Pipeline.ValueKit.Point

@[expose] public section

set_option maxRecDepth 8192

noncomputable section

namespace Cert.Proof.Mix

open Idealize.ShloMosaic Idealize.ShloMosaic.TcCoe Idealize.ShloMosaic.Tactic

/-! ### Arrays as functions of natural numbers -/

def of1 {a : ℕ} (f : (⟨1, ![a]⟩ : Shape).Idx → EReal) (i : ℕ) : EReal := if h : i < a then f (ix1 ⟨i, h⟩) else 0

def of2 {a b : ℕ} (f : (⟨2, ![a, b]⟩ : Shape).Idx → EReal) (i j : ℕ) : EReal :=
  if h : i < a ∧ j < b then f (ix2 ⟨i, h.1⟩ ⟨j, h.2⟩) else 0

def of3 {a b c : ℕ} (f : (⟨3, ![a, b, c]⟩ : Shape).Idx → EReal) (i j k : ℕ) : EReal :=
  if h : i < a ∧ j < b ∧ k < c then f (ix3 ⟨i, h.1⟩ ⟨j, h.2.1⟩ ⟨k, h.2.2⟩) else 0

def of4 {a b c d : ℕ} (f : (⟨4, ![a, b, c, d]⟩ : Shape).Idx → EReal) (i j k l : ℕ) : EReal :=
  if h : i < a ∧ j < b ∧ k < c ∧ l < d then f (ix4 ⟨i, h.1⟩ ⟨j, h.2.1⟩ ⟨k, h.2.2.1⟩ ⟨l, h.2.2.2⟩) else 0

theorem of1_at {a : ℕ} (f : (⟨1, ![a]⟩ : Shape).Idx → EReal) (i : Fin a) : of1 f i = f (ix1 i) := dif_pos i.isLt

theorem of2_at {a b : ℕ} (f : (⟨2, ![a, b]⟩ : Shape).Idx → EReal) (i : Fin a) (j : Fin b) : of2 f i j = f (ix2 i j) :=
  dif_pos ⟨i.isLt, j.isLt⟩

theorem of3_at {a b c : ℕ} (f : (⟨3, ![a, b, c]⟩ : Shape).Idx → EReal) (i : Fin a) (j : Fin b) (k : Fin c) :
    of3 f i j k = f (ix3 i j k) := dif_pos ⟨i.isLt, j.isLt, k.isLt⟩

theorem of4_at {a b c d : ℕ} (f : (⟨4, ![a, b, c, d]⟩ : Shape).Idx → EReal) (i : Fin a) (j : Fin b) (k : Fin c) (l : Fin d) :
    of4 f i j k l = f (ix4 i j k l) := dif_pos ⟨i.isLt, j.isLt, k.isLt, l.isLt⟩

/-- The layer's arrays. -/
def argsOf (x : (⟨3, ![8, 4096, 1024]⟩ : Shape).Idx → EReal) (g0 b0 : (⟨1, ![1024]⟩ : Shape).Idx → EReal)
    (W : (⟨3, ![1, 1024, 6656]⟩ : Shape).Idx → EReal) (hg : (⟨2, ![2, 1024]⟩ : Shape).Idx → EReal)
    (ng : (⟨2, ![1, 128]⟩ : Shape).Idx → EReal) (whg : (⟨3, ![1, 1024, 1024]⟩ : Shape).Idx → EReal)
    (pw : (⟨4, ![1, 4, 128, 256]⟩ : Shape).Idx → EReal) (ps : (⟨2, ![1, 1024]⟩ : Shape).Idx → EReal)
    (wo : (⟨3, ![1, 1024, 1024]⟩ : Shape).Idx → EReal) (g1 b1 : (⟨2, ![1, 1024]⟩ : Shape).Idx → EReal) : Args where
  x := of3 x
  g0 := of1 g0
  b0 := of1 b0
  W := of3 W 0
  hg := of2 hg
  ng := of2 ng 0
  whg := of3 whg 0
  pw := of4 pw 0
  ps := of2 ps 0
  wo := of3 wo 0
  g1 := of2 g1 0
  b1 := of2 b1 0

namespace Grid

open Cert.Kernel2Ideal Cert.Kernel2Ideal.Gen Cert.Kernel2Ideal.Value

variable (m : (ℓ : Loc nD τ Cert.Kernel2Ideal.sig) → Buf (Elt Ideal) ℓ) (c : Dev nD)

/-- The arrays device `c` holds. -/
def args : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))

theorem index0 : ∀ t : Fin cfg0.N, win0_0.index t = ![t.val, 0] := by decide +kernel

/-! ### What a point is handed -/

theorem blk0 (t : Fin cfg0.N) (r : Fin 256) (j : Fin 1024) :
    iblk m c 0 t (ix2 r j) = (args m c).x (t.val / 16) (256 * (t.val % 16) + r) j := by
  have ht : t.val < 128 := lt_of_lt_of_eq t.isLt N_0
  have hr := r.isLt
  refine Eq.trans ?_ (of3_at (m ((c : Thread nD τ).loc main_arg0)) ⟨t.val / 16, by omega⟩ ⟨256 * (t.val % 16) + r, by omega⟩ j).symm
  unfold iblk
  blk_simp [index0]
  entry_read
  pointwise
  blk_ext [index0]

theorem index1 : ∀ t : Fin cfg0.N, win0_1.index t = ![0, 0] := by decide +kernel

theorem blk1 (t : Fin cfg0.N) (j : Fin 1024) : iblk m c 1 t (ix2 0 j) = (args m c).g0 j := by
  refine Eq.trans ?_ (of1_at (m ((c : Thread nD τ).loc main_arg1)) j).symm
  unfold iblk
  blk_simp [index1]
  entry_read
  pointwise
  blk_ext [index1]

theorem index2 : ∀ t : Fin cfg0.N, win0_2.index t = ![0, 0] := by decide +kernel

theorem blk2 (t : Fin cfg0.N) (j : Fin 1024) : iblk m c 2 t (ix2 0 j) = (args m c).b0 j := by
  refine Eq.trans ?_ (of1_at (m ((c : Thread nD τ).loc main_arg2)) j).symm
  unfold iblk
  blk_simp [index2]
  entry_read
  pointwise
  blk_ext [index2]

theorem index3 : ∀ t : Fin cfg0.N, win0_3.index t = ![0, 0] := by decide +kernel

theorem blk3 (t : Fin cfg0.N) (k : Fin 1024) (j : Fin 6656) : iblk m c 3 t (ix2 k j) = (args m c).W k j := by
  refine Eq.trans ?_ (of3_at (m ((c : Thread nD τ).loc main_arg3)) 0 k j).symm
  unfold iblk
  blk_simp [index3]
  entry_read
  pointwise
  blk_ext [index3]

theorem index4 : ∀ t : Fin cfg0.N, win0_4.index t = ![0, 0] := by decide +kernel

theorem blk4 (t : Fin cfg0.N) (i : Fin 2) (j : Fin 1024) : iblk m c 4 t (ix2 i j) = (args m c).hg i j := by
  refine Eq.trans ?_ (of2_at (m ((c : Thread nD τ).loc main_arg4)) i j).symm
  unfold iblk
  blk_simp [index4]
  entry_read
  pointwise
  blk_ext [index4]

theorem index5 : ∀ t : Fin cfg0.N, win0_5.index t = ![0, 0] := by decide +kernel

theorem blk5 (t : Fin cfg0.N) (e : Fin 128) : iblk m c 5 t (ix2 0 e) = (args m c).ng e := by
  refine Eq.trans ?_ (of2_at (m ((c : Thread nD τ).loc main_arg5)) 0 e).symm
  unfold iblk
  blk_simp [index5]
  entry_read
  pointwise
  blk_ext [index5]

theorem index6 : ∀ t : Fin cfg0.N, win0_6.index t = ![0, 0] := by decide +kernel

theorem blk6 (t : Fin cfg0.N) (k j : Fin 1024) : iblk m c 6 t (ix2 k j) = (args m c).whg k j := by
  refine Eq.trans ?_ (of3_at (m ((c : Thread nD τ).loc main_arg6)) 0 k j).symm
  unfold iblk
  blk_simp [index6]
  entry_read
  pointwise
  blk_ext [index6]

theorem index7 : ∀ t : Fin cfg0.N, win0_7.index t = ![0, 0, 0] := by decide +kernel

theorem blk7 (t : Fin cfg0.N) (g : Fin 4) (q : Fin 128) (j : Fin 256) : iblk m c 7 t (ix3 g q j) = (args m c).pw g q j := by
  refine Eq.trans ?_ (of4_at (m ((c : Thread nD τ).loc main_arg7)) 0 g q j).symm
  unfold iblk
  blk_simp [index7]
  entry_read
  pointwise
  blk_ext [index7]

theorem index8 : ∀ t : Fin cfg0.N, win0_8.index t = ![0, 0] := by decide +kernel

theorem blk8 (t : Fin cfg0.N) (j : Fin 1024) : iblk m c 8 t (ix2 0 j) = (args m c).ps j := by
  refine Eq.trans ?_ (of2_at (m ((c : Thread nD τ).loc main_arg8)) 0 j).symm
  unfold iblk
  blk_simp [index8]
  entry_read
  pointwise
  blk_ext [index8]

theorem index9 : ∀ t : Fin cfg0.N, win0_9.index t = ![0, 0] := by decide +kernel

theorem blk9 (t : Fin cfg0.N) (k j : Fin 1024) : iblk m c 9 t (ix2 k j) = (args m c).wo k j := by
  refine Eq.trans ?_ (of3_at (m ((c : Thread nD τ).loc main_arg9)) 0 k j).symm
  unfold iblk
  blk_simp [index9]
  entry_read
  pointwise
  blk_ext [index9]

theorem index10 : ∀ t : Fin cfg0.N, win0_10.index t = ![0, 0] := by decide +kernel

theorem blk10 (t : Fin cfg0.N) (j : Fin 1024) : iblk m c 10 t (ix2 0 j) = (args m c).g1 j := by
  refine Eq.trans ?_ (of2_at (m ((c : Thread nD τ).loc main_arg10)) 0 j).symm
  unfold iblk
  blk_simp [index10]
  entry_read
  pointwise
  blk_ext [index10]

theorem index11 : ∀ t : Fin cfg0.N, win0_11.index t = ![0, 0] := by decide +kernel

theorem blk11 (t : Fin cfg0.N) (j : Fin 1024) : iblk m c 11 t (ix2 0 j) = (args m c).b1 j := by
  refine Eq.trans ?_ (of2_at (m ((c : Thread nD τ).loc main_arg11)) 0 j).symm
  unfold iblk
  blk_simp [index11]
  entry_read
  pointwise
  blk_ext [index11]

end Grid

end Cert.Proof.Mix

end
-- ==== Proof.Ref2Pre.lean ====
/-
  THE MIXER'S REFERENCE BEFORE ITS LOOP: what each stretch of its operations leaves, entry by entry, in `MixSpec`'s terms.
-/
module

public import proofs.«01_k».proof.Proof.Ref2Run
public import proofs.«01_k».proof.Proof.RefSums
public import proofs.«01_k».proof.Proof.MixGrid
public import Idealize.ShloMosaic.Lib.StableHlo.ReadAt

@[expose] public section

set_option maxRecDepth 16384

noncomputable section

namespace Cert.Proof.Ref2

open Cert.Reference2Ideal Cert.Reference2Ideal.Gen Cert.Reference2Ideal.Value
open Idealize.ShloMosaic Idealize.ShloMosaic.TcCoe Idealize.ShloMosaic.Tactic
open Idealize.ShloMosaic.StableHlo
open Cert.Proof.Mix (Args argsOf of1_at of2_at of3_at of4_at)

/-- The contents of the reference's buffers. -/
abbrev Vals := Valuation τ Cert.Reference2Ideal.sig (Elt Ideal)

/-- The layer's arrays, as the buffers hold them. -/
def args (V : Vals) : Args := argsOf (V (Proc.devRef .tc main_arg0)) (V (Proc.devRef .tc main_arg1)) (V (Proc.devRef .tc main_arg2))
  (V (Proc.devRef .tc main_arg3)) (V (Proc.devRef .tc main_arg4)) (V (Proc.devRef .tc main_arg5)) (V (Proc.devRef .tc main_arg6))
  (V (Proc.devRef .tc main_arg7)) (V (Proc.devRef .tc main_arg8)) (V (Proc.devRef .tc main_arg9)) (V (Proc.devRef .tc main_arg10))
  (V (Proc.devRef .tc main_arg11))

/-! ### The contents after each stretch -/

def U1 (V : Vals) : Vals := after hostOps0 V
def U2 (V : Vals) : Vals := after hostOps0_1 (U1 V)
def U3 (V : Vals) : Vals := after hostOps0_2 (U2 V)
def U4 (V : Vals) : Vals := after hostOps0_3 (U3 V)
def U5 (V : Vals) : Vals := after hostOps0_4 (U4 V)
def U6 (V : Vals) : Vals := after hostOps0_5 (U5 V)
def U7 (V : Vals) : Vals := after hostOps0_6 (U6 V)
def U8 (V : Vals) : Vals := after hostOps0_7 (U7 V)
def U9 (V : Vals) : Vals := after hostOps0_8 (U8 V)
def U10 (V : Vals) : Vals := after hostOps0_9 (U9 V)
def U11 (V : Vals) : Vals := after hostOps0_10 (U10 V)

variable (V : Vals)

theorem U11_eq : afterL preI V = U11 V := rfl

theorem U1_keep (r : Ref Cert.Reference2Ideal.sig .tc) (h : r ∉ hostOps0_W) : U1 V (Proc.devRef .tc r) = V (Proc.devRef .tc r) :=
  after_of_writes_sub _ _ hostOps0_writes h
theorem U2_keep (r : Ref Cert.Reference2Ideal.sig .tc) (h : r ∉ hostOps0_1_W) : U2 V (Proc.devRef .tc r) = U1 V (Proc.devRef .tc r) :=
  after_of_writes_sub _ _ hostOps0_1_writes h
theorem U3_keep (r : Ref Cert.Reference2Ideal.sig .tc) (h : r ∉ hostOps0_2_W) : U3 V (Proc.devRef .tc r) = U2 V (Proc.devRef .tc r) :=
  after_of_writes_sub _ _ hostOps0_2_writes h
theorem U4_keep (r : Ref Cert.Reference2Ideal.sig .tc) (h : r ∉ hostOps0_3_W) : U4 V (Proc.devRef .tc r) = U3 V (Proc.devRef .tc r) :=
  after_of_writes_sub _ _ hostOps0_3_writes h
theorem U5_keep (r : Ref Cert.Reference2Ideal.sig .tc) (h : r ∉ hostOps0_4_W) : U5 V (Proc.devRef .tc r) = U4 V (Proc.devRef .tc r) :=
  after_of_writes_sub _ _ hostOps0_4_writes h
theorem U6_keep (r : Ref Cert.Reference2Ideal.sig .tc) (h : r ∉ hostOps0_5_W) : U6 V (Proc.devRef .tc r) = U5 V (Proc.devRef .tc r) :=
  after_of_writes_sub _ _ hostOps0_5_writes h
theorem U7_keep (r : Ref Cert.Reference2Ideal.sig .tc) (h : r ∉ hostOps0_6_W) : U7 V (Proc.devRef .tc r) = U6 V (Proc.devRef .tc r) :=
  after_of_writes_sub _ _ hostOps0_6_writes h
theorem U8_keep (r : Ref Cert.Reference2Ideal.sig .tc) (h : r ∉ hostOps0_7_W) : U8 V (Proc.devRef .tc r) = U7 V (Proc.devRef .tc r) :=
  after_of_writes_sub _ _ hostOps0_7_writes h
theorem U9_keep (r : Ref Cert.Reference2Ideal.sig .tc) (h : r ∉ hostOps0_8_W) : U9 V (Proc.devRef .tc r) = U8 V (Proc.devRef .tc r) :=
  after_of_writes_sub _ _ hostOps0_8_writes h
theorem U10_keep (r : Ref Cert.Reference2Ideal.sig .tc) (h : r ∉ hostOps0_9_W) : U10 V (Proc.devRef .tc r) = U9 V (Proc.devRef .tc r) :=
  after_of_writes_sub _ _ hostOps0_9_writes h
theorem U11_keep (r : Ref Cert.Reference2Ideal.sig .tc) (h : r ∉ hostOps0_10_W) : U11 V (Proc.devRef .tc r) = U10 V (Proc.devRef .tc r) :=
  after_of_writes_sub _ _ hostOps0_10_writes h

/-! ### The arrays' entries -/

theorem x_at (b : Fin 8) (t : Fin 4096) (j : Fin 1024) : (args V).x b t j = V (Proc.devRef .tc main_arg0) (ix3 b t j) := of3_at _ b t j
theorem g0_at (j : Fin 1024) : (args V).g0 j = V (Proc.devRef .tc main_arg1) (ix1 j) := of1_at _ j
theorem b0_at (j : Fin 1024) : (args V).b0 j = V (Proc.devRef .tc main_arg2) (ix1 j) := of1_at _ j
theorem W_at (k : Fin 1024) (j : Fin 6656) : (args V).W k j = V (Proc.devRef .tc main_arg3) (ix3 0 k j) :=
  of3_at (V (Proc.devRef .tc main_arg3)) 0 k j
theorem hg_at (i : Fin 2) (j : Fin 1024) : (args V).hg i j = V (Proc.devRef .tc main_arg4) (ix2 i j) := of2_at _ i j

theorem W_rd (k : Fin 1024) (j : Fin 6656) : V (no_index (Proc.devRef .tc main_arg3)) (ix3 0 k j) = (args V).W k j := (W_at V k j).symm

/-! ### The normalised rows and the gate's lower bound -/

/-- The normalised rows. -/
theorem v23_at (b : Fin 8) (t : Fin 4096) (j : Fin 1024) :
    U1 V (no_index (Proc.devRef .tc main_v23)) (ix3 b t j) = Mix.h0 (args V) ((args V).x b t) j := by
  unfold U1
  after_reads_at
  unfold Mix.h0 Mix.ln Mix.mean
  simp only [x_at, g0_at, b0_at]

/-- The softmax over the two rows of logits. -/
theorem v34_at (j : Fin 1024) : U1 V (no_index (Proc.devRef .tc main_v34)) (ix2 0 j) = Mix.lb (args V) j := by
  unfold U1
  after_reads_at
  unfold Mix.lb
  rw [show ((0 : ℕ)) = ((0 : Fin 2) : ℕ) from rfl]
  simp only [hg_at]
  rw [max_eq_right (Finset.le_fold_max _ |>.mpr (Or.inl le_rfl))]

/-- Its running sum's first row. -/
theorem v35_at (j : Fin 1024) : U2 V (no_index (Proc.devRef .tc main_v35)) (ix2 0 j) = Mix.lb (args V) j := by
  rw [← v34_at]
  unfold U2
  generalize U1 V = W
  after_reads_at
  refine Eq.trans ?_ (cumsum2 (W (Proc.devRef .tc main_v34)) reduceWindows_S2x1024_S2x1024_w2s1p1_0_w1s1p0_0 j)
  rw [← Ideal.ofBits_zero_f32]
  rfl

/-! ### The projection and the forget gate -/

theorem U2_v23 : U2 V (no_index (Proc.devRef .tc main_v23)) = U1 V (Proc.devRef .tc main_v23) :=
  (U2_keep V _ (by decide +kernel))
theorem U2_arg3 : U2 V (no_index (Proc.devRef .tc main_arg3)) = V (Proc.devRef .tc main_arg3) :=
  ((U2_keep V _ (by decide +kernel)).trans (U1_keep V _ (by decide +kernel)))

/-- The projected rows. -/
theorem v39_at (b : Fin 8) (t : Fin 4096) (j : Fin 6656) :
    U3 V (no_index (Proc.devRef .tc main_v39)) (ix3 b t j) = Mix.pr (args V) ((args V).x b t) j := by
  unfold U3
  generalize hU : U2 V = W
  after_reads_at
  subst hU
  unfold Mix.pr
  simp only [U2_v23, U2_arg3, v23_at, W_rd V]

theorem v40_at (b : Fin 8) (t : Fin 4096) (j : Fin 1024) :
    U3 V (no_index (Proc.devRef .tc main_v40)) (ix3 b t j) = Mix.pr (args V) ((args V).x b t) j := by
  unfold U3
  generalize hU : U2 V = W
  after_reads_at
  subst hU
  unfold Mix.pr
  simp only [U2_v23, U2_arg3, v23_at, W_rd V]

theorem v42_at (b : Fin 8) (t : Fin 4096) (j : Fin 1024) :
    U3 V (no_index (Proc.devRef .tc main_v42)) (ix3 b t j) = Mix.pr (args V) ((args V).x b t) (2048 + j) := by
  unfold U3
  generalize hU : U2 V = W
  after_reads_at
  subst hU
  unfold Mix.pr
  simp only [U2_v23, U2_arg3, v23_at, W_rd V]

theorem v43_at (b : Fin 8) (t : Fin 4096) (j : Fin 1024) :
    U3 V (no_index (Proc.devRef .tc main_v43)) (ix3 b t j) = Mix.pr (args V) ((args V).x b t) (3072 + j) := by
  unfold U3
  generalize hU : U2 V = W
  after_reads_at
  subst hU
  unfold Mix.pr
  simp only [U2_v23, U2_arg3, v23_at, W_rd V]

theorem v44_at (b : Fin 8) (t : Fin 4096) (j : Fin 512) :
    U3 V (no_index (Proc.devRef .tc main_v44)) (ix3 b t j) = Mix.pr (args V) ((args V).x b t) (4096 + j) := by
  unfold U3
  generalize hU : U2 V = W
  after_reads_at
  subst hU
  unfold Mix.pr
  simp only [U2_v23, U2_arg3, v23_at, W_rd V]

theorem v45_at (b : Fin 8) (t : Fin 4096) (j : Fin 1024) :
    U3 V (no_index (Proc.devRef .tc main_v45)) (ix3 b t j) = Mix.pr (args V) ((args V).x b t) (4608 + j) := by
  unfold U3
  generalize hU : U2 V = W
  after_reads_at
  subst hU
  unfold Mix.pr
  simp only [U2_v23, U2_arg3, v23_at, W_rd V]

theorem v46_at (b : Fin 8) (t : Fin 4096) (j : Fin 1024) :
    U3 V (no_index (Proc.devRef .tc main_v46)) (ix3 b t j) = Mix.pr (args V) ((args V).x b t) (5632 + j) := by
  unfold U3
  generalize hU : U2 V = W
  after_reads_at
  subst hU
  unfold Mix.pr
  simp only [U2_v23, U2_arg3, v23_at, W_rd V]

/-- The forget gate. -/
theorem v60_at (b : Fin 8) (t : Fin 4096) (j : Fin 1024) :
    U3 V (no_index (Proc.devRef .tc main_v60)) (ix3 b t j) = Mix.fg (args V) ((args V).x b t) j := by
  unfold U3
  generalize hU : U2 V = W
  after_reads_at
  subst hU
  unfold Mix.fg Mix.sig Mix.pr
  simp only [U2_v23, U2_arg3, v23_at, v35_at, W_rd V]

/-- Its logarithm. -/
theorem v61_at (b : Fin 8) (t : Fin 4096) (j : Fin 1024) :
    U3 V (no_index (Proc.devRef .tc main_v61)) (ix3 b t j) = Mix.lf (args V) ((args V).x b t) j := by
  unfold U3
  generalize hU : U2 V = W
  after_reads_at
  subst hU
  unfold Mix.lf Mix.fg Mix.sig Mix.pr
  simp only [U2_v23, U2_arg3, v23_at, v35_at, W_rd V]

/-! ### Queries, keys, values and logarithms, by head and chunk -/

/-- The gated queries. -/
theorem v62_at (b : Fin 8) (t : Fin 4096) (j : Fin 1024) :
    U4 V (no_index (Proc.devRef .tc main_v62)) (ix3 b t j)
      = Mix.pr (args V) ((args V).x b t) j * Mix.sig (Mix.pr (args V) ((args V).x b t) j) := by
  unfold U4
  generalize hU : U3 V = W
  after_reads_at
  subst hU
  unfold Mix.sig
  simp only [v40_at]

theorem U4_v60 : U4 V (no_index (Proc.devRef .tc main_v60)) = U3 V (Proc.devRef .tc main_v60) :=
  (U4_keep V _ (by decide +kernel))
theorem U4_v42 : U4 V (no_index (Proc.devRef .tc main_v42)) = U3 V (Proc.devRef .tc main_v42) :=
  (U4_keep V _ (by decide +kernel))
theorem U4_v61 : U4 V (no_index (Proc.devRef .tc main_v61)) = U3 V (Proc.devRef .tc main_v61) :=
  (U4_keep V _ (by decide +kernel))

theorem v66_at (b h : Fin 8) (n : Fin 128) (r : Fin 32) (d : Fin 128) :
    U5 V (no_index (Proc.devRef .tc main_v66)) (ix5 b h n r d)
      = Mix.pr (args V) (Mix.chunk (args V) b n r) (128 * h + d) * Mix.sig (Mix.pr (args V) (Mix.chunk (args V) b n r) (128 * h + d))
        * Ideal.ofBits .f32 0x3DB504F3#32 := by
  unfold U5
  generalize hU : U4 V = W
  after_reads_at
  subst hU
  simp only [v62_at]
  unfold Mix.chunk
  rw [show n.val * 32 + r.val = 32 * n.val + r.val by omega, show h.val * 128 + d.val = 128 * h.val + d.val by omega]

theorem v70_at (b h : Fin 8) (n : Fin 128) (r : Fin 32) (d : Fin 128) :
    U5 V (no_index (Proc.devRef .tc main_v70)) (ix5 b h n r d)
      = Mix.kk (args V) (Mix.chunk (args V) b n r) (128 * h + d) := by
  unfold U5
  generalize hU : U4 V = W
  after_reads_at
  subst hU
  simp only [U4_v60, v60_at]
  unfold Mix.chunk Mix.kk
  rw [show n.val * 32 + r.val = 32 * n.val + r.val by omega, show h.val * 128 + d.val = 128 * h.val + d.val by omega]

theorem v72_at (b h : Fin 8) (n : Fin 128) (r : Fin 32) (d : Fin 128) :
    U5 V (no_index (Proc.devRef .tc main_v72)) (ix5 b h n r d)
      = Mix.vv (args V) (Mix.chunk (args V) b n r) (128 * h + d) := by
  unfold U5
  generalize hU : U4 V = W
  after_reads_at
  subst hU
  simp only [U4_v42, v42_at]
  unfold Mix.chunk Mix.vv
  rw [show n.val * 32 + r.val = 32 * n.val + r.val by omega, show h.val * 128 + d.val = 128 * h.val + d.val by omega]

theorem v74_at (b h : Fin 8) (n : Fin 128) (r : Fin 32) (d : Fin 128) :
    U5 V (no_index (Proc.devRef .tc main_v74)) (ix5 b h n r d)
      = Mix.lf (args V) (Mix.chunk (args V) b n r) (128 * h + d) := by
  unfold U5
  generalize hU : U4 V = W
  after_reads_at
  subst hU
  simp only [U4_v61, v61_at]
  unfold Mix.chunk
  rw [show n.val * 32 + r.val = 32 * n.val + r.val by omega, show h.val * 128 + d.val = 128 * h.val + d.val by omega]

/-- The running sum of the logarithms within a chunk. -/
theorem v75_at (b h : Fin 8) (n : Fin 128) (r : Fin 32) (d : Fin 128) :
    U6 V (no_index (Proc.devRef .tc main_v75)) (ix5 b h n r d) = Mix.bh (args V) (Mix.chunk (args V) b n) r (128 * h + d) := by
  unfold U6
  refine Eq.trans ?_ (cumsum5 (U5 V (Proc.devRef .tc main_v74))
    reduceWindows_S8x8x128x32x128_S8x8x128x32x128_w1s1p0_0_w1s1p0_0_w1s1p0_0_w32s1p31_0_w1s1p0_0 b h n r d
    (fun s => Mix.lf (args V) (Mix.chunk (args V) b n s) (128 * h + d)) (fun s => v74_at V b h n s d))
  generalize U5 V = W
  after_reads_at
  rw [← Ideal.ofBits_zero_f32]
  rfl

theorem U6_v66 : U6 V (no_index (Proc.devRef .tc main_v66)) = U5 V (Proc.devRef .tc main_v66) :=
  (U6_keep V _ (by decide +kernel))
theorem U6_v70 : U6 V (no_index (Proc.devRef .tc main_v70)) = U5 V (Proc.devRef .tc main_v70) :=
  (U6_keep V _ (by decide +kernel))
theorem U10_v75 : U10 V (no_index (Proc.devRef .tc main_v75)) = U6 V (Proc.devRef .tc main_v75) :=
  ((((U10_keep V _ (by decide +kernel)).trans (U9_keep V _ (by decide +kernel))).trans (U8_keep V _ (by decide +kernel))).trans (U7_keep V _ (by decide +kernel)))
theorem U10_v70 : U10 V (no_index (Proc.devRef .tc main_v70)) = U5 V (Proc.devRef .tc main_v70) :=
  (((((U10_keep V _ (by decide +kernel)).trans (U9_keep V _ (by decide +kernel))).trans (U8_keep V _ (by decide +kernel))).trans (U7_keep V _ (by decide +kernel))).trans (U6_keep V _ (by decide +kernel)))
theorem U10_v72 : U10 V (no_index (Proc.devRef .tc main_v72)) = U5 V (Proc.devRef .tc main_v72) :=
  (((((U10_keep V _ (by decide +kernel)).trans (U9_keep V _ (by decide +kernel))).trans (U8_keep V _ (by decide +kernel))).trans (U7_keep V _ (by decide +kernel))).trans (U6_keep V _ (by decide +kernel)))
theorem U8_v77 : U8 V (no_index (Proc.devRef .tc main_v77)) = U7 V (Proc.devRef .tc main_v77) :=
  (U8_keep V _ (by decide +kernel))
theorem U8_v80 : U8 V (no_index (Proc.devRef .tc main_v80)) = U7 V (Proc.devRef .tc main_v80) :=
  (U8_keep V _ (by decide +kernel))

/-- The decayed queries. -/
theorem v77_at (b h : Fin 8) (n : Fin 128) (r : Fin 32) (d : Fin 128) :
    U7 V (no_index (Proc.devRef .tc main_v77)) (ix5 b h n r d) = Mix.qd (args V) (Mix.chunk (args V) b n) r (128 * h + d) := by
  unfold U7
  generalize hU : U6 V = W
  after_reads_at
  subst hU
  simp only [U6_v66, v66_at, v75_at]
  rfl

theorem v80_read (W : Vals) (b h : Fin 8) (n : Fin 128) (r : Fin 32) (d : Fin 128) (z y : EReal)
    (hz : W (Proc.devRef .tc main_v70) (ix5 b h n r d) = z) (hy : W (Proc.devRef .tc main_v75) (ix5 b h n r d) = y) :
    after hostOps0_6 W (Proc.devRef .tc main_v80) (ix5 b h n r d) = z * Ideal.exp (-y) := by
  after_reads_at
  subst hy hz
  rfl

theorem U6_v70_at (b h : Fin 8) (n : Fin 128) (r : Fin 32) (d : Fin 128) :
    U6 V (no_index (Proc.devRef .tc main_v70)) (ix5 b h n r d) = Mix.kk (args V) (Mix.chunk (args V) b n r) (128 * h + d) := by
  rw [U6_v70, v70_at]

/-- The keys with the decay undone. -/
theorem v80_at (b h : Fin 8) (n : Fin 128) (r : Fin 32) (d : Fin 128) :
    U7 V (no_index (Proc.devRef .tc main_v80)) (ix5 b h n r d) = Mix.ki (args V) (Mix.chunk (args V) b n) r (128 * h + d) := by
  unfold Mix.ki
  exact v80_read (U6 V) b h n r d _ _ (U6_v70_at V b h n r d) (v75_at V b h n r d)

theorem v81_at (r s : Fin 32) : U7 V (no_index (Proc.devRef .tc main_v81)) (ix2 r s) = 1#1 := by
  unfold U7
  generalize U6 V = W
  after_reads_at

/-- The causal mask. -/
theorem v82_at (r s : Fin 32) : U8 V (no_index (Proc.devRef .tc main_v82)) (ix2 r s) = if s.val ≤ r.val then 1#1 else 0#1 := by
  unfold U8
  generalize hU : U7 V = W
  after_reads_at
  subst hU
  simp only [v81_at]
  rw [show IntOp.addi (BitVec.ofNat 32 r.val) 0#32 = BitVec.ofNat 32 r.val from BitVec.add_zero _,
    WordCmp.cmpi_sge_ofNat (by have := r.isLt; omega) (by have := s.isLt; omega)]
  by_cases hs : s.val ≤ r.val
  · rw [if_pos hs, decide_eq_true hs]; rfl
  · rw [if_neg hs, decide_eq_false hs]; rfl

/-- The products of queries and keys. -/
theorem v83_at (b h : Fin 8) (n : Fin 128) (r s : Fin 32) :
    U9 V (no_index (Proc.devRef .tc main_v83)) (ix5 b h n r s)
      = ∑ d : Fin 128, Mix.qd (args V) (Mix.chunk (args V) b n) r (128 * h + d) * Mix.ki (args V) (Mix.chunk (args V) b n) s (128 * h + d) := by
  unfold U9
  generalize hU : U8 V = W
  after_reads_at
  subst hU
  simp only [U8_v77, U8_v80, v77_at, v80_at]

theorem U9_v82 : U9 V (no_index (Proc.devRef .tc main_v82)) = U8 V (Proc.devRef .tc main_v82) :=
  (U9_keep V _ (by decide +kernel))

theorem cst12_at : U9 V (no_index (Proc.devRef .tc main_cst_12)) ix0 = (0 : EReal) := by
  unfold U9
  generalize U8 V = W
  after_reads_at

/-- Masked. -/
theorem v84_at (b h : Fin 8) (n : Fin 128) (r s : Fin 32) :
    U10 V (no_index (Proc.devRef .tc main_v84)) (ix5 b h n r s)
      = if s.val ≤ r.val then ∑ d : Fin 128, Mix.qd (args V) (Mix.chunk (args V) b n) r (128 * h + d)
          * Mix.ki (args V) (Mix.chunk (args V) b n) s (128 * h + d) else 0 := by
  unfold U10
  generalize hU : U9 V = W
  after_reads_at
  subst hU
  simp only [U9_v82, v82_at, v83_at, id, cst12_at]
  by_cases hs : s.val ≤ r.val
  · rw [if_pos hs, if_pos hs]; rfl
  · rw [if_neg hs, if_neg hs]; rfl

end Cert.Proof.Ref2

end
-- ==== Proof.Ref2In.lean ====
/-
  THE MIXER'S REFERENCE AT ITS LOOP'S ENTRY: the chunks' decays, their contributions to the state, and what a token reads
  of its own chunk, entry by entry.
-/
module

public import proofs.«01_k».proof.Proof.Ref2Pre

@[expose] public section

set_option maxRecDepth 16384

noncomputable section

namespace Cert.Proof.Ref2

open Cert.Reference2Ideal Cert.Reference2Ideal.Gen Cert.Reference2Ideal.Value
open Idealize.ShloMosaic Idealize.ShloMosaic.TcCoe Idealize.ShloMosaic.Tactic
open Idealize.ShloMosaic.StableHlo
open Cert.Proof.Mix (Args argsOf of1_at of2_at of3_at of4_at)

variable (V : Vals)

theorem v85_read (W : Vals) (b h : Fin 8) (n : Fin 128) (r : Fin 32) (e : Fin 128) (p v : Fin 32 → EReal)
    (hp : ∀ s, W (Proc.devRef .tc main_v84) (ix5 b h n r s) = p s) (hv : ∀ s, W (Proc.devRef .tc main_v72) (ix5 b h n s e) = v s) :
    after hostOps0_10 W (Proc.devRef .tc main_v85) (ix5 b h n r e) = ∑ s : Fin 32, p s * v s := by
  after_reads_at
  exact Finset.sum_congr rfl fun s _ => congrArg₂ (fun x y : EReal => x * y) (hp s) (hv s)

theorem dec_read (W : Vals) (n : Fin 128) (b h : Fin 8) (d : Fin 128) :
    after hostOps0_10 W (Proc.devRef .tc main_v97_0) (ix4 n b h d) = Ideal.exp (W (Proc.devRef .tc main_v75) (ix5 b h n 31 d)) := by
  after_reads_at
  simp only [id]
  pointwise

theorem kv_read (W : Vals) (n : Fin 128) (b h : Fin 8) (d e : Fin 128) (k l v : Fin 32 → EReal)
    (hk : ∀ r, W (Proc.devRef .tc main_v70) (ix5 b h n r d) = k r) (hl : ∀ r, W (Proc.devRef .tc main_v75) (ix5 b h n r d) = l r)
    (hv : ∀ r, W (Proc.devRef .tc main_v72) (ix5 b h n r e) = v r) :
    after hostOps0_10 W (Proc.devRef .tc main_v97_1) (ix5 n b h d e) = ∑ r : Fin 32, k r * Ideal.exp (l 31 - l r) * v r := by
  after_reads_at
  simp only [id]
  pointwise
  exact Finset.sum_congr rfl fun r _ => congrArg₂ (fun x y : EReal => x * y)
    (congrArg₂ (fun x y : EReal => x * y) (hk r) (congrArg Ideal.exp (congrArg₂ (fun x y : EReal => x - y) (hl 31) (hl r)))) (hv r)

theorem zero_read (W : Vals) (b h : Fin 8) (d e : Fin 128) : after hostOps0_10 W (Proc.devRef .tc main_v97_3) (ix4 b h d e) = (0 : EReal) := by
  after_reads_at
  simp only [id]
  pointwise

/-- What a token reads of its own chunk. -/
theorem v85_at (b h : Fin 8) (n : Fin 128) (r : Fin 32) (e : Fin 128) :
    U11 V (no_index (Proc.devRef .tc main_v85)) (ix5 b h n r e) = Mix.oc (args V) (Mix.chunk (args V) b n) r h e := by
  unfold Mix.oc
  exact v85_read (U10 V) b h n r e _ _ (fun s => v84_at V b h n r s) (fun s => (congrFun (U10_v72 V) _).trans (v72_at V b h n s e))

/-- The chunks' decays. -/
theorem dec_at (n : Fin 128) (b h : Fin 8) (d : Fin 128) :
    U11 V (no_index (Proc.devRef .tc main_v97_0)) (ix4 n b h d) = Mix.dec (args V) (Mix.chunk (args V) b n) (128 * h + d) := by
  unfold Mix.dec
  exact (dec_read (U10 V) n b h d).trans (congrArg Ideal.exp ((congrFun (U10_v75 V) _).trans (v75_at V b h n 31 d)))

/-- The chunks' contributions to the state. -/
theorem kv_at (n : Fin 128) (b h : Fin 8) (d e : Fin 128) :
    U11 V (no_index (Proc.devRef .tc main_v97_1)) (ix5 n b h d e)
      = ∑ r : Fin 32, Mix.ke (args V) (Mix.chunk (args V) b n) r (128 * h + d) * Mix.vv (args V) (Mix.chunk (args V) b n r) (128 * h + e) := by
  unfold Mix.ke
  exact kv_read (U10 V) n b h d e (fun r => Mix.kk (args V) (Mix.chunk (args V) b n r) (128 * h + d))
    (fun r => Mix.bh (args V) (Mix.chunk (args V) b n) r (128 * h + d)) (fun r => Mix.vv (args V) (Mix.chunk (args V) b n r) (128 * h + e)) (fun r => (congrFun (U10_v70 V) _).trans (v70_at V b h n r d))
    (fun r => (congrFun (U10_v75 V) _).trans (v75_at V b h n r d)) (fun r => (congrFun (U10_v72 V) _).trans (v72_at V b h n r e))

/-- The state the recurrence begins with. -/
theorem start_at (b h : Fin 8) (d e : Fin 128) : U11 V (no_index (Proc.devRef .tc main_v97_3)) (ix4 b h d e) = (0 : EReal) :=
  zero_read (U10 V) b h d e

end Cert.Proof.Ref2

end
-- ==== Proof.Ref2Loop.lean ====
/-
  THE MIXER'S REFERENCE, ITS LOOP: before trip `k` the state carried is `Mix.state` of chunk `k`, and the states already
  stacked are those of the chunks before it. So at the loop's exit the stack holds the state every chunk begins with.
-/
module

public import proofs.«01_k».proof.Proof.Ref2In
public import Idealize.ShloMosaic.Lib.DynamicIndex
public import Idealize.ShloMosaic.Lib.Pipeline.Value

@[expose] public section

set_option maxRecDepth 16384

noncomputable section

namespace Cert.Proof.Ref2

open Cert.Reference2Ideal Cert.Reference2Ideal.Gen Cert.Reference2Ideal.Value
open Idealize.ShloMosaic Idealize.ShloMosaic.TcCoe Idealize.ShloMosaic.Tactic
open Idealize.ShloMosaic.StableHlo
open Cert.Proof.Mix (Args argsOf of1_at of2_at of3_at of4_at)

/-! ## One trip -/

theorem toInt_lt (k : Fin 128) : (BitVec.ofNat 32 k.val).toInt = (k.val : Int) := by
  have := k.isLt
  have hn : (BitVec.ofNat 32 k.val).toNat = k.val := by rw [BitVec.toNat_ofNat]; omega
  rw [BitVec.toInt_eq_toNat_of_lt (by rw [hn]; omega), hn]

theorem fits4 (k : Fin 128) : S128x8x8x128.Slices ![k.val, 0, 0, 0] S1x8x8x128 :=
  ⟨rfl, fun a => by have := k.isLt; fin_cases a <;> simp [S128x8x8x128, S1x8x8x128] <;> omega⟩

theorem fits5 (k : Fin 128) : S128x8x8x128x128.Slices ![k.val, 0, 0, 0, 0] S1x8x8x128x128 :=
  ⟨rfl, fun a => by have := k.isLt; fin_cases a <;> simp [S128x8x8x128x128, S1x8x8x128x128] <;> omega⟩

/-- Trip `k` multiplies the state by chunk `k`'s decay and adds its contribution. -/
theorem step3_at (W : Vals) (k : Fin 128) (hc : W (Proc.devRef .tc main_v97_2) = fun _ => BitVec.ofNat 32 k.val)
    (b h : Fin 8) (d e : Fin 128) (x y z : EReal) (hx : W (Proc.devRef .tc main_v97_0) (ix4 k b h d) = x)
    (hy : W (Proc.devRef .tc main_v97_3) (ix4 b h d e) = y) (hz : W (Proc.devRef .tc main_v97_1) (ix5 k b h d e) = z) :
    step_main_v97_3 W (ix4 b h d e) = x * y + z := by
  unfold step_main_v97_3
  rw [hc]
  simp only [id]
  rw [Host.dynamicSlice_eq_extractStridedSlice S1x8x8x128 (W (Proc.devRef .tc main_v97_0)) _ ![k.val, 0, 0, 0] _ (fits4 k)
      (fun a => by fin_cases a <;> first | exact toInt_lt k | rfl),
    Host.dynamicSlice_eq_extractStridedSlice S1x8x8x128x128 (W (Proc.devRef .tc main_v97_1)) _ ![k.val, 0, 0, 0, 0] _ (fits5 k)
      (fun a => by fin_cases a <;> first | exact toInt_lt k | rfl)]
  pointwise
  exact congrArg₂ (fun x y : EReal => x + y) (congrArg₂ (fun x y : EReal => x * y) hx hy) hz

/-- Trip `k` puts the state it began with into row `k` of the stack. -/
theorem step4_at (W : Vals) (k : Fin 128) (hc : W (Proc.devRef .tc main_v97_2) = fun _ => BitVec.ofNat 32 k.val)
    (n : Fin 128) (b h : Fin 8) (d e : Fin 128) :
    step_main_v97_4 W (ix5 n b h d e)
      = if n = k then W (Proc.devRef .tc main_v97_3) (ix4 b h d e) else W (Proc.devRef .tc main_v97_4) (ix5 n b h d e) := by
  unfold step_main_v97_4
  rw [hc]
  simp only [id]
  rw [Host.dynamicUpdateSlice_eq_updateSlice (W (Proc.devRef .tc main_v97_4)) _ _ _ ![k.val, 0, 0, 0, 0]
      (fun a => by
        have := k.isLt
        have h0 := toInt_lt k
        fin_cases a
        · show (min (max (BitVec.ofNat 32 k.val).toInt 0) ((128 - 1 : ℕ) : Int)).toNat = k.val
          rw [h0]; omega
        all_goals rfl) (fits5 k)]
  pointwise
  by_cases hn : n = k
  · subst hn
    rw [if_pos rfl, dif_pos]
    intro a
    fin_cases a
    · exact ⟨Nat.le_refl _, Nat.lt_succ_self _⟩
    · exact ⟨Nat.zero_le _, lt_of_lt_of_eq b.isLt rfl⟩
    · exact ⟨Nat.zero_le _, lt_of_lt_of_eq h.isLt rfl⟩
    · exact ⟨Nat.zero_le _, lt_of_lt_of_eq d.isLt rfl⟩
    · exact ⟨Nat.zero_le _, lt_of_lt_of_eq e.isLt rfl⟩
  · rw [if_neg hn, dif_neg]
    intro hh
    obtain ⟨h1, h2⟩ := hh 0
    have h1' : k.val ≤ n.val := h1
    have h2' : n.val < k.val + 1 := h2
    exact hn (Fin.ext (by omega))

/-! ## The trips -/

variable (m : (ℓ : Loc nD τ sig) → Buf (Elt Ideal) ℓ) (c : Dev nD)

/-- Before trip `k`: the state, the stack of the states before it, and the two stacks the loop reads. -/
def Before (k : ℕ) (X : Vals) : Prop :=
  X (Proc.devRef .tc main_v97_0) = U11 (launchContents m c) (Proc.devRef .tc main_v97_0)
  ∧ X (Proc.devRef .tc main_v97_1) = U11 (launchContents m c) (Proc.devRef .tc main_v97_1)
  ∧ (∀ (b h : Fin 8) (d e : Fin 128), X (Proc.devRef .tc main_v97_3) (ix4 b h d e) = Mix.state (args (launchContents m c)) b k h e d)
  ∧ (∀ n : Fin 128, n.val < k → ∀ (b h : Fin 8) (d e : Fin 128),
      X (Proc.devRef .tc main_v97_4) (ix5 n b h d e) = Mix.state (args (launchContents m c)) b n h e d)

theorem trip (k : Fin 128) (X : Vals) (hc : X (Proc.devRef .tc main_v97_2) = fun _ => BitVec.ofNat 32 k.val) (hX : Before m c k.val X) :
    Before m c (k.val + 1) (STEP X) := by
  obtain ⟨h0, h1, h3, h4⟩ := hX
  refine ⟨(STEP_main_v97_0 X).trans h0, (STEP_main_v97_1 X).trans h1, fun b h d e => ?_, fun n hn b h d e => ?_⟩
  · refine (congrFun (STEP_main_v97_3 X) _).trans ((step3_at X k hc b h d e _ _ _
      ((congrFun h0 _).trans (dec_at (launchContents m c) k b h d)) (h3 b h d e)
      ((congrFun h1 _).trans (kv_at (launchContents m c) k b h d e))).trans ?_)
    show _ = Mix.step _ _ _ _ _ _
    unfold Mix.step
    exact congrArg₂ (fun x y : EReal => x + y) (mul_comm _ _) (Finset.sum_congr rfl fun r _ => mul_comm _ _)
  · refine (congrFun (STEP_main_v97_4 X) _).trans ((step4_at X k hc n b h d e).trans ?_)
    by_cases hk : n = k
    · subst hk
      rw [if_pos rfl]
      exact h3 b h d e
    · rw [if_neg hk]
      exact h4 n (by have : n.val ≠ k.val := fun h => hk (Fin.ext h); omega) b h d e

theorem Before.congr {k : ℕ} {X Y : Vals} (h : Agree X Y) (hY : Before m c k Y) : Before m c k X := by
  obtain ⟨h0, h1, h3, h4⟩ := hY
  refine ⟨(h main_v97_0 (by decide)).trans h0, (h main_v97_1 (by decide)).trans h1,
    fun b h' d e => (congrFun (h main_v97_3 (by decide)) _).trans (h3 b h' d e),
    fun n hn b h' d e => (congrFun (h main_v97_4 (by decide)) _).trans (h4 n hn b h' d e)⟩

theorem ctr (k : ℕ) : atK m k c (Proc.devRef .tc main_v97_2) = fun _ => BitVec.ofNat 32 k := by
  rw [atK_ctr m c k]
  funext _
  simp [Scf.iv]

theorem trips : ∀ k : ℕ, k ≤ 128 → Before m c k (atK m k c)
  | 0, _ => ⟨rfl, rfl, fun b h d e => start_at (launchContents m c) b h d e, fun _ hn => absurd hn (Nat.not_lt_zero _)⟩
  | k + 1, hk => Before.congr m c (trip_agree (atK m k c)) (trip m c ⟨k, hk⟩ (atK m k c) (ctr m c k) (trips k (Nat.le_of_succ_le hk)))

/-- The buffers at the loop's exit. -/
abbrev X : Vals := after condOps (atTrip condOps bodyI (entryContents preI m) 128 c)

/-- The stack the loop leaves: the state every chunk begins with. -/
theorem states_at (n : Fin 128) (b h : Fin 8) (d e : Fin 128) :
    X m c (Proc.devRef .tc main_v97_4) (ix5 n b h d e) = Mix.state (args (launchContents m c)) b n h e d :=
  (Before.congr m c (cond_keeps (atK m 128 c)) (trips m c 128 (Nat.le_refl _))).2.2.2 n n.isLt b h d e

/-- A buffer the loop does not write is at its exit as at its entry. -/
theorem X_keep (r : Ref sig .tc) (h : r ∉ loop_W) : X m c (Proc.devRef .tc r) = U11 (launchContents m c) (Proc.devRef .tc r) :=
  exit_keep c (entryContents preI m) r h 128

end Cert.Proof.Ref2

end
-- ==== Proof.Ref2Pool.lean ====
/-
  THE MIXER'S REFERENCE AFTER ITS LOOP, the pooling: every window's tokens are shifted slices of the padded values, added
  left to right, divided by the number of tokens the window holds, less the token itself.
-/
module

public import proofs.«01_k».proof.Proof.Ref2Loop

@[expose] public section

set_option maxRecDepth 16384

noncomputable section

namespace Cert.Proof.Ref2

open Cert.Reference2Ideal Cert.Reference2Ideal.Gen Cert.Reference2Ideal.Value
open Idealize.ShloMosaic Idealize.ShloMosaic.TcCoe Idealize.ShloMosaic.Tactic
open Idealize.ShloMosaic.StableHlo
open Cert.Proof.Mix (Args argsOf of1_at of2_at of3_at of4_at)

/-- A list of operations run in two parts. -/
theorem after_app (l₁ l₂ : List (HloOp τ Cert.Reference2Ideal.sig (Elt Ideal))) (W : Vals) :
    after (l₁ ++ l₂) W = after l₂ (after l₁ W) := by
  induction l₁ generalizing W with
  | nil => rfl
  | cons op l ih => exact ih _

/-! ## The last stretch's four parts -/

/-- The last group's window. -/
abbrev winOps : List (HloOp τ Cert.Reference2Ideal.sig (Elt Ideal)) := List.take 42 hostOps0_21
/-- The groups side by side, and their products with the weights. -/
abbrev catOps : List (HloOp τ Cert.Reference2Ideal.sig (Elt Ideal)) := List.take 13 (List.drop 42 hostOps0_21)
/-- The two branches gated and mixed, and the residual. -/
abbrev mixOps : List (HloOp τ Cert.Reference2Ideal.sig (Elt Ideal)) := List.take 25 (List.drop 55 hostOps0_21)
/-- The last normalisation. -/
abbrev lnOps : List (HloOp τ Cert.Reference2Ideal.sig (Elt Ideal)) := List.drop 80 hostOps0_21

theorem last_split (W : Vals) : after hostOps0_21 W = after lnOps (after mixOps (after catOps (after winOps W))) := by
  rw [← after_app, ← after_app, ← after_app]
  rfl

/-! ## Sums of shifted values -/

/-- Values with `w` zeros before them. -/
def padv (w : ℕ) (f : ℕ → EReal) (t : ℕ) : EReal := if w ≤ t then f (t - w) else 0

theorem padv_sum (w t : ℕ) (f : ℕ → EReal) :
    ∑ i ∈ Finset.range (w + 1), padv w f (i + t) = ∑ i ∈ Finset.range (w + 1), (if i ≤ t then f (t - i) else 0) := by
  rw [← Finset.sum_range_reflect]
  refine Finset.sum_congr rfl fun i hi => ?_
  have h := Finset.mem_range.mp hi
  unfold padv
  by_cases hit : i ≤ t
  · rw [if_pos (by omega), if_pos hit, show w + 1 - 1 - i + t - w = t - i from by omega]
  · rw [if_neg (by omega), if_neg hit]

theorem zero_word : FloatOps.sitofp (F := Ideal) .f32 (0#32) = (0 : EReal) := by
  show (((0#32 : BitVec 32).toInt : ℝ) : EReal) = 0
  simp

/-! ## Each group -/

theorem pad0 (W : Vals) (f : ℕ → EReal) (b : Fin 8) (t : Fin 4097) (j : Fin 128)
    (hv : ∀ s : Fin 4096, W (Proc.devRef .tc main_v122) (ix3 b s j) = f s) (hc : W (Proc.devRef .tc main_c_19) = fun _ => 0#32) :
    after hostOps0_14 W (Proc.devRef .tc main_v123) (ix3 b t j) = padv 1 f t := by
  after_reads_at
  unfold padv
  by_cases h : 1 ≤ t.val
  · rw [dif_pos ⟨h, by omega⟩, if_pos h]
    exact hv _
  · rw [dif_neg (fun hh => h hh.1), if_neg h, hc]
    exact zero_word

theorem win0 (W : Vals) (P : ℕ → EReal) (b : Fin 8) (t : Fin 4096) (j : Fin 128) (x : EReal)
    (hP : ∀ s : Fin 4097, W (Proc.devRef .tc main_v123) (ix3 b s j) = P s)
    (hi : W (Proc.devRef .tc main_v121) (ix1 t) = BitVec.ofNat 32 t.val) (hx : W (Proc.devRef .tc main_v122) (ix3 b t j) = x) :
    after hostOps0_15 W (Proc.devRef .tc main_v135) (ix3 b t j)
      = Ideal.div (∑ i ∈ Finset.range (1 + 1), P (i + t.val)) (Mix.cnt 2#32 t) - x := by
  after_reads_at
  simp only [hP, hi, hx, Finset.sum_range_succ, Finset.sum_range_zero, zero_add]
  rfl

theorem pad1 (W : Vals) (f : ℕ → EReal) (b : Fin 8) (t : Fin 4099) (j : Fin 128)
    (hv : ∀ s : Fin 4096, W (Proc.devRef .tc main_v136) (ix3 b s j) = f s) (hc : W (Proc.devRef .tc main_c_22) = fun _ => 0#32) :
    after hostOps0_16 W (Proc.devRef .tc main_v137) (ix3 b t j) = padv 3 f t := by
  after_reads_at
  unfold padv
  by_cases h : 3 ≤ t.val
  · rw [dif_pos ⟨h, by omega⟩, if_pos h]
    exact hv _
  · rw [dif_neg (fun hh => h hh.1), if_neg h, hc]
    exact zero_word

theorem win1 (W : Vals) (P : ℕ → EReal) (b : Fin 8) (t : Fin 4096) (j : Fin 128) (x : EReal)
    (hP : ∀ s : Fin 4099, W (Proc.devRef .tc main_v137) (ix3 b s j) = P s)
    (hi : W (Proc.devRef .tc main_v121) (ix1 t) = BitVec.ofNat 32 t.val) (hx : W (Proc.devRef .tc main_v136) (ix3 b t j) = x) :
    after hostOps0_17 W (Proc.devRef .tc main_v153) (ix3 b t j)
      = Ideal.div (∑ i ∈ Finset.range (3 + 1), P (i + t.val)) (Mix.cnt 4#32 t) - x := by
  after_reads_at
  simp only [hP, hi, hx, Finset.sum_range_succ, Finset.sum_range_zero, zero_add]
  rfl

theorem pad2 (W : Vals) (f : ℕ → EReal) (b : Fin 8) (t : Fin 4103) (j : Fin 128)
    (hv : ∀ s : Fin 4096, W (Proc.devRef .tc main_v154) (ix3 b s j) = f s) (hc : W (Proc.devRef .tc main_c_25) = fun _ => 0#32) :
    after hostOps0_18 W (Proc.devRef .tc main_v155) (ix3 b t j) = padv 7 f t := by
  after_reads_at
  unfold padv
  by_cases h : 7 ≤ t.val
  · rw [dif_pos ⟨h, by omega⟩, if_pos h]
    exact hv _
  · rw [dif_neg (fun hh => h hh.1), if_neg h, hc]
    exact zero_word

theorem win2 (W : Vals) (P : ℕ → EReal) (b : Fin 8) (t : Fin 4096) (j : Fin 128) (x : EReal)
    (hP : ∀ s : Fin 4103, W (Proc.devRef .tc main_v155) (ix3 b s j) = P s)
    (hi : W (Proc.devRef .tc main_v121) (ix1 t) = BitVec.ofNat 32 t.val) (hx : W (Proc.devRef .tc main_v154) (ix3 b t j) = x) :
    after hostOps0_19 W (Proc.devRef .tc main_v179) (ix3 b t j)
      = Ideal.div (∑ i ∈ Finset.range (7 + 1), P (i + t.val)) (Mix.cnt 8#32 t) - x := by
  after_reads_at
  simp only [hP, hi, hx, Finset.sum_range_succ, Finset.sum_range_zero, zero_add]
  rfl

theorem pad3 (W : Vals) (f : ℕ → EReal) (b : Fin 8) (t : Fin 4111) (j : Fin 128)
    (hv : ∀ s : Fin 4096, W (Proc.devRef .tc main_v180) (ix3 b s j) = f s) (hc : W (Proc.devRef .tc main_c_28) = fun _ => 0#32) :
    after hostOps0_20 W (Proc.devRef .tc main_v181) (ix3 b t j) = padv 15 f t := by
  after_reads_at
  unfold padv
  by_cases h : 15 ≤ t.val
  · rw [dif_pos ⟨h, by omega⟩, if_pos h]
    exact hv _
  · rw [dif_neg (fun hh => h hh.1), if_neg h, hc]
    exact zero_word

theorem win3 (W : Vals) (P : ℕ → EReal) (b : Fin 8) (t : Fin 4096) (j : Fin 128) (x : EReal)
    (hP : ∀ s : Fin 4111, W (Proc.devRef .tc main_v181) (ix3 b s j) = P s)
    (hi : W (Proc.devRef .tc main_v121) (ix1 t) = BitVec.ofNat 32 t.val) (hx : W (Proc.devRef .tc main_v180) (ix3 b t j) = x) :
    after winOps W (Proc.devRef .tc main_v221) (ix3 b t j)
      = Ideal.div (∑ i ∈ Finset.range (15 + 1), P (i + t.val)) (Mix.cnt 16#32 t) - x := by
  simp only [winOps, List.take_succ_cons, List.take_zero]
  after_reads_at
  simp only [hP, hi, hx, Finset.sum_range_succ, Finset.sum_range_zero, zero_add]
  rfl

/-! ## The groups together -/

theorem cat_read (W : Vals) (q : ℕ → ℕ → EReal) (pw : ℕ → ℕ → ℕ → EReal) (ps : ℕ → EReal) (b : Fin 8) (t : Fin 4096) (j : Fin 1024)
    (h0 : ∀ c : Fin 128, W (Proc.devRef .tc main_v135) (ix3 b t c) = q 0 c) (h1 : ∀ c : Fin 128, W (Proc.devRef .tc main_v153) (ix3 b t c) = q 1 c)
    (h2 : ∀ c : Fin 128, W (Proc.devRef .tc main_v179) (ix3 b t c) = q 2 c) (h3 : ∀ c : Fin 128, W (Proc.devRef .tc main_v221) (ix3 b t c) = q 3 c)
    (hw : ∀ (g : Fin 4) (c : Fin 128) (k : Fin 256), W (Proc.devRef .tc main_arg7) (ix4 0 g c k) = pw g c k)
    (hs : W (Proc.devRef .tc main_arg8) (ix2 0 j) = ps j) :
    after catOps W (Proc.devRef .tc main_v234) (ix3 b t j)
      = (∑ c : Fin 128, q (j.val / 256) c * pw (j.val / 256) c (j.val % 256)) * ps j := by
  simp only [catOps, List.drop_succ_cons, List.drop_zero, List.take_succ_cons, List.take_zero]
  after_reads_at
  refine congrArg₂ (fun x y : EReal => x * y) (Finset.sum_congr rfl fun c _ => ?_) hs
  refine (mul_comm _ _).trans (congrArg₂ (fun x y : EReal => x * y) ?_ (hw _ c _))
  have hj := j.isLt
  by_cases g0 : j.val / 256 < 1
  · rw [dif_pos g0]
    refine Eq.trans ?_ (congrArg (fun g => q g c) (show 0 = j.val / 256 from by omega))
    after_reads_at
    exact h0 c
  rw [dif_neg g0]
  by_cases g1 : j.val / 256 - 1 < 1
  · rw [dif_pos g1]
    refine Eq.trans ?_ (congrArg (fun g => q g c) (show 1 = j.val / 256 from by omega))
    after_reads_at
    exact h1 c
  rw [dif_neg g1]
  by_cases g2 : j.val / 256 - 1 - 1 < 1
  · rw [dif_pos g2]
    refine Eq.trans ?_ (congrArg (fun g => q g c) (show 2 = j.val / 256 from by omega))
    after_reads_at
    exact h2 c
  rw [dif_neg g2]
  refine Eq.trans ?_ (congrArg (fun g => q g c) (show 3 = j.val / 256 from by omega))
  after_reads_at
  exact h3 c

end Cert.Proof.Ref2

end
-- ==== Proof.Ref2Post.lean ====
/-
  THE MIXER'S REFERENCE AFTER ITS LOOP: the heads normalised and gated, the two branches mixed, the last normalisation,
  each of what its stretch of operations reads.
-/
module

public import proofs.«01_k».proof.Proof.Ref2Pool

@[expose] public section

set_option maxRecDepth 16384

noncomputable section

namespace Cert.Proof.Ref2

open Cert.Reference2Ideal Cert.Reference2Ideal.Gen Cert.Reference2Ideal.Value
open Idealize.ShloMosaic Idealize.ShloMosaic.TcCoe Idealize.ShloMosaic.Tactic
open Idealize.ShloMosaic.StableHlo
open Cert.Proof.Mix (Args argsOf of1_at of2_at of3_at of4_at)

/-! ## What each stretch leaves, of what it reads -/

/-- The heads, normalised and scaled. -/
theorem v116_read (W : Vals) (b : Fin 8) (t : Fin 4096) (j : Fin 1024) (a q : ℕ → ℕ → EReal) (S : ℕ → ℕ → ℕ → EReal) (ng : ℕ → EReal)
    (ha : ∀ (h : Fin 8) (e : Fin 128), W (Proc.devRef .tc main_v85) (ix5 b h ⟨t.val / 32, by omega⟩ ⟨t.val % 32, by omega⟩ e) = a h e)
    (hq : ∀ (h : Fin 8) (d : Fin 128), W (Proc.devRef .tc main_v77) (ix5 b h ⟨t.val / 32, by omega⟩ ⟨t.val % 32, by omega⟩ d) = q h d)
    (hS : ∀ (h : Fin 8) (d e : Fin 128), W (Proc.devRef .tc main_v97_4) (ix5 ⟨t.val / 32, by omega⟩ b h d e) = S h e d)
    (hn : ∀ e : Fin 128, W (Proc.devRef .tc main_arg5) (ix2 0 e) = ng e) :
    after hostOps0_11 W (Proc.devRef .tc main_v116) (ix3 b t j)
      = (a (j.val / 128) (j.val % 128) + ∑ d : Fin 128, q (j.val / 128) d * S (j.val / 128) (j.val % 128) d)
        * Ideal.rsqrt (Ideal.div (∑ k : Fin 128, (a (j.val / 128) k + ∑ d : Fin 128, q (j.val / 128) d * S (j.val / 128) k d)
            * (a (j.val / 128) k + ∑ d : Fin 128, q (j.val / 128) d * S (j.val / 128) k d)) (Ideal.ofBits .f32 0x43000000#32)
          + Ideal.ofBits .f32 0x358637BD#32) * ng (j.val % 128) := by
  after_reads_at
  simp only [ha, hq, hS, hn]

/-- The output gate. -/
theorem v117_read (W : Vals) (b : Fin 8) (t : Fin 4096) (j : Fin 1024) (p : EReal) (hp : W (Proc.devRef .tc main_v43) (ix3 b t j) = p) :
    after hostOps0_12 W (Proc.devRef .tc main_v117) (ix3 b t j) = p * Mix.sig p := by
  after_reads_at
  rw [hp]
  rfl

/-- The recurrent branch. -/
theorem v120_read (W : Vals) (b : Fin 8) (t : Fin 4096) (j : Fin 1024) (u g : ℕ → EReal) (w : ℕ → ℕ → EReal)
    (hu : ∀ k : Fin 1024, W (Proc.devRef .tc main_v116) (ix3 b t k) = u k) (hg : ∀ k : Fin 1024, W (Proc.devRef .tc main_v117) (ix3 b t k) = g k)
    (hw : ∀ k : Fin 1024, W (Proc.devRef .tc main_arg6) (ix3 0 k j) = w k j) :
    after hostOps0_13 W (Proc.devRef .tc main_v120) (ix3 b t j) = ∑ k : Fin 1024, u k * g k * w k j := by
  after_reads_at
  simp only [hu, hg, hw]

/-- The tokens' positions. -/
theorem v121_read (W : Vals) (t : Fin 4096) : after hostOps0_13 W (Proc.devRef .tc main_v121) (ix1 t) = BitVec.ofNat 32 t.val := by
  after_reads_at

theorem v122_read (W : Vals) (b : Fin 8) (t : Fin 4096) (j : Fin 128) (F : ℕ → EReal)
    (hF : ∀ i : Fin 512, W (Proc.devRef .tc main_v44) (ix3 b t i) = F i) :
    after hostOps0_13 W (Proc.devRef .tc main_v122) (ix3 b t j) = F (128 * 0 + j) := by
  after_reads_at
  rw [hF]

theorem c_19_read (W : Vals) : after hostOps0_13 W (Proc.devRef .tc main_c_19) = fun _ => 0#32 := by
  after_reads_simp
  rfl

theorem v136_read (W : Vals) (b : Fin 8) (t : Fin 4096) (j : Fin 128) (F : ℕ → EReal)
    (hF : ∀ i : Fin 512, W (Proc.devRef .tc main_v44) (ix3 b t i) = F i) :
    after hostOps0_15 W (Proc.devRef .tc main_v136) (ix3 b t j) = F (128 * 1 + j) := by
  after_reads_at
  rw [hF]

theorem c_22_read (W : Vals) : after hostOps0_15 W (Proc.devRef .tc main_c_22) = fun _ => 0#32 := by
  after_reads_simp
  rfl

theorem v154_read (W : Vals) (b : Fin 8) (t : Fin 4096) (j : Fin 128) (F : ℕ → EReal)
    (hF : ∀ i : Fin 512, W (Proc.devRef .tc main_v44) (ix3 b t i) = F i) :
    after hostOps0_17 W (Proc.devRef .tc main_v154) (ix3 b t j) = F (128 * 2 + j) := by
  after_reads_at
  rw [hF]

theorem c_25_read (W : Vals) : after hostOps0_17 W (Proc.devRef .tc main_c_25) = fun _ => 0#32 := by
  after_reads_simp
  rfl

theorem v180_read (W : Vals) (b : Fin 8) (t : Fin 4096) (j : Fin 128) (F : ℕ → EReal)
    (hF : ∀ i : Fin 512, W (Proc.devRef .tc main_v44) (ix3 b t i) = F i) :
    after hostOps0_19 W (Proc.devRef .tc main_v180) (ix3 b t j) = F (128 * 3 + j) := by
  after_reads_at
  rw [hF]

theorem c_28_read (W : Vals) : after hostOps0_19 W (Proc.devRef .tc main_c_28) = fun _ => 0#32 := by
  after_reads_simp
  rfl

/-- The two branches gated and mixed, and the residual. -/
theorem v254_read (W : Vals) (b : Fin 8) (t : Fin 4096) (j : Fin 1024) (h ga gb ya yb : ℕ → EReal) (w : ℕ → ℕ → EReal)
    (hh : ∀ k : Fin 1024, W (Proc.devRef .tc main_v23) (ix3 b t k) = h k)
    (ha : ∀ k : Fin 1024, W (Proc.devRef .tc main_v45) (ix3 b t k) = ga k) (hb : ∀ k : Fin 1024, W (Proc.devRef .tc main_v46) (ix3 b t k) = gb k)
    (hya : ∀ k : Fin 1024, W (Proc.devRef .tc main_v120) (ix3 b t k) = ya k) (hyb : ∀ k : Fin 1024, W (Proc.devRef .tc main_v234) (ix3 b t k) = yb k)
    (hw : ∀ k : Fin 1024, W (Proc.devRef .tc main_arg9) (ix3 0 k j) = w k j) :
    after mixOps W (Proc.devRef .tc main_v254) (ix3 b t j)
      = Ideal.ofBits .f32 0x3F9837F0#32 * h j + ∑ k : Fin 1024, (Mix.sig (ga k) * ya k + Mix.sig (gb k) * yb k) * w k j := by
  simp only [mixOps, List.drop_succ_cons, List.drop_zero, List.take_succ_cons, List.take_zero]
  after_reads_at
  simp only [hh, ha, hb, hya, hyb, hw]
  rfl

/-- The last normalisation. -/
theorem v281_read (W : Vals) (i : Fin 32768) (j : Fin 1024) (x g b : ℕ → EReal)
    (hx : ∀ k : Fin 1024, W (Proc.devRef .tc main_v254) (ix3 ⟨i.val / 4096, by omega⟩ ⟨i.val % 4096, by omega⟩ k) = x k)
    (hg : W (Proc.devRef .tc main_arg10) (ix2 0 j) = g j) (hb : W (Proc.devRef .tc main_arg11) (ix2 0 j) = b j) :
    after lnOps W (Proc.devRef .tc main_v281) (ix2 i j) = Mix.ln x g b j := by
  simp only [lnOps, List.drop_succ_cons, List.drop_zero]
  after_reads_at
  simp only [hx, hg, hb]
  rfl

end Cert.Proof.Ref2

end
-- ==== Proof.Ref2Out.lean ====
/-
  THE MIXER'S REFERENCE, ITS RESULT: entry by entry, `Mix.out` of the arguments.
-/
module

public import proofs.«01_k».proof.Proof.Ref2Post

@[expose] public section

set_option maxRecDepth 16384

noncomputable section

namespace Cert.Proof.Ref2

open Cert.Reference2Ideal Cert.Reference2Ideal.Gen Cert.Reference2Ideal.Value
open Idealize.ShloMosaic Idealize.ShloMosaic.TcCoe Idealize.ShloMosaic.Tactic
open Idealize.ShloMosaic.StableHlo
open Cert.Proof.Mix (Args argsOf of1_at of2_at of3_at of4_at)

variable (m : (ℓ : Loc nD τ Cert.Reference2Ideal.sig) → Buf (Elt Ideal) ℓ) (c : Dev nD)

/-- The buffers as launched. -/
abbrev L : Vals := launchContents m c

/-! ## The contents after each stretch -/

def T11 : Vals := after hostOps0_11 (X m c)
def T12 : Vals := after hostOps0_12 (T11 m c)
def T13 : Vals := after hostOps0_13 (T12 m c)
def T14 : Vals := after hostOps0_14 (T13 m c)
def T15 : Vals := after hostOps0_15 (T14 m c)
def T16 : Vals := after hostOps0_16 (T15 m c)
def T17 : Vals := after hostOps0_17 (T16 m c)
def T18 : Vals := after hostOps0_18 (T17 m c)
def T19 : Vals := after hostOps0_19 (T18 m c)
def T20 : Vals := after hostOps0_20 (T19 m c)
def T21 : Vals := after winOps (T20 m c)
def T22 : Vals := after catOps (T21 m c)
def T23 : Vals := after mixOps (T22 m c)
def T24 : Vals := after lnOps (T23 m c)

theorem final_eq : finalContents condOps preI bodyI postI 128 m c = T24 m c :=
  (show finalContents condOps preI bodyI postI 128 m c = after hostOps0_21 (T20 m c) from rfl).trans (last_split (T20 m c))

theorem T11_keep (r : Ref Cert.Reference2Ideal.sig .tc) (h : r ∉ post11_W) : T11 m c (Proc.devRef .tc r) = X m c (Proc.devRef .tc r) :=
  after_of_writes_sub _ _ post11_writes h
theorem T12_keep (r : Ref Cert.Reference2Ideal.sig .tc) (h : r ∉ post12_W) : T12 m c (Proc.devRef .tc r) = T11 m c (Proc.devRef .tc r) :=
  after_of_writes_sub _ _ post12_writes h
theorem T13_keep (r : Ref Cert.Reference2Ideal.sig .tc) (h : r ∉ post13_W) : T13 m c (Proc.devRef .tc r) = T12 m c (Proc.devRef .tc r) :=
  after_of_writes_sub _ _ post13_writes h
theorem T14_keep (r : Ref Cert.Reference2Ideal.sig .tc) (h : r ∉ post14_W) : T14 m c (Proc.devRef .tc r) = T13 m c (Proc.devRef .tc r) :=
  after_of_writes_sub _ _ post14_writes h
theorem T15_keep (r : Ref Cert.Reference2Ideal.sig .tc) (h : r ∉ post15_W) : T15 m c (Proc.devRef .tc r) = T14 m c (Proc.devRef .tc r) :=
  after_of_writes_sub _ _ post15_writes h
theorem T16_keep (r : Ref Cert.Reference2Ideal.sig .tc) (h : r ∉ post16_W) : T16 m c (Proc.devRef .tc r) = T15 m c (Proc.devRef .tc r) :=
  after_of_writes_sub _ _ post16_writes h
theorem T17_keep (r : Ref Cert.Reference2Ideal.sig .tc) (h : r ∉ post17_W) : T17 m c (Proc.devRef .tc r) = T16 m c (Proc.devRef .tc r) :=
  after_of_writes_sub _ _ post17_writes h
theorem T18_keep (r : Ref Cert.Reference2Ideal.sig .tc) (h : r ∉ post18_W) : T18 m c (Proc.devRef .tc r) = T17 m c (Proc.devRef .tc r) :=
  after_of_writes_sub _ _ post18_writes h
theorem T19_keep (r : Ref Cert.Reference2Ideal.sig .tc) (h : r ∉ post19_W) : T19 m c (Proc.devRef .tc r) = T18 m c (Proc.devRef .tc r) :=
  after_of_writes_sub _ _ post19_writes h
theorem T20_keep (r : Ref Cert.Reference2Ideal.sig .tc) (h : r ∉ post20_W) : T20 m c (Proc.devRef .tc r) = T19 m c (Proc.devRef .tc r) :=
  after_of_writes_sub _ _ post20_writes h
theorem T21_keep (r : Ref Cert.Reference2Ideal.sig .tc) (h : r ∉ post21_W.take 42) : T21 m c (Proc.devRef .tc r) = T20 m c (Proc.devRef .tc r) :=
  after_of_writes_sub winOps _ (StableHlo.forall_writes_sub_of_map rfl) h
theorem T22_keep (r : Ref Cert.Reference2Ideal.sig .tc) (h : r ∉ (post21_W.drop 42).take 13) : T22 m c (Proc.devRef .tc r) = T21 m c (Proc.devRef .tc r) :=
  after_of_writes_sub catOps _ (StableHlo.forall_writes_sub_of_map rfl) h
theorem T23_keep (r : Ref Cert.Reference2Ideal.sig .tc) (h : r ∉ (post21_W.drop 55).take 25) : T23 m c (Proc.devRef .tc r) = T22 m c (Proc.devRef .tc r) :=
  after_of_writes_sub mixOps _ (StableHlo.forall_writes_sub_of_map rfl) h
theorem T24_keep (r : Ref Cert.Reference2Ideal.sig .tc) (h : r ∉ post21_W.drop 80) : T24 m c (Proc.devRef .tc r) = T23 m c (Proc.devRef .tc r) :=
  after_of_writes_sub lnOps _ (StableHlo.forall_writes_sub_of_map rfl) h

/-! ## What is read past the stretch that wrote it -/

theorem T11_v43 : T11 m c (Proc.devRef .tc main_v43) = X m c (Proc.devRef .tc main_v43) :=
  (T11_keep m c _ (by decide +kernel))
theorem T12_v116 : T12 m c (Proc.devRef .tc main_v116) = T11 m c (Proc.devRef .tc main_v116) :=
  (T12_keep m c _ (by decide +kernel))
theorem T12_v44 : T12 m c (Proc.devRef .tc main_v44) = X m c (Proc.devRef .tc main_v44) :=
  (T12_keep m c _ (by decide +kernel)).trans ((T11_keep m c _ (by decide +kernel)))
theorem T14_v44 : T14 m c (Proc.devRef .tc main_v44) = X m c (Proc.devRef .tc main_v44) :=
  (T14_keep m c _ (by decide +kernel)).trans ((T13_keep m c _ (by decide +kernel)).trans ((T12_keep m c _ (by decide +kernel)).trans ((T11_keep m c _ (by decide +kernel)))))
theorem T16_v44 : T16 m c (Proc.devRef .tc main_v44) = X m c (Proc.devRef .tc main_v44) :=
  (T16_keep m c _ (by decide +kernel)).trans ((T15_keep m c _ (by decide +kernel)).trans ((T14_keep m c _ (by decide +kernel)).trans ((T13_keep m c _ (by decide +kernel)).trans ((T12_keep m c _ (by decide +kernel)).trans ((T11_keep m c _ (by decide +kernel)))))))
theorem T18_v44 : T18 m c (Proc.devRef .tc main_v44) = X m c (Proc.devRef .tc main_v44) :=
  (T18_keep m c _ (by decide +kernel)).trans ((T17_keep m c _ (by decide +kernel)).trans ((T16_keep m c _ (by decide +kernel)).trans ((T15_keep m c _ (by decide +kernel)).trans ((T14_keep m c _ (by decide +kernel)).trans ((T13_keep m c _ (by decide +kernel)).trans ((T12_keep m c _ (by decide +kernel)).trans ((T11_keep m c _ (by decide +kernel)))))))))
theorem T14_v121 : T14 m c (Proc.devRef .tc main_v121) = T13 m c (Proc.devRef .tc main_v121) :=
  (T14_keep m c _ (by decide +kernel))
theorem T16_v121 : T16 m c (Proc.devRef .tc main_v121) = T13 m c (Proc.devRef .tc main_v121) :=
  (T16_keep m c _ (by decide +kernel)).trans ((T15_keep m c _ (by decide +kernel)).trans ((T14_keep m c _ (by decide +kernel))))
theorem T18_v121 : T18 m c (Proc.devRef .tc main_v121) = T13 m c (Proc.devRef .tc main_v121) :=
  (T18_keep m c _ (by decide +kernel)).trans ((T17_keep m c _ (by decide +kernel)).trans ((T16_keep m c _ (by decide +kernel)).trans ((T15_keep m c _ (by decide +kernel)).trans ((T14_keep m c _ (by decide +kernel))))))
theorem T20_v121 : T20 m c (Proc.devRef .tc main_v121) = T13 m c (Proc.devRef .tc main_v121) :=
  (T20_keep m c _ (by decide +kernel)).trans ((T19_keep m c _ (by decide +kernel)).trans ((T18_keep m c _ (by decide +kernel)).trans ((T17_keep m c _ (by decide +kernel)).trans ((T16_keep m c _ (by decide +kernel)).trans ((T15_keep m c _ (by decide +kernel)).trans ((T14_keep m c _ (by decide +kernel))))))))
theorem T14_v122 : T14 m c (Proc.devRef .tc main_v122) = T13 m c (Proc.devRef .tc main_v122) :=
  (T14_keep m c _ (by decide +kernel))
theorem T16_v136 : T16 m c (Proc.devRef .tc main_v136) = T15 m c (Proc.devRef .tc main_v136) :=
  (T16_keep m c _ (by decide +kernel))
theorem T18_v154 : T18 m c (Proc.devRef .tc main_v154) = T17 m c (Proc.devRef .tc main_v154) :=
  (T18_keep m c _ (by decide +kernel))
theorem T20_v180 : T20 m c (Proc.devRef .tc main_v180) = T19 m c (Proc.devRef .tc main_v180) :=
  (T20_keep m c _ (by decide +kernel))
theorem T21_v135 : T21 m c (Proc.devRef .tc main_v135) = T15 m c (Proc.devRef .tc main_v135) :=
  (T21_keep m c _ (by decide +kernel)).trans ((T20_keep m c _ (by decide +kernel)).trans ((T19_keep m c _ (by decide +kernel)).trans ((T18_keep m c _ (by decide +kernel)).trans ((T17_keep m c _ (by decide +kernel)).trans ((T16_keep m c _ (by decide +kernel)))))))
theorem T21_v153 : T21 m c (Proc.devRef .tc main_v153) = T17 m c (Proc.devRef .tc main_v153) :=
  (T21_keep m c _ (by decide +kernel)).trans ((T20_keep m c _ (by decide +kernel)).trans ((T19_keep m c _ (by decide +kernel)).trans ((T18_keep m c _ (by decide +kernel)))))
theorem T21_v179 : T21 m c (Proc.devRef .tc main_v179) = T19 m c (Proc.devRef .tc main_v179) :=
  (T21_keep m c _ (by decide +kernel)).trans ((T20_keep m c _ (by decide +kernel)))
theorem T22_v120 : T22 m c (Proc.devRef .tc main_v120) = T13 m c (Proc.devRef .tc main_v120) :=
  (T22_keep m c _ (by decide +kernel)).trans ((T21_keep m c _ (by decide +kernel)).trans ((T20_keep m c _ (by decide +kernel)).trans ((T19_keep m c _ (by decide +kernel)).trans ((T18_keep m c _ (by decide +kernel)).trans ((T17_keep m c _ (by decide +kernel)).trans ((T16_keep m c _ (by decide +kernel)).trans ((T15_keep m c _ (by decide +kernel)).trans ((T14_keep m c _ (by decide +kernel))))))))))
theorem T22_v23 : T22 m c (Proc.devRef .tc main_v23) = X m c (Proc.devRef .tc main_v23) :=
  (T22_keep m c _ (by decide +kernel)).trans ((T21_keep m c _ (by decide +kernel)).trans ((T20_keep m c _ (by decide +kernel)).trans ((T19_keep m c _ (by decide +kernel)).trans ((T18_keep m c _ (by decide +kernel)).trans ((T17_keep m c _ (by decide +kernel)).trans ((T16_keep m c _ (by decide +kernel)).trans ((T15_keep m c _ (by decide +kernel)).trans ((T14_keep m c _ (by decide +kernel)).trans ((T13_keep m c _ (by decide +kernel)).trans ((T12_keep m c _ (by decide +kernel)).trans ((T11_keep m c _ (by decide +kernel)))))))))))))
theorem T22_v45 : T22 m c (Proc.devRef .tc main_v45) = X m c (Proc.devRef .tc main_v45) :=
  (T22_keep m c _ (by decide +kernel)).trans ((T21_keep m c _ (by decide +kernel)).trans ((T20_keep m c _ (by decide +kernel)).trans ((T19_keep m c _ (by decide +kernel)).trans ((T18_keep m c _ (by decide +kernel)).trans ((T17_keep m c _ (by decide +kernel)).trans ((T16_keep m c _ (by decide +kernel)).trans ((T15_keep m c _ (by decide +kernel)).trans ((T14_keep m c _ (by decide +kernel)).trans ((T13_keep m c _ (by decide +kernel)).trans ((T12_keep m c _ (by decide +kernel)).trans ((T11_keep m c _ (by decide +kernel)))))))))))))
theorem T22_v46 : T22 m c (Proc.devRef .tc main_v46) = X m c (Proc.devRef .tc main_v46) :=
  (T22_keep m c _ (by decide +kernel)).trans ((T21_keep m c _ (by decide +kernel)).trans ((T20_keep m c _ (by decide +kernel)).trans ((T19_keep m c _ (by decide +kernel)).trans ((T18_keep m c _ (by decide +kernel)).trans ((T17_keep m c _ (by decide +kernel)).trans ((T16_keep m c _ (by decide +kernel)).trans ((T15_keep m c _ (by decide +kernel)).trans ((T14_keep m c _ (by decide +kernel)).trans ((T13_keep m c _ (by decide +kernel)).trans ((T12_keep m c _ (by decide +kernel)).trans ((T11_keep m c _ (by decide +kernel)))))))))))))
theorem X_arg (r : Ref Cert.Reference2Ideal.sig .tc) (h : r ∉ loop_W) (h' : r ∉ pre_W) : X m c (Proc.devRef .tc r) = L m c (Proc.devRef .tc r) :=
  (X_keep m c r h).trans (pre_keep (L m c) r h')
theorem T12_arg6 : T12 m c (Proc.devRef .tc main_arg6) = L m c (Proc.devRef .tc main_arg6) :=
  (T12_keep m c _ (by decide +kernel)).trans ((T11_keep m c _ (by decide +kernel)).trans (X_arg m c _ (by decide +kernel) (by decide +kernel)))
theorem T21_arg7 : T21 m c (Proc.devRef .tc main_arg7) = L m c (Proc.devRef .tc main_arg7) :=
  (T21_keep m c _ (by decide +kernel)).trans ((T20_keep m c _ (by decide +kernel)).trans ((T19_keep m c _ (by decide +kernel)).trans ((T18_keep m c _ (by decide +kernel)).trans ((T17_keep m c _ (by decide +kernel)).trans ((T16_keep m c _ (by decide +kernel)).trans ((T15_keep m c _ (by decide +kernel)).trans ((T14_keep m c _ (by decide +kernel)).trans ((T13_keep m c _ (by decide +kernel)).trans ((T12_keep m c _ (by decide +kernel)).trans ((T11_keep m c _ (by decide +kernel)).trans (X_arg m c _ (by decide +kernel) (by decide +kernel))))))))))))
theorem T21_arg8 : T21 m c (Proc.devRef .tc main_arg8) = L m c (Proc.devRef .tc main_arg8) :=
  (T21_keep m c _ (by decide +kernel)).trans ((T20_keep m c _ (by decide +kernel)).trans ((T19_keep m c _ (by decide +kernel)).trans ((T18_keep m c _ (by decide +kernel)).trans ((T17_keep m c _ (by decide +kernel)).trans ((T16_keep m c _ (by decide +kernel)).trans ((T15_keep m c _ (by decide +kernel)).trans ((T14_keep m c _ (by decide +kernel)).trans ((T13_keep m c _ (by decide +kernel)).trans ((T12_keep m c _ (by decide +kernel)).trans ((T11_keep m c _ (by decide +kernel)).trans (X_arg m c _ (by decide +kernel) (by decide +kernel))))))))))))
theorem T22_arg9 : T22 m c (Proc.devRef .tc main_arg9) = L m c (Proc.devRef .tc main_arg9) :=
  (T22_keep m c _ (by decide +kernel)).trans ((T21_keep m c _ (by decide +kernel)).trans ((T20_keep m c _ (by decide +kernel)).trans ((T19_keep m c _ (by decide +kernel)).trans ((T18_keep m c _ (by decide +kernel)).trans ((T17_keep m c _ (by decide +kernel)).trans ((T16_keep m c _ (by decide +kernel)).trans ((T15_keep m c _ (by decide +kernel)).trans ((T14_keep m c _ (by decide +kernel)).trans ((T13_keep m c _ (by decide +kernel)).trans ((T12_keep m c _ (by decide +kernel)).trans ((T11_keep m c _ (by decide +kernel)).trans (X_arg m c _ (by decide +kernel) (by decide +kernel)))))))))))))
theorem T23_arg10 : T23 m c (Proc.devRef .tc main_arg10) = L m c (Proc.devRef .tc main_arg10) :=
  (T23_keep m c _ (by decide +kernel)).trans ((T22_keep m c _ (by decide +kernel)).trans ((T21_keep m c _ (by decide +kernel)).trans ((T20_keep m c _ (by decide +kernel)).trans ((T19_keep m c _ (by decide +kernel)).trans ((T18_keep m c _ (by decide +kernel)).trans ((T17_keep m c _ (by decide +kernel)).trans ((T16_keep m c _ (by decide +kernel)).trans ((T15_keep m c _ (by decide +kernel)).trans ((T14_keep m c _ (by decide +kernel)).trans ((T13_keep m c _ (by decide +kernel)).trans ((T12_keep m c _ (by decide +kernel)).trans ((T11_keep m c _ (by decide +kernel)).trans (X_arg m c _ (by decide +kernel) (by decide +kernel))))))))))))))
theorem T23_arg11 : T23 m c (Proc.devRef .tc main_arg11) = L m c (Proc.devRef .tc main_arg11) :=
  (T23_keep m c _ (by decide +kernel)).trans ((T22_keep m c _ (by decide +kernel)).trans ((T21_keep m c _ (by decide +kernel)).trans ((T20_keep m c _ (by decide +kernel)).trans ((T19_keep m c _ (by decide +kernel)).trans ((T18_keep m c _ (by decide +kernel)).trans ((T17_keep m c _ (by decide +kernel)).trans ((T16_keep m c _ (by decide +kernel)).trans ((T15_keep m c _ (by decide +kernel)).trans ((T14_keep m c _ (by decide +kernel)).trans ((T13_keep m c _ (by decide +kernel)).trans ((T12_keep m c _ (by decide +kernel)).trans ((T11_keep m c _ (by decide +kernel)).trans (X_arg m c _ (by decide +kernel) (by decide +kernel))))))))))))))
theorem X_arg5 : X m c (Proc.devRef .tc main_arg5) = L m c (Proc.devRef .tc main_arg5) :=
  X_arg m c _ (by decide +kernel) (by decide +kernel)
theorem X_v43 : X m c (Proc.devRef .tc main_v43) = U3 (L m c) (Proc.devRef .tc main_v43) :=
  (X_keep m c _ (by decide +kernel)).trans ((U11_keep (L m c) _ (by decide +kernel)).trans ((U10_keep (L m c) _ (by decide +kernel)).trans ((U9_keep (L m c) _ (by decide +kernel)).trans ((U8_keep (L m c) _ (by decide +kernel)).trans ((U7_keep (L m c) _ (by decide +kernel)).trans ((U6_keep (L m c) _ (by decide +kernel)).trans ((U5_keep (L m c) _ (by decide +kernel)).trans ((U4_keep (L m c) _ (by decide +kernel))))))))))
theorem X_v44 : X m c (Proc.devRef .tc main_v44) = U3 (L m c) (Proc.devRef .tc main_v44) :=
  (X_keep m c _ (by decide +kernel)).trans ((U11_keep (L m c) _ (by decide +kernel)).trans ((U10_keep (L m c) _ (by decide +kernel)).trans ((U9_keep (L m c) _ (by decide +kernel)).trans ((U8_keep (L m c) _ (by decide +kernel)).trans ((U7_keep (L m c) _ (by decide +kernel)).trans ((U6_keep (L m c) _ (by decide +kernel)).trans ((U5_keep (L m c) _ (by decide +kernel)).trans ((U4_keep (L m c) _ (by decide +kernel))))))))))
theorem X_v45 : X m c (Proc.devRef .tc main_v45) = U3 (L m c) (Proc.devRef .tc main_v45) :=
  (X_keep m c _ (by decide +kernel)).trans ((U11_keep (L m c) _ (by decide +kernel)).trans ((U10_keep (L m c) _ (by decide +kernel)).trans ((U9_keep (L m c) _ (by decide +kernel)).trans ((U8_keep (L m c) _ (by decide +kernel)).trans ((U7_keep (L m c) _ (by decide +kernel)).trans ((U6_keep (L m c) _ (by decide +kernel)).trans ((U5_keep (L m c) _ (by decide +kernel)).trans ((U4_keep (L m c) _ (by decide +kernel))))))))))
theorem X_v46 : X m c (Proc.devRef .tc main_v46) = U3 (L m c) (Proc.devRef .tc main_v46) :=
  (X_keep m c _ (by decide +kernel)).trans ((U11_keep (L m c) _ (by decide +kernel)).trans ((U10_keep (L m c) _ (by decide +kernel)).trans ((U9_keep (L m c) _ (by decide +kernel)).trans ((U8_keep (L m c) _ (by decide +kernel)).trans ((U7_keep (L m c) _ (by decide +kernel)).trans ((U6_keep (L m c) _ (by decide +kernel)).trans ((U5_keep (L m c) _ (by decide +kernel)).trans ((U4_keep (L m c) _ (by decide +kernel))))))))))
theorem X_v23 : X m c (Proc.devRef .tc main_v23) = U1 (L m c) (Proc.devRef .tc main_v23) :=
  (X_keep m c _ (by decide +kernel)).trans ((U11_keep (L m c) _ (by decide +kernel)).trans ((U10_keep (L m c) _ (by decide +kernel)).trans ((U9_keep (L m c) _ (by decide +kernel)).trans ((U8_keep (L m c) _ (by decide +kernel)).trans ((U7_keep (L m c) _ (by decide +kernel)).trans ((U6_keep (L m c) _ (by decide +kernel)).trans ((U5_keep (L m c) _ (by decide +kernel)).trans ((U4_keep (L m c) _ (by decide +kernel)).trans ((U3_keep (L m c) _ (by decide +kernel)).trans ((U2_keep (L m c) _ (by decide +kernel))))))))))))
theorem X_v77 : X m c (Proc.devRef .tc main_v77) = U7 (L m c) (Proc.devRef .tc main_v77) :=
  (X_keep m c _ (by decide +kernel)).trans ((U11_keep (L m c) _ (by decide +kernel)).trans ((U10_keep (L m c) _ (by decide +kernel)).trans ((U9_keep (L m c) _ (by decide +kernel)).trans ((U8_keep (L m c) _ (by decide +kernel))))))

/-! ## The recurrent branch -/

theorem chunk_row (A : Args) (b t : ℕ) : Mix.chunk A b (t / 32) (t % 32) = A.x b t := by
  unfold Mix.chunk
  rw [Nat.div_add_mod]

/-- A head's output, normalised and scaled. -/
def hs (A : Args) (b t k : ℕ) : EReal :=
  Mix.oo A (Mix.chunk A b (t / 32)) (Mix.state A b (t / 32)) (t % 32) (k / 128) (k % 128)
    * Ideal.rsqrt (Ideal.div (∑ l : Fin 128, Mix.oo A (Mix.chunk A b (t / 32)) (Mix.state A b (t / 32)) (t % 32) (k / 128) l
        * Mix.oo A (Mix.chunk A b (t / 32)) (Mix.state A b (t / 32)) (t % 32) (k / 128) l) (Ideal.ofBits .f32 0x43000000#32)
      + Ideal.ofBits .f32 0x358637BD#32) * A.ng (k % 128)

theorem v116_at (b : Fin 8) (t : Fin 4096) (j : Fin 1024) :
    T11 m c (Proc.devRef .tc main_v116) (ix3 b t j) = hs (args (L m c)) b t j := by
  unfold hs Mix.oo Mix.oi
  exact v116_read (X m c) b t j (fun h e => Mix.oc (args (L m c)) (Mix.chunk (args (L m c)) b (t.val / 32)) (t.val % 32) h e)
    (fun h d => Mix.qd (args (L m c)) (Mix.chunk (args (L m c)) b (t.val / 32)) (t.val % 32) (128 * h + d))
    (Mix.state (args (L m c)) b (t.val / 32)) (args (L m c)).ng
    (fun h e => (congrFun (X_keep m c main_v85 (by decide +kernel)) _).trans (v85_at (L m c) b h ⟨t.val / 32, by omega⟩ ⟨t.val % 32, by omega⟩ e))
    (fun h d => (congrFun (X_v77 m c) _).trans (v77_at (L m c) b h ⟨t.val / 32, by omega⟩ ⟨t.val % 32, by omega⟩ d))
    (fun h d e => states_at m c ⟨t.val / 32, by omega⟩ b h d e)
    (fun e => (congrFun (X_arg5 m c) _).trans (of2_at (L m c (Proc.devRef .tc main_arg5)) 0 e).symm)

theorem v117_at (b : Fin 8) (t : Fin 4096) (j : Fin 1024) :
    T12 m c (Proc.devRef .tc main_v117) (ix3 b t j) = Mix.ga (args (L m c)) ((args (L m c)).x b t) j := by
  unfold Mix.ga
  exact v117_read (T11 m c) b t j _ ((congrFun (T11_v43 m c) _).trans ((congrFun (X_v43 m c) _).trans (v43_at (L m c) b t j)))

theorem ya_eq (A : Args) (b t j : ℕ) : ∑ k : Fin 1024, hs A b t k * Mix.ga A (A.x b t) k * A.whg k j
    = Mix.ya A (Mix.chunk A b (t / 32)) (Mix.state A b (t / 32)) (t % 32) j := by
  unfold Mix.ya
  refine Finset.sum_congr rfl fun k _ => congrArg (fun x : EReal => x * A.whg k j) ?_
  unfold Mix.hn
  rw [Nat.div_add_mod, chunk_row]
  rfl

theorem v120_at (b : Fin 8) (t : Fin 4096) (j : Fin 1024) :
    T13 m c (Proc.devRef .tc main_v120) (ix3 b t j)
      = Mix.ya (args (L m c)) (Mix.chunk (args (L m c)) b (t.val / 32)) (Mix.state (args (L m c)) b (t.val / 32)) (t.val % 32) j :=
  (v120_read (T12 m c) b t j (hs (args (L m c)) b t) (Mix.ga (args (L m c)) ((args (L m c)).x b t)) (args (L m c)).whg
    (fun k => (congrFun (T12_v116 m c) _).trans (v116_at m c b t k)) (fun k => v117_at m c b t k)
    (fun k => (congrFun (T12_arg6 m c) _).trans (of3_at (L m c (Proc.devRef .tc main_arg6)) 0 k j).symm)).trans
    (ya_eq (args (L m c)) b t j)

/-! ## The pooling branch -/

/-- The values the pooling sums, by token. -/
abbrev pv (A : Args) (b g k s : ℕ) : EReal := Mix.pr A (A.x b s) (4096 + (128 * g + k))

theorem pl_eq (A : Args) (b t g k w : ℕ) (y : BitVec 32) (hw : w + 1 = 2 ^ (g + 1)) (hy : y = BitVec.ofNat 32 (2 ^ (g + 1))) :
    Ideal.div (∑ i ∈ Finset.range (w + 1), padv w (pv A b g k) (i + t)) (Mix.cnt y t) - pv A b g k t = Mix.pl (Mix.back A b t) t g k := by
  unfold Mix.pl
  rw [padv_sum, hw, hy]
  refine congrArg₂ (fun x y : EReal => x - y) rfl ?_
  unfold Mix.back
  rw [if_pos (Nat.zero_le _), Nat.sub_zero]

theorem v44_X (b : Fin 8) (t : Fin 4096) (j : Fin 512) :
    X m c (Proc.devRef .tc main_v44) (ix3 b t j) = Mix.pr (args (L m c)) ((args (L m c)).x b t) (4096 + j) :=
  (congrFun (X_v44 m c) _).trans (v44_at (L m c) b t j)

theorem v122_at (b : Fin 8) (t : Fin 4096) (j : Fin 128) :
    T13 m c (Proc.devRef .tc main_v122) (ix3 b t j) = pv (args (L m c)) b 0 j t :=
  v122_read (T12 m c) b t j (fun i => Mix.pr (args (L m c)) ((args (L m c)).x b t) (4096 + i))
    (fun i => (congrFun (T12_v44 m c) _).trans (v44_X m c b t i))

theorem v135_at (b : Fin 8) (t : Fin 4096) (j : Fin 128) :
    T15 m c (Proc.devRef .tc main_v135) (ix3 b t j) = Mix.pl (Mix.back (args (L m c)) b t) t 0 j :=
  (win0 (T14 m c) (padv 1 (pv (args (L m c)) b 0 j)) b t j _
    (fun s => pad0 (T13 m c) _ b s j (fun s => v122_at m c b s j) (c_19_read (T12 m c)))
    ((congrFun (T14_v121 m c) _).trans (v121_read (T12 m c) t)) ((congrFun (T14_v122 m c) _).trans (v122_at m c b t j))).trans
    (pl_eq (args (L m c)) b t 0 j 1 _ rfl rfl)

theorem v136_at (b : Fin 8) (t : Fin 4096) (j : Fin 128) :
    T15 m c (Proc.devRef .tc main_v136) (ix3 b t j) = pv (args (L m c)) b 1 j t :=
  v136_read (T14 m c) b t j (fun i => Mix.pr (args (L m c)) ((args (L m c)).x b t) (4096 + i))
    (fun i => (congrFun (T14_v44 m c) _).trans (v44_X m c b t i))

theorem v153_at (b : Fin 8) (t : Fin 4096) (j : Fin 128) :
    T17 m c (Proc.devRef .tc main_v153) (ix3 b t j) = Mix.pl (Mix.back (args (L m c)) b t) t 1 j :=
  (win1 (T16 m c) (padv 3 (pv (args (L m c)) b 1 j)) b t j _
    (fun s => pad1 (T15 m c) _ b s j (fun s => v136_at m c b s j) (c_22_read (T14 m c)))
    ((congrFun (T16_v121 m c) _).trans (v121_read (T12 m c) t)) ((congrFun (T16_v136 m c) _).trans (v136_at m c b t j))).trans
    (pl_eq (args (L m c)) b t 1 j 3 _ rfl rfl)

theorem v154_at (b : Fin 8) (t : Fin 4096) (j : Fin 128) :
    T17 m c (Proc.devRef .tc main_v154) (ix3 b t j) = pv (args (L m c)) b 2 j t :=
  v154_read (T16 m c) b t j (fun i => Mix.pr (args (L m c)) ((args (L m c)).x b t) (4096 + i))
    (fun i => (congrFun (T16_v44 m c) _).trans (v44_X m c b t i))

theorem v179_at (b : Fin 8) (t : Fin 4096) (j : Fin 128) :
    T19 m c (Proc.devRef .tc main_v179) (ix3 b t j) = Mix.pl (Mix.back (args (L m c)) b t) t 2 j :=
  (win2 (T18 m c) (padv 7 (pv (args (L m c)) b 2 j)) b t j _
    (fun s => pad2 (T17 m c) _ b s j (fun s => v154_at m c b s j) (c_25_read (T16 m c)))
    ((congrFun (T18_v121 m c) _).trans (v121_read (T12 m c) t)) ((congrFun (T18_v154 m c) _).trans (v154_at m c b t j))).trans
    (pl_eq (args (L m c)) b t 2 j 7 _ rfl rfl)

theorem v180_at (b : Fin 8) (t : Fin 4096) (j : Fin 128) :
    T19 m c (Proc.devRef .tc main_v180) (ix3 b t j) = pv (args (L m c)) b 3 j t :=
  v180_read (T18 m c) b t j (fun i => Mix.pr (args (L m c)) ((args (L m c)).x b t) (4096 + i))
    (fun i => (congrFun (T18_v44 m c) _).trans (v44_X m c b t i))

theorem v221_at (b : Fin 8) (t : Fin 4096) (j : Fin 128) :
    T21 m c (Proc.devRef .tc main_v221) (ix3 b t j) = Mix.pl (Mix.back (args (L m c)) b t) t 3 j :=
  (win3 (T20 m c) (padv 15 (pv (args (L m c)) b 3 j)) b t j _
    (fun s => pad3 (T19 m c) _ b s j (fun s => v180_at m c b s j) (c_28_read (T18 m c)))
    ((congrFun (T20_v121 m c) _).trans (v121_read (T12 m c) t)) ((congrFun (T20_v180 m c) _).trans (v180_at m c b t j))).trans
    (pl_eq (args (L m c)) b t 3 j 15 _ rfl rfl)

theorem v234_at (b : Fin 8) (t : Fin 4096) (j : Fin 1024) :
    T22 m c (Proc.devRef .tc main_v234) (ix3 b t j) = Mix.yb (args (L m c)) (Mix.back (args (L m c)) b t) t j :=
  cat_read (T21 m c) (Mix.pl (Mix.back (args (L m c)) b t) t) (args (L m c)).pw (args (L m c)).ps b t j
    (fun k => (congrFun (T21_v135 m c) _).trans (v135_at m c b t k)) (fun k => (congrFun (T21_v153 m c) _).trans (v153_at m c b t k))
    (fun k => (congrFun (T21_v179 m c) _).trans (v179_at m c b t k)) (fun k => v221_at m c b t k)
    (fun g k l => (congrFun (T21_arg7 m c) _).trans (of4_at (L m c (Proc.devRef .tc main_arg7)) 0 g k l).symm)
    ((congrFun (T21_arg8 m c) _).trans (of2_at (L m c (Proc.devRef .tc main_arg8)) 0 j).symm)

/-! ## The result -/

/-- A row before the last normalisation. -/
def row (A : Args) (b t j : ℕ) : EReal :=
  Ideal.ofBits .f32 0x3F9837F0#32 * Mix.h0 A (A.x b t) j
    + ∑ k : Fin 1024, (Mix.sig (Mix.pr A (A.x b t) (4608 + k)) * Mix.ya A (Mix.chunk A b (t / 32)) (Mix.state A b (t / 32)) (t % 32) k
      + Mix.sig (Mix.pr A (A.x b t) (5632 + k)) * Mix.yb A (Mix.back A b t) t k) * A.wo k j

theorem v254_at (b : Fin 8) (t : Fin 4096) (j : Fin 1024) :
    T23 m c (Proc.devRef .tc main_v254) (ix3 b t j) = row (args (L m c)) b t j :=
  v254_read (T22 m c) b t j (Mix.h0 (args (L m c)) ((args (L m c)).x b t))
    (fun k => Mix.pr (args (L m c)) ((args (L m c)).x b t) (4608 + k)) (fun k => Mix.pr (args (L m c)) ((args (L m c)).x b t) (5632 + k))
    (Mix.ya (args (L m c)) (Mix.chunk (args (L m c)) b (t.val / 32)) (Mix.state (args (L m c)) b (t.val / 32)) (t.val % 32))
    (Mix.yb (args (L m c)) (Mix.back (args (L m c)) b t) t) (args (L m c)).wo
    (fun k => (congrFun (T22_v23 m c) _).trans ((congrFun (X_v23 m c) _).trans (v23_at (L m c) b t k)))
    (fun k => (congrFun (T22_v45 m c) _).trans ((congrFun (X_v45 m c) _).trans (v45_at (L m c) b t k)))
    (fun k => (congrFun (T22_v46 m c) _).trans ((congrFun (X_v46 m c) _).trans (v46_at (L m c) b t k)))
    (fun k => (congrFun (T22_v120 m c) _).trans (v120_at m c b t k)) (fun k => v234_at m c b t k)
    (fun k => (congrFun (T22_arg9 m c) _).trans (of3_at (L m c (Proc.devRef .tc main_arg9)) 0 k j).symm)

theorem v281_at (i : Fin 32768) (j : Fin 1024) :
    T24 m c (Proc.devRef .tc main_v281) (ix2 i j) = Mix.out (args (L m c)) (i.val / 4096) (i.val % 4096) j :=
  v281_read (T23 m c) i j (row (args (L m c)) (i.val / 4096) (i.val % 4096)) (args (L m c)).g1 (args (L m c)).b1
    (fun k => v254_at m c ⟨i.val / 4096, by omega⟩ ⟨i.val % 4096, by omega⟩ k)
    ((congrFun (T23_arg10 m c) _).trans (of2_at (L m c (Proc.devRef .tc main_arg10)) 0 j).symm)
    ((congrFun (T23_arg11 m c) _).trans (of2_at (L m c (Proc.devRef .tc main_arg11)) 0 j).symm)

/-- The reference's result, entry by entry. -/
theorem result (i : S32768x1024.Idx) :
    finalContents condOps preI bodyI postI 128 m c (Proc.devRef .tc main_v281) i
      = Mix.out (args (launchContents m c)) ((i 0).val / 4096) ((i 0).val % 4096) (i 1).val := by
  rw [final_eq m c]
  obtain ⟨a, b, rfl⟩ : ∃ (a : Fin 32768) (b : Fin 1024), i = ix2 a b := ⟨i 0, i 1, eq_ix2 i⟩
  exact v281_at m c a b

end Cert.Proof.Ref2

end
-- ==== Proof.MixPoints.lean ====
/-
  THE MIXER'S KERNEL AS A WHOLE: by induction over the grid's points, each point leaves the state, the carried rows and
  the block of the output that `MixSpec` gives, so the returned array is `out`.
-/
module

public import proofs.«01_k».proof.Proof.MixGrid

@[expose] public section

set_option maxRecDepth 8192

noncomputable section

namespace Cert.Proof.Mix

open Idealize.ShloMosaic Idealize.ShloMosaic.TcCoe Idealize.ShloMosaic.Tactic

/-! ### What point `s` of batch `b` works on -/

section Point

variable (A : Args) (b s : ℕ)

/-- Its tokens. -/
def rows (r : ℕ) : ℕ → EReal := A.x b (256 * s + r)

/-- The states its chunks begin with. -/
def states (k : ℕ) : ℕ → ℕ → ℕ → EReal := state A b (8 * s + k)

/-- The 16 pooled rows before its tokens: zeros at the batch's start. -/
def before (a c : ℕ) : EReal := if s = 0 then 0 else pr A (A.x b (256 * s + a - 16)) (4096 + c)

theorem states_succ (k h e d : ℕ) : states A b s (k + 1) h e d = step A (fun r => rows A b s (32 * k + r)) (states A b s k) h e d := by
  unfold states rows
  show step A (chunk A b (8 * s + k)) (state A b (8 * s + k)) h e d = _
  congr 1
  funext r
  unfold chunk
  congr 1
  omega

theorem states_zero (h : s = 0) (i e d : ℕ) : states A b s 0 i e d = 0 := by
  subst h
  rfl

theorem states_next (k h e d : ℕ) : states A b (s + 1) k h e d = states A b s (8 + k) h e d := by
  unfold states
  congr 1
  omega

theorem before_zero (h : s = 0) (a c : ℕ) : before A b s a c = 0 := if_pos h

theorem before_next (a c : ℕ) : before A b (s + 1) a c = pr A (rows A b s (240 + a)) (4096 + c) := by
  unfold before rows
  rw [if_neg (Nat.succ_ne_zero s)]
  have e : 256 * (s + 1) + a - 16 = 256 * s + (240 + a) := by omega
  rw [e]

/-- The pooling's window, seen from the block, is the window seen from the batch. -/
theorem window (r i c : ℕ) (hi : i ≤ 16) : pwin A (rows A b s) (before A b s) r i c = back A b (256 * s + r) i c := by
  unfold pwin ext back before rows
  by_cases h : r + 16 - i < 16
  · rw [if_pos h]
    by_cases h0 : s = 0
    · rw [if_pos h0, if_neg (by omega)]
    · rw [if_neg h0, if_pos (by omega)]
      have e : 256 * s + (r + 16 - i) - 16 = 256 * s + r - i := by omega
      rw [e]
  · rw [if_neg h, if_pos (by omega)]
    have e : 256 * s + (r + 16 - i - 16) = 256 * s + r - i := by omega
    rw [e]

theorem pooled (r t j : ℕ) (hj : j < 1024) : yb A (pwin A (rows A b s) (before A b s) r) t j = yb A (back A b (256 * s + r)) t j := by
  have hg : j / 256 < 4 := by omega
  have h16 : 2 ^ (j / 256 + 1) ≤ 16 := by
    generalize j / 256 = g at hg
    interval_cases g <;> decide
  unfold yb pl
  congr 1
  refine Finset.sum_congr rfl fun c _ => ?_
  rw [window A b s r 0 _ (by decide)]
  congr 3
  exact Finset.sum_congr rfl fun i hi => window A b s r i _ (by have := Finset.mem_range.mp hi; omega)

/-- The block's rows are the layer's. -/
theorem block_out (r j : ℕ) (hj : j < 1024) :
    fin A (rows A b s r) (ya A (fun q => rows A b s (32 * (r / 32) + q)) (states A b s (r / 32)) (r % 32))
      (yb A (pwin A (rows A b s) (before A b s) r) (256 * s + r)) j = out A b (256 * s + r) j := by
  have e0 : (256 * s + r) / 32 = 8 * s + r / 32 := by omega
  have e1 : (256 * s + r) % 32 = r % 32 := by omega
  have e2 : (fun q => rows A b s (32 * (r / 32) + q)) = chunk A b (8 * s + r / 32) := by
    funext q
    unfold rows chunk
    congr 1
    omega
  unfold out
  rw [e0, e1, e2]
  unfold fin
  congr 1
  have e3 : ∀ k : Fin 1024, yb A (pwin A (rows A b s) (before A b s) r) (256 * s + r) k = yb A (back A b (256 * s + r)) (256 * s + r) k :=
    fun k => pooled A b s r _ k k.isLt
  simp only [e3]
  rfl

end Point

namespace Grid

open Cert.Kernel2Ideal Cert.Kernel2Ideal.Gen Cert.Kernel2Ideal.Value

variable (m : (ℓ : Loc nD τ Cert.Kernel2Ideal.sig) → Buf (Elt Ideal) ℓ) (c : Dev nD)

theorem coord_one : ∀ t : Fin cfg0.N, (grid0.coords t 1).val = t.val % 16 := by decide +kernel

/-- What point `t` leaves. -/
structure Left (t : Fin cfg0.N) (o : Vec Ideal S256x1024 .f32 × Vec Ideal S8x128x128 .f32 × Vec Ideal S272x512 .f32) : Prop where
  out : ∀ (r : Fin 256) (j : Fin 1024), o.1 (ix2 r j) = Mix.out (args m c) (t.val / 16) (256 * (t.val % 16) + r) j
  state : ∀ (h : Fin 8) (e d : Fin 128), o.2.1 (ix3 h e d) = states (args m c) (t.val / 16) (t.val % 16) 8 h e d
  rows : ∀ (a : Fin 272) (j : Fin 512), a.val < 16 →
    o.2.2 (ix2 a j) = pr (args m c) (Mix.rows (args m c) (t.val / 16) (t.val % 16) (240 + a)) (4096 + j)

/-- A batch's first point. -/
theorem left_A (t : Fin cfg0.N) (h0 : t.val % 16 = 0) : Left m c t (outsAt0 m c t.val t.isLt) := by
  have hS := fun k h e d => states_succ (args m c) (t.val / 16) (t.val % 16) k h e d
  rw [outsAt0_A m c t h0]
  refine ⟨fun r j => ?_, fun h e d => ?_, fun a j ha => ?_⟩
  · dsimp only
    unfold out0_A_12
    rw [View.read_writes_junk_eq_canon]
    refine (CaseA.out_at (A := args m c) (X := rows (args m c) (t.val / 16) (t.val % 16)) (S := states (args m c) (t.val / 16) (t.val % 16)) (E := before (args m c) (t.val / 16) (t.val % 16))
      (blk0 m c t) (blk1 m c t) (blk2 m c t) (blk3 m c t) (blk4 m c t) (blk5 m c t) (blk6 m c t) (blk7 m c t) (blk8 m c t) (blk9 m c t) (blk10 m c t) (blk11 m c t) hS (fun h e d => states_zero (args m c) (t.val / 16) (t.val % 16) h0 h e d) (fun a j => before_zero (args m c) (t.val / 16) (t.val % 16) h0 a j) r j).trans ?_
    rw [coord_one]
    exact block_out (args m c) _ _ r j j.isLt
  · dsimp only
    unfold sout0_A_0
    rw [View.read_writes_junk_eq_canon]
    exact CaseA.state_at (A := args m c) (X := rows (args m c) (t.val / 16) (t.val % 16)) (S := states (args m c) (t.val / 16) (t.val % 16))
      (blk0 m c t) (blk1 m c t) (blk2 m c t) (blk3 m c t) (blk4 m c t) hS (fun h e d => states_zero (args m c) (t.val / 16) (t.val % 16) h0 h e d) h e d
  · dsimp only
    unfold sout0_A_1
    rw [View.read_writes_junk_eq_canon]
    exact CaseA.ext_at (A := args m c) (X := rows (args m c) (t.val / 16) (t.val % 16)) (blk0 m c t) (blk1 m c t) (blk2 m c t) (blk3 m c t) a j ha

/-- Any later point, after the one before. -/
theorem left_B (t : Fin cfg0.N) (h0 : ¬t.val % 16 = 0)
    (hp : ∀ h : t.val - 1 < cfg0.N, Left m c ⟨t.val - 1, h⟩ (outsAt0 m c (t.val - 1) h)) : Left m c t (outsAt0 m c t.val t.isLt) := by
  have hS := fun k h e d => states_succ (args m c) (t.val / 16) (t.val % 16) k h e d
  have hq := hp (Nat.lt_of_le_of_lt (Nat.sub_le _ _) t.isLt)
  have e1 : (t.val - 1) / 16 = t.val / 16 := by omega
  have e2 : t.val % 16 = (t.val - 1) % 16 + 1 := by omega
  have hs : ∀ (h : Fin 8) (e d : Fin 128), (outsAt0 m c (t.val - 1) (Nat.lt_of_le_of_lt (Nat.sub_le _ _) t.isLt)).2.1 (ix3 h e d)
      = states (args m c) (t.val / 16) (t.val % 16) 0 h e d := fun h e d => by
    rw [hq.state h e d, e2, states_next]
    simp only [e1]
  have hr : ∀ (a : Fin 272) (j : Fin 512), a.val < 16 →
      (outsAt0 m c (t.val - 1) (Nat.lt_of_le_of_lt (Nat.sub_le _ _) t.isLt)).2.2 (ix2 a j)
        = before (args m c) (t.val / 16) (t.val % 16) a j := fun a j ha => by
    rw [hq.rows a j ha, e2, before_next]
    simp only [e1]
  rw [outsAt0_B m c t h0]
  refine ⟨fun r j => ?_, fun h e d => ?_, fun a j ha => ?_⟩
  · dsimp only
    unfold out0_B_12
    rw [View.read_writes_junk_eq_canon]
    refine (CaseB.out_at (A := args m c) (X := rows (args m c) (t.val / 16) (t.val % 16)) (S := states (args m c) (t.val / 16) (t.val % 16)) (E := before (args m c) (t.val / 16) (t.val % 16))
      (blk0 m c t) (blk1 m c t) (blk2 m c t) (blk3 m c t) (blk4 m c t) (blk5 m c t) (blk6 m c t) (blk7 m c t) (blk8 m c t) (blk9 m c t) (blk10 m c t) (blk11 m c t) hS hs hr r j).trans ?_
    rw [coord_one]
    exact block_out (args m c) _ _ r j j.isLt
  · dsimp only
    unfold sout0_B_0
    rw [View.read_writes_junk_eq_canon]
    exact CaseB.state_at (A := args m c) (X := rows (args m c) (t.val / 16) (t.val % 16)) (S := states (args m c) (t.val / 16) (t.val % 16))
      (blk0 m c t) (blk1 m c t) (blk2 m c t) (blk3 m c t) (blk4 m c t) hS hs h e d
  · dsimp only
    unfold sout0_B_1
    rw [View.read_writes_junk_eq_canon]
    exact CaseB.ext_at (A := args m c) (X := rows (args m c) (t.val / 16) (t.val % 16)) (blk0 m c t) (blk1 m c t) (blk2 m c t) (blk3 m c t) a j ha

theorem left : ∀ (n : ℕ) (hn : n < cfg0.N), Left m c ⟨n, hn⟩ (outsAt0 m c n hn)
  | 0, hn => left_A m c ⟨0, hn⟩ (Nat.zero_mod _)
  | n + 1, hn => by
    by_cases h0 : (n + 1) % 16 = 0
    · exact left_A m c ⟨n + 1, hn⟩ h0
    · exact left_B m c ⟨n + 1, hn⟩ h0 (fun _ => left n (Nat.lt_of_succ_lt hn))

/-- The returned array, entry by entry. -/
theorem result (i : S32768x1024.Idx) : G12 m c i = Mix.out (args m c) ((i 0).val / 4096) ((i 0).val % 4096) (i 1).val := by
  have h0 : (i 0).val < 32768 := (i 0).isLt
  have h1 : (i 1).val < 1024 := (i 1).isLt
  have hp : pt12Of i = (i 0).val / 256 := by
    have : (i 1).val / 1024 = 0 := Nat.div_eq_of_lt h1
    unfold pt12Of run12Of
    omega
  have hN : cfg0.N = 128 := N_0
  have hlt : (i 0).val / 256 < cfg0.N := by omega
  unfold G12
  rw [dif_pos (by omega)]
  rw [fold0_congr m c (pt12Of i) (by omega) ((i 0).val / 256) (by omega) hp, ← outsAt0_sweep m c ((i 0).val / 256) hlt]
  have e : loc12Of i = ix2 ⟨(i 0).val % 256, Nat.mod_lt _ (by decide)⟩ ⟨(i 1).val % 1024, Nat.mod_lt _ (by decide)⟩ := by
    funext a
    match a with
    | ⟨0, _⟩ => rfl
    | ⟨1, _⟩ => rfl
  rw [e, (left m c ((i 0).val / 256) hlt).out]
  have e1 : (i 0).val / 256 / 16 = (i 0).val / 4096 := by omega
  have e2 : 256 * ((i 0).val / 256 % 16) + (i 0).val % 256 = (i 0).val % 4096 := by omega
  have e3 : (i 1).val % 1024 = (i 1).val := by omega
  simp only [e1, e2, e3]

end Grid

end Cert.Proof.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Reference
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.RoutBits
public import proofs.«01_k».proof.Proof.RoutIdeal
public import proofs.«01_k».proof.Proof.RoutValue
public import proofs.«01_k».proof.Proof.Gen.Reference3Ideal.Run
public import proofs.«01_k».proof.Proof.Gen.Kernel2Ideal.Value
public import proofs.«01_k».proof.Proof.Gen.Reference.Run
public import proofs.«01_k».proof.Proof.Gen.Reference2Ideal.Run
public import proofs.«01_k».proof.Proof.PackRun
public import proofs.«01_k».proof.Proof.PackValue
public import proofs.«01_k».proof.Proof.PackRef
public import proofs.«01_k».proof.Proof.Ref2Run
public import proofs.«01_k».proof.Proof.Ref2Out
public import proofs.«01_k».proof.Proof.MixPoints
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The packing call and its reference end with the same words. -/
theorem pack_bitexact : @Cert.bitexact_Kernel_Reference Cert.Kernel.Gen.facts Cert.Reference.Gen.facts := by
  intro m g m' g' _ hagree
  refine ⟨fun c => Pack.words (m ((c.tc : Thread Cert.Kernel.nD Cert.Kernel.τ).loc Cert.Kernel.main_arg0)), ?_, ?_⟩
  · exact (θ_run _ _ _).mono (fun r h c => ⟨(h c).1.trans (Pack.final m c), (h c).2⟩) (Pack.run_words m g)
  · refine (θ_run _ _ _).mono (fun r h c => ⟨(h c).1.trans ?_, (h c).2⟩) (Cert.Reference.Value.run m' g')
    rw [hagree c]
    exact Pack.reference_words _

/-- The packing call's reference leaves its argument and every counter. -/
theorem reference_frame : @Cert.quiescent_Reference Cert.Reference.Gen.facts := by
  intro m g _
  exact (θ_run _ _ _).mono (fun r h => ⟨fun c => (h c).2, sem_eq_zero_of_no_sems rfl r.2⟩) (Cert.Reference.Value.run m g)

/-- Where the arguments agree, the arrays of the two programs are the same. -/
theorem mixer_args (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) :
    Ref2.args (Ref2.L m' c) = Mix.Grid.args m c := by
  obtain ⟨h0, h1, h2, h3, h4, h5, h6, h7, h8, h9, h10, h11⟩ := h
  unfold Mix.Grid.args
  rw [← h0, ← h1, ← h2, ← h3, ← h4, ← h5, ← h6, ← h7, ← h8, ← h9, ← h10, ← h11]
  rfl

/-- The mixer call and its reference end with the same rows, over the extended reals. -/
theorem mixer_algebraic : @Cert.algebraic_Kernel2Ideal_Reference2Ideal Cert.Kernel2Ideal.Gen.facts Cert.Reference2Ideal.Gen.facts := by
  intro m g m' g' _ hagree
  refine ⟨fun c => fun i => Mix.out (Mix.Grid.args m c) ((i 0).val / 4096) ((i 0).val % 4096) (i 1).val, ?_, ?_⟩
  · exact (θ_run _ _ _).mono (fun r h c => ⟨(h c).1.trans (funext fun i => Mix.Grid.result m c i), (h c).2⟩)
      (Cert.Kernel2Ideal.Value.run m g)
  · refine (θ_run (Cert.Reference2Ideal.defs (F := Ideal)) _ _).mono (fun r h c =>
      ⟨(h c Cert.Reference2Ideal.main_v281 rfl).trans (funext fun i => (Ref2.result m' c i).trans ?_),
        (h c Cert.Reference2Ideal.main_arg0 rfl).trans (Ref2.keep m' c Cert.Reference2Ideal.main_arg0 (by decide +kernel) (by decide +kernel) (by decide +kernel)),
        (h c Cert.Reference2Ideal.main_arg1 rfl).trans (Ref2.keep m' c Cert.Reference2Ideal.main_arg1 (by decide +kernel) (by decide +kernel) (by decide +kernel)),
        (h c Cert.Reference2Ideal.main_arg2 rfl).trans (Ref2.keep m' c Cert.Reference2Ideal.main_arg2 (by decide +kernel) (by decide +kernel) (by decide +kernel)),
        (h c Cert.Reference2Ideal.main_arg3 rfl).trans (Ref2.keep m' c Cert.Reference2Ideal.main_arg3 (by decide +kernel) (by decide +kernel) (by decide +kernel)),
        (h c Cert.Reference2Ideal.main_arg4 rfl).trans (Ref2.keep m' c Cert.Reference2Ideal.main_arg4 (by decide +kernel) (by decide +kernel) (by decide +kernel)),
        (h c Cert.Reference2Ideal.main_arg5 rfl).trans (Ref2.keep m' c Cert.Reference2Ideal.main_arg5 (by decide +kernel) (by decide +kernel) (by decide +kernel)),
        (h c Cert.Reference2Ideal.main_arg6 rfl).trans (Ref2.keep m' c Cert.Reference2Ideal.main_arg6 (by decide +kernel) (by decide +kernel) (by decide +kernel)),
        (h c Cert.Reference2Ideal.main_arg7 rfl).trans (Ref2.keep m' c Cert.Reference2Ideal.main_arg7 (by decide +kernel) (by decide +kernel) (by decide +kernel)),
        (h c Cert.Reference2Ideal.main_arg8 rfl).trans (Ref2.keep m' c Cert.Reference2Ideal.main_arg8 (by decide +kernel) (by decide +kernel) (by decide +kernel)),
        (h c Cert.Reference2Ideal.main_arg9 rfl).trans (Ref2.keep m' c Cert.Reference2Ideal.main_arg9 (by decide +kernel) (by decide +kernel) (by decide +kernel)),
        (h c Cert.Reference2Ideal.main_arg10 rfl).trans (Ref2.keep m' c Cert.Reference2Ideal.main_arg10 (by decide +kernel) (by decide +kernel) (by decide +kernel)),
        (h c Cert.Reference2Ideal.main_arg11 rfl).trans (Ref2.keep m' c Cert.Reference2Ideal.main_arg11 (by decide +kernel) (by decide +kernel) (by decide +kernel))⟩) (Cert.Reference2Ideal.Value.run_fold m' g')
    exact congrArg (fun A => Mix.out A ((i 0).val / 4096) ((i 0).val % 4096) (i 1).val) (mixer_args m m' c (hagree c))

/-- The router call's reference leaves its arguments and every counter. -/
theorem base_reference_frame : @Cert.quiescent_Reference3Ideal Cert.Reference3Ideal.Gen.facts := by
  intro m g _
  exact (θ_run _ _ _).mono (fun r h => ⟨fun c => (h c).2, sem_eq_zero_of_no_sems rfl r.2⟩) (Cert.Reference3Ideal.Value.run m g)

/-- The router call's `base` and its reference's are the same, over the extended reals. -/
theorem base_algebraic : @Cert.algebraic_Kernel3Ideal_Reference3Ideal Cert.Kernel3Ideal.Gen.facts Cert.Reference3Ideal.Gen.facts := by
  intro m g m' g' _ hagree
  refine ⟨fun c => Rout.result m c, ?_, ?_⟩
  · exact (θ_run _ _ _).mono (fun r h c => ⟨(h.1 c).1.trans (Rout.final m c), (h.1 c).2⟩) (RoutIdeal.run_base m g)
  · refine (θ_run _ _ _).mono (fun r h c => ⟨(h c).1.trans ?_, (h c).2⟩) (Cert.Reference3Ideal.Value.run m' g')
    obtain ⟨e0, e1, -, -, e4, e5⟩ := hagree c
    rw [e0, e1, e4, e5]
    exact funext fun i => (congrArg _ (funext fun ax => by match ax with | ⟨0, _⟩ => rfl | ⟨1, _⟩ => rfl)).trans
      (Rout.reference_base _ _ _ _ (i 0) (i 1))

theorem claim : Cert.Claim := ⟨Cert.Kernel.Gen.facts, Cert.Reference.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  fun m g _ => Pack.frame m g,
  reference_frame,
  fun m g _ => Cert.Kernel2.Gen.frame m g,
  fun m g _ => Cert.Kernel2Ideal.Gen.frame m g,
  fun m g _ => Ref2.frame m g,
  fun m g _ => RoutBits.frame m g,
  fun m g _ => RoutIdeal.frame m g,
  base_reference_frame,
  pack_bitexact,
  trivial,
  mixer_algebraic,
  trivial,
  base_algebraic⟩

end Cert.Proof

end
